-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_AttnLast (m : (ℓ : Loc Cert.AttnLast.nD Cert.AttnLast.τ Cert.AttnLast.sig) → Buf (Elt Bits) ℓ) : Prop :=
  True

def Pre_AttnLastIdeal (m : (ℓ : Loc Cert.AttnLastIdeal.nD Cert.AttnLastIdeal.τ Cert.AttnLastIdeal.sig) → Buf (Elt Ideal) ℓ) : Prop :=
  True

def Pre_AttnLastIdeal_finite [hPre_finite : Cert.Pre_finite.Facts] (m : (ℓ : Loc Cert.AttnLastIdeal.nD Cert.AttnLastIdeal.τ Cert.AttnLastIdeal.sig) → Buf (Elt Ideal) ℓ) : Prop :=
  ∀ c : Dev Cert.AttnLastIdeal.nD,
    (Cert.Pre_finite.fn (F := Ideal) (m ((c.tc : Thread Cert.AttnLastIdeal.nD Cert.AttnLastIdeal.τ).loc Cert.AttnLastIdeal.main_arg0)) (m ((c.tc : Thread Cert.AttnLastIdeal.nD Cert.AttnLastIdeal.τ).loc Cert.AttnLastIdeal.main_arg1)) (m ((c.tc : Thread Cert.AttnLastIdeal.nD Cert.AttnLastIdeal.τ).loc Cert.AttnLastIdeal.main_arg2))) = (fun _ => 1#1)

def Pre_AttnLastRefIdeal (m : (ℓ : Loc Cert.AttnLastRefIdeal.nD Cert.AttnLastRefIdeal.τ Cert.AttnLastRefIdeal.sig) → Buf (Elt Ideal) ℓ) : Prop :=
  True

def Pre_AttnLastRefIdeal_finite [hPre_finite : Cert.Pre_finite.Facts] (m : (ℓ : Loc Cert.AttnLastRefIdeal.nD Cert.AttnLastRefIdeal.τ Cert.AttnLastRefIdeal.sig) → Buf (Elt Ideal) ℓ) : Prop :=
  ∀ c : Dev Cert.AttnLastRefIdeal.nD,
    (Cert.Pre_finite.fn (F := Ideal) (m ((c.tc : Thread Cert.AttnLastRefIdeal.nD Cert.AttnLastRefIdeal.τ).loc Cert.AttnLastRefIdeal.main_arg0)) (m ((c.tc : Thread Cert.AttnLastRefIdeal.nD Cert.AttnLastRefIdeal.τ).loc Cert.AttnLastRefIdeal.main_arg1)) (m ((c.tc : Thread Cert.AttnLastRefIdeal.nD Cert.AttnLastRefIdeal.τ).loc Cert.AttnLastRefIdeal.main_arg2))) = (fun _ => 1#1)

def Pre_OutprojLast (m : (ℓ : Loc Cert.OutprojLast.nD Cert.OutprojLast.τ Cert.OutprojLast.sig) → Buf (Elt Bits) ℓ) : Prop :=
  True

def Pre_OutprojLastIdeal (m : (ℓ : Loc Cert.OutprojLastIdeal.nD Cert.OutprojLastIdeal.τ Cert.OutprojLastIdeal.sig) → Buf (Elt Ideal) ℓ) : Prop :=
  True

def Pre_OutprojLastRefIdeal (m : (ℓ : Loc Cert.OutprojLastRefIdeal.nD Cert.OutprojLastRefIdeal.τ Cert.OutprojLastRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6)
      ∧ r.2.mem ((c.tc : Thread Cert.FfnFirst.nD Cert.FfnFirst.τ).loc Cert.FfnFirst.main_arg7) = m ((c.tc : Thread Cert.FfnFirst.nD Cert.FfnFirst.τ).loc Cert.FfnFirst.main_arg7))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
      ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5)
      ∧ r.2.mem ((c.tc : Thread Cert.FfnFirstRefIdeal.nD Cert.FfnFirstRefIdeal.τ).loc Cert.FfnFirstRefIdeal.main_arg6) = m ((c.tc : Thread Cert.FfnFirstRefIdeal.nD Cert.FfnFirstRefIdeal.τ).loc Cert.FfnFirstRefIdeal.main_arg6)
      ∧ r.2.mem ((c.tc : Thread Cert.FfnFirstRefIdeal.nD Cert.FfnFirstRefIdeal.τ).loc Cert.FfnFirstRefIdeal.main_arg7) = m ((c.tc : Thread Cert.FfnFirstRefIdeal.nD Cert.FfnFirstRefIdeal.τ).loc Cert.FfnFirstRefIdeal.main_arg7))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2))
      ∧ r.2.sem = fun _ => 0)

def quiescent_AttnLast [hAttnLast : Cert.AttnLast.Facts] : Prop :=
  ∀ (m : (ℓ : Loc Cert.AttnLast.nD Cert.AttnLast.τ Cert.AttnLast.sig) → Buf (Elt Bits) ℓ) (g : Dev Cert.AttnLast.nD → PrngReg), Pre_AttnLast m →
    θ_run (Cert.AttnLast.defs (F := Bits)) (onTc (τ := Cert.AttnLast.τ) (Cert.AttnLast.main (F := Bits))) ⟨m, fun _ => 0, g⟩ (fun r => (∀ c : Dev Cert.AttnLast.nD,
      r.2.mem ((c.tc : Thread Cert.AttnLast.nD Cert.AttnLast.τ).loc Cert.AttnLast.main_arg0) = m ((c.tc : Thread Cert.AttnLast.nD Cert.AttnLast.τ).loc Cert.AttnLast.main_arg0)
      ∧ r.2.mem ((c.tc : Thread Cert.AttnLast.nD Cert.AttnLast.τ).loc Cert.AttnLast.main_arg1) = m ((c.tc : Thread Cert.AttnLast.nD Cert.AttnLast.τ).loc Cert.AttnLast.main_arg1)
      ∧ r.2.mem ((c.tc : Thread Cert.AttnLast.nD Cert.AttnLast.τ).loc Cert.AttnLast.main_arg2) = m ((c.tc : Thread Cert.AttnLast.nD Cert.AttnLast.τ).loc Cert.AttnLast.main_arg2))
      ∧ r.2.sem = fun _ => 0)

def quiescent_AttnLastIdeal [hAttnLastIdeal : Cert.AttnLastIdeal.Facts] : Prop :=
  ∀ (m : (ℓ : Loc Cert.AttnLastIdeal.nD Cert.AttnLastIdeal.τ Cert.AttnLastIdeal.sig) → Buf (Elt Ideal) ℓ) (g : Dev Cert.AttnLastIdeal.nD → PrngReg), Pre_AttnLastIdeal m →
    θ_run (Cert.AttnLastIdeal.defs (F := Ideal)) (onTc (τ := Cert.AttnLastIdeal.τ) (Cert.AttnLastIdeal.main (F := Ideal))) ⟨m, fun _ => 0, g⟩ (fun r => (∀ c : Dev Cert.AttnLastIdeal.nD,
      r.2.mem ((c.tc : Thread Cert.AttnLastIdeal.nD Cert.AttnLastIdeal.τ).loc Cert.AttnLastIdeal.main_arg0) = m ((c.tc : Thread Cert.AttnLastIdeal.nD Cert.AttnLastIdeal.τ).loc Cert.AttnLastIdeal.main_arg0)
      ∧ r.2.mem ((c.tc : Thread Cert.AttnLastIdeal.nD Cert.AttnLastIdeal.τ).loc Cert.AttnLastIdeal.main_arg1) = m ((c.tc : Thread Cert.AttnLastIdeal.nD Cert.AttnLastIdeal.τ).loc Cert.AttnLastIdeal.main_arg1)
      ∧ r.2.mem ((c.tc : Thread Cert.AttnLastIdeal.nD Cert.AttnLastIdeal.τ).loc Cert.AttnLastIdeal.main_arg2) = m ((c.tc : Thread Cert.AttnLastIdeal.nD Cert.AttnLastIdeal.τ).loc Cert.AttnLastIdeal.main_arg2))
      ∧ r.2.sem = fun _ => 0)

def quiescent_AttnLastIdeal_pre_finite [hAttnLastIdeal : Cert.AttnLastIdeal.Facts] [hPre_finite : Cert.Pre_finite.Facts] : Prop :=
  ∀ (m : (ℓ : Loc Cert.AttnLastIdeal.nD Cert.AttnLastIdeal.τ Cert.AttnLastIdeal.sig) → Buf (Elt Ideal) ℓ) (g : Dev Cert.AttnLastIdeal.nD → PrngReg), Pre_AttnLastIdeal_finite m →
    θ_run (Cert.AttnLastIdeal.defs (F := Ideal)) (onTc (τ := Cert.AttnLastIdeal.τ) (Cert.AttnLastIdeal.main (F := Ideal))) ⟨m, fun _ => 0, g⟩ (fun r => (∀ c : Dev Cert.AttnLastIdeal.nD,
      r.2.mem ((c.tc : Thread Cert.AttnLastIdeal.nD Cert.AttnLastIdeal.τ).loc Cert.AttnLastIdeal.main_arg0) = m ((c.tc : Thread Cert.AttnLastIdeal.nD Cert.AttnLastIdeal.τ).loc Cert.AttnLastIdeal.main_arg0)
      ∧ r.2.mem ((c.tc : Thread Cert.AttnLastIdeal.nD Cert.AttnLastIdeal.τ).loc Cert.AttnLastIdeal.main_arg1) = m ((c.tc : Thread Cert.AttnLastIdeal.nD Cert.AttnLastIdeal.τ).loc Cert.AttnLastIdeal.main_arg1)
      ∧ r.2.mem ((c.tc : Thread Cert.AttnLastIdeal.nD Cert.AttnLastIdeal.τ).loc Cert.AttnLastIdeal.main_arg2) = m ((c.tc : Thread Cert.AttnLastIdeal.nD Cert.AttnLastIdeal.τ).loc Cert.AttnLastIdeal.main_arg2))
      ∧ r.2.sem = fun _ => 0)

def quiescent_AttnLastRefIdeal [hAttnLastRefIdeal : Cert.AttnLastRefIdeal.Facts] : Prop :=
  ∀ (m : (ℓ : Loc Cert.AttnLastRefIdeal.nD Cert.AttnLastRefIdeal.τ Cert.AttnLastRefIdeal.sig) → Buf (Elt Ideal) ℓ) (g : Dev Cert.AttnLastRefIdeal.nD → PrngReg), Pre_AttnLastRefIdeal m →
    θ_run (Cert.AttnLastRefIdeal.defs (F := Ideal)) (onTc (τ := Cert.AttnLastRefIdeal.τ) (Cert.AttnLastRefIdeal.main (F := Ideal))) ⟨m, fun _ => 0, g⟩ (fun r => (∀ c : Dev Cert.AttnLastRefIdeal.nD,
      r.2.mem ((c.tc : Thread Cert.AttnLastRefIdeal.nD Cert.AttnLastRefIdeal.τ).loc Cert.AttnLastRefIdeal.main_arg0) = m ((c.tc : Thread Cert.AttnLastRefIdeal.nD Cert.AttnLastRefIdeal.τ).loc Cert.AttnLastRefIdeal.main_arg0)
      ∧ r.2.mem ((c.tc : Thread Cert.AttnLastRefIdeal.nD Cert.AttnLastRefIdeal.τ).loc Cert.AttnLastRefIdeal.main_arg1) = m ((c.tc : Thread Cert.AttnLastRefIdeal.nD Cert.AttnLastRefIdeal.τ).loc Cert.AttnLastRefIdeal.main_arg1)
      ∧ r.2.mem ((c.tc : Thread Cert.AttnLastRefIdeal.nD Cert.AttnLastRefIdeal.τ).loc Cert.AttnLastRefIdeal.main_arg2) = m ((c.tc : Thread Cert.AttnLastRefIdeal.nD Cert.AttnLastRefIdeal.τ).loc Cert.AttnLastRefIdeal.main_arg2))
      ∧ r.2.sem = fun _ => 0)

def quiescent_AttnLastRefIdeal_pre_finite [hAttnLastRefIdeal : Cert.AttnLastRefIdeal.Facts] [hPre_finite : Cert.Pre_finite.Facts] : Prop :=
  ∀ (m : (ℓ : Loc Cert.AttnLastRefIdeal.nD Cert.AttnLastRefIdeal.τ Cert.AttnLastRefIdeal.sig) → Buf (Elt Ideal) ℓ) (g : Dev Cert.AttnLastRefIdeal.nD → PrngReg), Pre_AttnLastRefIdeal_finite m →
    θ_run (Cert.AttnLastRefIdeal.defs (F := Ideal)) (onTc (τ := Cert.AttnLastRefIdeal.τ) (Cert.AttnLastRefIdeal.main (F := Ideal))) ⟨m, fun _ => 0, g⟩ (fun r => (∀ c : Dev Cert.AttnLastRefIdeal.nD,
      r.2.mem ((c.tc : Thread Cert.AttnLastRefIdeal.nD Cert.AttnLastRefIdeal.τ).loc Cert.AttnLastRefIdeal.main_arg0) = m ((c.tc : Thread Cert.AttnLastRefIdeal.nD Cert.AttnLastRefIdeal.τ).loc Cert.AttnLastRefIdeal.main_arg0)
      ∧ r.2.mem ((c.tc : Thread Cert.AttnLastRefIdeal.nD Cert.AttnLastRefIdeal.τ).loc Cert.AttnLastRefIdeal.main_arg1) = m ((c.tc : Thread Cert.AttnLastRefIdeal.nD Cert.AttnLastRefIdeal.τ).loc Cert.AttnLastRefIdeal.main_arg1)
      ∧ r.2.mem ((c.tc : Thread Cert.AttnLastRefIdeal.nD Cert.AttnLastRefIdeal.τ).loc Cert.AttnLastRefIdeal.main_arg2) = m ((c.tc : Thread Cert.AttnLastRefIdeal.nD Cert.AttnLastRefIdeal.τ).loc Cert.AttnLastRefIdeal.main_arg2))
      ∧ r.2.sem = fun _ => 0)

def quiescent_OutprojLast [hOutprojLast : Cert.OutprojLast.Facts] : Prop :=
  ∀ (m : (ℓ : Loc Cert.OutprojLast.nD Cert.OutprojLast.τ Cert.OutprojLast.sig) → Buf (Elt Bits) ℓ) (g : Dev Cert.OutprojLast.nD → PrngReg), Pre_OutprojLast m →
    θ_run (Cert.OutprojLast.defs (F := Bits)) (onTc (τ := Cert.OutprojLast.τ) (Cert.OutprojLast.main (F := Bits))) ⟨m, fun _ => 0, g⟩ (fun r => (∀ c : Dev Cert.OutprojLast.nD,
      r.2.mem ((c.tc : Thread Cert.OutprojLast.nD Cert.OutprojLast.τ).loc Cert.OutprojLast.main_arg0) = m ((c.tc : Thread Cert.OutprojLast.nD Cert.OutprojLast.τ).loc Cert.OutprojLast.main_arg0)
      ∧ r.2.mem ((c.tc : Thread Cert.OutprojLast.nD Cert.OutprojLast.τ).loc Cert.OutprojLast.main_arg1) = m ((c.tc : Thread Cert.OutprojLast.nD Cert.OutprojLast.τ).loc Cert.OutprojLast.main_arg1)
      ∧ r.2.mem ((c.tc : Thread Cert.OutprojLast.nD Cert.OutprojLast.τ).loc Cert.OutprojLast.main_arg2) = m ((c.tc : Thread Cert.OutprojLast.nD Cert.OutprojLast.τ).loc Cert.OutprojLast.main_arg2)
      ∧ r.2.mem ((c.tc : Thread Cert.OutprojLast.nD Cert.OutprojLast.τ).loc Cert.OutprojLast.main_arg3) = m ((c.tc : Thread Cert.OutprojLast.nD Cert.OutprojLast.τ).loc Cert.OutprojLast.main_arg3)
      ∧ r.2.mem ((c.tc : Thread Cert.OutprojLast.nD Cert.OutprojLast.τ).loc Cert.OutprojLast.main_arg4) = m ((c.tc : Thread Cert.OutprojLast.nD Cert.OutprojLast.τ).loc Cert.OutprojLast.main_arg4)
      ∧ r.2.mem ((c.tc : Thread Cert.OutprojLast.nD Cert.OutprojLast.τ).loc Cert.OutprojLast.main_arg5) = m ((c.tc : Thread Cert.OutprojLast.nD Cert.OutprojLast.τ).loc Cert.OutprojLast.main_arg5)
      ∧ r.2.mem ((c.tc : Thread Cert.OutprojLast.nD Cert.OutprojLast.τ).loc Cert.OutprojLast.main_arg6) = m ((c.tc : Thread Cert.OutprojLast.nD Cert.OutprojLast.τ).loc Cert.OutprojLast.main_arg6)
      ∧ r.2.mem ((c.tc : Thread Cert.OutprojLast.nD Cert.OutprojLast.τ).loc Cert.OutprojLast.main_arg7) = m ((c.tc : Thread Cert.OutprojLast.nD Cert.OutprojLast.τ).loc Cert.OutprojLast.main_arg7)
      ∧ r.2.mem ((c.tc : Thread Cert.OutprojLast.nD Cert.OutprojLast.τ).loc Cert.OutprojLast.main_arg8) = m ((c.tc : Thread Cert.OutprojLast.nD Cert.OutprojLast.τ).loc Cert.OutprojLast.main_arg8))
      ∧ r.2.sem = fun _ => 0)

def quiescent_OutprojLastIdeal [hOutprojLastIdeal : Cert.OutprojLastIdeal.Facts] : Prop :=
  ∀ (m : (ℓ : Loc Cert.OutprojLastIdeal.nD Cert.OutprojLastIdeal.τ Cert.OutprojLastIdeal.sig) → Buf (Elt Ideal) ℓ) (g : Dev Cert.OutprojLastIdeal.nD → PrngReg), Pre_OutprojLastIdeal m →
    θ_run (Cert.OutprojLastIdeal.defs (F := Ideal)) (onTc (τ := Cert.OutprojLastIdeal.τ) (Cert.OutprojLastIdeal.main (F := Ideal))) ⟨m, fun _ => 0, g⟩ (fun r => (∀ c : Dev Cert.OutprojLastIdeal.nD,
      r.2.mem ((c.tc : Thread Cert.OutprojLastIdeal.nD Cert.OutprojLastIdeal.τ).loc Cert.OutprojLastIdeal.main_arg0) = m ((c.tc : Thread Cert.OutprojLastIdeal.nD Cert.OutprojLastIdeal.τ).loc Cert.OutprojLastIdeal.main_arg0)
      ∧ r.2.mem ((c.tc : Thread Cert.OutprojLastIdeal.nD Cert.OutprojLastIdeal.τ).loc Cert.OutprojLastIdeal.main_arg1) = m ((c.tc : Thread Cert.OutprojLastIdeal.nD Cert.OutprojLastIdeal.τ).loc Cert.OutprojLastIdeal.main_arg1)
      ∧ r.2.mem ((c.tc : Thread Cert.OutprojLastIdeal.nD Cert.OutprojLastIdeal.τ).loc Cert.OutprojLastIdeal.main_arg2) = m ((c.tc : Thread Cert.OutprojLastIdeal.nD Cert.OutprojLastIdeal.τ).loc Cert.OutprojLastIdeal.main_arg2)
      ∧ r.2.mem ((c.tc : Thread Cert.OutprojLastIdeal.nD Cert.OutprojLastIdeal.τ).loc Cert.OutprojLastIdeal.main_arg3) = m ((c.tc : Thread Cert.OutprojLastIdeal.nD Cert.OutprojLastIdeal.τ).loc Cert.OutprojLastIdeal.main_arg3)
      ∧ r.2.mem ((c.tc : Thread Cert.OutprojLastIdeal.nD Cert.OutprojLastIdeal.τ).loc Cert.OutprojLastIdeal.main_arg4) = m ((c.tc : Thread Cert.OutprojLastIdeal.nD Cert.OutprojLastIdeal.τ).loc Cert.OutprojLastIdeal.main_arg4)
      ∧ r.2.mem ((c.tc : Thread Cert.OutprojLastIdeal.nD Cert.OutprojLastIdeal.τ).loc Cert.OutprojLastIdeal.main_arg5) = m ((c.tc : Thread Cert.OutprojLastIdeal.nD Cert.OutprojLastIdeal.τ).loc Cert.OutprojLastIdeal.main_arg5)
      ∧ r.2.mem ((c.tc : Thread Cert.OutprojLastIdeal.nD Cert.OutprojLastIdeal.τ).loc Cert.OutprojLastIdeal.main_arg6) = m ((c.tc : Thread Cert.OutprojLastIdeal.nD Cert.OutprojLastIdeal.τ).loc Cert.OutprojLastIdeal.main_arg6)
      ∧ r.2.mem ((c.tc : Thread Cert.OutprojLastIdeal.nD Cert.OutprojLastIdeal.τ).loc Cert.OutprojLastIdeal.main_arg7) = m ((c.tc : Thread Cert.OutprojLastIdeal.nD Cert.OutprojLastIdeal.τ).loc Cert.OutprojLastIdeal.main_arg7)
      ∧ r.2.mem ((c.tc : Thread Cert.OutprojLastIdeal.nD Cert.OutprojLastIdeal.τ).loc Cert.OutprojLastIdeal.main_arg8) = m ((c.tc : Thread Cert.OutprojLastIdeal.nD Cert.OutprojLastIdeal.τ).loc Cert.OutprojLastIdeal.main_arg8))
      ∧ r.2.sem = fun _ => 0)

def quiescent_OutprojLastRefIdeal [hOutprojLastRefIdeal : Cert.OutprojLastRefIdeal.Facts] : Prop :=
  ∀ (m : (ℓ : Loc Cert.OutprojLastRefIdeal.nD Cert.OutprojLastRefIdeal.τ Cert.OutprojLastRefIdeal.sig) → Buf (Elt Ideal) ℓ) (g : Dev Cert.OutprojLastRefIdeal.nD → PrngReg), Pre_OutprojLastRefIdeal m →
    θ_run (Cert.OutprojLastRefIdeal.defs (F := Ideal)) (onTc (τ := Cert.OutprojLastRefIdeal.τ) (Cert.OutprojLastRefIdeal.main (F := Ideal))) ⟨m, fun _ => 0, g⟩ (fun r => (∀ c : Dev Cert.OutprojLastRefIdeal.nD,
      r.2.mem ((c.tc : Thread Cert.OutprojLastRefIdeal.nD Cert.OutprojLastRefIdeal.τ).loc Cert.OutprojLastRefIdeal.main_arg0) = m ((c.tc : Thread Cert.OutprojLastRefIdeal.nD Cert.OutprojLastRefIdeal.τ).loc Cert.OutprojLastRefIdeal.main_arg0)
      ∧ r.2.mem ((c.tc : Thread Cert.OutprojLastRefIdeal.nD Cert.OutprojLastRefIdeal.τ).loc Cert.OutprojLastRefIdeal.main_arg1) = m ((c.tc : Thread Cert.OutprojLastRefIdeal.nD Cert.OutprojLastRefIdeal.τ).loc Cert.OutprojLastRefIdeal.main_arg1)
      ∧ r.2.mem ((c.tc : Thread Cert.OutprojLastRefIdeal.nD Cert.OutprojLastRefIdeal.τ).loc Cert.OutprojLastRefIdeal.main_arg2) = m ((c.tc : Thread Cert.OutprojLastRefIdeal.nD Cert.OutprojLastRefIdeal.τ).loc Cert.OutprojLastRefIdeal.main_arg2)
      ∧ r.2.mem ((c.tc : Thread Cert.OutprojLastRefIdeal.nD Cert.OutprojLastRefIdeal.τ).loc Cert.OutprojLastRefIdeal.main_arg3) = m ((c.tc : Thread Cert.OutprojLastRefIdeal.nD Cert.OutprojLastRefIdeal.τ).loc Cert.OutprojLastRefIdeal.main_arg3)
      ∧ r.2.mem ((c.tc : Thread Cert.OutprojLastRefIdeal.nD Cert.OutprojLastRefIdeal.τ).loc Cert.OutprojLastRefIdeal.main_arg4) = m ((c.tc : Thread Cert.OutprojLastRefIdeal.nD Cert.OutprojLastRefIdeal.τ).loc Cert.OutprojLastRefIdeal.main_arg4)
      ∧ r.2.mem ((c.tc : Thread Cert.OutprojLastRefIdeal.nD Cert.OutprojLastRefIdeal.τ).loc Cert.OutprojLastRefIdeal.main_arg5) = m ((c.tc : Thread Cert.OutprojLastRefIdeal.nD Cert.OutprojLastRefIdeal.τ).loc Cert.OutprojLastRefIdeal.main_arg5)
      ∧ r.2.mem ((c.tc : Thread Cert.OutprojLastRefIdeal.nD Cert.OutprojLastRefIdeal.τ).loc Cert.OutprojLastRefIdeal.main_arg6) = m ((c.tc : Thread Cert.OutprojLastRefIdeal.nD Cert.OutprojLastRefIdeal.τ).loc Cert.OutprojLastRefIdeal.main_arg6)
      ∧ r.2.mem ((c.tc : Thread Cert.OutprojLastRefIdeal.nD Cert.OutprojLastRefIdeal.τ).loc Cert.OutprojLastRefIdeal.main_arg7) = m ((c.tc : Thread Cert.OutprojLastRefIdeal.nD Cert.OutprojLastRefIdeal.τ).loc Cert.OutprojLastRefIdeal.main_arg7)
      ∧ r.2.mem ((c.tc : Thread Cert.OutprojLastRefIdeal.nD Cert.OutprojLastRefIdeal.τ).loc Cert.OutprojLastRefIdeal.main_arg8) = m ((c.tc : Thread Cert.OutprojLastRefIdeal.nD Cert.OutprojLastRefIdeal.τ).loc Cert.OutprojLastRefIdeal.main_arg8))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v56) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v67) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v39_0)) (v1 : (c : Dev Cert.InprojIdeal.nD) → Buf (Elt Ideal) ((c.tc : Thread Cert.InprojIdeal.nD Cert.InprojIdeal.τ).loc Cert.InprojIdeal.main_v39_1)) (v2 : (c : Dev Cert.InprojIdeal.nD) → Buf (Elt Ideal) ((c.tc : Thread Cert.InprojIdeal.nD Cert.InprojIdeal.τ).loc Cert.InprojIdeal.main_v39_2)) (v3 : (c : Dev Cert.InprojIdeal.nD) → Buf (Elt Ideal) ((c.tc : Thread Cert.InprojIdeal.nD Cert.InprojIdeal.τ).loc Cert.InprojIdeal.main_v39_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v39_0) = v0 c
          ∧ r.2.mem ((c.tc : Thread Cert.InprojIdeal.nD Cert.InprojIdeal.τ).loc Cert.InprojIdeal.main_v39_1) = v1 c
          ∧ r.2.mem ((c.tc : Thread Cert.InprojIdeal.nD Cert.InprojIdeal.τ).loc Cert.InprojIdeal.main_v39_2) = v2 c
          ∧ r.2.mem ((c.tc : Thread Cert.InprojIdeal.nD Cert.InprojIdeal.τ).loc Cert.InprojIdeal.main_v39_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v212) = v0 c
          ∧ r.2.mem ((c.tc : Thread Cert.InprojRefIdeal.nD Cert.InprojRefIdeal.τ).loc Cert.InprojRefIdeal.main_v213) = v1 c
          ∧ r.2.mem ((c.tc : Thread Cert.InprojRefIdeal.nD Cert.InprojRefIdeal.τ).loc Cert.InprojRefIdeal.main_v215) = v2 c
          ∧ r.2.mem ((c.tc : Thread Cert.InprojRefIdeal.nD Cert.InprojRefIdeal.τ).loc Cert.InprojRefIdeal.main_v216) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)) →
    ∃ (v0 : (c : Dev Cert.OutprojIdeal.nD) → Buf (Elt Ideal) ((c.tc : Thread Cert.OutprojIdeal.nD Cert.OutprojIdeal.τ).loc Cert.OutprojIdeal.main_v6)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v511) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)
      ∧ m' ((c.tc : Thread Cert.FfnFirstRefIdeal.nD Cert.FfnFirstRefIdeal.τ).loc Cert.FfnFirstRefIdeal.main_arg6) = m ((c.tc : Thread Cert.FfnFirstIdeal.nD Cert.FfnFirstIdeal.τ).loc Cert.FfnFirstIdeal.main_arg6)
      ∧ m' ((c.tc : Thread Cert.FfnFirstRefIdeal.nD Cert.FfnFirstRefIdeal.τ).loc Cert.FfnFirstRefIdeal.main_arg7) = m ((c.tc : Thread Cert.FfnFirstIdeal.nD Cert.FfnFirstIdeal.τ).loc Cert.FfnFirstIdeal.main_arg7)) →
    ∃ (v0 : (c : Dev Cert.FfnFirstIdeal.nD) → Buf (Elt Ideal) ((c.tc : Thread Cert.FfnFirstIdeal.nD Cert.FfnFirstIdeal.τ).loc Cert.FfnFirstIdeal.main_v8)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v8) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
          ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v118) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5)
          ∧ r.2.mem ((c.tc : Thread Cert.FfnFirstRefIdeal.nD Cert.FfnFirstRefIdeal.τ).loc Cert.FfnFirstRefIdeal.main_arg6) = m' ((c.tc : Thread Cert.FfnFirstRefIdeal.nD Cert.FfnFirstRefIdeal.τ).loc Cert.FfnFirstRefIdeal.main_arg6)
          ∧ r.2.mem ((c.tc : Thread Cert.FfnFirstRefIdeal.nD Cert.FfnFirstRefIdeal.τ).loc Cert.FfnFirstRefIdeal.main_arg7) = m' ((c.tc : Thread Cert.FfnFirstRefIdeal.nD Cert.FfnFirstRefIdeal.τ).loc Cert.FfnFirstRefIdeal.main_arg7))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v20) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2))

def preserves_AttnLast_AttnLastIdeal : Prop :=
  True

def algebraic_AttnLastIdeal_AttnLastRefIdeal_pre_finite [hAttnLastIdeal : Cert.AttnLastIdeal.Facts] [hAttnLastRefIdeal : Cert.AttnLastRefIdeal.Facts] [hPre_finite : Cert.Pre_finite.Facts] : Prop :=
  ∀ (m : (ℓ : Loc Cert.AttnLastIdeal.nD Cert.AttnLastIdeal.τ Cert.AttnLastIdeal.sig) → Buf (Elt Ideal) ℓ) (g : Dev Cert.AttnLastIdeal.nD → PrngReg)
    (m' : (ℓ : Loc Cert.AttnLastRefIdeal.nD Cert.AttnLastRefIdeal.τ Cert.AttnLastRefIdeal.sig) → Buf (Elt Ideal) ℓ) (g' : Dev Cert.AttnLastRefIdeal.nD → PrngReg), Pre_AttnLastIdeal_finite m →
    (∀ c : Dev Cert.AttnLastIdeal.nD,
      m' ((c.tc : Thread Cert.AttnLastRefIdeal.nD Cert.AttnLastRefIdeal.τ).loc Cert.AttnLastRefIdeal.main_arg0) = m ((c.tc : Thread Cert.AttnLastIdeal.nD Cert.AttnLastIdeal.τ).loc Cert.AttnLastIdeal.main_arg0)
      ∧ m' ((c.tc : Thread Cert.AttnLastRefIdeal.nD Cert.AttnLastRefIdeal.τ).loc Cert.AttnLastRefIdeal.main_arg1) = m ((c.tc : Thread Cert.AttnLastIdeal.nD Cert.AttnLastIdeal.τ).loc Cert.AttnLastIdeal.main_arg1)
      ∧ m' ((c.tc : Thread Cert.AttnLastRefIdeal.nD Cert.AttnLastRefIdeal.τ).loc Cert.AttnLastRefIdeal.main_arg2) = m ((c.tc : Thread Cert.AttnLastIdeal.nD Cert.AttnLastIdeal.τ).loc Cert.AttnLastIdeal.main_arg2)) →
    ∃ (v0 : (c : Dev Cert.AttnLastIdeal.nD) → Buf (Elt Ideal) ((c.tc : Thread Cert.AttnLastIdeal.nD Cert.AttnLastIdeal.τ).loc Cert.AttnLastIdeal.main_v0)),
      θ_run (Cert.AttnLastIdeal.defs (F := Ideal)) (onTc (τ := Cert.AttnLastIdeal.τ) (Cert.AttnLastIdeal.main (F := Ideal))) ⟨m, fun _ => 0, g⟩ (fun r => ∀ c : Dev Cert.AttnLastIdeal.nD,
          r.2.mem ((c.tc : Thread Cert.AttnLastIdeal.nD Cert.AttnLastIdeal.τ).loc Cert.AttnLastIdeal.main_v0) = v0 c
          ∧ r.2.mem ((c.tc : Thread Cert.AttnLastIdeal.nD Cert.AttnLastIdeal.τ).loc Cert.AttnLastIdeal.main_arg0) = m ((c.tc : Thread Cert.AttnLastIdeal.nD Cert.AttnLastIdeal.τ).loc Cert.AttnLastIdeal.main_arg0)
          ∧ r.2.mem ((c.tc : Thread Cert.AttnLastIdeal.nD Cert.AttnLastIdeal.τ).loc Cert.AttnLastIdeal.main_arg1) = m ((c.tc : Thread Cert.AttnLastIdeal.nD Cert.AttnLastIdeal.τ).loc Cert.AttnLastIdeal.main_arg1)
          ∧ r.2.mem ((c.tc : Thread Cert.AttnLastIdeal.nD Cert.AttnLastIdeal.τ).loc Cert.AttnLastIdeal.main_arg2) = m ((c.tc : Thread Cert.AttnLastIdeal.nD Cert.AttnLastIdeal.τ).loc Cert.AttnLastIdeal.main_arg2))
      ∧ θ_run (Cert.AttnLastRefIdeal.defs (F := Ideal)) (onTc (τ := Cert.AttnLastRefIdeal.τ) (Cert.AttnLastRefIdeal.main (F := Ideal))) ⟨m', fun _ => 0, g'⟩ (fun r => ∀ c : Dev Cert.AttnLastRefIdeal.nD,
          r.2.mem ((c.tc : Thread Cert.AttnLastRefIdeal.nD Cert.AttnLastRefIdeal.τ).loc Cert.AttnLastRefIdeal.main_v38) = v0 c
          ∧ r.2.mem ((c.tc : Thread Cert.AttnLastRefIdeal.nD Cert.AttnLastRefIdeal.τ).loc Cert.AttnLastRefIdeal.main_arg0) = m' ((c.tc : Thread Cert.AttnLastRefIdeal.nD Cert.AttnLastRefIdeal.τ).loc Cert.AttnLastRefIdeal.main_arg0)
          ∧ r.2.mem ((c.tc : Thread Cert.AttnLastRefIdeal.nD Cert.AttnLastRefIdeal.τ).loc Cert.AttnLastRefIdeal.main_arg1) = m' ((c.tc : Thread Cert.AttnLastRefIdeal.nD Cert.AttnLastRefIdeal.τ).loc Cert.AttnLastRefIdeal.main_arg1)
          ∧ r.2.mem ((c.tc : Thread Cert.AttnLastRefIdeal.nD Cert.AttnLastRefIdeal.τ).loc Cert.AttnLastRefIdeal.main_arg2) = m' ((c.tc : Thread Cert.AttnLastRefIdeal.nD Cert.AttnLastRefIdeal.τ).loc Cert.AttnLastRefIdeal.main_arg2))

def preserves_OutprojLast_OutprojLastIdeal : Prop :=
  True

def algebraic_OutprojLastIdeal_OutprojLastRefIdeal [hOutprojLastIdeal : Cert.OutprojLastIdeal.Facts] [hOutprojLastRefIdeal : Cert.OutprojLastRefIdeal.Facts] : Prop :=
  ∀ (m : (ℓ : Loc Cert.OutprojLastIdeal.nD Cert.OutprojLastIdeal.τ Cert.OutprojLastIdeal.sig) → Buf (Elt Ideal) ℓ) (g : Dev Cert.OutprojLastIdeal.nD → PrngReg)
    (m' : (ℓ : Loc Cert.OutprojLastRefIdeal.nD Cert.OutprojLastRefIdeal.τ Cert.OutprojLastRefIdeal.sig) → Buf (Elt Ideal) ℓ) (g' : Dev Cert.OutprojLastRefIdeal.nD → PrngReg), Pre_OutprojLastIdeal m →
    (∀ c : Dev Cert.OutprojLastIdeal.nD,
      m' ((c.tc : Thread Cert.OutprojLastRefIdeal.nD Cert.OutprojLastRefIdeal.τ).loc Cert.OutprojLastRefIdeal.main_arg0) = m ((c.tc : Thread Cert.OutprojLastIdeal.nD Cert.OutprojLastIdeal.τ).loc Cert.OutprojLastIdeal.main_arg0)
      ∧ m' ((c.tc : Thread Cert.OutprojLastRefIdeal.nD Cert.OutprojLastRefIdeal.τ).loc Cert.OutprojLastRefIdeal.main_arg1) = m ((c.tc : Thread Cert.OutprojLastIdeal.nD Cert.OutprojLastIdeal.τ).loc Cert.OutprojLastIdeal.main_arg1)
      ∧ m' ((c.tc : Thread Cert.OutprojLastRefIdeal.nD Cert.OutprojLastRefIdeal.τ).loc Cert.OutprojLastRefIdeal.main_arg2) = m ((c.tc : Thread Cert.OutprojLastIdeal.nD Cert.OutprojLastIdeal.τ).loc Cert.OutprojLastIdeal.main_arg2)
      ∧ m' ((c.tc : Thread Cert.OutprojLastRefIdeal.nD Cert.OutprojLastRefIdeal.τ).loc Cert.OutprojLastRefIdeal.main_arg3) = m ((c.tc : Thread Cert.OutprojLastIdeal.nD Cert.OutprojLastIdeal.τ).loc Cert.OutprojLastIdeal.main_arg3)
      ∧ m' ((c.tc : Thread Cert.OutprojLastRefIdeal.nD Cert.OutprojLastRefIdeal.τ).loc Cert.OutprojLastRefIdeal.main_arg4) = m ((c.tc : Thread Cert.OutprojLastIdeal.nD Cert.OutprojLastIdeal.τ).loc Cert.OutprojLastIdeal.main_arg4)
      ∧ m' ((c.tc : Thread Cert.OutprojLastRefIdeal.nD Cert.OutprojLastRefIdeal.τ).loc Cert.OutprojLastRefIdeal.main_arg5) = m ((c.tc : Thread Cert.OutprojLastIdeal.nD Cert.OutprojLastIdeal.τ).loc Cert.OutprojLastIdeal.main_arg5)
      ∧ m' ((c.tc : Thread Cert.OutprojLastRefIdeal.nD Cert.OutprojLastRefIdeal.τ).loc Cert.OutprojLastRefIdeal.main_arg6) = m ((c.tc : Thread Cert.OutprojLastIdeal.nD Cert.OutprojLastIdeal.τ).loc Cert.OutprojLastIdeal.main_arg6)
      ∧ m' ((c.tc : Thread Cert.OutprojLastRefIdeal.nD Cert.OutprojLastRefIdeal.τ).loc Cert.OutprojLastRefIdeal.main_arg7) = m ((c.tc : Thread Cert.OutprojLastIdeal.nD Cert.OutprojLastIdeal.τ).loc Cert.OutprojLastIdeal.main_arg7)
      ∧ m' ((c.tc : Thread Cert.OutprojLastRefIdeal.nD Cert.OutprojLastRefIdeal.τ).loc Cert.OutprojLastRefIdeal.main_arg8) = m ((c.tc : Thread Cert.OutprojLastIdeal.nD Cert.OutprojLastIdeal.τ).loc Cert.OutprojLastIdeal.main_arg8)) →
    ∃ (v0 : (c : Dev Cert.OutprojLastIdeal.nD) → Buf (Elt Ideal) ((c.tc : Thread Cert.OutprojLastIdeal.nD Cert.OutprojLastIdeal.τ).loc Cert.OutprojLastIdeal.main_v6)),
      θ_run (Cert.OutprojLastIdeal.defs (F := Ideal)) (onTc (τ := Cert.OutprojLastIdeal.τ) (Cert.OutprojLastIdeal.main (F := Ideal))) ⟨m, fun _ => 0, g⟩ (fun r => ∀ c : Dev Cert.OutprojLastIdeal.nD,
          r.2.mem ((c.tc : Thread Cert.OutprojLastIdeal.nD Cert.OutprojLastIdeal.τ).loc Cert.OutprojLastIdeal.main_v6) = v0 c
          ∧ r.2.mem ((c.tc : Thread Cert.OutprojLastIdeal.nD Cert.OutprojLastIdeal.τ).loc Cert.OutprojLastIdeal.main_arg0) = m ((c.tc : Thread Cert.OutprojLastIdeal.nD Cert.OutprojLastIdeal.τ).loc Cert.OutprojLastIdeal.main_arg0)
          ∧ r.2.mem ((c.tc : Thread Cert.OutprojLastIdeal.nD Cert.OutprojLastIdeal.τ).loc Cert.OutprojLastIdeal.main_arg1) = m ((c.tc : Thread Cert.OutprojLastIdeal.nD Cert.OutprojLastIdeal.τ).loc Cert.OutprojLastIdeal.main_arg1)
          ∧ r.2.mem ((c.tc : Thread Cert.OutprojLastIdeal.nD Cert.OutprojLastIdeal.τ).loc Cert.OutprojLastIdeal.main_arg2) = m ((c.tc : Thread Cert.OutprojLastIdeal.nD Cert.OutprojLastIdeal.τ).loc Cert.OutprojLastIdeal.main_arg2)
          ∧ r.2.mem ((c.tc : Thread Cert.OutprojLastIdeal.nD Cert.OutprojLastIdeal.τ).loc Cert.OutprojLastIdeal.main_arg3) = m ((c.tc : Thread Cert.OutprojLastIdeal.nD Cert.OutprojLastIdeal.τ).loc Cert.OutprojLastIdeal.main_arg3)
          ∧ r.2.mem ((c.tc : Thread Cert.OutprojLastIdeal.nD Cert.OutprojLastIdeal.τ).loc Cert.OutprojLastIdeal.main_arg4) = m ((c.tc : Thread Cert.OutprojLastIdeal.nD Cert.OutprojLastIdeal.τ).loc Cert.OutprojLastIdeal.main_arg4)
          ∧ r.2.mem ((c.tc : Thread Cert.OutprojLastIdeal.nD Cert.OutprojLastIdeal.τ).loc Cert.OutprojLastIdeal.main_arg5) = m ((c.tc : Thread Cert.OutprojLastIdeal.nD Cert.OutprojLastIdeal.τ).loc Cert.OutprojLastIdeal.main_arg5)
          ∧ r.2.mem ((c.tc : Thread Cert.OutprojLastIdeal.nD Cert.OutprojLastIdeal.τ).loc Cert.OutprojLastIdeal.main_arg6) = m ((c.tc : Thread Cert.OutprojLastIdeal.nD Cert.OutprojLastIdeal.τ).loc Cert.OutprojLastIdeal.main_arg6)
          ∧ r.2.mem ((c.tc : Thread Cert.OutprojLastIdeal.nD Cert.OutprojLastIdeal.τ).loc Cert.OutprojLastIdeal.main_arg7) = m ((c.tc : Thread Cert.OutprojLastIdeal.nD Cert.OutprojLastIdeal.τ).loc Cert.OutprojLastIdeal.main_arg7)
          ∧ r.2.mem ((c.tc : Thread Cert.OutprojLastIdeal.nD Cert.OutprojLastIdeal.τ).loc Cert.OutprojLastIdeal.main_arg8) = m ((c.tc : Thread Cert.OutprojLastIdeal.nD Cert.OutprojLastIdeal.τ).loc Cert.OutprojLastIdeal.main_arg8))
      ∧ θ_run (Cert.OutprojLastRefIdeal.defs (F := Ideal)) (onTc (τ := Cert.OutprojLastRefIdeal.τ) (Cert.OutprojLastRefIdeal.main (F := Ideal))) ⟨m', fun _ => 0, g'⟩ (fun r => ∀ c : Dev Cert.OutprojLastRefIdeal.nD,
          r.2.mem ((c.tc : Thread Cert.OutprojLastRefIdeal.nD Cert.OutprojLastRefIdeal.τ).loc Cert.OutprojLastRefIdeal.main_v253) = v0 c
          ∧ r.2.mem ((c.tc : Thread Cert.OutprojLastRefIdeal.nD Cert.OutprojLastRefIdeal.τ).loc Cert.OutprojLastRefIdeal.main_arg0) = m' ((c.tc : Thread Cert.OutprojLastRefIdeal.nD Cert.OutprojLastRefIdeal.τ).loc Cert.OutprojLastRefIdeal.main_arg0)
          ∧ r.2.mem ((c.tc : Thread Cert.OutprojLastRefIdeal.nD Cert.OutprojLastRefIdeal.τ).loc Cert.OutprojLastRefIdeal.main_arg1) = m' ((c.tc : Thread Cert.OutprojLastRefIdeal.nD Cert.OutprojLastRefIdeal.τ).loc Cert.OutprojLastRefIdeal.main_arg1)
          ∧ r.2.mem ((c.tc : Thread Cert.OutprojLastRefIdeal.nD Cert.OutprojLastRefIdeal.τ).loc Cert.OutprojLastRefIdeal.main_arg2) = m' ((c.tc : Thread Cert.OutprojLastRefIdeal.nD Cert.OutprojLastRefIdeal.τ).loc Cert.OutprojLastRefIdeal.main_arg2)
          ∧ r.2.mem ((c.tc : Thread Cert.OutprojLastRefIdeal.nD Cert.OutprojLastRefIdeal.τ).loc Cert.OutprojLastRefIdeal.main_arg3) = m' ((c.tc : Thread Cert.OutprojLastRefIdeal.nD Cert.OutprojLastRefIdeal.τ).loc Cert.OutprojLastRefIdeal.main_arg3)
          ∧ r.2.mem ((c.tc : Thread Cert.OutprojLastRefIdeal.nD Cert.OutprojLastRefIdeal.τ).loc Cert.OutprojLastRefIdeal.main_arg4) = m' ((c.tc : Thread Cert.OutprojLastRefIdeal.nD Cert.OutprojLastRefIdeal.τ).loc Cert.OutprojLastRefIdeal.main_arg4)
          ∧ r.2.mem ((c.tc : Thread Cert.OutprojLastRefIdeal.nD Cert.OutprojLastRefIdeal.τ).loc Cert.OutprojLastRefIdeal.main_arg5) = m' ((c.tc : Thread Cert.OutprojLastRefIdeal.nD Cert.OutprojLastRefIdeal.τ).loc Cert.OutprojLastRefIdeal.main_arg5)
          ∧ r.2.mem ((c.tc : Thread Cert.OutprojLastRefIdeal.nD Cert.OutprojLastRefIdeal.τ).loc Cert.OutprojLastRefIdeal.main_arg6) = m' ((c.tc : Thread Cert.OutprojLastRefIdeal.nD Cert.OutprojLastRefIdeal.τ).loc Cert.OutprojLastRefIdeal.main_arg6)
          ∧ r.2.mem ((c.tc : Thread Cert.OutprojLastRefIdeal.nD Cert.OutprojLastRefIdeal.τ).loc Cert.OutprojLastRefIdeal.main_arg7) = m' ((c.tc : Thread Cert.OutprojLastRefIdeal.nD Cert.OutprojLastRefIdeal.τ).loc Cert.OutprojLastRefIdeal.main_arg7)
          ∧ r.2.mem ((c.tc : Thread Cert.OutprojLastRefIdeal.nD Cert.OutprojLastRefIdeal.τ).loc Cert.OutprojLastRefIdeal.main_arg8) = m' ((c.tc : Thread Cert.OutprojLastRefIdeal.nD Cert.OutprojLastRefIdeal.τ).loc Cert.OutprojLastRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hFfnFirst : Cert.FfnFirst.Facts) (hFfnFirstIdeal : Cert.FfnFirstIdeal.Facts) (hFfnFirstRefIdeal : Cert.FfnFirstRefIdeal.Facts) (hMods : Cert.Mods.Facts) (hModsIdeal : Cert.ModsIdeal.Facts) (hModsRefIdeal : Cert.ModsRefIdeal.Facts) (hAttnLast : Cert.AttnLast.Facts) (hAttnLastIdeal : Cert.AttnLastIdeal.Facts) (hAttnLastRefIdeal : Cert.AttnLastRefIdeal.Facts) (hOutprojLast : Cert.OutprojLast.Facts) (hOutprojLastIdeal : Cert.OutprojLastIdeal.Facts) (hOutprojLastRefIdeal : Cert.OutprojLastRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_Mods (hMods := hMods)
    ∧ quiescent_ModsIdeal (hModsIdeal := hModsIdeal)
    ∧ quiescent_ModsRefIdeal (hModsRefIdeal := hModsRefIdeal)
    ∧ quiescent_AttnLast (hAttnLast := hAttnLast)
    ∧ quiescent_AttnLastIdeal (hAttnLastIdeal := hAttnLastIdeal)
    ∧ quiescent_AttnLastIdeal_pre_finite (hAttnLastIdeal := hAttnLastIdeal) (hPre_finite := hPre_finite)
    ∧ quiescent_AttnLastRefIdeal (hAttnLastRefIdeal := hAttnLastRefIdeal)
    ∧ quiescent_AttnLastRefIdeal_pre_finite (hAttnLastRefIdeal := hAttnLastRefIdeal) (hPre_finite := hPre_finite)
    ∧ quiescent_OutprojLast (hOutprojLast := hOutprojLast)
    ∧ quiescent_OutprojLastIdeal (hOutprojLastIdeal := hOutprojLastIdeal)
    ∧ quiescent_OutprojLastRefIdeal (hOutprojLastRefIdeal := hOutprojLastRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_Mods_ModsIdeal
    ∧ algebraic_ModsIdeal_ModsRefIdeal (hModsIdeal := hModsIdeal) (hModsRefIdeal := hModsRefIdeal)
    ∧ preserves_AttnLast_AttnLastIdeal
    ∧ algebraic_AttnLastIdeal_AttnLastRefIdeal_pre_finite (hAttnLastIdeal := hAttnLastIdeal) (hAttnLastRefIdeal := hAttnLastRefIdeal) (hPre_finite := hPre_finite)
    ∧ preserves_OutprojLast_OutprojLastIdeal
    ∧ algebraic_OutprojLastIdeal_OutprojLastRefIdeal (hOutprojLastIdeal := hOutprojLastIdeal) (hOutprojLastRefIdeal := hOutprojLastRefIdeal)
-- ==== Pre_finite.lean ====
abbrev S16x512x2304 : Shape := ⟨3, ![16, 512, 2304]⟩
abbrev S16x2304x128 : Shape := ⟨3, ![16, 2304, 128]⟩
abbrev S16x128x2304 : Shape := ⟨3, ![16, 128, 2304]⟩
abbrev S_ : Shape := ⟨0, ![]⟩

class Facts : Prop where
  bitsLt_bf16_f32 : FTy.bits .bf16 < FTy.bits .f32
  bcast_S_S16x512x2304 : S_.BroadcastsInDim S16x512x2304 (![] : Fin 0 → Fin S16x512x2304.rank)
  reducesTo_S16x512x2304_S_d0_1_2 : S16x512x2304.ReducesTo [0, 1, 2] S_
  h_S_ : 0 < S_.numel
  bcast_S_S16x2304x128 : S_.BroadcastsInDim S16x2304x128 (![] : Fin 0 → Fin S16x2304x128.rank)
  reducesTo_S16x2304x128_S_d0_1_2 : S16x2304x128.ReducesTo [0, 1, 2] S_

variable [Facts]

def fn {F : FTy → Type} [FloatOps F] (main_arg0 : FVec F S16x512x2304 .bf16) (main_arg1 : FVec F S16x2304x128 .bf16) (main_arg2 : FVec F S16x128x2304 .bf16) : IVec S_ 1 :=
  let main_v0 : FVec F S16x512x2304 .f32 := (extf .f32 · bitsLt_bf16_f32) main_arg0
  let main_v1 : FVec F S16x512x2304 .f32 := Host.absf main_v0
  let main_cst : FVec F S_ .f32 := constant S_ .f32 0x7F800000#32
  let main_v2 : FVec F S16x512x2304 .f32 := broadcastInDim S16x512x2304 ![] bcast_S_S16x512x2304 main_cst
  let main_v3 : IVec S16x512x2304 1 := cmpf .olt main_v1 main_v2
  let main_c : IVec S_ 1 := constantI S_ 1 1#1
  let main_v4 : IVec S_ 1 := (fun x v => Host.reduce IntOp.andi x v reducesTo_S16x512x2304_S_d0_1_2 h_S_) main_v3 main_c
  let main_v5 : FVec F S16x2304x128 .f32 := (extf .f32 · bitsLt_bf16_f32) main_arg1
  let main_v6 : FVec F S16x2304x128 .f32 := Host.absf main_v5
  let main_cst_0 : FVec F S_ .f32 := constant S_ .f32 0x7F800000#32
  let main_v7 : FVec F S16x2304x128 .f32 := broadcastInDim S16x2304x128 ![] bcast_S_S16x2304x128 main_cst_0
  let main_v8 : IVec S16x2304x128 1 := cmpf .olt main_v6 main_v7
  let main_c_1 : IVec S_ 1 := constantI S_ 1 1#1
  let main_v9 : IVec S_ 1 := (fun x v => Host.reduce IntOp.andi x v reducesTo_S16x2304x128_S_d0_1_2 h_S_) main_v8 main_c_1
  let main_v10 : IVec S_ 1 := andi main_v4 main_v9
  main_v10
-- ==== Attn.lean ====
abbrev S16x512x2304 : Shape := ⟨3, ![16, 512, 2304]⟩
abbrev S16x2304x128 : Shape := ⟨3, ![16, 2304, 128]⟩
abbrev S16x128x2304 : Shape := ⟨3, ![16, 128, 2304]⟩
abbrev S16x2304x512 : Shape := ⟨3, ![16, 2304, 512]⟩
abbrev S1x256x256 : Shape := ⟨3, ![1, 256, 256]⟩
abbrev S1x2304x128 : Shape := ⟨3, ![1, 2304, 128]⟩
abbrev S1x64x2304 : Shape := ⟨3, ![1, 64, 2304]⟩
abbrev S2304x128 : Shape := ⟨2, ![2304, 128]⟩
abbrev S64x2304 : Shape := ⟨2, ![64, 2304]⟩
abbrev S1x64x256 : Shape := ⟨3, ![1, 64, 256]⟩
abbrev S64x256 : Shape := ⟨2, ![64, 256]⟩
abbrev S128x256 : Shape := ⟨2, ![128, 256]⟩
abbrev S128x512 : Shape := ⟨2, ![128, 512]⟩
abbrev S2304x512 : Shape := ⟨2, ![2304, 512]⟩
abbrev S512 : Shape := ⟨1, ![512]⟩
abbrev S1x512 : Shape := ⟨2, ![1, 512]⟩
abbrev S64x512 : Shape := ⟨2, ![64, 512]⟩
abbrev S256x256 : Shape := ⟨2, ![256, 256]⟩
abbrev S1x256x128 : Shape := ⟨3, ![1, 256, 128]⟩
abbrev S256x128 : Shape := ⟨2, ![256, 128]⟩
abbrev S256x512 : Shape := ⟨2, ![256, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x512x2304, .bf16⟩
  | .hbm, ⟨1, _⟩ => ⟨S16x2304x128, .bf16⟩
  | .hbm, ⟨2, _⟩ => ⟨S16x128x2304, .bf16⟩
  | .hbm, ⟨3, _⟩ => ⟨S16x2304x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x64x2304, .bf16⟩
  | .local _ .vmem, ⟨5, _⟩ => ⟨S1x64x2304, .bf16⟩
  | .local _ .vmem, ⟨6, _⟩ => ⟨S1x256x256, .bf16⟩
  | .local _ .vmem, ⟨7, _⟩ => ⟨S1x256x256, .bf16⟩
  | _, _ => ⟨S16x512x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 9], ![false, false, false]⟩

def k0_cond1 (i : grid0.Coords) : BitVec 1 :=
  let arg2 : BitVec 32 := BitVec.ofNat 32 (i 2).val
  let c8_i32 : BitVec 32 := 8#32
  let v0 : BitVec 1 := Scalar.cmpi .slt arg2 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c8_i32_0 : BitVec 32 := 8#32
  let v3 : BitVec 1 := Scalar.cmpi .sge arg2 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16x512x2304 : Shape := ⟨3, ![16, 512, 2304]⟩
abbrev S16x2304x128 : Shape := ⟨3, ![16, 2304, 128]⟩
abbrev S16x128x2304 : Shape := ⟨3, ![16, 128, 2304]⟩
abbrev S16x2304x512 : Shape := ⟨3, ![16, 2304, 512]⟩
abbrev S16x2304x8x64 : Shape := ⟨4, ![16, 2304, 8, 64]⟩
abbrev S16x2304x2x4x64 : Shape := ⟨5, ![16, 2304, 2, 4, 64]⟩
abbrev S16x2304x2x64 : Shape := ⟨4, ![16, 2304, 2, 64]⟩
abbrev S16x2048x2x4x64 : Shape := ⟨5, ![16, 2048, 2, 4, 64]⟩
abbrev S16x256x2x4x64 : Shape := ⟨5, ![16, 256, 2, 4, 64]⟩
abbrev S16x2048x2x64 : Shape := ⟨4, ![16, 2048, 2, 64]⟩
abbrev S16x256x2x64 : Shape := ⟨4, ![16, 256, 2, 64]⟩
abbrev S16x2x2048x2048x4 : Shape := ⟨5, ![16, 2, 2048, 2048, 4]⟩
abbrev S16x2x4x2048x2048 : Shape := ⟨5, ![16, 2, 4, 2048, 2048]⟩
abbrev S16x2x256x2048x4 : Shape := ⟨5, ![16, 2, 256, 2048, 4]⟩
abbrev S16x2x4x2048x256 : Shape := ⟨5, ![16, 2, 4, 2048, 256]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x512 : Shape := ⟨3, ![16, 2048, 512]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x64x4x256 : Shape := ⟨5, ![16, 2, 64, 4, 256]⟩
abbrev S16x256x512 : Shape := ⟨3, ![16, 256, 512]⟩

abbrev nBuf : Space → Nat
  | .hbm => 66
  | .vmem => 0
  | .smem => 0
  | _ => 0

abbrev bufTy : (tb : Table) → Fin (tcTables nBuf tb) → BufTy
  | .hbm, ⟨0, _⟩ => ⟨S16x512x2304, .bf16⟩
  | .hbm, ⟨1, _⟩ => ⟨S16x2304x128, .bf16⟩
  | .hbm, ⟨2, _⟩ => ⟨S16x128x2304, .bf16⟩
  | .hbm, ⟨3, _⟩ => ⟨S16x2304x512, .bf16⟩
  | .hbm, ⟨4, _⟩ => ⟨S16x2304x512, .f32⟩
  | .hbm, ⟨5, _⟩ => ⟨S16x2304x8x64, .f32⟩
  | .hbm, ⟨6, _⟩ => ⟨S16x2304x2x4x64, .f32⟩
  | .hbm, ⟨7, _⟩ => ⟨S16x2304x128, .f32⟩
  | .hbm, ⟨8, _⟩ => ⟨S16x2304x2x64, .f32⟩
  | .hbm, ⟨9, _⟩ => ⟨S16x2304x128, .bf16⟩
  | .hbm, ⟨10, _⟩ => ⟨S16x2304x128, .f32⟩
  | .hbm, ⟨11, _⟩ => ⟨S16x2304x2x64, .f32⟩
  | .hbm, ⟨12, _⟩ => ⟨S16x2048x2x4x64, .f32⟩
  | .hbm, ⟨13, _⟩ => ⟨S16x256x2x4x64, .f32⟩
  | .hbm, ⟨14, _⟩ => ⟨S16x2048x2x64, .f32⟩
  | .hbm, ⟨15, _⟩ => ⟨S16x256x2x64, .f32⟩
  | .hbm, ⟨16, _⟩ => ⟨S16x2048x2x64, .f32⟩
  | .hbm, ⟨17, _⟩ => ⟨S16x256x2x64, .f32⟩
  | .hbm, ⟨18, _⟩ => ⟨S16x2x2048x2048x4, .f32⟩
  | .hbm, ⟨19, _⟩ => ⟨S16x2x4x2048x2048, .f32⟩
  | .hbm, ⟨20, _⟩ => ⟨S16x2x256x2048x4, .f32⟩
  | .hbm, ⟨21, _⟩ => ⟨S16x2x4x2048x256, .f32⟩
  | .hbm, ⟨22, _⟩ => ⟨S16x2x4x2048x2304, .f32⟩
  | .hbm, ⟨23, _⟩ => ⟨S_, .f32⟩
  | .hbm, ⟨24, _⟩ => ⟨S16x2x4x2048, .f32⟩
  | .hbm, ⟨25, _⟩ => ⟨S_, .f32⟩
  | .hbm, ⟨26, _⟩ => ⟨S16x2x4x2048, .f32⟩
  | .hbm, ⟨27, _⟩ => ⟨S16x2x4x2048, .f32⟩
  | .hbm, ⟨28, _⟩ => ⟨S16x2x4x2048x1, .f32⟩
  | .hbm, ⟨29, _⟩ => ⟨S16x2x4x2048x2304, .f32⟩
  | .hbm, ⟨30, _⟩ => ⟨S16x2x4x2048x2304, .f32⟩
  | .hbm, ⟨31, _⟩ => ⟨S16x2x4x2048x2304, .f32⟩
  | .hbm, ⟨32, _⟩ => ⟨S_, .f32⟩
  | .hbm, ⟨33, _⟩ => ⟨S16x2x4x2048, .f32⟩
  | .hbm, ⟨34, _⟩ => ⟨S16x2x4x2048x1, .f32⟩
  | .hbm, ⟨35, _⟩ => ⟨S16x2x4x2048x2304, .f32⟩
  | .hbm, ⟨36, _⟩ => ⟨S16x2x4x2048x2304, .f32⟩
  | .hbm, ⟨37, _⟩ => ⟨S16x2x4x2048x2048, .f32⟩
  | .hbm, ⟨38, _⟩ => ⟨S16x2x64x4x2048, .f32⟩
  | .hbm, ⟨39, _⟩ => ⟨S16x2048x2x4x64, .f32⟩
  | .hbm, ⟨40, _⟩ => ⟨S16x2x4x2048x256, .f32⟩
  | .hbm, ⟨41, _⟩ => ⟨S16x2x64x4x2048, .f32⟩
  | .hbm, ⟨42, _⟩ => ⟨S16x2048x2x4x64, .f32⟩
  | .hbm, ⟨43, _⟩ => ⟨S16x2048x2x4x64, .f32⟩
  | .hbm, ⟨44, _⟩ => ⟨S16x2048x512, .f32⟩
  | .hbm, ⟨45, _⟩ => ⟨S16x2x256x256x4, .f32⟩
  | .hbm, ⟨46, _⟩ => ⟨S16x2x4x256x256, .f32⟩
  | .hbm, ⟨47, _⟩ => ⟨S_, .f32⟩
  | .hbm, ⟨48, _⟩ => ⟨S16x2x4x256, .f32⟩
  | .hbm, ⟨49, _⟩ => ⟨S_, .f32⟩
  | .hbm, ⟨50, _⟩ => ⟨S16x2x4x256, .f32⟩
  | .hbm, ⟨51, _⟩ => ⟨S16x2x4x256, .f32⟩
  | .hbm, ⟨52, _⟩ => ⟨S16x2x4x256x1, .f32⟩
  | .hbm, ⟨53, _⟩ => ⟨S16x2x4x256x256, .f32⟩
  | .hbm, ⟨54, _⟩ => ⟨S16x2x4x256x256, .f32⟩
  | .hbm, ⟨55, _⟩ => ⟨S16x2x4x256x256, .f32⟩
  | .hbm, ⟨56, _⟩ => ⟨S_, .f32⟩
  | .hbm, ⟨57, _⟩ => ⟨S16x2x4x256, .f32⟩
  | .hbm, ⟨58, _⟩ => ⟨S16x2x4x256x1, .f32⟩
  | .hbm, ⟨59, _⟩ => ⟨S16x2x4x256x256, .f32⟩
  | .hbm, ⟨60, _⟩ => ⟨S16x2x4x256x256, .f32⟩
  | .hbm, ⟨61, _⟩ => ⟨S16x2x64x4x256, .f32⟩
  | .hbm, ⟨62, _⟩ => ⟨S16x256x2x4x64, .f32⟩
  | .hbm, ⟨63, _⟩ => ⟨S16x256x512, .f32⟩
  | .hbm, ⟨64, _⟩ => ⟨S16x2304x512, .f32⟩
  | .hbm, ⟨65, _⟩ => ⟨S16x2304x512, .bf16⟩
  | _, _ => ⟨S16x512x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩

abbrev nD : Nat := 1
abbrev τ : Topo := Topo.v7x

variable {F : FTy → Type} [FloatOps F]
-- ==== Ffn.lean ====
abbrev S16x2048x1024 : Shape := ⟨3, ![16, 2048, 1024]⟩
abbrev S24x6x1024 : Shape := ⟨3, ![24, 6, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1024x2816 : Shape := ⟨2, ![1024, 2816]⟩
abbrev S1x2816 : Shape := ⟨2, ![1, 2816]⟩
abbrev S1x256x1024 : Shape := ⟨3, ![1, 256, 1024]⟩
abbrev S1x8x1024 : Shape := ⟨3, ![1, 8, 1024]⟩
abbrev S1x6x1024 : Shape := ⟨3, ![1, 6, 1024]⟩
abbrev S272x1024 : Shape := ⟨2, ![272, 1024]⟩
abbrev S272x2816 : Shape := ⟨2, ![272, 2816]⟩
abbrev S256x2816 : Shape := ⟨2, ![256, 2816]⟩
abbrev S256x1024 : Shape := ⟨2, ![256, 1024]⟩
abbrev S8x1024 : Shape := ⟨2, ![8, 1024]⟩
abbrev S1x1x1024 : Shape := ⟨3, ![1, 1, 1024]⟩
abbrev S272 : Shape := ⟨1, ![272]⟩
abbrev S272x1 : Shape := ⟨2, ![272, 1]⟩
abbrev S1024x256 : Shape := ⟨2, ![1024, 256]⟩
abbrev S272x256 : Shape := ⟨2, ![272, 256]⟩
abbrev S256x256 : Shape := ⟨2, ![256, 256]⟩
abbrev S8x256 : Shape := ⟨2, ![8, 256]⟩
abbrev S1x256 : Shape := ⟨2, ![1, 256]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S24x6x1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1x2816, .f32⟩
  | .hbm, ⟨15, _⟩ => ⟨S1x1024, .f32⟩
  | .hbm, ⟨16, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S3x2816, .f32⟩
  | .local _ .vmem, ⟨13, _⟩ => ⟨S1x2816, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S272x1024, .f32⟩
  | .local _ .vmem, ⟨18, _⟩ => ⟨S272x2816, .f32⟩
  | .local _ .vmem, ⟨19, _⟩ => ⟨S256x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnRefIdeal.lean ====
abbrev S16x2048x1024 : Shape := ⟨3, ![16, 2048, 1024]⟩
abbrev S24x6x1024 : Shape := ⟨3, ![24, 6, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x2816 : Shape := ⟨2, ![1, 2816]⟩
abbrev S1x1x2816 : Shape := ⟨3, ![1, 1, 2816]⟩

abbrev nBuf : Space → Nat
  | .hbm => 93
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x6x1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x5632, .f32⟩
  | .hbm, ⟨35, _⟩ => ⟨S16x2048x2816, .f32⟩
  | .hbm, ⟨36, _⟩ => ⟨S16x2048x2816, .f32⟩
  | .hbm, ⟨37, _⟩ => ⟨S_, .i32⟩
  | .hbm, ⟨38, _⟩ => ⟨S_, .f32⟩
  | .hbm, ⟨39, _⟩ => ⟨S16x2050x2816, .f32⟩
  | .hbm, ⟨40, _⟩ => ⟨S16x2048x2816, .f32⟩
  | .hbm, ⟨41, _⟩ => ⟨S1x2816, .f32⟩
  | .hbm, ⟨42, _⟩ => ⟨S2816, .f32⟩
  | .hbm, ⟨43, _⟩ => ⟨S1x1x2816, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S1x1x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S_, .f32⟩
  | .hbm, ⟨66, _⟩ => ⟨S16x2048x2816, .f32⟩
  | .hbm, ⟨67, _⟩ => ⟨S16x2048x2816, .f32⟩
  | .hbm, ⟨68, _⟩ => ⟨S_, .f32⟩
  | .hbm, ⟨69, _⟩ => ⟨S16x2048x2816, .f32⟩
  | .hbm, ⟨70, _⟩ => ⟨S16x2048x2816, .f32⟩
  | .hbm, ⟨71, _⟩ => ⟨S16x2048x2816, .f32⟩
  | .hbm, ⟨72, _⟩ => ⟨S16x2048x2816, .f32⟩
  | .hbm, ⟨73, _⟩ => ⟨S16x2048x1024, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x2048, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S_, .f32⟩
  | .hbm, ⟨85, _⟩ => ⟨S16x2048x1, .f32⟩
  | .hbm, ⟨86, _⟩ => ⟨S16x2048x1, .f32⟩
  | .hbm, ⟨87, _⟩ => ⟨S16x2048x1, .f32⟩
  | .hbm, ⟨88, _⟩ => ⟨S16x2048x1024, .f32⟩
  | .hbm, ⟨89, _⟩ => ⟨S16x2048x1024, .f32⟩
  | .hbm, ⟨90, _⟩ => ⟨S1x1x1024, .f32⟩
  | .hbm, ⟨91, _⟩ => ⟨S16x2048x1024, .f32⟩
  | .hbm, ⟨92, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_v57 : Ref sig .tc := ⟨.hbm, 80, rfl⟩
abbrev main_cst_4 : Ref sig .tc := ⟨.hbm, 81, rfl⟩
abbrev main_v58 : Ref sig .tc := ⟨.hbm, 82, rfl⟩
abbrev main_v59 : Ref sig .tc := ⟨.hbm, 83, rfl⟩
abbrev main_cst_5 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Inproj.lean ====
abbrev S16x2304x1024 : Shape := ⟨3, ![16, 2304, 1024]⟩
abbrev S24x6x1024 : Shape := ⟨3, ![24, 6, 1024]⟩
abbrev S1024 : Shape := ⟨1, ![1024]⟩
abbrev S1024x1792 : Shape := ⟨2, ![1024, 1792]⟩
abbrev S64 : Shape := ⟨1, ![64]⟩
abbrev S1024x768 : Shape := ⟨2, ![1024, 768]⟩
abbrev S768x1024 : Shape := ⟨2, ![768, 1024]⟩
abbrev S1024x1024 : Shape := ⟨2, ![1024, 1024]⟩
abbrev S64x1 : Shape := ⟨2, ![64, 1]⟩
abbrev S64x256 : Shape := ⟨2, ![64, 256]⟩
abbrev S2048 : Shape := ⟨1, ![2048]⟩
abbrev S_ : Shape := ⟨0, ![]⟩
abbrev S1x2048 : Shape := ⟨2, ![1, 2048]⟩
abbrev S2x2048 : Shape := ⟨2, ![2, 2048]⟩
abbrev S16 : Shape := ⟨1, ![16]⟩
abbrev S2x1x2048 : Shape := ⟨3, ![2, 1, 2048]⟩
abbrev S1x16x1 : Shape := ⟨3, ![1, 16, 1]⟩
abbrev S2x16x2048 : Shape := ⟨3, ![2, 16, 2048]⟩
abbrev S2x32x2048 : Shape := ⟨3, ![2, 32, 2048]⟩
abbrev S64x2048 : Shape := ⟨2, ![64, 2048]⟩
abbrev S64x2304 : Shape := ⟨2, ![64, 2304]⟩
abbrev S1x1024 : Shape := ⟨2, ![1, 1024]⟩
abbrev S16x512x2304 : Shape := ⟨3, ![16, 512, 2304]⟩
abbrev S16x2304x128 : Shape := ⟨3, ![16, 2304, 128]⟩
abbrev S16x128x2304 : Shape := ⟨3, ![16, 128, 2304]⟩
abbrev S16x2304x512 : Shape := ⟨3, ![16, 2304, 512]⟩
abbrev S1x256x1024 : Shape := ⟨3, ![1, 256, 1024]⟩
abbrev S1x6x1024 : Shape := ⟨3, ![1, 6, 1024]⟩
abbrev S1x512x256 : Shape := ⟨3, ![1, 512, 256]⟩
abbrev S1x256x128 : Shape := ⟨3, ![1, 256, 128]⟩
abbrev S1x128x256 : Shape := ⟨3, ![1, 128, 256]⟩
abbrev S1x256x512 : Shape := ⟨3, ![1, 256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x512 : Shape := ⟨2, ![256, 512]⟩
abbrev S768x256 : Shape := ⟨2, ![768, 256]⟩
abbrev S1x256 : Shape := ⟨2, ![1, 256]⟩
abbrev S16x256 : Shape := ⟨2, ![16, 256]⟩
abbrev S512x256 : Shape := ⟨2, ![512, 256]⟩
abbrev S128x256 : Shape := ⟨2, ![128, 256]⟩
abbrev S256x128 : Shape := ⟨2, ![256, 128]⟩

abbrev nBuf : Space → Nat
  | .hbm => 91
  | .vmem => 21
  | .smem => 0
  | _ => 0

abbrev bufTy : (tb : Table) → Fin (tcTables nBuf tb) → BufTy
  | .hbm, ⟨0, _⟩ => ⟨S16x2304x1024, .f32⟩
  | .hbm, ⟨1, _⟩ => ⟨S24x6x1024, .f32⟩
  | .hbm, ⟨2, _⟩ => ⟨S1024, .f32⟩
  | .hbm, ⟨3, _⟩ => ⟨S1024x1792, .f32⟩
  | .hbm, ⟨4, _⟩ => ⟨S64, .f32⟩
  | .hbm, ⟨5, _⟩ => ⟨S64, .f32⟩
  | .hbm, ⟨6, _⟩ => ⟨S1024x768, .f32⟩
  | .hbm, ⟨7, _⟩ => ⟨S768x1024, .f32⟩
  | .hbm, ⟨8, _⟩ => ⟨S768x1024, .bf16⟩
  | .hbm, ⟨9, _⟩ => ⟨S1024x1024, .f32⟩
  | .hbm, ⟨10, _⟩ => ⟨S1024x1024, .bf16⟩
  | .hbm, ⟨11, _⟩ => ⟨S64x1, .f32⟩
  | .hbm, ⟨12, _⟩ => ⟨S64x256, .f32⟩
  | .hbm, ⟨13, _⟩ => ⟨S64x1, .f32⟩
  | .hbm, ⟨14, _⟩ => ⟨S64x256, .f32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S_, .i1⟩
  | .hbm, ⟨50, _⟩ => ⟨S2048, .i1⟩
  | .hbm, ⟨51, _⟩ => ⟨S2048, .i1⟩
  | .hbm, ⟨52, _⟩ => ⟨S2048, .i1⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S1x2048, .i32⟩
  | .hbm, ⟨57, _⟩ => ⟨S1x2048, .i32⟩
  | .hbm, ⟨58, _⟩ => ⟨S2x2048, .i32⟩
  | .hbm, ⟨59, _⟩ => ⟨S2x2048, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S2x1x2048, .f32⟩
  | .hbm, ⟨69, _⟩ => ⟨S1x16x1, .f32⟩
  | .hbm, ⟨70, _⟩ => ⟨S2x16x2048, .f32⟩
  | .hbm, ⟨71, _⟩ => ⟨S2x16x2048, .f32⟩
  | .hbm, ⟨72, _⟩ => ⟨S2x16x2048, .f32⟩
  | .hbm, ⟨73, _⟩ => ⟨S2x16x2048, .f32⟩
  | .hbm, ⟨74, _⟩ => ⟨S2x16x2048, .f32⟩
  | .hbm, ⟨75, _⟩ => ⟨S2x32x2048, .f32⟩
  | .hbm, ⟨76, _⟩ => ⟨S64x2048, .f32⟩
  | .hbm, ⟨77, _⟩ => ⟨S2x16x2048, .f32⟩
  | .hbm, ⟨78, _⟩ => ⟨S2x32x2048, .f32⟩
  | .hbm, ⟨79, _⟩ => ⟨S64x2048, .f32⟩
  | .hbm, ⟨80, _⟩ => ⟨S_, .f32⟩
  | .hbm, ⟨81, _⟩ => ⟨S64x256, .f32⟩
  | .hbm, ⟨82, _⟩ => ⟨S64x2304, .f32⟩
  | .hbm, ⟨83, _⟩ => ⟨S_, .f32⟩
  | .hbm, ⟨84, _⟩ => ⟨S64x256, .f32⟩
  | .hbm, ⟨85, _⟩ => ⟨S64x2304, .f32⟩
  | .hbm, ⟨86, _⟩ => ⟨S1x1024, .f32⟩
  | .hbm, ⟨87, _⟩ => ⟨S16x512x2304, .bf16⟩
  | .hbm, ⟨88, _⟩ => ⟨S16x2304x128, .bf16⟩
  | .hbm, ⟨89, _⟩ => ⟨S16x128x2304, .bf16⟩
  | .hbm, ⟨90, _⟩ => ⟨S16x2304x512, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S768x1024, .bf16⟩
  | .local _ .vmem, ⟨6, _⟩ => ⟨S1024x1024, .bf16⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S1x512x256, .bf16⟩
  | .local _ .vmem, ⟨14, _⟩ => ⟨S1x512x256, .bf16⟩
  | .local _ .vmem, ⟨15, _⟩ => ⟨S1x256x128, .bf16⟩
  | .local _ .vmem, ⟨16, _⟩ => ⟨S1x256x128, .bf16⟩
  | .local _ .vmem, ⟨17, _⟩ => ⟨S1x128x256, .bf16⟩
  | .local _ .vmem, ⟨18, _⟩ => ⟨S1x128x256, .bf16⟩
  | .local _ .vmem, ⟨19, _⟩ => ⟨S1x256x512, .f32⟩
  | .local _ .vmem, ⟨20, _⟩ => ⟨S1x256x512, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst : Ref sig .tc := ⟨.hbm, 62, rfl⟩
abbrev main_v18 : Ref sig .tc := ⟨.hbm, 63, rfl⟩
abbrev main_v19 : Ref sig .tc := ⟨.hbm, 64, rfl⟩
abbrev main_cst_1 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_2 : Ref sig .tc := ⟨.hbm, 80, rfl⟩
abbrev main_v34 : Ref sig .tc := ⟨.hbm, 81, rfl⟩
abbrev main_v35 : Ref sig .tc := ⟨.hbm, 82, rfl⟩
abbrev main_cst_3 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39_0 : Ref sig .tc := ⟨.hbm, 87, rfl⟩
abbrev main_v39_1 : Ref sig .tc := ⟨.hbm, 88, rfl⟩
abbrev main_v39_2 : Ref sig .tc := ⟨.hbm, 89, rfl⟩
abbrev main_v39_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InprojRefIdeal.lean ====
abbrev S16x2304x1024 : Shape := ⟨3, ![16, 2304, 1024]⟩
abbrev S24x6x1024 : Shape := ⟨3, ![24, 6, 1024]⟩
abbrev S1024 : Shape := ⟨1, ![1024]⟩
abbrev S1024x1792 : Shape := ⟨2, ![1024, 1792]⟩
abbrev S64 : Shape := ⟨1, ![64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S2048x1 : Shape := ⟨2, ![2048, 1]⟩
abbrev S2048x2 : Shape := ⟨2, ![2048, 2]⟩
abbrev S16 : Shape := ⟨1, ![16]⟩
abbrev S_ : Shape := ⟨0, ![]⟩
abbrev S2048x2x1 : Shape := ⟨3, ![2048, 2, 1]⟩
abbrev S1x1x16 : Shape := ⟨3, ![1, 1, 16]⟩
abbrev S2048x2x16 : Shape := ⟨3, ![2048, 2, 16]⟩
abbrev S16x2048x1024 : Shape := ⟨3, ![16, 2048, 1024]⟩
abbrev S16x256x1024 : Shape := ⟨3, ![16, 256, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S1024x512 : Shape := ⟨2, ![1024, 512]⟩
abbrev S16x2048x512 : Shape := ⟨3, ![16, 2048, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S1024x256 : Shape := ⟨2, ![1024, 256]⟩
abbrev S16x2048x256 : Shape := ⟨3, ![16, 2048, 256]⟩
abbrev S16x2048x128 : Shape := ⟨3, ![16, 2048, 128]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S1024x1024 : Shape := ⟨2, ![1024, 1024]⟩
abbrev S16x256x512 : Shape := ⟨3, ![16, 256, 512]⟩
abbrev S16x256x8x64 : Shape := ⟨4, ![16, 256, 8, 64]⟩
abbrev S16x256x8 : Shape := ⟨3, ![16, 256, 8]⟩
abbrev S16x256x8x1 : Shape := ⟨4, ![16, 256, 8, 1]⟩
abbrev S16x256x256 : Shape := ⟨3, ![16, 256, 256]⟩
abbrev S16x256x128 : Shape := ⟨3, ![16, 256, 128]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S16x2048x8x2x2x16 : Shape := ⟨6, ![16, 2048, 8, 2, 2, 16]⟩
abbrev S16x2048x8x2x1x16 : Shape := ⟨6, ![16, 2048, 8, 2, 1, 16]⟩
abbrev S16x2048x8x2x16 : Shape := ⟨5, ![16, 2048, 8, 2, 16]⟩
abbrev S1x2048x1x2x16 : Shape := ⟨5, ![1, 2048, 1, 2, 16]⟩
abbrev S16x2048x2x2x2x16 : Shape := ⟨6, ![16, 2048, 2, 2, 2, 16]⟩
abbrev S16x2048x2x2x1x16 : Shape := ⟨6, ![16, 2048, 2, 2, 1, 16]⟩
abbrev S16x2048x2x2x16 : Shape := ⟨5, ![16, 2048, 2, 2, 16]⟩
abbrev S16x2304x8x64 : Shape := ⟨4, ![16, 2304, 8, 64]⟩
abbrev S16x2304x512 : Shape := ⟨3, ![16, 2304, 512]⟩
abbrev S16x2304x2x64 : Shape := ⟨4, ![16, 2304, 2, 64]⟩
abbrev S16x2304x128 : Shape := ⟨3, ![16, 2304, 128]⟩
abbrev S16x512x2304 : Shape := ⟨3, ![16, 512, 2304]⟩
abbrev S16x128x2304 : Shape := ⟨3, ![16, 128, 2304]⟩

abbrev nBuf : Space → Nat
  | .hbm => 250
  | .vmem => 0
  | .smem => 0
  | _ => 0

abbrev hbmTy0_0 (i : Nat) : BufTy := match i % 128 with
  | 0 => ⟨S16x2304x1024, .f32⟩
  | 1 => ⟨S24x6x1024, .f32⟩
  | 2 => ⟨S1024, .f32⟩
  | 3 => ⟨S1024x1792, .f32⟩
  | 4 => ⟨S64, .f32⟩
  | 5 => ⟨S64, .f32⟩
  | 6 => ⟨S32, .i32⟩
  | 7 => ⟨S32x64, .i32⟩
  | 8 => ⟨S2048, .i32⟩
  | 9 => ⟨S64, .i32⟩
  | 10 => ⟨S1x64, .i32⟩
  | 11 => ⟨S32x64, .i32⟩
  | 12 => ⟨S2048, .i32⟩
  | 13 => ⟨S2048x1, .i32⟩
  | 14 => ⟨S2048x1, .i32⟩
  | 15 => ⟨S2048x2, .i32⟩
  | 16 => ⟨S2048x2, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048x2x1, .f32⟩
  | 26 => ⟨S1x1x16, .f32⟩
  | 27 => ⟨S2048x2x16, .f32⟩
  | 28 => ⟨S2048x2x16, .f32⟩
  | 29 => ⟨S2048x2x16, .f32⟩
  | 30 => ⟨S2048x2x16, .f32⟩
  | 31 => ⟨S2048x2x16, .f32⟩
  | 32 => ⟨S16x2048x1024, .f32⟩
  | 33 => ⟨S16x256x1024, .f32⟩
  | 34 => ⟨S16x1x1024, .f32⟩
  | 35 => ⟨S16x1x1024, .f32⟩
  | 36 => ⟨S16x2048x1024, .f32⟩
  | 37 => ⟨S_, .f32⟩
  | 38 => ⟨S16x2048, .f32⟩
  | 39 => ⟨S16x2048x1, .f32⟩
  | 40 => ⟨S_, .f32⟩
  | 41 => ⟨S16x2048x1, .f32⟩
  | 42 => ⟨S16x2048x1, .f32⟩
  | 43 => ⟨S_, .f32⟩
  | 44 => ⟨S16x2048x1, .f32⟩
  | 45 => ⟨S16x2048x1, .f32⟩
  | 46 => ⟨S16x2048x1, .f32⟩
  | 47 => ⟨S16x2048x1024, .f32⟩
  | 48 => ⟨S16x2048x1024, .f32⟩
  | 49 => ⟨S1x1x1024, .f32⟩
  | 50 => ⟨S16x2048x1024, .f32⟩
  | 51 => ⟨S16x2048x1024, .f32⟩
  | 52 => ⟨S_, .f32⟩
  | 53 => ⟨S16x1x1024, .f32⟩
  | 54 => ⟨S16x1x1024, .f32⟩
  | 55 => ⟨S16x2048x1024, .f32⟩
  | 56 => ⟨S16x2048x1024, .f32⟩
  | 57 => ⟨S16x2048x1024, .f32⟩
  | 58 => ⟨S16x2048x1024, .f32⟩
  | 59 => ⟨S1x1x1024, .f32⟩
  | 60 => ⟨S1024, .f32⟩
  | 61 => ⟨S1x1x1024, .f32⟩
  | 62 => ⟨S1024, .f32⟩
  | 63 => ⟨S16x256x1024, .f32⟩
  | 64 => ⟨S_, .f32⟩
  | 65 => ⟨S16x256, .f32⟩
  | 66 => ⟨S16x256x1, .f32⟩
  | 67 => ⟨S_, .f32⟩
  | 68 => ⟨S16x256x1, .f32⟩
  | 69 => ⟨S16x256x1, .f32⟩
  | 70 => ⟨S_, .f32⟩
  | 71 => ⟨S16x256x1, .f32⟩
  | 72 => ⟨S16x256x1, .f32⟩
  | 73 => ⟨S16x256x1, .f32⟩
  | 74 => ⟨S16x256x1024, .f32⟩
  | 75 => ⟨S16x256x1024, .f32⟩
  | 76 => ⟨S1x1x1024, .f32⟩
  | 77 => ⟨S16x256x1024, .f32⟩
  | 78 => ⟨S16x256x1024, .f32⟩
  | 79 => ⟨S_, .f32⟩
  | 80 => ⟨S1024, .f32⟩
  | 81 => ⟨S1024, .f32⟩
  | 82 => ⟨S1x1x1024, .f32⟩
  | 83 => ⟨S16x256x1024, .f32⟩
  | 84 => ⟨S16x256x1024, .f32⟩
  | 85 => ⟨S1x1x1024, .f32⟩
  | 86 => ⟨S16x256x1024, .f32⟩
  | 87 => ⟨S16x256x1024, .f32⟩
  | 88 => ⟨S1024x512, .f32⟩
  | 89 => ⟨S16x2048x512, .f32⟩
  | 90 => ⟨S16x2048x8x64, .f32⟩
  | 91 => ⟨S16x2048x8x64, .f32⟩
  | 92 => ⟨S_, .f32⟩
  | 93 => ⟨S16x2048x8, .f32⟩
  | 94 => ⟨S16x2048x8x1, .f32⟩
  | 95 => ⟨S_, .f32⟩
  | 96 => ⟨S16x2048x8x1, .f32⟩
  | 97 => ⟨S16x2048x8x1, .f32⟩
  | 98 => ⟨S_, .f32⟩
  | 99 => ⟨S16x2048x8x1, .f32⟩
  | 100 => ⟨S16x2048x8x1, .f32⟩
  | 101 => ⟨S16x2048x8x1, .f32⟩
  | 102 => ⟨S16x2048x8x64, .f32⟩
  | 103 => ⟨S16x2048x8x64, .f32⟩
  | 104 => ⟨S1x1x1x64, .f32⟩
  | 105 => ⟨S16x2048x8x64, .f32⟩
  | 106 => ⟨S16x2048x8x64, .f32⟩
  | 107 => ⟨S1024x256, .f32⟩
  | 108 => ⟨S16x2048x256, .f32⟩
  | 109 => ⟨S16x2048x128, .f32⟩
  | 110 => ⟨S16x2048x128, .f32⟩
  | 111 => ⟨S16x2048x2x64, .f32⟩
  | 112 => ⟨S16x2048x2x64, .f32⟩
  | 113 => ⟨S_, .f32⟩
  | 114 => ⟨S16x2048x2, .f32⟩
  | 115 => ⟨S16x2048x2x1, .f32⟩
  | 116 => ⟨S_, .f32⟩
  | 117 => ⟨S16x2048x2x1, .f32⟩
  | 118 => ⟨S16x2048x2x1, .f32⟩
  | 119 => ⟨S_, .f32⟩
  | 120 => ⟨S16x2048x2x1, .f32⟩
  | 121 => ⟨S16x2048x2x1, .f32⟩
  | 122 => ⟨S16x2048x2x1, .f32⟩
  | 123 => ⟨S16x2048x2x64, .f32⟩
  | 124 => ⟨S16x2048x2x64, .f32⟩
  | 125 => ⟨S1x1x1x64, .f32⟩
  | 126 => ⟨S16x2048x2x64, .f32⟩
  | 127 => ⟨S16x2048x2x64, .f32⟩
  | _ => ⟨S16x2304x1024, .f32⟩

abbrev hbmTy0_1 (i : Nat) : BufTy := match i % 128 with
  | 0 => ⟨S1024x1024, .f32⟩
  | 1 => ⟨S16x2048x1024, .f32⟩
  | 2 => ⟨S16x2048x512, .f32⟩
  | 3 => ⟨S16x2048x512, .f32⟩
  | 4 => ⟨S16x2048x512, .f32⟩
  | 5 => ⟨S16x2048x512, .f32⟩
  | 6 => ⟨S_, .f32⟩
  | 7 => ⟨S16x2048x512, .f32⟩
  | 8 => ⟨S16x2048x512, .f32⟩
  | 9 => ⟨S_, .f32⟩
  | 10 => ⟨S16x2048x512, .f32⟩
  | 11 => ⟨S16x2048x512, .f32⟩
  | 12 => ⟨S16x2048x512, .f32⟩
  | 13 => ⟨S1024x512, .f32⟩
  | 14 => ⟨S16x256x512, .f32⟩
  | 15 => ⟨S16x256x8x64, .f32⟩
  | 16 => ⟨S16x256x8x64, .f32⟩
  | 17 => ⟨S_, .f32⟩
  | 18 => ⟨S16x256x8, .f32⟩
  | 19 => ⟨S16x256x8x1, .f32⟩
  | 20 => ⟨S_, .f32⟩
  | 21 => ⟨S16x256x8x1, .f32⟩
  | 22 => ⟨S16x256x8x1, .f32⟩
  | 23 => ⟨S_, .f32⟩
  | 24 => ⟨S16x256x8x1, .f32⟩
  | 25 => ⟨S16x256x8x1, .f32⟩
  | 26 => ⟨S16x256x8x1, .f32⟩
  | 27 => ⟨S16x256x8x64, .f32⟩
  | 28 => ⟨S16x256x8x64, .f32⟩
  | 29 => ⟨S1x1x1x64, .f32⟩
  | 30 => ⟨S16x256x8x64, .f32⟩
  | 31 => ⟨S16x256x8x64, .f32⟩
  | 32 => ⟨S1024x256, .f32⟩
  | 33 => ⟨S16x256x256, .f32⟩
  | 34 => ⟨S16x256x128, .f32⟩
  | 35 => ⟨S16x256x128, .f32⟩
  | 36 => ⟨S16x256x2x64, .f32⟩
  | 37 => ⟨S16x256x2x64, .f32⟩
  | 38 => ⟨S_, .f32⟩
  | 39 => ⟨S16x256x2, .f32⟩
  | 40 => ⟨S16x256x2x1, .f32⟩
  | 41 => ⟨S_, .f32⟩
  | 42 => ⟨S16x256x2x1, .f32⟩
  | 43 => ⟨S16x256x2x1, .f32⟩
  | 44 => ⟨S_, .f32⟩
  | 45 => ⟨S16x256x2x1, .f32⟩
  | 46 => ⟨S16x256x2x1, .f32⟩
  | 47 => ⟨S16x256x2x1, .f32⟩
  | 48 => ⟨S16x256x2x64, .f32⟩
  | 49 => ⟨S16x256x2x64, .f32⟩
  | 50 => ⟨S1x1x1x64, .f32⟩
  | 51 => ⟨S16x256x2x64, .f32⟩
  | 52 => ⟨S16x256x2x64, .f32⟩
  | 53 => ⟨S1024x1024, .f32⟩
  | 54 => ⟨S16x256x1024, .f32⟩
  | 55 => ⟨S16x256x512, .f32⟩
  | 56 => ⟨S16x256x512, .f32⟩
  | 57 => ⟨S16x256x512, .f32⟩
  | 58 => ⟨S16x256x512, .f32⟩
  | 59 => ⟨S_, .f32⟩
  | 60 => ⟨S16x256x512, .f32⟩
  | 61 => ⟨S16x256x512, .f32⟩
  | 62 => ⟨S_, .f32⟩
  | 63 => ⟨S16x256x512, .f32⟩
  | 64 => ⟨S16x256x512, .f32⟩
  | 65 => ⟨S16x256x512, .f32⟩
  | 66 => ⟨S16x2048x8x2x2x16, .f32⟩
  | 67 => ⟨S16x2048x8x2x1x16, .f32⟩
  | 68 => ⟨S16x2048x8x2x16, .f32⟩
  | 69 => ⟨S16x2048x8x2x1x16, .f32⟩
  | 70 => ⟨S16x2048x8x2x16, .f32⟩
  | 71 => ⟨S1x2048x1x2x16, .f32⟩
  | 72 => ⟨S1x2048x1x2x16, .f32⟩
  | 73 => ⟨S16x2048x8x2x16, .f32⟩
  | 74 => ⟨S16x2048x8x2x16, .f32⟩
  | 75 => ⟨S16x2048x8x2x16, .f32⟩
  | 76 => ⟨S16x2048x8x2x16, .f32⟩
  | 77 => ⟨S16x2048x8x2x16, .f32⟩
  | 78 => ⟨S16x2048x8x2x16, .f32⟩
  | 79 => ⟨S16x2048x8x2x16, .f32⟩
  | 80 => ⟨S16x2048x8x2x16, .f32⟩
  | 81 => ⟨S16x2048x8x2x16, .f32⟩
  | 82 => ⟨S16x2048x8x2x16, .f32⟩
  | 83 => ⟨S16x2048x8x2x1x16, .f32⟩
  | 84 => ⟨S16x2048x8x2x1x16, .f32⟩
  | 85 => ⟨S16x2048x8x2x2x16, .f32⟩
  | 86 => ⟨S16x2048x8x64, .f32⟩
  | 87 => ⟨S16x2048x2x2x2x16, .f32⟩
  | 88 => ⟨S16x2048x2x2x1x16, .f32⟩
  | 89 => ⟨S16x2048x2x2x16, .f32⟩
  | 90 => ⟨S16x2048x2x2x1x16, .f32⟩
  | 91 => ⟨S16x2048x2x2x16, .f32⟩
  | 92 => ⟨S1x2048x1x2x16, .f32⟩
  | 93 => ⟨S1x2048x1x2x16, .f32⟩
  | 94 => ⟨S16x2048x2x2x16, .f32⟩
  | 95 => ⟨S16x2048x2x2x16, .f32⟩
  | 96 => ⟨S16x2048x2x2x16, .f32⟩
  | 97 => ⟨S16x2048x2x2x16, .f32⟩
  | 98 => ⟨S16x2048x2x2x16, .f32⟩
  | 99 => ⟨S16x2048x2x2x16, .f32⟩
  | 100 => ⟨S16x2048x2x2x16, .f32⟩
  | 101 => ⟨S16x2048x2x2x16, .f32⟩
  | 102 => ⟨S16x2048x2x2x16, .f32⟩
  | 103 => ⟨S16x2048x2x2x16, .f32⟩
  | 104 => ⟨S16x2048x2x2x1x16, .f32⟩
  | 105 => ⟨S16x2048x2x2x1x16, .f32⟩
  | 106 => ⟨S16x2048x2x2x2x16, .f32⟩
  | 107 => ⟨S16x2048x2x64, .f32⟩
  | 108 => ⟨S16x2304x8x64, .f32⟩
  | 109 => ⟨S16x2304x512, .f32⟩
  | 110 => ⟨S_, .f32⟩
  | 111 => ⟨S16x2304x512, .f32⟩
  | 112 => ⟨S16x2304x512, .f32⟩
  | 113 => ⟨S16x2304x2x64, .f32⟩
  | 114 => ⟨S16x2304x128, .f32⟩
  | 115 => ⟨S16x2304x128, .f32⟩
  | 116 => ⟨S16x512x2304, .f32⟩
  | 117 => ⟨S16x512x2304, .bf16⟩
  | 118 => ⟨S16x2304x128, .bf16⟩
  | 119 => ⟨S16x128x2304, .f32⟩
  | 120 => ⟨S16x128x2304, .bf16⟩
  | 121 => ⟨S16x2304x512, .f32⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_9 : Ref sig .tc := ⟨.hbm, 92, rfl⟩
abbrev main_v76 : Ref sig .tc := ⟨.hbm, 93, rfl⟩
abbrev main_v77 : Ref sig .tc := ⟨.hbm, 94, rfl⟩
abbrev main_cst_10 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩
abbrev main_cst_13 : Ref sig .tc := ⟨.hbm, 116, rfl⟩
abbrev main_v96 : Ref sig .tc := ⟨.hbm, 117, rfl⟩
abbrev main_v97 : Ref sig .tc := ⟨.hbm, 118, rfl⟩
abbrev main_cst_14 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_15 : Ref sig .tc := ⟨.hbm, 134, rfl⟩
abbrev main_v112 : Ref sig .tc := ⟨.hbm, 135, rfl⟩
abbrev main_v113 : Ref sig .tc := ⟨.hbm, 136, rfl⟩
abbrev main_cst_16 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_17 : Ref sig .tc := ⟨.hbm, 145, rfl⟩
abbrev main_v121 : Ref sig .tc := ⟨.hbm, 146, rfl⟩
abbrev main_v122 : Ref sig .tc := ⟨.hbm, 147, rfl⟩
abbrev main_cst_18 : Ref sig .tc := ⟨.hbm, 148, rfl⟩
abbrev main_v123 : Ref sig .tc := ⟨.hbm, 149, rfl⟩
abbrev main_v124 : Ref sig .tc := ⟨.hbm, 150, rfl⟩
abbrev main_cst_19 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_20 : Ref sig .tc := ⟨.hbm, 166, rfl⟩
abbrev main_v139 : Ref sig .tc := ⟨.hbm, 167, rfl⟩
abbrev main_v140 : Ref sig .tc := ⟨.hbm, 168, rfl⟩
abbrev main_cst_21 : Ref sig .tc := ⟨.hbm, 169, rfl⟩
abbrev main_v141 : Ref sig .tc := ⟨.hbm, 170, rfl⟩
abbrev main_v142 : Ref sig .tc := ⟨.hbm, 171, rfl⟩
abbrev main_cst_22 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_cst_23 : Ref sig .tc := ⟨.hbm, 187, rfl⟩
abbrev main_v157 : Ref sig .tc := ⟨.hbm, 188, rfl⟩
abbrev main_v158 : Ref sig .tc := ⟨.hbm, 189, rfl⟩
abbrev main_cst_24 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_cst_25 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩

abbrev nD : Nat := 1
abbrev τ : Topo := Topo.v7x

variable {F : FTy → Type} [FloatOps F]
-- ==== Outproj.lean ====
abbrev S16x2304x512 : Shape := ⟨3, ![16, 2304, 512]⟩
abbrev S16x2304x1024 : Shape := ⟨3, ![16, 2304, 1024]⟩
abbrev S24x6x1024 : Shape := ⟨3, ![24, 6, 1024]⟩
abbrev S31x512 : Shape := ⟨2, ![31, 512]⟩
abbrev S512 : Shape := ⟨1, ![512]⟩
abbrev S1024x1024 : Shape := ⟨2, ![1024, 1024]⟩
abbrev S_ : Shape := ⟨0, ![]⟩
abbrev S1x512 : Shape := ⟨2, ![1, 512]⟩
abbrev S32x512 : Shape := ⟨2, ![32, 512]⟩
abbrev S1x256x512 : Shape := ⟨3, ![1, 256, 512]⟩
abbrev S1x16x512 : Shape := ⟨3, ![1, 16, 512]⟩
abbrev S1x256x1024 : Shape := ⟨3, ![1, 256, 1024]⟩
abbrev S1x6x1024 : Shape := ⟨3, ![1, 6, 1024]⟩
abbrev S288x512 : Shape := ⟨2, ![288, 512]⟩
abbrev S16x512 : Shape := ⟨2, ![16, 512]⟩
abbrev S256x512 : Shape := ⟨2, ![256, 512]⟩
abbrev S128x128 : Shape := ⟨2, ![128, 128]⟩
abbrev S160x128 : Shape := ⟨2, ![160, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 17
  | .vmem => 20
  | .smem => 0
  | _ => 0

abbrev bufTy : (tb : Table) → Fin (tcTables nBuf tb) → BufTy
  | .hbm, ⟨0, _⟩ => ⟨S16x2304x512, .f32⟩
  | .hbm, ⟨1, _⟩ => ⟨S16x2304x512, .bf16⟩
  | .hbm, ⟨2, _⟩ => ⟨S16x2304x1024, .f32⟩
  | .hbm, ⟨3, _⟩ => ⟨S24x6x1024, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S_, .f32⟩
  | .hbm, ⟨10, _⟩ => ⟨S1x512, .f32⟩
  | .hbm, ⟨11, _⟩ => ⟨S32x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S16x2304x1024, .f32⟩
  | .local _ .vmem, ⟨0, _⟩ => ⟨S1x256x512, .f32⟩
  | .local _ .vmem, ⟨1, _⟩ => ⟨S1x256x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x1024, .f32⟩
  | .local _ .vmem, ⟨9, _⟩ => ⟨S1x256x1024, .f32⟩
  | .local _ .vmem, ⟨10, _⟩ => ⟨S1x6x1024, .f32⟩
  | .local _ .vmem, ⟨11, _⟩ => ⟨S1x6x1024, .f32⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | .local _ .vmem, ⟨19, _⟩ => ⟨S288x512, .f32⟩
  | _, _ => ⟨S16x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c143_i32 : BitVec 32 := 143#32
  let v2 : BitVec 32 := Scalar.minsi v1 c143_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutprojRefIdeal.lean ====
abbrev S16x2304x512 : Shape := ⟨3, ![16, 2304, 512]⟩
abbrev S16x2304x1024 : Shape := ⟨3, ![16, 2304, 1024]⟩
abbrev S24x6x1024 : Shape := ⟨3, ![24, 6, 1024]⟩
abbrev S31x512 : Shape := ⟨2, ![31, 512]⟩
abbrev S512 : Shape := ⟨1, ![512]⟩
abbrev S1024x1024 : Shape := ⟨2, ![1024, 1024]⟩
abbrev S16x2048x1024 : Shape := ⟨3, ![16, 2048, 1024]⟩
abbrev S16x256x1024 : Shape := ⟨3, ![16, 256, 1024]⟩
abbrev S16x1x1024 : Shape := ⟨3, ![16, 1, 1024]⟩
abbrev S16x2048x512 : Shape := ⟨3, ![16, 2048, 512]⟩
abbrev S_ : Shape := ⟨0, ![]⟩
abbrev S16x2078x512 : Shape := ⟨3, ![16, 2078, 512]⟩
abbrev S1x512 : Shape := ⟨2, ![1, 512]⟩
abbrev S1x1x512 : Shape := ⟨3, ![1, 1, 512]⟩
abbrev S16x2048 : Shape := ⟨2, ![16, 2048]⟩
abbrev S16x2048x1 : Shape := ⟨3, ![16, 2048, 1]⟩
abbrev S1x1x1024 : Shape := ⟨3, ![1, 1, 1024]⟩
abbrev S1024 : Shape := ⟨1, ![1024]⟩
abbrev S16x256x512 : Shape := ⟨3, ![16, 256, 512]⟩
abbrev S16x286x512 : Shape := ⟨3, ![16, 286, 512]⟩
abbrev S16x256 : Shape := ⟨2, ![16, 256]⟩
abbrev S16x256x1 : Shape := ⟨3, ![16, 256, 1]⟩

abbrev nBuf : Space → Nat
  | .hbm => 551
  | .vmem => 0
  | .smem => 0
  | _ => 0

abbrev hbmTy0_0 (i : Nat) : BufTy := match i % 128 with
  | 0 => ⟨S16x2304x512, .f32⟩
  | 1 => ⟨S16x2304x512, .bf16⟩
  | 2 => ⟨S16x2304x1024, .f32⟩
  | 3 => ⟨S24x6x1024, .f32⟩
  | 4 => ⟨S31x512, .f32⟩
  | 5 => ⟨S512, .f32⟩
  | 6 => ⟨S512, .f32⟩
  | 7 => ⟨S512, .f32⟩
  | 8 => ⟨S1024x1024, .f32⟩
  | 9 => ⟨S16x2304x512, .f32⟩
  | 10 => ⟨S16x2048x1024, .f32⟩
  | 11 => ⟨S16x256x1024, .f32⟩
  | 12 => ⟨S16x1x1024, .f32⟩
  | 13 => ⟨S16x2048x512, .f32⟩
  | 14 => ⟨S16x2048x512, .f32⟩
  | 15 => ⟨S_, .i32⟩
  | 16 => ⟨S_, .f32⟩
  | 17 => ⟨S16x2078x512, .f32⟩
  | 18 => ⟨S16x2048x512, .f32⟩
  | 19 => ⟨S1x512, .f32⟩
  | 20 => ⟨S512, .f32⟩
  | 21 => ⟨S1x1x512, .f32⟩
  | 22 => ⟨S16x2048x512, .f32⟩
  | 23 => ⟨S16x2048x512, .f32⟩
  | 24 => ⟨S16x2048x512, .f32⟩
  | 25 => ⟨S1x512, .f32⟩
  | 26 => ⟨S512, .f32⟩
  | 27 => ⟨S1x1x512, .f32⟩
  | 28 => ⟨S16x2048x512, .f32⟩
  | 29 => ⟨S16x2048x512, .f32⟩
  | 30 => ⟨S16x2048x512, .f32⟩
  | 31 => ⟨S16x2048x512, .f32⟩
  | 32 => ⟨S1x512, .f32⟩
  | 33 => ⟨S512, .f32⟩
  | 34 => ⟨S1x1x512, .f32⟩
  | 35 => ⟨S16x2048x512, .f32⟩
  | 36 => ⟨S16x2048x512, .f32⟩
  | 37 => ⟨S16x2048x512, .f32⟩
  | 38 => ⟨S16x2048x512, .f32⟩
  | 39 => ⟨S1x512, .f32⟩
  | 40 => ⟨S512, .f32⟩
  | 41 => ⟨S1x1x512, .f32⟩
  | 42 => ⟨S16x2048x512, .f32⟩
  | 43 => ⟨S16x2048x512, .f32⟩
  | 44 => ⟨S16x2048x512, .f32⟩
  | 45 => ⟨S16x2048x512, .f32⟩
  | 46 => ⟨S1x512, .f32⟩
  | 47 => ⟨S512, .f32⟩
  | 48 => ⟨S1x1x512, .f32⟩
  | 49 => ⟨S16x2048x512, .f32⟩
  | 50 => ⟨S16x2048x512, .f32⟩
  | 51 => ⟨S16x2048x512, .f32⟩
  | 52 => ⟨S16x2048x512, .f32⟩
  | 53 => ⟨S1x512, .f32⟩
  | 54 => ⟨S512, .f32⟩
  | 55 => ⟨S1x1x512, .f32⟩
  | 56 => ⟨S16x2048x512, .f32⟩
  | 57 => ⟨S16x2048x512, .f32⟩
  | 58 => ⟨S16x2048x512, .f32⟩
  | 59 => ⟨S16x2048x512, .f32⟩
  | 60 => ⟨S1x512, .f32⟩
  | 61 => ⟨S512, .f32⟩
  | 62 => ⟨S1x1x512, .f32⟩
  | 63 => ⟨S16x2048x512, .f32⟩
  | 64 => ⟨S16x2048x512, .f32⟩
  | 65 => ⟨S16x2048x512, .f32⟩
  | 66 => ⟨S16x2048x512, .f32⟩
  | 67 => ⟨S1x512, .f32⟩
  | 68 => ⟨S512, .f32⟩
  | 69 => ⟨S1x1x512, .f32⟩
  | 70 => ⟨S16x2048x512, .f32⟩
  | 71 => ⟨S16x2048x512, .f32⟩
  | 72 => ⟨S16x2048x512, .f32⟩
  | 73 => ⟨S16x2048x512, .f32⟩
  | 74 => ⟨S1x512, .f32⟩
  | 75 => ⟨S512, .f32⟩
  | 76 => ⟨S1x1x512, .f32⟩
  | 77 => ⟨S16x2048x512, .f32⟩
  | 78 => ⟨S16x2048x512, .f32⟩
  | 79 => ⟨S16x2048x512, .f32⟩
  | 80 => ⟨S16x2048x512, .f32⟩
  | 81 => ⟨S1x512, .f32⟩
  | 82 => ⟨S512, .f32⟩
  | 83 => ⟨S1x1x512, .f32⟩
  | 84 => ⟨S16x2048x512, .f32⟩
  | 85 => ⟨S16x2048x512, .f32⟩
  | 86 => ⟨S16x2048x512, .f32⟩
  | 87 => ⟨S16x2048x512, .f32⟩
  | 88 => ⟨S1x512, .f32⟩
  | 89 => ⟨S512, .f32⟩
  | 90 => ⟨S1x1x512, .f32⟩
  | 91 => ⟨S16x2048x512, .f32⟩
  | 92 => ⟨S16x2048x512, .f32⟩
  | 93 => ⟨S16x2048x512, .f32⟩
  | 94 => ⟨S16x2048x512, .f32⟩
  | 95 => ⟨S1x512, .f32⟩
  | 96 => ⟨S512, .f32⟩
  | 97 => ⟨S1x1x512, .f32⟩
  | 98 => ⟨S16x2048x512, .f32⟩
  | 99 => ⟨S16x2048x512, .f32⟩
  | 100 => ⟨S16x2048x512, .f32⟩
  | 101 => ⟨S16x2048x512, .f32⟩
  | 102 => ⟨S1x512, .f32⟩
  | 103 => ⟨S512, .f32⟩
  | 104 => ⟨S1x1x512, .f32⟩
  | 105 => ⟨S16x2048x512, .f32⟩
  | 106 => ⟨S16x2048x512, .f32⟩
  | 107 => ⟨S16x2048x512, .f32⟩
  | 108 => ⟨S16x2048x512, .f32⟩
  | 109 => ⟨S1x512, .f32⟩
  | 110 => ⟨S512, .f32⟩
  | 111 => ⟨S1x1x512, .f32⟩
  | 112 => ⟨S16x2048x512, .f32⟩
  | 113 => ⟨S16x2048x512, .f32⟩
  | 114 => ⟨S16x2048x512, .f32⟩
  | 115 => ⟨S16x2048x512, .f32⟩
  | 116 => ⟨S1x512, .f32⟩
  | 117 => ⟨S512, .f32⟩
  | 118 => ⟨S1x1x512, .f32⟩
  | 119 => ⟨S16x2048x512, .f32⟩
  | 120 => ⟨S16x2048x512, .f32⟩
  | 121 => ⟨S16x2048x512, .f32⟩
  | 122 => ⟨S16x2048x512, .f32⟩
  | 123 => ⟨S1x512, .f32⟩
  | 124 => ⟨S512, .f32⟩
  | 125 => ⟨S1x1x512, .f32⟩
  | 126 => ⟨S16x2048x512, .f32⟩
  | 127 => ⟨S16x2048x512, .f32⟩
  | _ => ⟨S16x2304x512, .f32⟩

abbrev hbmTy0_1 (i : Nat) : BufTy := match i % 128 with
  | 0 => ⟨S16x2048x512, .f32⟩
  | 1 => ⟨S16x2048x512, .f32⟩
  | 2 => ⟨S1x512, .f32⟩
  | 3 => ⟨S512, .f32⟩
  | 4 => ⟨S1x1x512, .f32⟩
  | 5 => ⟨S16x2048x512, .f32⟩
  | 6 => ⟨S16x2048x512, .f32⟩
  | 7 => ⟨S16x2048x512, .f32⟩
  | 8 => ⟨S16x2048x512, .f32⟩
  | 9 => ⟨S1x512, .f32⟩
  | 10 => ⟨S512, .f32⟩
  | 11 => ⟨S1x1x512, .f32⟩
  | 12 => ⟨S16x2048x512, .f32⟩
  | 13 => ⟨S16x2048x512, .f32⟩
  | 14 => ⟨S16x2048x512, .f32⟩
  | 15 => ⟨S16x2048x512, .f32⟩
  | 16 => ⟨S1x512, .f32⟩
  | 17 => ⟨S512, .f32⟩
  | 18 => ⟨S1x1x512, .f32⟩
  | 19 => ⟨S16x2048x512, .f32⟩
  | 20 => ⟨S16x2048x512, .f32⟩
  | 21 => ⟨S16x2048x512, .f32⟩
  | 22 => ⟨S16x2048x512, .f32⟩
  | 23 => ⟨S1x512, .f32⟩
  | 24 => ⟨S512, .f32⟩
  | 25 => ⟨S1x1x512, .f32⟩
  | 26 => ⟨S16x2048x512, .f32⟩
  | 27 => ⟨S16x2048x512, .f32⟩
  | 28 => ⟨S16x2048x512, .f32⟩
  | 29 => ⟨S16x2048x512, .f32⟩
  | 30 => ⟨S1x512, .f32⟩
  | 31 => ⟨S512, .f32⟩
  | 32 => ⟨S1x1x512, .f32⟩
  | 33 => ⟨S16x2048x512, .f32⟩
  | 34 => ⟨S16x2048x512, .f32⟩
  | 35 => ⟨S16x2048x512, .f32⟩
  | 36 => ⟨S16x2048x512, .f32⟩
  | 37 => ⟨S1x512, .f32⟩
  | 38 => ⟨S512, .f32⟩
  | 39 => ⟨S1x1x512, .f32⟩
  | 40 => ⟨S16x2048x512, .f32⟩
  | 41 => ⟨S16x2048x512, .f32⟩
  | 42 => ⟨S16x2048x512, .f32⟩
  | 43 => ⟨S16x2048x512, .f32⟩
  | 44 => ⟨S1x512, .f32⟩
  | 45 => ⟨S512, .f32⟩
  | 46 => ⟨S1x1x512, .f32⟩
  | 47 => ⟨S16x2048x512, .f32⟩
  | 48 => ⟨S16x2048x512, .f32⟩
  | 49 => ⟨S16x2048x512, .f32⟩
  | 50 => ⟨S16x2048x512, .f32⟩
  | 51 => ⟨S1x512, .f32⟩
  | 52 => ⟨S512, .f32⟩
  | 53 => ⟨S1x1x512, .f32⟩
  | 54 => ⟨S16x2048x512, .f32⟩
  | 55 => ⟨S16x2048x512, .f32⟩
  | 56 => ⟨S16x2048x512, .f32⟩
  | 57 => ⟨S16x2048x512, .f32⟩
  | 58 => ⟨S1x512, .f32⟩
  | 59 => ⟨S512, .f32⟩
  | 60 => ⟨S1x1x512, .f32⟩
  | 61 => ⟨S16x2048x512, .f32⟩
  | 62 => ⟨S16x2048x512, .f32⟩
  | 63 => ⟨S16x2048x512, .f32⟩
  | 64 => ⟨S16x2048x512, .f32⟩
  | 65 => ⟨S1x512, .f32⟩
  | 66 => ⟨S512, .f32⟩
  | 67 => ⟨S1x1x512, .f32⟩
  | 68 => ⟨S16x2048x512, .f32⟩
  | 69 => ⟨S16x2048x512, .f32⟩
  | 70 => ⟨S16x2048x512, .f32⟩
  | 71 => ⟨S16x2048x512, .f32⟩
  | 72 => ⟨S1x512, .f32⟩
  | 73 => ⟨S512, .f32⟩
  | 74 => ⟨S1x1x512, .f32⟩
  | 75 => ⟨S16x2048x512, .f32⟩
  | 76 => ⟨S16x2048x512, .f32⟩
  | 77 => ⟨S16x2048x512, .f32⟩
  | 78 => ⟨S16x2048x512, .f32⟩
  | 79 => ⟨S1x512, .f32⟩
  | 80 => ⟨S512, .f32⟩
  | 81 => ⟨S1x1x512, .f32⟩
  | 82 => ⟨S16x2048x512, .f32⟩
  | 83 => ⟨S16x2048x512, .f32⟩
  | 84 => ⟨S16x2048x512, .f32⟩
  | 85 => ⟨S16x2048x512, .f32⟩
  | 86 => ⟨S1x512, .f32⟩
  | 87 => ⟨S512, .f32⟩
  | 88 => ⟨S1x1x512, .f32⟩
  | 89 => ⟨S16x2048x512, .f32⟩
  | 90 => ⟨S16x2048x512, .f32⟩
  | 91 => ⟨S16x2048x512, .f32⟩
  | 92 => ⟨S16x2048x512, .f32⟩
  | 93 => ⟨S1x512, .f32⟩
  | 94 => ⟨S512, .f32⟩
  | 95 => ⟨S1x1x512, .f32⟩
  | 96 => ⟨S16x2048x512, .f32⟩
  | 97 => ⟨S16x2048x512, .f32⟩
  | 98 => ⟨S16x2048x512, .f32⟩
  | 99 => ⟨S16x2048x512, .f32⟩
  | 100 => ⟨S1x512, .f32⟩
  | 101 => ⟨S512, .f32⟩
  | 102 => ⟨S1x1x512, .f32⟩
  | 103 => ⟨S16x2048x512, .f32⟩
  | 104 => ⟨S16x2048x512, .f32⟩
  | 105 => ⟨S16x2048x512, .f32⟩
  | 106 => ⟨S1x1x512, .f32⟩
  | 107 => ⟨S16x2048x512, .f32⟩
  | 108 => ⟨S16x2048x512, .f32⟩
  | 109 => ⟨S_, .f32⟩
  | 110 => ⟨S16x2048, .f32⟩
  | 111 => ⟨S16x2048x1, .f32⟩
  | 112 => ⟨S_, .f32⟩
  | 113 => ⟨S16x2048x1, .f32⟩
  | 114 => ⟨S16x2048x1, .f32⟩
  | 115 => ⟨S16x2048x512, .f32⟩
  | 116 => ⟨S16x2048x512, .f32⟩
  | 117 => ⟨S16x2048x512, .f32⟩
  | 118 => ⟨S_, .f32⟩
  | 119 => ⟨S16x2048, .f32⟩
  | 120 => ⟨S16x2048x1, .f32⟩
  | 121 => ⟨S_, .f32⟩
  | 122 => ⟨S16x2048x1, .f32⟩
  | 123 => ⟨S16x2048x1, .f32⟩
  | 124 => ⟨S16x2048x512, .f32⟩
  | 125 => ⟨S16x2048x512, .f32⟩
  | 126 => ⟨S_, .f32⟩
  | 127 => ⟨S16x2048x1, .f32⟩
  | _ => ⟨S16x2304x512, .f32⟩

abbrev hbmTy0_2 (i : Nat) : BufTy := match i % 128 with
  | 0 => ⟨S16x2048x1, .f32⟩
  | 1 => ⟨S16x2048x1, .f32⟩
  | 2 => ⟨S16x2048x512, .f32⟩
  | 3 => ⟨S16x2048x512, .f32⟩
  | 4 => ⟨S1x1x512, .f32⟩
  | 5 => ⟨S16x2048x512, .f32⟩
  | 6 => ⟨S16x2048x512, .f32⟩
  | 7 => ⟨S1x1x512, .f32⟩
  | 8 => ⟨S16x2048x512, .f32⟩
  | 9 => ⟨S16x2048x512, .f32⟩
  | 10 => ⟨S16x2048x512, .f32⟩
  | 11 => ⟨S16x2048x512, .f32⟩
  | 12 => ⟨S_, .f32⟩
  | 13 => ⟨S16x2048x512, .f32⟩
  | 14 => ⟨S16x2048x512, .f32⟩
  | 15 => ⟨S_, .f32⟩
  | 16 => ⟨S16x2048x512, .f32⟩
  | 17 => ⟨S16x2048x512, .f32⟩
  | 18 => ⟨S16x2048x512, .f32⟩
  | 19 => ⟨S16x2048x1024, .f32⟩
  | 20 => ⟨S16x2048x1024, .f32⟩
  | 21 => ⟨S16x2048x1024, .f32⟩
  | 22 => ⟨S16x2048x1024, .f32⟩
  | 23 => ⟨S16x2048x1024, .f32⟩
  | 24 => ⟨S1x1x1024, .f32⟩
  | 25 => ⟨S1024, .f32⟩
  | 26 => ⟨S16x256x512, .f32⟩
  | 27 => ⟨S16x256x512, .f32⟩
  | 28 => ⟨S_, .i32⟩
  | 29 => ⟨S_, .f32⟩
  | 30 => ⟨S16x286x512, .f32⟩
  | 31 => ⟨S16x256x512, .f32⟩
  | 32 => ⟨S1x512, .f32⟩
  | 33 => ⟨S512, .f32⟩
  | 34 => ⟨S1x1x512, .f32⟩
  | 35 => ⟨S16x256x512, .f32⟩
  | 36 => ⟨S16x256x512, .f32⟩
  | 37 => ⟨S16x256x512, .f32⟩
  | 38 => ⟨S1x512, .f32⟩
  | 39 => ⟨S512, .f32⟩
  | 40 => ⟨S1x1x512, .f32⟩
  | 41 => ⟨S16x256x512, .f32⟩
  | 42 => ⟨S16x256x512, .f32⟩
  | 43 => ⟨S16x256x512, .f32⟩
  | 44 => ⟨S16x256x512, .f32⟩
  | 45 => ⟨S1x512, .f32⟩
  | 46 => ⟨S512, .f32⟩
  | 47 => ⟨S1x1x512, .f32⟩
  | 48 => ⟨S16x256x512, .f32⟩
  | 49 => ⟨S16x256x512, .f32⟩
  | 50 => ⟨S16x256x512, .f32⟩
  | 51 => ⟨S16x256x512, .f32⟩
  | 52 => ⟨S1x512, .f32⟩
  | 53 => ⟨S512, .f32⟩
  | 54 => ⟨S1x1x512, .f32⟩
  | 55 => ⟨S16x256x512, .f32⟩
  | 56 => ⟨S16x256x512, .f32⟩
  | 57 => ⟨S16x256x512, .f32⟩
  | 58 => ⟨S16x256x512, .f32⟩
  | 59 => ⟨S1x512, .f32⟩
  | 60 => ⟨S512, .f32⟩
  | 61 => ⟨S1x1x512, .f32⟩
  | 62 => ⟨S16x256x512, .f32⟩
  | 63 => ⟨S16x256x512, .f32⟩
  | 64 => ⟨S16x256x512, .f32⟩
  | 65 => ⟨S16x256x512, .f32⟩
  | 66 => ⟨S1x512, .f32⟩
  | 67 => ⟨S512, .f32⟩
  | 68 => ⟨S1x1x512, .f32⟩
  | 69 => ⟨S16x256x512, .f32⟩
  | 70 => ⟨S16x256x512, .f32⟩
  | 71 => ⟨S16x256x512, .f32⟩
  | 72 => ⟨S16x256x512, .f32⟩
  | 73 => ⟨S1x512, .f32⟩
  | 74 => ⟨S512, .f32⟩
  | 75 => ⟨S1x1x512, .f32⟩
  | 76 => ⟨S16x256x512, .f32⟩
  | 77 => ⟨S16x256x512, .f32⟩
  | 78 => ⟨S16x256x512, .f32⟩
  | 79 => ⟨S16x256x512, .f32⟩
  | 80 => ⟨S1x512, .f32⟩
  | 81 => ⟨S512, .f32⟩
  | 82 => ⟨S1x1x512, .f32⟩
  | 83 => ⟨S16x256x512, .f32⟩
  | 84 => ⟨S16x256x512, .f32⟩
  | 85 => ⟨S16x256x512, .f32⟩
  | 86 => ⟨S16x256x512, .f32⟩
  | 87 => ⟨S1x512, .f32⟩
  | 88 => ⟨S512, .f32⟩
  | 89 => ⟨S1x1x512, .f32⟩
  | 90 => ⟨S16x256x512, .f32⟩
  | 91 => ⟨S16x256x512, .f32⟩
  | 92 => ⟨S16x256x512, .f32⟩
  | 93 => ⟨S16x256x512, .f32⟩
  | 94 => ⟨S1x512, .f32⟩
  | 95 => ⟨S512, .f32⟩
  | 96 => ⟨S1x1x512, .f32⟩
  | 97 => ⟨S16x256x512, .f32⟩
  | 98 => ⟨S16x256x512, .f32⟩
  | 99 => ⟨S16x256x512, .f32⟩
  | 100 => ⟨S16x256x512, .f32⟩
  | 101 => ⟨S1x512, .f32⟩
  | 102 => ⟨S512, .f32⟩
  | 103 => ⟨S1x1x512, .f32⟩
  | 104 => ⟨S16x256x512, .f32⟩
  | 105 => ⟨S16x256x512, .f32⟩
  | 106 => ⟨S16x256x512, .f32⟩
  | 107 => ⟨S16x256x512, .f32⟩
  | 108 => ⟨S1x512, .f32⟩
  | 109 => ⟨S512, .f32⟩
  | 110 => ⟨S1x1x512, .f32⟩
  | 111 => ⟨S16x256x512, .f32⟩
  | 112 => ⟨S16x256x512, .f32⟩
  | 113 => ⟨S16x256x512, .f32⟩
  | 114 => ⟨S16x256x512, .f32⟩
  | 115 => ⟨S1x512, .f32⟩
  | 116 => ⟨S512, .f32⟩
  | 117 => ⟨S1x1x512, .f32⟩
  | 118 => ⟨S16x256x512, .f32⟩
  | 119 => ⟨S16x256x512, .f32⟩
  | 120 => ⟨S16x256x512, .f32⟩
  | 121 => ⟨S16x256x512, .f32⟩
  | 122 => ⟨S1x512, .f32⟩
  | 123 => ⟨S512, .f32⟩
  | 124 => ⟨S1x1x512, .f32⟩
  | 125 => ⟨S16x256x512, .f32⟩
  | 126 => ⟨S16x256x512, .f32⟩
  | 127 => ⟨S16x256x512, .f32⟩
  | _ => ⟨S16x2304x512, .f32⟩

abbrev hbmTy0_3 (i : Nat) : BufTy := match i % 128 with
  | 0 => ⟨S16x256x512, .f32⟩
  | 1 => ⟨S1x512, .f32⟩
  | 2 => ⟨S512, .f32⟩
  | 3 => ⟨S1x1x512, .f32⟩
  | 4 => ⟨S16x256x512, .f32⟩
  | 5 => ⟨S16x256x512, .f32⟩
  | 6 => ⟨S16x256x512, .f32⟩
  | 7 => ⟨S16x256x512, .f32⟩
  | 8 => ⟨S1x512, .f32⟩
  | 9 => ⟨S512, .f32⟩
  | 10 => ⟨S1x1x512, .f32⟩
  | 11 => ⟨S16x256x512, .f32⟩
  | 12 => ⟨S16x256x512, .f32⟩
  | 13 => ⟨S16x256x512, .f32⟩
  | 14 => ⟨S16x256x512, .f32⟩
  | 15 => ⟨S1x512, .f32⟩
  | 16 => ⟨S512, .f32⟩
  | 17 => ⟨S1x1x512, .f32⟩
  | 18 => ⟨S16x256x512, .f32⟩
  | 19 => ⟨S16x256x512, .f32⟩
  | 20 => ⟨S16x256x512, .f32⟩
  | 21 => ⟨S16x256x512, .f32⟩
  | 22 => ⟨S1x512, .f32⟩
  | 23 => ⟨S512, .f32⟩
  | 24 => ⟨S1x1x512, .f32⟩
  | 25 => ⟨S16x256x512, .f32⟩
  | 26 => ⟨S16x256x512, .f32⟩
  | 27 => ⟨S16x256x512, .f32⟩
  | 28 => ⟨S16x256x512, .f32⟩
  | 29 => ⟨S1x512, .f32⟩
  | 30 => ⟨S512, .f32⟩
  | 31 => ⟨S1x1x512, .f32⟩
  | 32 => ⟨S16x256x512, .f32⟩
  | 33 => ⟨S16x256x512, .f32⟩
  | 34 => ⟨S16x256x512, .f32⟩
  | 35 => ⟨S16x256x512, .f32⟩
  | 36 => ⟨S1x512, .f32⟩
  | 37 => ⟨S512, .f32⟩
  | 38 => ⟨S1x1x512, .f32⟩
  | 39 => ⟨S16x256x512, .f32⟩
  | 40 => ⟨S16x256x512, .f32⟩
  | 41 => ⟨S16x256x512, .f32⟩
  | 42 => ⟨S16x256x512, .f32⟩
  | 43 => ⟨S1x512, .f32⟩
  | 44 => ⟨S512, .f32⟩
  | 45 => ⟨S1x1x512, .f32⟩
  | 46 => ⟨S16x256x512, .f32⟩
  | 47 => ⟨S16x256x512, .f32⟩
  | 48 => ⟨S16x256x512, .f32⟩
  | 49 => ⟨S16x256x512, .f32⟩
  | 50 => ⟨S1x512, .f32⟩
  | 51 => ⟨S512, .f32⟩
  | 52 => ⟨S1x1x512, .f32⟩
  | 53 => ⟨S16x256x512, .f32⟩
  | 54 => ⟨S16x256x512, .f32⟩
  | 55 => ⟨S16x256x512, .f32⟩
  | 56 => ⟨S16x256x512, .f32⟩
  | 57 => ⟨S1x512, .f32⟩
  | 58 => ⟨S512, .f32⟩
  | 59 => ⟨S1x1x512, .f32⟩
  | 60 => ⟨S16x256x512, .f32⟩
  | 61 => ⟨S16x256x512, .f32⟩
  | 62 => ⟨S16x256x512, .f32⟩
  | 63 => ⟨S16x256x512, .f32⟩
  | 64 => ⟨S1x512, .f32⟩
  | 65 => ⟨S512, .f32⟩
  | 66 => ⟨S1x1x512, .f32⟩
  | 67 => ⟨S16x256x512, .f32⟩
  | 68 => ⟨S16x256x512, .f32⟩
  | 69 => ⟨S16x256x512, .f32⟩
  | 70 => ⟨S16x256x512, .f32⟩
  | 71 => ⟨S1x512, .f32⟩
  | 72 => ⟨S512, .f32⟩
  | 73 => ⟨S1x1x512, .f32⟩
  | 74 => ⟨S16x256x512, .f32⟩
  | 75 => ⟨S16x256x512, .f32⟩
  | 76 => ⟨S16x256x512, .f32⟩
  | 77 => ⟨S16x256x512, .f32⟩
  | 78 => ⟨S1x512, .f32⟩
  | 79 => ⟨S512, .f32⟩
  | 80 => ⟨S1x1x512, .f32⟩
  | 81 => ⟨S16x256x512, .f32⟩
  | 82 => ⟨S16x256x512, .f32⟩
  | 83 => ⟨S16x256x512, .f32⟩
  | 84 => ⟨S16x256x512, .f32⟩
  | 85 => ⟨S1x512, .f32⟩
  | 86 => ⟨S512, .f32⟩
  | 87 => ⟨S1x1x512, .f32⟩
  | 88 => ⟨S16x256x512, .f32⟩
  | 89 => ⟨S16x256x512, .f32⟩
  | 90 => ⟨S16x256x512, .f32⟩
  | 91 => ⟨S16x256x512, .f32⟩
  | 92 => ⟨S1x512, .f32⟩
  | 93 => ⟨S512, .f32⟩
  | 94 => ⟨S1x1x512, .f32⟩
  | 95 => ⟨S16x256x512, .f32⟩
  | 96 => ⟨S16x256x512, .f32⟩
  | 97 => ⟨S16x256x512, .f32⟩
  | 98 => ⟨S16x256x512, .f32⟩
  | 99 => ⟨S1x512, .f32⟩
  | 100 => ⟨S512, .f32⟩
  | 101 => ⟨S1x1x512, .f32⟩
  | 102 => ⟨S16x256x512, .f32⟩
  | 103 => ⟨S16x256x512, .f32⟩
  | 104 => ⟨S16x256x512, .f32⟩
  | 105 => ⟨S16x256x512, .f32⟩
  | 106 => ⟨S1x512, .f32⟩
  | 107 => ⟨S512, .f32⟩
  | 108 => ⟨S1x1x512, .f32⟩
  | 109 => ⟨S16x256x512, .f32⟩
  | 110 => ⟨S16x256x512, .f32⟩
  | 111 => ⟨S16x256x512, .f32⟩
  | 112 => ⟨S16x256x512, .f32⟩
  | 113 => ⟨S1x512, .f32⟩
  | 114 => ⟨S512, .f32⟩
  | 115 => ⟨S1x1x512, .f32⟩
  | 116 => ⟨S16x256x512, .f32⟩
  | 117 => ⟨S16x256x512, .f32⟩
  | 118 => ⟨S16x256x512, .f32⟩
  | 119 => ⟨S1x1x512, .f32⟩
  | 120 => ⟨S16x256x512, .f32⟩
  | 121 => ⟨S16x256x512, .f32⟩
  | 122 => ⟨S_, .f32⟩
  | 123 => ⟨S16x256, .f32⟩
  | 124 => ⟨S16x256x1, .f32⟩
  | 125 => ⟨S_, .f32⟩
  | 126 => ⟨S16x256x1, .f32⟩
  | 127 => ⟨S16x256x1, .f32⟩
  | _ => ⟨S16x2304x512, .f32⟩

abbrev hbmTy0_4 (i : Nat) : BufTy := match i % 128 with
  | 0 => ⟨S16x256x512, .f32⟩
  | 1 => ⟨S16x256x512, .f32⟩
  | 2 => ⟨S16x256x512, .f32⟩
  | 3 => ⟨S_, .f32⟩
  | 4 => ⟨S16x256, .f32⟩
  | 5 => ⟨S16x256x1, .f32⟩
  | 6 => ⟨S_, .f32⟩
  | 7 => ⟨S16x256x1, .f32⟩
  | 8 => ⟨S16x256x1, .f32⟩
  | 9 => ⟨S16x256x512, .f32⟩
  | 10 => ⟨S16x256x512, .f32⟩
  | 11 => ⟨S_, .f32⟩
  | 12 => ⟨S16x256x1, .f32⟩
  | 13 => ⟨S16x256x1, .f32⟩
  | 14 => ⟨S16x256x1, .f32⟩
  | 15 => ⟨S16x256x512, .f32⟩
  | 16 => ⟨S16x256x512, .f32⟩
  | 17 => ⟨S1x1x512, .f32⟩
  | 18 => ⟨S16x256x512, .f32⟩
  | 19 => ⟨S16x256x512, .f32⟩
  | 20 => ⟨S1x1x512, .f32⟩
  | 21 => ⟨S16x256x512, .f32⟩
  | 22 => ⟨S16x256x512, .f32⟩
  | 23 => ⟨S16x256x512, .f32⟩
  | 24 => ⟨S16x256x512, .f32⟩
  | 25 => ⟨S_, .f32⟩
  | 26 => ⟨S16x256x512, .f32⟩
  | 27 => ⟨S16x256x512, .f32⟩
  | 28 => ⟨S_, .f32⟩
  | 29 => ⟨S16x256x512, .f32⟩
  | 30 => ⟨S16x256x512, .f32⟩
  | 31 => ⟨S16x256x512, .f32⟩
  | 32 => ⟨S16x256x1024, .f32⟩
  | 33 => ⟨S16x256x1024, .f32⟩
  | 34 => ⟨S1x1x1024, .f32⟩
  | 35 => ⟨S16x256x1024, .f32⟩
  | 36 => ⟨S16x256x1024, .f32⟩
  | 37 => ⟨S16x256x1024, .f32⟩
  | 38 => ⟨S16x2304x1024, .f32⟩
  | _ => ⟨S16x2304x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x2304x512, .f32⟩

abbrev bufTy : (tb : Table) → Fin (tcTables nBuf tb) → BufTy
  | .hbm, ⟨i, _⟩ => hbmTy i
  | _, _ => ⟨S16x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_cst : Ref sig .tc := ⟨.hbm, 237, rfl⟩
abbrev main_v226 : Ref sig .tc := ⟨.hbm, 238, rfl⟩
abbrev main_v227 : Ref sig .tc := ⟨.hbm, 239, rfl⟩
abbrev main_cst_0 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_cst_1 : Ref sig .tc := ⟨.hbm, 246, rfl⟩
abbrev main_v233 : Ref sig .tc := ⟨.hbm, 247, rfl⟩
abbrev main_v234 : Ref sig .tc := ⟨.hbm, 248, rfl⟩
abbrev main_cst_2 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_cst_3 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_call1_v0 : Ref sig .tc := ⟨.hbm, 266, rfl⟩
abbrev main_call1_v1 : Ref sig .tc := ⟨.hbm, 267, rfl⟩
abbrev main_call1_cst : Ref sig .tc := ⟨.hbm, 268, rfl⟩
abbrev main_call1_v2 : Ref sig .tc := ⟨.hbm, 269, rfl⟩
abbrev main_call1_v3 : Ref sig .tc := ⟨.hbm, 270, rfl⟩
abbrev main_call1_cst_0 : Ref sig .tc := ⟨.hbm, 271, rfl⟩
abbrev main_call1_v4 : Ref sig .tc := ⟨.hbm, 272, rfl⟩
abbrev main_call1_v5 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_c_4 : Ref sig .tc := ⟨.hbm, 284, rfl⟩
abbrev main_call2_v0 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_v291 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_v304 : Ref sig .tc := ⟨.hbm, 330, rfl⟩
abbrev main_v305 : Ref sig .tc := ⟨.hbm, 331, rfl⟩
abbrev main_v306 : Ref sig .tc := ⟨.hbm, 332, rfl⟩
abbrev main_v307 : Ref sig .tc := ⟨.hbm, 333, rfl⟩
abbrev main_v308 : Ref sig .tc := ⟨.hbm, 334, rfl⟩
abbrev main_v309 : Ref sig .tc := ⟨.hbm, 335, rfl⟩
abbrev main_v310 : Ref sig .tc := ⟨.hbm, 336, rfl⟩
abbrev main_v311 : Ref sig .tc := ⟨.hbm, 337, rfl⟩
abbrev main_v312 : Ref sig .tc := ⟨.hbm, 338, rfl⟩
abbrev main_v313 : Ref sig .tc := ⟨.hbm, 339, rfl⟩
abbrev main_v314 : Ref sig .tc := ⟨.hbm, 340, rfl⟩
abbrev main_v315 : Ref sig .tc := ⟨.hbm, 341, rfl⟩
abbrev main_v316 : Ref sig .tc := ⟨.hbm, 342, rfl⟩
abbrev main_v317 : Ref sig .tc := ⟨.hbm, 343, rfl⟩
abbrev main_v318 : Ref sig .tc := ⟨.hbm, 344, rfl⟩
abbrev main_v319 : Ref sig .tc := ⟨.hbm, 345, rfl⟩
abbrev main_v320 : Ref sig .tc := ⟨.hbm, 346, rfl⟩
abbrev main_v321 : Ref sig .tc := ⟨.hbm, 347, rfl⟩
abbrev main_v322 : Ref sig .tc := ⟨.hbm, 348, rfl⟩
abbrev main_v323 : Ref sig .tc := ⟨.hbm, 349, rfl⟩
abbrev main_v324 : Ref sig .tc := ⟨.hbm, 350, rfl⟩
abbrev main_v325 : Ref sig .tc := ⟨.hbm, 351, rfl⟩
abbrev main_v326 : Ref sig .tc := ⟨.hbm, 352, rfl⟩
abbrev main_v327 : Ref sig .tc := ⟨.hbm, 353, rfl⟩
abbrev main_v328 : Ref sig .tc := ⟨.hbm, 354, rfl⟩
abbrev main_v329 : Ref sig .tc := ⟨.hbm, 355, rfl⟩
abbrev main_v330 : Ref sig .tc := ⟨.hbm, 356, rfl⟩
abbrev main_v331 : Ref sig .tc := ⟨.hbm, 357, rfl⟩
abbrev main_v332 : Ref sig .tc := ⟨.hbm, 358, rfl⟩
abbrev main_v333 : Ref sig .tc := ⟨.hbm, 359, rfl⟩
abbrev main_v334 : Ref sig .tc := ⟨.hbm, 360, rfl⟩
abbrev main_v335 : Ref sig .tc := ⟨.hbm, 361, rfl⟩
abbrev main_v336 : Ref sig .tc := ⟨.hbm, 362, rfl⟩
abbrev main_v337 : Ref sig .tc := ⟨.hbm, 363, rfl⟩
abbrev main_v338 : Ref sig .tc := ⟨.hbm, 364, rfl⟩
abbrev main_v339 : Ref sig .tc := ⟨.hbm, 365, rfl⟩
abbrev main_v340 : Ref sig .tc := ⟨.hbm, 366, rfl⟩
abbrev main_v341 : Ref sig .tc := ⟨.hbm, 367, rfl⟩
abbrev main_v342 : Ref sig .tc := ⟨.hbm, 368, rfl⟩
abbrev main_v343 : Ref sig .tc := ⟨.hbm, 369, rfl⟩
abbrev main_v344 : Ref sig .tc := ⟨.hbm, 370, rfl⟩
abbrev main_v345 : Ref sig .tc := ⟨.hbm, 371, rfl⟩
abbrev main_v346 : Ref sig .tc := ⟨.hbm, 372, rfl⟩
abbrev main_v347 : Ref sig .tc := ⟨.hbm, 373, rfl⟩
abbrev main_v348 : Ref sig .tc := ⟨.hbm, 374, rfl⟩
abbrev main_v349 : Ref sig .tc := ⟨.hbm, 375, rfl⟩
abbrev main_v350 : Ref sig .tc := ⟨.hbm, 376, rfl⟩
abbrev main_v351 : Ref sig .tc := ⟨.hbm, 377, rfl⟩
abbrev main_v352 : Ref sig .tc := ⟨.hbm, 378, rfl⟩
abbrev main_v353 : Ref sig .tc := ⟨.hbm, 379, rfl⟩
abbrev main_v354 : Ref sig .tc := ⟨.hbm, 380, rfl⟩
abbrev main_v355 : Ref sig .tc := ⟨.hbm, 381, rfl⟩
abbrev main_v356 : Ref sig .tc := ⟨.hbm, 382, rfl⟩
abbrev main_v357 : Ref sig .tc := ⟨.hbm, 383, rfl⟩
abbrev main_v358 : Ref sig .tc := ⟨.hbm, 384, rfl⟩
abbrev main_v359 : Ref sig .tc := ⟨.hbm, 385, rfl⟩
abbrev main_v360 : Ref sig .tc := ⟨.hbm, 386, rfl⟩
abbrev main_v361 : Ref sig .tc := ⟨.hbm, 387, rfl⟩
abbrev main_v362 : Ref sig .tc := ⟨.hbm, 388, rfl⟩
abbrev main_v363 : Ref sig .tc := ⟨.hbm, 389, rfl⟩
abbrev main_v364 : Ref sig .tc := ⟨.hbm, 390, rfl⟩
abbrev main_v365 : Ref sig .tc := ⟨.hbm, 391, rfl⟩
abbrev main_v366 : Ref sig .tc := ⟨.hbm, 392, rfl⟩
abbrev main_v367 : Ref sig .tc := ⟨.hbm, 393, rfl⟩
abbrev main_v368 : Ref sig .tc := ⟨.hbm, 394, rfl⟩
abbrev main_v369 : Ref sig .tc := ⟨.hbm, 395, rfl⟩
abbrev main_v370 : Ref sig .tc := ⟨.hbm, 396, rfl⟩
abbrev main_v371 : Ref sig .tc := ⟨.hbm, 397, rfl⟩
abbrev main_v372 : Ref sig .tc := ⟨.hbm, 398, rfl⟩
abbrev main_v373 : Ref sig .tc := ⟨.hbm, 399, rfl⟩
abbrev main_v374 : Ref sig .tc := ⟨.hbm, 400, rfl⟩
abbrev main_v375 : Ref sig .tc := ⟨.hbm, 401, rfl⟩
abbrev main_v376 : Ref sig .tc := ⟨.hbm, 402, rfl⟩
abbrev main_v377 : Ref sig .tc := ⟨.hbm, 403, rfl⟩
abbrev main_v378 : Ref sig .tc := ⟨.hbm, 404, rfl⟩
abbrev main_v379 : Ref sig .tc := ⟨.hbm, 405, rfl⟩
abbrev main_v380 : Ref sig .tc := ⟨.hbm, 406, rfl⟩
abbrev main_v381 : Ref sig .tc := ⟨.hbm, 407, rfl⟩
abbrev main_v382 : Ref sig .tc := ⟨.hbm, 408, rfl⟩
abbrev main_v383 : Ref sig .tc := ⟨.hbm, 409, rfl⟩
abbrev main_v384 : Ref sig .tc := ⟨.hbm, 410, rfl⟩
abbrev main_v385 : Ref sig .tc := ⟨.hbm, 411, rfl⟩
abbrev main_v386 : Ref sig .tc := ⟨.hbm, 412, rfl⟩
abbrev main_v387 : Ref sig .tc := ⟨.hbm, 413, rfl⟩
abbrev main_v388 : Ref sig .tc := ⟨.hbm, 414, rfl⟩
abbrev main_v389 : Ref sig .tc := ⟨.hbm, 415, rfl⟩
abbrev main_v390 : Ref sig .tc := ⟨.hbm, 416, rfl⟩
abbrev main_v391 : Ref sig .tc := ⟨.hbm, 417, rfl⟩
abbrev main_v392 : Ref sig .tc := ⟨.hbm, 418, rfl⟩
abbrev main_v393 : Ref sig .tc := ⟨.hbm, 419, rfl⟩
abbrev main_v394 : Ref sig .tc := ⟨.hbm, 420, rfl⟩
abbrev main_v395 : Ref sig .tc := ⟨.hbm, 421, rfl⟩
abbrev main_v396 : Ref sig .tc := ⟨.hbm, 422, rfl⟩
abbrev main_v397 : Ref sig .tc := ⟨.hbm, 423, rfl⟩
abbrev main_v398 : Ref sig .tc := ⟨.hbm, 424, rfl⟩
abbrev main_v399 : Ref sig .tc := ⟨.hbm, 425, rfl⟩
abbrev main_v400 : Ref sig .tc := ⟨.hbm, 426, rfl⟩
abbrev main_v401 : Ref sig .tc := ⟨.hbm, 427, rfl⟩
abbrev main_v402 : Ref sig .tc := ⟨.hbm, 428, rfl⟩
abbrev main_v403 : Ref sig .tc := ⟨.hbm, 429, rfl⟩
abbrev main_v404 : Ref sig .tc := ⟨.hbm, 430, rfl⟩
abbrev main_v405 : Ref sig .tc := ⟨.hbm, 431, rfl⟩
abbrev main_v406 : Ref sig .tc := ⟨.hbm, 432, rfl⟩
abbrev main_v407 : Ref sig .tc := ⟨.hbm, 433, rfl⟩
abbrev main_v408 : Ref sig .tc := ⟨.hbm, 434, rfl⟩
abbrev main_v409 : Ref sig .tc := ⟨.hbm, 435, rfl⟩
abbrev main_v410 : Ref sig .tc := ⟨.hbm, 436, rfl⟩
abbrev main_v411 : Ref sig .tc := ⟨.hbm, 437, rfl⟩
abbrev main_v412 : Ref sig .tc := ⟨.hbm, 438, rfl⟩
abbrev main_v413 : Ref sig .tc := ⟨.hbm, 439, rfl⟩
abbrev main_v414 : Ref sig .tc := ⟨.hbm, 440, rfl⟩
abbrev main_v415 : Ref sig .tc := ⟨.hbm, 441, rfl⟩
abbrev main_v416 : Ref sig .tc := ⟨.hbm, 442, rfl⟩
abbrev main_v417 : Ref sig .tc := ⟨.hbm, 443, rfl⟩
abbrev main_v418 : Ref sig .tc := ⟨.hbm, 444, rfl⟩
abbrev main_v419 : Ref sig .tc := ⟨.hbm, 445, rfl⟩
abbrev main_v420 : Ref sig .tc := ⟨.hbm, 446, rfl⟩
abbrev main_v421 : Ref sig .tc := ⟨.hbm, 447, rfl⟩
abbrev main_v422 : Ref sig .tc := ⟨.hbm, 448, rfl⟩
abbrev main_v423 : Ref sig .tc := ⟨.hbm, 449, rfl⟩
abbrev main_v424 : Ref sig .tc := ⟨.hbm, 450, rfl⟩
abbrev main_v425 : Ref sig .tc := ⟨.hbm, 451, rfl⟩
abbrev main_v426 : Ref sig .tc := ⟨.hbm, 452, rfl⟩
abbrev main_v427 : Ref sig .tc := ⟨.hbm, 453, rfl⟩
abbrev main_v428 : Ref sig .tc := ⟨.hbm, 454, rfl⟩
abbrev main_v429 : Ref sig .tc := ⟨.hbm, 455, rfl⟩
abbrev main_v430 : Ref sig .tc := ⟨.hbm, 456, rfl⟩
abbrev main_v431 : Ref sig .tc := ⟨.hbm, 457, rfl⟩
abbrev main_v432 : Ref sig .tc := ⟨.hbm, 458, rfl⟩
abbrev main_v433 : Ref sig .tc := ⟨.hbm, 459, rfl⟩
abbrev main_v434 : Ref sig .tc := ⟨.hbm, 460, rfl⟩
abbrev main_v435 : Ref sig .tc := ⟨.hbm, 461, rfl⟩
abbrev main_v436 : Ref sig .tc := ⟨.hbm, 462, rfl⟩
abbrev main_v437 : Ref sig .tc := ⟨.hbm, 463, rfl⟩
abbrev main_v438 : Ref sig .tc := ⟨.hbm, 464, rfl⟩
abbrev main_v439 : Ref sig .tc := ⟨.hbm, 465, rfl⟩
abbrev main_v440 : Ref sig .tc := ⟨.hbm, 466, rfl⟩
abbrev main_v441 : Ref sig .tc := ⟨.hbm, 467, rfl⟩
abbrev main_v442 : Ref sig .tc := ⟨.hbm, 468, rfl⟩
abbrev main_v443 : Ref sig .tc := ⟨.hbm, 469, rfl⟩
abbrev main_v444 : Ref sig .tc := ⟨.hbm, 470, rfl⟩
abbrev main_v445 : Ref sig .tc := ⟨.hbm, 471, rfl⟩
abbrev main_v446 : Ref sig .tc := ⟨.hbm, 472, rfl⟩
abbrev main_v447 : Ref sig .tc := ⟨.hbm, 473, rfl⟩
abbrev main_v448 : Ref sig .tc := ⟨.hbm, 474, rfl⟩
abbrev main_v449 : Ref sig .tc := ⟨.hbm, 475, rfl⟩
abbrev main_v450 : Ref sig .tc := ⟨.hbm, 476, rfl⟩
abbrev main_v451 : Ref sig .tc := ⟨.hbm, 477, rfl⟩
abbrev main_v452 : Ref sig .tc := ⟨.hbm, 478, rfl⟩
abbrev main_v453 : Ref sig .tc := ⟨.hbm, 479, rfl⟩
abbrev main_v454 : Ref sig .tc := ⟨.hbm, 480, rfl⟩
abbrev main_v455 : Ref sig .tc := ⟨.hbm, 481, rfl⟩
abbrev main_v456 : Ref sig .tc := ⟨.hbm, 482, rfl⟩
abbrev main_v457 : Ref sig .tc := ⟨.hbm, 483, rfl⟩
abbrev main_v458 : Ref sig .tc := ⟨.hbm, 484, rfl⟩
abbrev main_v459 : Ref sig .tc := ⟨.hbm, 485, rfl⟩
abbrev main_v460 : Ref sig .tc := ⟨.hbm, 486, rfl⟩
abbrev main_v461 : Ref sig .tc := ⟨.hbm, 487, rfl⟩
abbrev main_v462 : Ref sig .tc := ⟨.hbm, 488, rfl⟩
abbrev main_v463 : Ref sig .tc := ⟨.hbm, 489, rfl⟩
abbrev main_v464 : Ref sig .tc := ⟨.hbm, 490, rfl⟩
abbrev main_v465 : Ref sig .tc := ⟨.hbm, 491, rfl⟩
abbrev main_v466 : Ref sig .tc := ⟨.hbm, 492, rfl⟩
abbrev main_v467 : Ref sig .tc := ⟨.hbm, 493, rfl⟩
abbrev main_v468 : Ref sig .tc := ⟨.hbm, 494, rfl⟩
abbrev main_v469 : Ref sig .tc := ⟨.hbm, 495, rfl⟩
abbrev main_v470 : Ref sig .tc := ⟨.hbm, 496, rfl⟩
abbrev main_v471 : Ref sig .tc := ⟨.hbm, 497, rfl⟩
abbrev main_v472 : Ref sig .tc := ⟨.hbm, 498, rfl⟩
abbrev main_v473 : Ref sig .tc := ⟨.hbm, 499, rfl⟩
abbrev main_v474 : Ref sig .tc := ⟨.hbm, 500, rfl⟩
abbrev main_v475 : Ref sig .tc := ⟨.hbm, 501, rfl⟩
abbrev main_v476 : Ref sig .tc := ⟨.hbm, 502, rfl⟩
abbrev main_v477 : Ref sig .tc := ⟨.hbm, 503, rfl⟩
abbrev main_v478 : Ref sig .tc := ⟨.hbm, 504, rfl⟩
abbrev main_v479 : Ref sig .tc := ⟨.hbm, 505, rfl⟩
abbrev main_cst_5 : Ref sig .tc := ⟨.hbm, 506, rfl⟩
abbrev main_v480 : Ref sig .tc := ⟨.hbm, 507, rfl⟩
abbrev main_v481 : Ref sig .tc := ⟨.hbm, 508, rfl⟩
abbrev main_cst_6 : Ref sig .tc := ⟨.hbm, 509, rfl⟩
abbrev main_v482 : Ref sig .tc := ⟨.hbm, 510, rfl⟩
abbrev main_v483 : Ref sig .tc := ⟨.hbm, 511, rfl⟩
abbrev main_v484 : Ref sig .tc := ⟨.hbm, 512, rfl⟩
abbrev main_v485 : Ref sig .tc := ⟨.hbm, 513, rfl⟩
abbrev main_v486 : Ref sig .tc := ⟨.hbm, 514, rfl⟩
abbrev main_cst_7 : Ref sig .tc := ⟨.hbm, 515, rfl⟩
abbrev main_v487 : Ref sig .tc := ⟨.hbm, 516, rfl⟩
abbrev main_v488 : Ref sig .tc := ⟨.hbm, 517, rfl⟩
abbrev main_cst_8 : Ref sig .tc := ⟨.hbm, 518, rfl⟩
abbrev main_v489 : Ref sig .tc := ⟨.hbm, 519, rfl⟩
abbrev main_v490 : Ref sig .tc := ⟨.hbm, 520, rfl⟩
abbrev main_v491 : Ref sig .tc := ⟨.hbm, 521, rfl⟩
abbrev main_v492 : Ref sig .tc := ⟨.hbm, 522, rfl⟩
abbrev main_cst_9 : Ref sig .tc := ⟨.hbm, 523, rfl⟩
abbrev main_v493 : Ref sig .tc := ⟨.hbm, 524, rfl⟩
abbrev main_v494 : Ref sig .tc := ⟨.hbm, 525, rfl⟩
abbrev main_v495 : Ref sig .tc := ⟨.hbm, 526, rfl⟩
abbrev main_v496 : Ref sig .tc := ⟨.hbm, 527, rfl⟩
abbrev main_v497 : Ref sig .tc := ⟨.hbm, 528, rfl⟩
abbrev main_v498 : Ref sig .tc := ⟨.hbm, 529, rfl⟩
abbrev main_v499 : Ref sig .tc := ⟨.hbm, 530, rfl⟩
abbrev main_v500 : Ref sig .tc := ⟨.hbm, 531, rfl⟩
abbrev main_v501 : Ref sig .tc := ⟨.hbm, 532, rfl⟩
abbrev main_v502 : Ref sig .tc := ⟨.hbm, 533, rfl⟩
abbrev main_v503 : Ref sig .tc := ⟨.hbm, 534, rfl⟩
abbrev main_call3_v0 : Ref sig .tc := ⟨.hbm, 535, rfl⟩
abbrev main_call3_v1 : Ref sig .tc := ⟨.hbm, 536, rfl⟩
abbrev main_call3_cst : Ref sig .tc := ⟨.hbm, 537, rfl⟩
abbrev main_call3_v2 : Ref sig .tc := ⟨.hbm, 538, rfl⟩
abbrev main_call3_v3 : Ref sig .tc := ⟨.hbm, 539, rfl⟩
abbrev main_call3_cst_0 : Ref sig .tc := ⟨.hbm, 540, rfl⟩
abbrev main_call3_v4 : Ref sig .tc := ⟨.hbm, 541, rfl⟩
abbrev main_call3_v5 : Ref sig .tc := ⟨.hbm, 542, rfl⟩
abbrev main_v504 : Ref sig .tc := ⟨.hbm, 543, rfl⟩
abbrev main_v505 : Ref sig .tc := ⟨.hbm, 544, rfl⟩
abbrev main_v506 : Ref sig .tc := ⟨.hbm, 545, rfl⟩
abbrev main_v507 : Ref sig .tc := ⟨.hbm, 546, rfl⟩
abbrev main_v508 : Ref sig .tc := ⟨.hbm, 547, rfl⟩
abbrev main_v509 : Ref sig .tc := ⟨.hbm, 548, rfl⟩
abbrev main_v510 : Ref sig .tc := ⟨.hbm, 549, rfl⟩
abbrev main_v511 : Ref sig .tc := ⟨.hbm, 550, rfl⟩

abbrev nD : Nat := 1
abbrev τ : Topo := Topo.v7x

variable {F : FTy → Type} [FloatOps F]
-- ==== FfnFirst.lean ====
abbrev S16x2304x1024 : Shape := ⟨3, ![16, 2304, 1024]⟩
abbrev S24x6x1024 : Shape := ⟨3, ![24, 6, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1024x2816 : Shape := ⟨2, ![1024, 2816]⟩
abbrev S1x2816 : Shape := ⟨2, ![1, 2816]⟩
abbrev S1x256x1024 : Shape := ⟨3, ![1, 256, 1024]⟩
abbrev S1x8x1024 : Shape := ⟨3, ![1, 8, 1024]⟩
abbrev S1x6x1024 : Shape := ⟨3, ![1, 6, 1024]⟩
abbrev S272x1024 : Shape := ⟨2, ![272, 1024]⟩
abbrev S272x2816 : Shape := ⟨2, ![272, 2816]⟩
abbrev S256x2816 : Shape := ⟨2, ![256, 2816]⟩
abbrev S256x1024 : Shape := ⟨2, ![256, 1024]⟩
abbrev S8x1024 : Shape := ⟨2, ![8, 1024]⟩
abbrev S1x1x1024 : Shape := ⟨3, ![1, 1, 1024]⟩
abbrev S272 : Shape := ⟨1, ![272]⟩
abbrev S272x1 : Shape := ⟨2, ![272, 1]⟩
abbrev S1024x256 : Shape := ⟨2, ![1024, 256]⟩
abbrev S272x256 : Shape := ⟨2, ![272, 256]⟩
abbrev S256x256 : Shape := ⟨2, ![256, 256]⟩
abbrev S8x256 : Shape := ⟨2, ![8, 256]⟩
abbrev S1x256 : Shape := ⟨2, ![1, 256]⟩

abbrev nBuf : Space → Nat
  | .hbm => 17
  | .vmem => 20
  | .smem => 0
  | _ => 0

abbrev bufTy : (tb : Table) → Fin (tcTables nBuf tb) → BufTy
  | .hbm, ⟨0, _⟩ => ⟨S16x2304x1024, .f32⟩
  | .hbm, ⟨1, _⟩ => ⟨S24x6x1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1x2816, .f32⟩
  | .hbm, ⟨15, _⟩ => ⟨S1x1024, .f32⟩
  | .hbm, ⟨16, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S3x2816, .f32⟩
  | .local _ .vmem, ⟨13, _⟩ => ⟨S1x2816, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S272x1024, .f32⟩
  | .local _ .vmem, ⟨18, _⟩ => ⟨S272x2816, .f32⟩
  | .local _ .vmem, ⟨19, _⟩ => ⟨S256x2816, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c287_i32 : BitVec 32 := 287#32
  let v2 : BitVec 32 := Scalar.minsi v1 c287_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnFirstRefIdeal.lean ====
abbrev S16x2304x1024 : Shape := ⟨3, ![16, 2304, 1024]⟩
abbrev S24x6x1024 : Shape := ⟨3, ![24, 6, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16x2048x1024 : Shape := ⟨3, ![16, 2048, 1024]⟩
abbrev S16x256x1024 : Shape := ⟨3, ![16, 256, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x2816 : Shape := ⟨2, ![1, 2816]⟩
abbrev S1x1x2816 : Shape := ⟨3, ![1, 1, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S16x258x2816 : Shape := ⟨3, ![16, 258, 2816]⟩

abbrev nBuf : Space → Nat
  | .hbm => 155
  | .vmem => 0
  | .smem => 0
  | _ => 0

abbrev hbmTy0_0 (i : Nat) : BufTy := match i % 128 with
  | 0 => ⟨S16x2304x1024, .f32⟩
  | 1 => ⟨S24x6x1024, .f32⟩
  | 2 => ⟨S1024, .f32⟩
  | 3 => ⟨S1024x5632, .f32⟩
  | 4 => ⟨S3x2816, .f32⟩
  | 5 => ⟨S2816, .f32⟩
  | 6 => ⟨S2816x1024, .f32⟩
  | 7 => ⟨S1024, .f32⟩
  | 8 => ⟨S16x2048x1024, .f32⟩
  | 9 => ⟨S16x256x1024, .f32⟩
  | 10 => ⟨S16x1x1024, .f32⟩
  | 11 => ⟨S16x1x1024, .f32⟩
  | 12 => ⟨S16x2048x1024, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S_, .f32⟩
  | 20 => ⟨S16x2048x1, .f32⟩
  | 21 => ⟨S16x2048x1, .f32⟩
  | 22 => ⟨S16x2048x1, .f32⟩
  | 23 => ⟨S16x2048x1024, .f32⟩
  | 24 => ⟨S16x2048x1024, .f32⟩
  | 25 => ⟨S1x1x1024, .f32⟩
  | 26 => ⟨S16x2048x1024, .f32⟩
  | 27 => ⟨S16x2048x1024, .f32⟩
  | 28 => ⟨S_, .f32⟩
  | 29 => ⟨S16x1x1024, .f32⟩
  | 30 => ⟨S16x1x1024, .f32⟩
  | 31 => ⟨S16x2048x1024, .f32⟩
  | 32 => ⟨S16x2048x1024, .f32⟩
  | 33 => ⟨S16x2048x1024, .f32⟩
  | 34 => ⟨S16x2048x1024, .f32⟩
  | 35 => ⟨S16x1x1024, .f32⟩
  | 36 => ⟨S16x2048x5632, .f32⟩
  | 37 => ⟨S16x2048x2816, .f32⟩
  | 38 => ⟨S16x2048x2816, .f32⟩
  | 39 => ⟨S_, .i32⟩
  | 40 => ⟨S_, .f32⟩
  | 41 => ⟨S16x2050x2816, .f32⟩
  | 42 => ⟨S16x2048x2816, .f32⟩
  | 43 => ⟨S1x2816, .f32⟩
  | 44 => ⟨S2816, .f32⟩
  | 45 => ⟨S1x1x2816, .f32⟩
  | 46 => ⟨S16x2048x2816, .f32⟩
  | 47 => ⟨S16x2048x2816, .f32⟩
  | 48 => ⟨S16x2048x2816, .f32⟩
  | 49 => ⟨S1x2816, .f32⟩
  | 50 => ⟨S2816, .f32⟩
  | 51 => ⟨S1x1x2816, .f32⟩
  | 52 => ⟨S16x2048x2816, .f32⟩
  | 53 => ⟨S16x2048x2816, .f32⟩
  | 54 => ⟨S16x2048x2816, .f32⟩
  | 55 => ⟨S16x2048x2816, .f32⟩
  | 56 => ⟨S1x2816, .f32⟩
  | 57 => ⟨S2816, .f32⟩
  | 58 => ⟨S1x1x2816, .f32⟩
  | 59 => ⟨S16x2048x2816, .f32⟩
  | 60 => ⟨S16x2048x2816, .f32⟩
  | 61 => ⟨S16x2048x2816, .f32⟩
  | 62 => ⟨S1x1x2816, .f32⟩
  | 63 => ⟨S16x2048x2816, .f32⟩
  | 64 => ⟨S16x2048x2816, .f32⟩
  | 65 => ⟨S16x2048x2816, .f32⟩
  | 66 => ⟨S16x2048x2816, .f32⟩
  | 67 => ⟨S_, .f32⟩
  | 68 => ⟨S16x2048x2816, .f32⟩
  | 69 => ⟨S16x2048x2816, .f32⟩
  | 70 => ⟨S_, .f32⟩
  | 71 => ⟨S16x2048x2816, .f32⟩
  | 72 => ⟨S16x2048x2816, .f32⟩
  | 73 => ⟨S16x2048x2816, .f32⟩
  | 74 => ⟨S16x2048x2816, .f32⟩
  | 75 => ⟨S16x2048x1024, .f32⟩
  | 76 => ⟨S16x2048x1024, .f32⟩
  | 77 => ⟨S16x2048x1024, .f32⟩
  | 78 => ⟨S16x2048x1024, .f32⟩
  | 79 => ⟨S1x1x1024, .f32⟩
  | 80 => ⟨S1024, .f32⟩
  | 81 => ⟨S1x1x1024, .f32⟩
  | 82 => ⟨S1024, .f32⟩
  | 83 => ⟨S16x256x1024, .f32⟩
  | 84 => ⟨S_, .f32⟩
  | 85 => ⟨S16x256, .f32⟩
  | 86 => ⟨S16x256x1, .f32⟩
  | 87 => ⟨S_, .f32⟩
  | 88 => ⟨S16x256x1, .f32⟩
  | 89 => ⟨S16x256x1, .f32⟩
  | 90 => ⟨S_, .f32⟩
  | 91 => ⟨S16x256x1, .f32⟩
  | 92 => ⟨S16x256x1, .f32⟩
  | 93 => ⟨S16x256x1, .f32⟩
  | 94 => ⟨S16x256x1024, .f32⟩
  | 95 => ⟨S16x256x1024, .f32⟩
  | 96 => ⟨S1x1x1024, .f32⟩
  | 97 => ⟨S16x256x1024, .f32⟩
  | 98 => ⟨S16x256x1024, .f32⟩
  | 99 => ⟨S_, .f32⟩
  | 100 => ⟨S1024, .f32⟩
  | 101 => ⟨S1024, .f32⟩
  | 102 => ⟨S1x1x1024, .f32⟩
  | 103 => ⟨S16x256x1024, .f32⟩
  | 104 => ⟨S16x256x1024, .f32⟩
  | 105 => ⟨S1x1x1024, .f32⟩
  | 106 => ⟨S16x256x1024, .f32⟩
  | 107 => ⟨S16x256x1024, .f32⟩
  | 108 => ⟨S1x1x1024, .f32⟩
  | 109 => ⟨S1024, .f32⟩
  | 110 => ⟨S16x256x5632, .f32⟩
  | 111 => ⟨S16x256x2816, .f32⟩
  | 112 => ⟨S16x256x2816, .f32⟩
  | 113 => ⟨S_, .i32⟩
  | 114 => ⟨S_, .f32⟩
  | 115 => ⟨S16x258x2816, .f32⟩
  | 116 => ⟨S16x256x2816, .f32⟩
  | 117 => ⟨S1x2816, .f32⟩
  | 118 => ⟨S2816, .f32⟩
  | 119 => ⟨S1x1x2816, .f32⟩
  | 120 => ⟨S16x256x2816, .f32⟩
  | 121 => ⟨S16x256x2816, .f32⟩
  | 122 => ⟨S16x256x2816, .f32⟩
  | 123 => ⟨S1x2816, .f32⟩
  | 124 => ⟨S2816, .f32⟩
  | 125 => ⟨S1x1x2816, .f32⟩
  | 126 => ⟨S16x256x2816, .f32⟩
  | 127 => ⟨S16x256x2816, .f32⟩
  | _ => ⟨S16x2304x1024, .f32⟩

abbrev hbmTy0_1 (i : Nat) : BufTy := match i % 128 with
  | 0 => ⟨S16x256x2816, .f32⟩
  | 1 => ⟨S16x256x2816, .f32⟩
  | 2 => ⟨S1x2816, .f32⟩
  | 3 => ⟨S2816, .f32⟩
  | 4 => ⟨S1x1x2816, .f32⟩
  | 5 => ⟨S16x256x2816, .f32⟩
  | 6 => ⟨S16x256x2816, .f32⟩
  | 7 => ⟨S16x256x2816, .f32⟩
  | 8 => ⟨S1x1x2816, .f32⟩
  | 9 => ⟨S16x256x2816, .f32⟩
  | 10 => ⟨S16x256x2816, .f32⟩
  | 11 => ⟨S16x256x2816, .f32⟩
  | 12 => ⟨S16x256x2816, .f32⟩
  | 13 => ⟨S_, .f32⟩
  | 14 => ⟨S16x256x2816, .f32⟩
  | 15 => ⟨S16x256x2816, .f32⟩
  | 16 => ⟨S_, .f32⟩
  | 17 => ⟨S16x256x2816, .f32⟩
  | 18 => ⟨S16x256x2816, .f32⟩
  | 19 => ⟨S16x256x2816, .f32⟩
  | 20 => ⟨S16x256x2816, .f32⟩
  | 21 => ⟨S16x256x1024, .f32⟩
  | 22 => ⟨S1x1x1024, .f32⟩
  | 23 => ⟨S16x256x1024, .f32⟩
  | 24 => ⟨S16x256x1024, .f32⟩
  | 25 => ⟨S16x256x1024, .f32⟩
  | 26 => ⟨S16x2304x1024, .f32⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_3 : Ref sig .tc := ⟨.hbm, 84, rfl⟩
abbrev main_v62 : Ref sig .tc := ⟨.hbm, 85, rfl⟩
abbrev main_v63 : Ref sig .tc := ⟨.hbm, 86, rfl⟩
abbrev main_cst_4 : Ref sig .tc := ⟨.hbm, 87, rfl⟩
abbrev main_v64 : Ref sig .tc := ⟨.hbm, 88, rfl⟩
abbrev main_v65 : Ref sig .tc := ⟨.hbm, 89, rfl⟩
abbrev main_cst_5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_6 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_7 : Ref sig .tc := ⟨.hbm, 113, rfl⟩
abbrev main_call2_v0 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_call3_v0 : Ref sig .tc := ⟨.hbm, 139, rfl⟩
abbrev main_call3_v1 : Ref sig .tc := ⟨.hbm, 140, rfl⟩
abbrev main_call3_cst : Ref sig .tc := ⟨.hbm, 141, rfl⟩
abbrev main_call3_v2 : Ref sig .tc := ⟨.hbm, 142, rfl⟩
abbrev main_call3_v3 : Ref sig .tc := ⟨.hbm, 143, rfl⟩
abbrev main_call3_cst_0 : Ref sig .tc := ⟨.hbm, 144, rfl⟩
abbrev main_call3_v4 : Ref sig .tc := ⟨.hbm, 145, rfl⟩
abbrev main_call3_v5 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]
-- ==== Mods.lean ====
abbrev S24x1024 : Shape := ⟨2, ![24, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S2x24x6144 : Shape := ⟨3, ![2, 24, 6144]⟩

abbrev nBuf : Space → Nat
  | .hbm => 40
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1x1024x6144, .f32⟩
  | .hbm, ⟨13, _⟩ => ⟨S1024x6144, .f32⟩
  | .hbm, ⟨14, _⟩ => ⟨S24x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S24x6144, .f32⟩
  | .hbm, ⟨19, _⟩ => ⟨S24x6144, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S_, .f32⟩
  | .hbm, ⟨26, _⟩ => ⟨S24x1024, .f32⟩
  | .hbm, ⟨27, _⟩ => ⟨S24x1024, .f32⟩
  | .hbm, ⟨28, _⟩ => ⟨S24x1024, .f32⟩
  | .hbm, ⟨29, _⟩ => ⟨S1x1024x6144, .f32⟩
  | .hbm, ⟨30, _⟩ => ⟨S1024x6144, .f32⟩
  | .hbm, ⟨31, _⟩ => ⟨S24x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S24x6144, .f32⟩
  | .hbm, ⟨36, _⟩ => ⟨S24x6144, .f32⟩
  | .hbm, ⟨37, _⟩ => ⟨S1x24x6144, .f32⟩
  | .hbm, ⟨38, _⟩ => ⟨S1x24x6144, .f32⟩
  | .hbm, ⟨39, _⟩ => ⟨S2x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== AttnLast.lean ====
abbrev S16x512x2304 : Shape := ⟨3, ![16, 512, 2304]⟩
abbrev S16x2304x128 : Shape := ⟨3, ![16, 2304, 128]⟩
abbrev S16x128x2304 : Shape := ⟨3, ![16, 128, 2304]⟩
abbrev S16x2048x512 : Shape := ⟨3, ![16, 2048, 512]⟩
abbrev S1x256x256 : Shape := ⟨3, ![1, 256, 256]⟩
abbrev S1x2304x128 : Shape := ⟨3, ![1, 2304, 128]⟩
abbrev S1x64x2304 : Shape := ⟨3, ![1, 64, 2304]⟩
abbrev S2304x128 : Shape := ⟨2, ![2304, 128]⟩
abbrev S64x2304 : Shape := ⟨2, ![64, 2304]⟩
abbrev S1x64x256 : Shape := ⟨3, ![1, 64, 256]⟩
abbrev S64x256 : Shape := ⟨2, ![64, 256]⟩
abbrev S128x256 : Shape := ⟨2, ![128, 256]⟩
abbrev S128x512 : Shape := ⟨2, ![128, 512]⟩
abbrev S2304x512 : Shape := ⟨2, ![2304, 512]⟩
abbrev S512 : Shape := ⟨1, ![512]⟩
abbrev S1x512 : Shape := ⟨2, ![1, 512]⟩
abbrev S64x512 : Shape := ⟨2, ![64, 512]⟩
abbrev S256x256 : Shape := ⟨2, ![256, 256]⟩
abbrev S1x256x128 : Shape := ⟨3, ![1, 256, 128]⟩
abbrev S256x128 : Shape := ⟨2, ![256, 128]⟩
abbrev S256x512 : Shape := ⟨2, ![256, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x512x2304, .bf16⟩
  | .hbm, ⟨1, _⟩ => ⟨S16x2304x128, .bf16⟩
  | .hbm, ⟨2, _⟩ => ⟨S16x128x2304, .bf16⟩
  | .hbm, ⟨3, _⟩ => ⟨S16x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x64x2304, .bf16⟩
  | .local _ .vmem, ⟨5, _⟩ => ⟨S1x64x2304, .bf16⟩
  | .local _ .vmem, ⟨6, _⟩ => ⟨S1x256x256, .bf16⟩
  | .local _ .vmem, ⟨7, _⟩ => ⟨S1x256x256, .bf16⟩
  | _, _ => ⟨S16x512x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def k0_cond1 (i : grid0.Coords) : BitVec 1 :=
  let arg2 : BitVec 32 := BitVec.ofNat 32 (i 2).val
  let c8_i32 : BitVec 32 := 8#32
  let v0 : BitVec 1 := Scalar.cmpi .slt arg2 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c8_i32_0 : BitVec 32 := 8#32
  let v3 : BitVec 1 := Scalar.cmpi .sge arg2 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnLastRefIdeal.lean ====
abbrev S16x512x2304 : Shape := ⟨3, ![16, 512, 2304]⟩
abbrev S16x2304x128 : Shape := ⟨3, ![16, 2304, 128]⟩
abbrev S16x128x2304 : Shape := ⟨3, ![16, 128, 2304]⟩
abbrev S16x2304x512 : Shape := ⟨3, ![16, 2304, 512]⟩
abbrev S16x2304x8x64 : Shape := ⟨4, ![16, 2304, 8, 64]⟩
abbrev S16x2304x2x4x64 : Shape := ⟨5, ![16, 2304, 2, 4, 64]⟩
abbrev S16x2048x2x4x64 : Shape := ⟨5, ![16, 2048, 2, 4, 64]⟩
abbrev S16x2304x2x64 : Shape := ⟨4, ![16, 2304, 2, 64]⟩
abbrev S16x2048x2x64 : Shape := ⟨4, ![16, 2048, 2, 64]⟩
abbrev S16x256x2x64 : Shape := ⟨4, ![16, 256, 2, 64]⟩
abbrev S16x2x2048x2048x4 : Shape := ⟨5, ![16, 2, 2048, 2048, 4]⟩
abbrev S16x2x4x2048x2048 : Shape := ⟨5, ![16, 2, 4, 2048, 2048]⟩
abbrev S16x2x256x2048x4 : Shape := ⟨5, ![16, 2, 256, 2048, 4]⟩
abbrev S16x2x4x2048x256 : Shape := ⟨5, ![16, 2, 4, 2048, 256]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x512 : Shape := ⟨3, ![16, 2048, 512]⟩

abbrev nBuf : Space → Nat
  | .hbm => 45
  | .vmem => 0
  | .smem => 0
  | _ => 0

abbrev bufTy : (tb : Table) → Fin (tcTables nBuf tb) → BufTy
  | .hbm, ⟨0, _⟩ => ⟨S16x512x2304, .bf16⟩
  | .hbm, ⟨1, _⟩ => ⟨S16x2304x128, .bf16⟩
  | .hbm, ⟨2, _⟩ => ⟨S16x128x2304, .bf16⟩
  | .hbm, ⟨3, _⟩ => ⟨S16x2304x512, .bf16⟩
  | .hbm, ⟨4, _⟩ => ⟨S16x2304x512, .f32⟩
  | .hbm, ⟨5, _⟩ => ⟨S16x2304x8x64, .f32⟩
  | .hbm, ⟨6, _⟩ => ⟨S16x2304x2x4x64, .f32⟩
  | .hbm, ⟨7, _⟩ => ⟨S16x2048x2x4x64, .f32⟩
  | .hbm, ⟨8, _⟩ => ⟨S16x2304x128, .f32⟩
  | .hbm, ⟨9, _⟩ => ⟨S16x2304x2x64, .f32⟩
  | .hbm, ⟨10, _⟩ => ⟨S16x2304x128, .bf16⟩
  | .hbm, ⟨11, _⟩ => ⟨S16x2304x128, .f32⟩
  | .hbm, ⟨12, _⟩ => ⟨S16x2304x2x64, .f32⟩
  | .hbm, ⟨13, _⟩ => ⟨S16x2048x2x64, .f32⟩
  | .hbm, ⟨14, _⟩ => ⟨S16x256x2x64, .f32⟩
  | .hbm, ⟨15, _⟩ => ⟨S16x2048x2x64, .f32⟩
  | .hbm, ⟨16, _⟩ => ⟨S16x256x2x64, .f32⟩
  | .hbm, ⟨17, _⟩ => ⟨S16x2x2048x2048x4, .f32⟩
  | .hbm, ⟨18, _⟩ => ⟨S16x2x4x2048x2048, .f32⟩
  | .hbm, ⟨19, _⟩ => ⟨S16x2x256x2048x4, .f32⟩
  | .hbm, ⟨20, _⟩ => ⟨S16x2x4x2048x256, .f32⟩
  | .hbm, ⟨21, _⟩ => ⟨S16x2x4x2048x2304, .f32⟩
  | .hbm, ⟨22, _⟩ => ⟨S_, .f32⟩
  | .hbm, ⟨23, _⟩ => ⟨S16x2x4x2048, .f32⟩
  | .hbm, ⟨24, _⟩ => ⟨S_, .f32⟩
  | .hbm, ⟨25, _⟩ => ⟨S16x2x4x2048, .f32⟩
  | .hbm, ⟨26, _⟩ => ⟨S16x2x4x2048, .f32⟩
  | .hbm, ⟨27, _⟩ => ⟨S16x2x4x2048x1, .f32⟩
  | .hbm, ⟨28, _⟩ => ⟨S16x2x4x2048x2304, .f32⟩
  | .hbm, ⟨29, _⟩ => ⟨S16x2x4x2048x2304, .f32⟩
  | .hbm, ⟨30, _⟩ => ⟨S16x2x4x2048x2304, .f32⟩
  | .hbm, ⟨31, _⟩ => ⟨S_, .f32⟩
  | .hbm, ⟨32, _⟩ => ⟨S16x2x4x2048, .f32⟩
  | .hbm, ⟨33, _⟩ => ⟨S16x2x4x2048x1, .f32⟩
  | .hbm, ⟨34, _⟩ => ⟨S16x2x4x2048x2304, .f32⟩
  | .hbm, ⟨35, _⟩ => ⟨S16x2x4x2048x2304, .f32⟩
  | .hbm, ⟨36, _⟩ => ⟨S16x2x4x2048x2048, .f32⟩
  | .hbm, ⟨37, _⟩ => ⟨S16x2x64x4x2048, .f32⟩
  | .hbm, ⟨38, _⟩ => ⟨S16x2048x2x4x64, .f32⟩
  | .hbm, ⟨39, _⟩ => ⟨S16x2x4x2048x256, .f32⟩
  | .hbm, ⟨40, _⟩ => ⟨S16x2x64x4x2048, .f32⟩
  | .hbm, ⟨41, _⟩ => ⟨S16x2048x2x4x64, .f32⟩
  | .hbm, ⟨42, _⟩ => ⟨S16x2048x2x4x64, .f32⟩
  | .hbm, ⟨43, _⟩ => ⟨S16x2048x512, .f32⟩
  | .hbm, ⟨44, _⟩ => ⟨S16x2048x512, .bf16⟩
  | _, _ => ⟨S16x512x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== OutprojLast.lean ====
abbrev S16x2304x512 : Shape := ⟨3, ![16, 2304, 512]⟩
abbrev S16x2048x512 : Shape := ⟨3, ![16, 2048, 512]⟩
abbrev S16x2304x1024 : Shape := ⟨3, ![16, 2304, 1024]⟩
abbrev S24x6x1024 : Shape := ⟨3, ![24, 6, 1024]⟩
abbrev S31x512 : Shape := ⟨2, ![31, 512]⟩
abbrev S512 : Shape := ⟨1, ![512]⟩
abbrev S1024x1024 : Shape := ⟨2, ![1024, 1024]⟩
abbrev S_ : Shape := ⟨0, ![]⟩
abbrev S1x512 : Shape := ⟨2, ![1, 512]⟩
abbrev S32x512 : Shape := ⟨2, ![32, 512]⟩
abbrev S16x2048x1024 : Shape := ⟨3, ![16, 2048, 1024]⟩
abbrev S1x256x512 : Shape := ⟨3, ![1, 256, 512]⟩
abbrev S1x16x512 : Shape := ⟨3, ![1, 16, 512]⟩
abbrev S1x256x1024 : Shape := ⟨3, ![1, 256, 1024]⟩
abbrev S1x6x1024 : Shape := ⟨3, ![1, 6, 1024]⟩
abbrev S288x512 : Shape := ⟨2, ![288, 512]⟩
abbrev S16x512 : Shape := ⟨2, ![16, 512]⟩
abbrev S256x512 : Shape := ⟨2, ![256, 512]⟩
abbrev S128x128 : Shape := ⟨2, ![128, 128]⟩
abbrev S160x128 : Shape := ⟨2, ![160, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 17
  | .vmem => 20
  | .smem => 0
  | _ => 0

abbrev bufTy : (tb : Table) → Fin (tcTables nBuf tb) → BufTy
  | .hbm, ⟨0, _⟩ => ⟨S16x2304x512, .f32⟩
  | .hbm, ⟨1, _⟩ => ⟨S16x2048x512, .bf16⟩
  | .hbm, ⟨2, _⟩ => ⟨S16x2304x1024, .f32⟩
  | .hbm, ⟨3, _⟩ => ⟨S24x6x1024, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S_, .f32⟩
  | .hbm, ⟨10, _⟩ => ⟨S1x512, .f32⟩
  | .hbm, ⟨11, _⟩ => ⟨S32x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S16x2048x1024, .f32⟩
  | .local _ .vmem, ⟨0, _⟩ => ⟨S1x256x512, .f32⟩
  | .local _ .vmem, ⟨1, _⟩ => ⟨S1x256x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x1024, .f32⟩
  | .local _ .vmem, ⟨9, _⟩ => ⟨S1x256x1024, .f32⟩
  | .local _ .vmem, ⟨10, _⟩ => ⟨S1x6x1024, .f32⟩
  | .local _ .vmem, ⟨11, _⟩ => ⟨S1x6x1024, .f32⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | .local _ .vmem, ⟨19, _⟩ => ⟨S288x512, .f32⟩
  | _, _ => ⟨S16x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c143_i32 : BitVec 32 := 143#32
  let v2 : BitVec 32 := Scalar.minsi v1 c143_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutprojLastRefIdeal.lean ====
abbrev S16x2304x512 : Shape := ⟨3, ![16, 2304, 512]⟩
abbrev S16x2048x512 : Shape := ⟨3, ![16, 2048, 512]⟩
abbrev S16x2304x1024 : Shape := ⟨3, ![16, 2304, 1024]⟩
abbrev S24x6x1024 : Shape := ⟨3, ![24, 6, 1024]⟩
abbrev S31x512 : Shape := ⟨2, ![31, 512]⟩
abbrev S512 : Shape := ⟨1, ![512]⟩
abbrev S1024x1024 : Shape := ⟨2, ![1024, 1024]⟩
abbrev S_ : Shape := ⟨0, ![]⟩
abbrev S16x2078x512 : Shape := ⟨3, ![16, 2078, 512]⟩
abbrev S1x512 : Shape := ⟨2, ![1, 512]⟩
abbrev S1x1x512 : Shape := ⟨3, ![1, 1, 512]⟩
abbrev S16x2048 : Shape := ⟨2, ![16, 2048]⟩
abbrev S16x2048x1 : Shape := ⟨3, ![16, 2048, 1]⟩
abbrev S16x2048x1024 : Shape := ⟨3, ![16, 2048, 1024]⟩
abbrev S16x1x1024 : Shape := ⟨3, ![16, 1, 1024]⟩

abbrev nBuf : Space → Nat
  | .hbm => 278
  | .vmem => 0
  | .smem => 0
  | _ => 0

abbrev hbmTy0_0 (i : Nat) : BufTy := match i % 128 with
  | 0 => ⟨S16x2304x512, .f32⟩
  | 1 => ⟨S16x2048x512, .bf16⟩
  | 2 => ⟨S16x2304x1024, .f32⟩
  | 3 => ⟨S24x6x1024, .f32⟩
  | 4 => ⟨S31x512, .f32⟩
  | 5 => ⟨S512, .f32⟩
  | 6 => ⟨S512, .f32⟩
  | 7 => ⟨S512, .f32⟩
  | 8 => ⟨S1024x1024, .f32⟩
  | 9 => ⟨S16x2048x512, .f32⟩
  | 10 => ⟨S_, .i32⟩
  | 11 => ⟨S_, .f32⟩
  | 12 => ⟨S16x2078x512, .f32⟩
  | 13 => ⟨S16x2048x512, .f32⟩
  | 14 => ⟨S1x512, .f32⟩
  | 15 => ⟨S512, .f32⟩
  | 16 => ⟨S1x1x512, .f32⟩
  | 17 => ⟨S16x2048x512, .f32⟩
  | 18 => ⟨S16x2048x512, .f32⟩
  | 19 => ⟨S16x2048x512, .f32⟩
  | 20 => ⟨S1x512, .f32⟩
  | 21 => ⟨S512, .f32⟩
  | 22 => ⟨S1x1x512, .f32⟩
  | 23 => ⟨S16x2048x512, .f32⟩
  | 24 => ⟨S16x2048x512, .f32⟩
  | 25 => ⟨S16x2048x512, .f32⟩
  | 26 => ⟨S16x2048x512, .f32⟩
  | 27 => ⟨S1x512, .f32⟩
  | 28 => ⟨S512, .f32⟩
  | 29 => ⟨S1x1x512, .f32⟩
  | 30 => ⟨S16x2048x512, .f32⟩
  | 31 => ⟨S16x2048x512, .f32⟩
  | 32 => ⟨S16x2048x512, .f32⟩
  | 33 => ⟨S16x2048x512, .f32⟩
  | 34 => ⟨S1x512, .f32⟩
  | 35 => ⟨S512, .f32⟩
  | 36 => ⟨S1x1x512, .f32⟩
  | 37 => ⟨S16x2048x512, .f32⟩
  | 38 => ⟨S16x2048x512, .f32⟩
  | 39 => ⟨S16x2048x512, .f32⟩
  | 40 => ⟨S16x2048x512, .f32⟩
  | 41 => ⟨S1x512, .f32⟩
  | 42 => ⟨S512, .f32⟩
  | 43 => ⟨S1x1x512, .f32⟩
  | 44 => ⟨S16x2048x512, .f32⟩
  | 45 => ⟨S16x2048x512, .f32⟩
  | 46 => ⟨S16x2048x512, .f32⟩
  | 47 => ⟨S16x2048x512, .f32⟩
  | 48 => ⟨S1x512, .f32⟩
  | 49 => ⟨S512, .f32⟩
  | 50 => ⟨S1x1x512, .f32⟩
  | 51 => ⟨S16x2048x512, .f32⟩
  | 52 => ⟨S16x2048x512, .f32⟩
  | 53 => ⟨S16x2048x512, .f32⟩
  | 54 => ⟨S16x2048x512, .f32⟩
  | 55 => ⟨S1x512, .f32⟩
  | 56 => ⟨S512, .f32⟩
  | 57 => ⟨S1x1x512, .f32⟩
  | 58 => ⟨S16x2048x512, .f32⟩
  | 59 => ⟨S16x2048x512, .f32⟩
  | 60 => ⟨S16x2048x512, .f32⟩
  | 61 => ⟨S16x2048x512, .f32⟩
  | 62 => ⟨S1x512, .f32⟩
  | 63 => ⟨S512, .f32⟩
  | 64 => ⟨S1x1x512, .f32⟩
  | 65 => ⟨S16x2048x512, .f32⟩
  | 66 => ⟨S16x2048x512, .f32⟩
  | 67 => ⟨S16x2048x512, .f32⟩
  | 68 => ⟨S16x2048x512, .f32⟩
  | 69 => ⟨S1x512, .f32⟩
  | 70 => ⟨S512, .f32⟩
  | 71 => ⟨S1x1x512, .f32⟩
  | 72 => ⟨S16x2048x512, .f32⟩
  | 73 => ⟨S16x2048x512, .f32⟩
  | 74 => ⟨S16x2048x512, .f32⟩
  | 75 => ⟨S16x2048x512, .f32⟩
  | 76 => ⟨S1x512, .f32⟩
  | 77 => ⟨S512, .f32⟩
  | 78 => ⟨S1x1x512, .f32⟩
  | 79 => ⟨S16x2048x512, .f32⟩
  | 80 => ⟨S16x2048x512, .f32⟩
  | 81 => ⟨S16x2048x512, .f32⟩
  | 82 => ⟨S16x2048x512, .f32⟩
  | 83 => ⟨S1x512, .f32⟩
  | 84 => ⟨S512, .f32⟩
  | 85 => ⟨S1x1x512, .f32⟩
  | 86 => ⟨S16x2048x512, .f32⟩
  | 87 => ⟨S16x2048x512, .f32⟩
  | 88 => ⟨S16x2048x512, .f32⟩
  | 89 => ⟨S16x2048x512, .f32⟩
  | 90 => ⟨S1x512, .f32⟩
  | 91 => ⟨S512, .f32⟩
  | 92 => ⟨S1x1x512, .f32⟩
  | 93 => ⟨S16x2048x512, .f32⟩
  | 94 => ⟨S16x2048x512, .f32⟩
  | 95 => ⟨S16x2048x512, .f32⟩
  | 96 => ⟨S16x2048x512, .f32⟩
  | 97 => ⟨S1x512, .f32⟩
  | 98 => ⟨S512, .f32⟩
  | 99 => ⟨S1x1x512, .f32⟩
  | 100 => ⟨S16x2048x512, .f32⟩
  | 101 => ⟨S16x2048x512, .f32⟩
  | 102 => ⟨S16x2048x512, .f32⟩
  | 103 => ⟨S16x2048x512, .f32⟩
  | 104 => ⟨S1x512, .f32⟩
  | 105 => ⟨S512, .f32⟩
  | 106 => ⟨S1x1x512, .f32⟩
  | 107 => ⟨S16x2048x512, .f32⟩
  | 108 => ⟨S16x2048x512, .f32⟩
  | 109 => ⟨S16x2048x512, .f32⟩
  | 110 => ⟨S16x2048x512, .f32⟩
  | 111 => ⟨S1x512, .f32⟩
  | 112 => ⟨S512, .f32⟩
  | 113 => ⟨S1x1x512, .f32⟩
  | 114 => ⟨S16x2048x512, .f32⟩
  | 115 => ⟨S16x2048x512, .f32⟩
  | 116 => ⟨S16x2048x512, .f32⟩
  | 117 => ⟨S16x2048x512, .f32⟩
  | 118 => ⟨S1x512, .f32⟩
  | 119 => ⟨S512, .f32⟩
  | 120 => ⟨S1x1x512, .f32⟩
  | 121 => ⟨S16x2048x512, .f32⟩
  | 122 => ⟨S16x2048x512, .f32⟩
  | 123 => ⟨S16x2048x512, .f32⟩
  | 124 => ⟨S16x2048x512, .f32⟩
  | 125 => ⟨S1x512, .f32⟩
  | 126 => ⟨S512, .f32⟩
  | 127 => ⟨S1x1x512, .f32⟩
  | _ => ⟨S16x2304x512, .f32⟩

abbrev hbmTy0_1 (i : Nat) : BufTy := match i % 128 with
  | 0 => ⟨S16x2048x512, .f32⟩
  | 1 => ⟨S16x2048x512, .f32⟩
  | 2 => ⟨S16x2048x512, .f32⟩
  | 3 => ⟨S16x2048x512, .f32⟩
  | 4 => ⟨S1x512, .f32⟩
  | 5 => ⟨S512, .f32⟩
  | 6 => ⟨S1x1x512, .f32⟩
  | 7 => ⟨S16x2048x512, .f32⟩
  | 8 => ⟨S16x2048x512, .f32⟩
  | 9 => ⟨S16x2048x512, .f32⟩
  | 10 => ⟨S16x2048x512, .f32⟩
  | 11 => ⟨S1x512, .f32⟩
  | 12 => ⟨S512, .f32⟩
  | 13 => ⟨S1x1x512, .f32⟩
  | 14 => ⟨S16x2048x512, .f32⟩
  | 15 => ⟨S16x2048x512, .f32⟩
  | 16 => ⟨S16x2048x512, .f32⟩
  | 17 => ⟨S16x2048x512, .f32⟩
  | 18 => ⟨S1x512, .f32⟩
  | 19 => ⟨S512, .f32⟩
  | 20 => ⟨S1x1x512, .f32⟩
  | 21 => ⟨S16x2048x512, .f32⟩
  | 22 => ⟨S16x2048x512, .f32⟩
  | 23 => ⟨S16x2048x512, .f32⟩
  | 24 => ⟨S16x2048x512, .f32⟩
  | 25 => ⟨S1x512, .f32⟩
  | 26 => ⟨S512, .f32⟩
  | 27 => ⟨S1x1x512, .f32⟩
  | 28 => ⟨S16x2048x512, .f32⟩
  | 29 => ⟨S16x2048x512, .f32⟩
  | 30 => ⟨S16x2048x512, .f32⟩
  | 31 => ⟨S16x2048x512, .f32⟩
  | 32 => ⟨S1x512, .f32⟩
  | 33 => ⟨S512, .f32⟩
  | 34 => ⟨S1x1x512, .f32⟩
  | 35 => ⟨S16x2048x512, .f32⟩
  | 36 => ⟨S16x2048x512, .f32⟩
  | 37 => ⟨S16x2048x512, .f32⟩
  | 38 => ⟨S16x2048x512, .f32⟩
  | 39 => ⟨S1x512, .f32⟩
  | 40 => ⟨S512, .f32⟩
  | 41 => ⟨S1x1x512, .f32⟩
  | 42 => ⟨S16x2048x512, .f32⟩
  | 43 => ⟨S16x2048x512, .f32⟩
  | 44 => ⟨S16x2048x512, .f32⟩
  | 45 => ⟨S16x2048x512, .f32⟩
  | 46 => ⟨S1x512, .f32⟩
  | 47 => ⟨S512, .f32⟩
  | 48 => ⟨S1x1x512, .f32⟩
  | 49 => ⟨S16x2048x512, .f32⟩
  | 50 => ⟨S16x2048x512, .f32⟩
  | 51 => ⟨S16x2048x512, .f32⟩
  | 52 => ⟨S16x2048x512, .f32⟩
  | 53 => ⟨S1x512, .f32⟩
  | 54 => ⟨S512, .f32⟩
  | 55 => ⟨S1x1x512, .f32⟩
  | 56 => ⟨S16x2048x512, .f32⟩
  | 57 => ⟨S16x2048x512, .f32⟩
  | 58 => ⟨S16x2048x512, .f32⟩
  | 59 => ⟨S16x2048x512, .f32⟩
  | 60 => ⟨S1x512, .f32⟩
  | 61 => ⟨S512, .f32⟩
  | 62 => ⟨S1x1x512, .f32⟩
  | 63 => ⟨S16x2048x512, .f32⟩
  | 64 => ⟨S16x2048x512, .f32⟩
  | 65 => ⟨S16x2048x512, .f32⟩
  | 66 => ⟨S16x2048x512, .f32⟩
  | 67 => ⟨S1x512, .f32⟩
  | 68 => ⟨S512, .f32⟩
  | 69 => ⟨S1x1x512, .f32⟩
  | 70 => ⟨S16x2048x512, .f32⟩
  | 71 => ⟨S16x2048x512, .f32⟩
  | 72 => ⟨S16x2048x512, .f32⟩
  | 73 => ⟨S16x2048x512, .f32⟩
  | 74 => ⟨S1x512, .f32⟩
  | 75 => ⟨S512, .f32⟩
  | 76 => ⟨S1x1x512, .f32⟩
  | 77 => ⟨S16x2048x512, .f32⟩
  | 78 => ⟨S16x2048x512, .f32⟩
  | 79 => ⟨S16x2048x512, .f32⟩
  | 80 => ⟨S16x2048x512, .f32⟩
  | 81 => ⟨S1x512, .f32⟩
  | 82 => ⟨S512, .f32⟩
  | 83 => ⟨S1x1x512, .f32⟩
  | 84 => ⟨S16x2048x512, .f32⟩
  | 85 => ⟨S16x2048x512, .f32⟩
  | 86 => ⟨S16x2048x512, .f32⟩
  | 87 => ⟨S16x2048x512, .f32⟩
  | 88 => ⟨S1x512, .f32⟩
  | 89 => ⟨S512, .f32⟩
  | 90 => ⟨S1x1x512, .f32⟩
  | 91 => ⟨S16x2048x512, .f32⟩
  | 92 => ⟨S16x2048x512, .f32⟩
  | 93 => ⟨S16x2048x512, .f32⟩
  | 94 => ⟨S16x2048x512, .f32⟩
  | 95 => ⟨S1x512, .f32⟩
  | 96 => ⟨S512, .f32⟩
  | 97 => ⟨S1x1x512, .f32⟩
  | 98 => ⟨S16x2048x512, .f32⟩
  | 99 => ⟨S16x2048x512, .f32⟩
  | 100 => ⟨S16x2048x512, .f32⟩
  | 101 => ⟨S1x1x512, .f32⟩
  | 102 => ⟨S16x2048x512, .f32⟩
  | 103 => ⟨S16x2048x512, .f32⟩
  | 104 => ⟨S_, .f32⟩
  | 105 => ⟨S16x2048, .f32⟩
  | 106 => ⟨S16x2048x1, .f32⟩
  | 107 => ⟨S_, .f32⟩
  | 108 => ⟨S16x2048x1, .f32⟩
  | 109 => ⟨S16x2048x1, .f32⟩
  | 110 => ⟨S16x2048x512, .f32⟩
  | 111 => ⟨S16x2048x512, .f32⟩
  | 112 => ⟨S16x2048x512, .f32⟩
  | 113 => ⟨S_, .f32⟩
  | 114 => ⟨S16x2048, .f32⟩
  | 115 => ⟨S16x2048x1, .f32⟩
  | 116 => ⟨S_, .f32⟩
  | 117 => ⟨S16x2048x1, .f32⟩
  | 118 => ⟨S16x2048x1, .f32⟩
  | 119 => ⟨S16x2048x512, .f32⟩
  | 120 => ⟨S16x2048x512, .f32⟩
  | 121 => ⟨S_, .f32⟩
  | 122 => ⟨S16x2048x1, .f32⟩
  | 123 => ⟨S16x2048x1, .f32⟩
  | 124 => ⟨S16x2048x1, .f32⟩
  | 125 => ⟨S16x2048x512, .f32⟩
  | 126 => ⟨S16x2048x512, .f32⟩
  | 127 => ⟨S1x1x512, .f32⟩
  | _ => ⟨S16x2304x512, .f32⟩

abbrev hbmTy0_2 (i : Nat) : BufTy := match i % 128 with
  | 0 => ⟨S16x2048x512, .f32⟩
  | 1 => ⟨S16x2048x512, .f32⟩
  | 2 => ⟨S1x1x512, .f32⟩
  | 3 => ⟨S16x2048x512, .f32⟩
  | 4 => ⟨S16x2048x512, .f32⟩
  | 5 => ⟨S16x2048x512, .f32⟩
  | 6 => ⟨S16x2048x512, .f32⟩
  | 7 => ⟨S_, .f32⟩
  | 8 => ⟨S16x2048x512, .f32⟩
  | 9 => ⟨S16x2048x512, .f32⟩
  | 10 => ⟨S_, .f32⟩
  | 11 => ⟨S16x2048x512, .f32⟩
  | 12 => ⟨S16x2048x512, .f32⟩
  | 13 => ⟨S16x2048x512, .f32⟩
  | 14 => ⟨S16x2048x512, .f32⟩
  | 15 => ⟨S16x2048x1024, .f32⟩
  | 16 => ⟨S16x1x1024, .f32⟩
  | 17 => ⟨S16x2048x1024, .f32⟩
  | 18 => ⟨S16x2048x1024, .f32⟩
  | 19 => ⟨S16x2048x1024, .f32⟩
  | 20 => ⟨S16x2048x1024, .f32⟩
  | 21 => ⟨S16x2048x1024, .f32⟩
  | _ => ⟨S16x2304x512, .f32⟩

abbrev hbmTy (i : Nat) : BufTy := match i / 128 with
  | 0 => hbmTy0_0 i
  | 1 => hbmTy0_1 i
  | 2 => hbmTy0_2 i
  | _ => ⟨S16x2304x512, .f32⟩

abbrev bufTy : (tb : Table) → Fin (tcTables nBuf tb) → BufTy
  | .hbm, ⟨i, _⟩ => hbmTy i
  | _, _ => ⟨S16x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_cst : Ref sig .tc := ⟨.hbm, 232, rfl⟩
abbrev main_v221 : Ref sig .tc := ⟨.hbm, 233, rfl⟩
abbrev main_v222 : Ref sig .tc := ⟨.hbm, 234, rfl⟩
abbrev main_cst_0 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_cst_1 : Ref sig .tc := ⟨.hbm, 241, rfl⟩
abbrev main_v228 : Ref sig .tc := ⟨.hbm, 242, rfl⟩
abbrev main_v229 : Ref sig .tc := ⟨.hbm, 243, rfl⟩
abbrev main_cst_2 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_cst_3 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_call1_v0 : Ref sig .tc := ⟨.hbm, 261, rfl⟩
abbrev main_call1_v1 : Ref sig .tc := ⟨.hbm, 262, rfl⟩
abbrev main_call1_cst : Ref sig .tc := ⟨.hbm, 263, rfl⟩
abbrev main_call1_v2 : Ref sig .tc := ⟨.hbm, 264, rfl⟩
abbrev main_call1_v3 : Ref sig .tc := ⟨.hbm, 265, rfl⟩
abbrev main_call1_cst_0 : Ref sig .tc := ⟨.hbm, 266, rfl⟩
abbrev main_call1_v4 : Ref sig .tc := ⟨.hbm, 267, rfl⟩
abbrev main_call1_v5 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩

abbrev nD : Nat := 1
abbrev τ : Topo := Topo.v7x

variable {F : FTy → Type} [FloatOps F]
-- ==== Proof.A.Spec.lean ====
module

public import Idealize.ShloMosaic.Lib.Pointwise

@[expose] public section

noncomputable section

namespace Attention
open Idealize.ShloMosaic

/-- The largest of `n` scores (the fold starts from the pattern of minus infinity). -/
def top {n : ℕ} (s : Fin n → EReal) : EReal :=
  Finset.univ.fold max (Ideal.ofBits .f32 0xFF800000#32) s

/-- One attention output as the kernel forms it: the values weighted by the exponentials of the shifted
    scores, summed, and the sum divided by the sum of the weights. -/
def att {n : ℕ} (s v : Fin n → EReal) : EReal :=
  Ideal.div (∑ x, v x * Ideal.exp (s x - top s)) (∑ x, Ideal.exp (s x - top s))

/-- The score of key `x` for token `t` and column `c` (its head and its group of heads). -/
def score (q : FVec Ideal ⟨3, ![16, 512, 2304]⟩ .bf16) (k : FVec Ideal ⟨3, ![16, 2304, 128]⟩ .bf16)
    (b : Fin 16) (t : Fin 2304) (c : Fin 512) (x : Fin 2304) : EReal :=
  ∑ d : Fin 64, k (ix3 b x ⟨(c : ℕ) / 256 * 64 + d, by omega⟩) * q (ix3 b ⟨(c : ℕ) / 64 * 64 + d, by omega⟩ t)

/-- The value of key `x` in column `c`. -/
def value (v : FVec Ideal ⟨3, ![16, 128, 2304]⟩ .bf16) (b : Fin 16) (c : Fin 512) (x : Fin 2304) : EReal :=
  v (ix3 b ⟨(c : ℕ) / 256 * 64 + (c : ℕ) % 64, by omega⟩ x)

/-- The attention array: a latent token attends to all keys, a context token to the context keys. -/
def attnAt (q : FVec Ideal ⟨3, ![16, 512, 2304]⟩ .bf16) (k : FVec Ideal ⟨3, ![16, 2304, 128]⟩ .bf16) (v : FVec Ideal ⟨3, ![16, 128, 2304]⟩ .bf16)
    (b : Fin 16) (t : Fin 2304) (c : Fin 512) : EReal :=
  if (t : ℕ) < 2048 then att (score q k b t c) (value v b c)
  else att (fun x : Fin 256 => score q k b t c ⟨2048 + x, by omega⟩) (fun x : Fin 256 => value v b c ⟨2048 + x, by omega⟩)

/-- The attention array as one function of the three arguments. -/
def attn (q : FVec Ideal ⟨3, ![16, 512, 2304]⟩ .bf16) (k : FVec Ideal ⟨3, ![16, 2304, 128]⟩ .bf16) (v : FVec Ideal ⟨3, ![16, 128, 2304]⟩ .bf16) :
    FVec Ideal ⟨3, ![16, 2304, 512]⟩ .bf16 := fun i => attnAt q k v (i 0) (i 1) (i 2)

end Attention
end
-- ==== Proof.A.Block.lean ====
module

public import proofs.«01_k».proof.Proof.Gen.AttnIdeal.Skeleton
public import proofs.«01_k».proof.Proof.A.Spec

@[expose] public section

set_option maxRecDepth 16384

noncomputable section

namespace Cert.AttnIdeal.Hand
open Cert.AttnIdeal Cert.AttnIdeal.Gen
open Idealize.ShloMosaic Idealize.ShloMosaic.TcCoe Idealize.SL.Sem
open Attention

/-- The query of one column of the pair of heads the kernel stacks side by side. -/
def pairQ (v10 v18 : Vec Ideal S1x64x256 .bf16) (j : Fin 512) (d : Fin 64) : EReal :=
  if h : (j : ℕ) < 256 then v10 (ix3 0 d ⟨j, h⟩) else v18 (ix3 0 d ⟨j - 256, by omega⟩)

theorem sel0 (a b : EReal) : Scalar.select (Scalar.cmpi .eq (BitVec.ofNat 32 0) 0#32) a b = a := rfl
theorem sel1 (a b : EReal) : Scalar.select (Scalar.cmpi .eq (BitVec.ofNat 32 1) 1#32) a b = a := rfl
theorem sel01 (a b : EReal) : Scalar.select (Scalar.cmpi .eq (BitVec.ofNat 32 0) 1#32) a b = b := rfl
theorem sel10 (a b : EReal) : Scalar.select (Scalar.cmpi .eq (BitVec.ofNat 32 1) 0#32) a b = b := rfl

/-- What a block of all keys computes for the first pair of heads: attention over the 2304 keys, the queries'
    zero half contributing nothing to the scores. -/
theorem pay5_at (g : Fin 2) (v6 : Vec Ideal S1x2304x128 .bf16) (v8 : Vec Ideal S1x64x2304 .bf16)
    (v10 v18 : Vec Ideal S1x64x256 .bf16) (e : Fin 64) (j : Fin 512) :
    k0_pay5 (F := Ideal) (BitVec.ofNat 32 g.val) v6 v8 v10 v18 (ix2 e j)
      = att (fun x => ∑ d : Fin 64, v6 (ix3 0 x ⟨g.val * 64 + d.val, by omega⟩) * pairQ v10 v18 j d)
          (fun x => v8 (ix3 0 e x)) := by
  pointwise [k0_pay5, att, top, pairQ, k0_pay3, k0_pay4]
  match g with
  | 0 =>
    by_cases h : (j : ℕ) < 256 <;>
    simp only [h, ↓reduceDIte, Fin.val_zero, sel0, sel01, mul_zero, Finset.sum_const_zero, add_zero, zero_mul, zero_add]
  | 1 =>
    by_cases h : (j : ℕ) < 256 <;>
    simp only [h, ↓reduceDIte, Fin.val_one, sel1, sel10, mul_zero, Finset.sum_const_zero, add_zero, one_mul, zero_add]

/-- The same over the 256 context keys. -/
theorem pay10_at (g : Fin 2) (v6 : Vec Ideal S1x256x128 .bf16) (v8 : Vec Ideal S1x64x256 .bf16)
    (v10 v18 : Vec Ideal S1x64x256 .bf16) (e : Fin 64) (j : Fin 512) :
    k0_pay10 (F := Ideal) (BitVec.ofNat 32 g.val) v6 v8 v10 v18 (ix2 e j)
      = att (fun x => ∑ d : Fin 64, v6 (ix3 0 x ⟨g.val * 64 + d.val, by omega⟩) * pairQ v10 v18 j d)
          (fun x => v8 (ix3 0 e x)) := by
  pointwise [k0_pay10, att, top, pairQ, k0_pay8, k0_pay9]
  match g with
  | 0 =>
    by_cases h : (j : ℕ) < 256 <;>
    simp only [h, ↓reduceDIte, Fin.val_zero, sel0, sel01, mul_zero, Finset.sum_const_zero, add_zero, zero_mul, zero_add]
  | 1 =>
    by_cases h : (j : ℕ) < 256 <;>
    simp only [h, ↓reduceDIte, Fin.val_one, sel1, sel10, mul_zero, Finset.sum_const_zero, add_zero, one_mul, zero_add]

/-- The head of a column of a block: four heads of 64 lanes each. -/
def headQ (v10 v18 v41 v49 : Vec Ideal S1x64x256 .bf16) (c r : Fin 256) (d : Fin 64) : EReal :=
  if (c : ℕ) < 64 then v10 (ix3 0 d r) else if (c : ℕ) < 128 then v18 (ix3 0 d r)
  else if (c : ℕ) < 192 then v41 (ix3 0 d r) else v49 (ix3 0 d r)

/-- What the body stores at a grid point of a latent tile: per column, attention over the 2304 keys. -/
theorem pay1_at (i : grid0.Coords) (g : Fin 2) (hg : (i 1).val = g.val) (v6 : Vec Ideal S1x2304x128 .bf16) (v8 : Vec Ideal S1x64x2304 .bf16)
    (v10 v18 v41 v49 : Vec Ideal S1x64x256 .bf16) (r c : Fin 256) :
    k0_pay1 (F := Ideal) i (k0_pay3 v6) (k0_pay4 v8) (k0_pay6 (BitVec.ofNat 32 (i 1).val) v6 v8 v10 v18)
      (k0_pay7 (BitVec.ofNat 32 (i 1).val) v6 v8 v10 v18) v41 v49 (ix3 0 r c)
      = att (fun x => ∑ d : Fin 64, v6 (ix3 0 x ⟨g.val * 64 + d.val, by omega⟩) * headQ v10 v18 v41 v49 c r d)
          (fun x => v8 (ix3 0 ⟨(c : ℕ) % 64, by omega⟩ x)) := by
  pointwise [k0_pay1, k0_pay6, k0_pay7]
  rw [hg]
  by_cases h1 : (c : ℕ) < 64
  · rw [dif_pos h1, pay5_at]
    simp only [pairQ, headQ, h1, if_true, Fin.is_lt, ↓reduceDIte, Fin.eta, Nat.mod_eq_of_lt]
  by_cases h2 : (c : ℕ) - 64 < 64
  · rw [dif_neg h1, dif_pos h2, pay5_at]
    have h3 : (c : ℕ) < 128 := by omega
    have h4 : (c : ℕ) % 64 = c - 64 := by omega
    simp only [pairQ, headQ, h1, h3, h4, if_true, if_false, Nat.add_sub_cancel_left, Nat.not_lt.2 (Nat.le_add_right _ _), ↓reduceDIte, Fin.eta]
  by_cases h3 : (c : ℕ) - 64 - 64 < 64
  · rw [dif_neg h1, dif_neg h2, dif_pos h3]
    have h4 : ¬ (c : ℕ) < 128 := by omega
    have h5 : (c : ℕ) < 192 := by omega
    have h6 : (c : ℕ) % 64 = c - 64 - 64 := by omega
    simp only [att, top, headQ, h1, h4, h5, h6, if_true, if_false]
    match g with
    | 0 => pointwise [k0_pay3, k0_pay4, sel0, sel01, Fin.val_zero, mul_zero, Finset.sum_const_zero, add_zero, zero_mul, zero_add]
    | 1 => pointwise [k0_pay3, k0_pay4, sel1, sel10, Fin.val_one, mul_zero, Finset.sum_const_zero, add_zero, one_mul, zero_add]
  · rw [dif_neg h1, dif_neg h2, dif_neg h3]
    have h4 : ¬ (c : ℕ) < 128 := by omega
    have h5 : ¬ (c : ℕ) < 192 := by omega
    have h6 : (c : ℕ) % 64 = c - 64 - 64 - 64 := by omega
    simp only [att, top, headQ, h1, h4, h5, h6, if_true, if_false]
    match g with
    | 0 => pointwise [k0_pay3, k0_pay4, sel0, sel01, Fin.val_zero, mul_zero, Finset.sum_const_zero, add_zero, zero_mul, zero_add]
    | 1 => pointwise [k0_pay3, k0_pay4, sel1, sel10, Fin.val_one, mul_zero, Finset.sum_const_zero, add_zero, one_mul, zero_add]

/-- What the body stores at a grid point of the context tile: per column, attention over the 256 context keys. -/
theorem pay2_at (i : grid0.Coords) (g : Fin 2) (hg : (i 1).val = g.val) (v6 : Vec Ideal S1x256x128 .bf16) (v8 : Vec Ideal S1x64x256 .bf16)
    (v10 v18 v41 v49 : Vec Ideal S1x64x256 .bf16) (r c : Fin 256) :
    k0_pay2 (F := Ideal) i (k0_pay8 v6) (k0_pay9 v8) (k0_pay11 (BitVec.ofNat 32 (i 1).val) v6 v8 v10 v18)
      (k0_pay12 (BitVec.ofNat 32 (i 1).val) v6 v8 v10 v18) v41 v49 (ix3 0 r c)
      = att (fun x => ∑ d : Fin 64, v6 (ix3 0 x ⟨g.val * 64 + d.val, by omega⟩) * headQ v10 v18 v41 v49 c r d)
          (fun x => v8 (ix3 0 ⟨(c : ℕ) % 64, by omega⟩ x)) := by
  pointwise [k0_pay2, k0_pay11, k0_pay12]
  rw [hg]
  by_cases h1 : (c : ℕ) < 64
  · rw [dif_pos h1, pay10_at]
    simp only [pairQ, headQ, h1, if_true, Fin.is_lt, ↓reduceDIte, Fin.eta, Nat.mod_eq_of_lt]
  by_cases h2 : (c : ℕ) - 64 < 64
  · rw [dif_neg h1, dif_pos h2, pay10_at]
    have h3 : (c : ℕ) < 128 := by omega
    have h4 : (c : ℕ) % 64 = c - 64 := by omega
    simp only [pairQ, headQ, h1, h3, h4, if_true, if_false, Nat.add_sub_cancel_left, Nat.not_lt.2 (Nat.le_add_right _ _), ↓reduceDIte, Fin.eta]
  by_cases h3 : (c : ℕ) - 64 - 64 < 64
  · rw [dif_neg h1, dif_neg h2, dif_pos h3]
    have h4 : ¬ (c : ℕ) < 128 := by omega
    have h5 : (c : ℕ) < 192 := by omega
    have h6 : (c : ℕ) % 64 = c - 64 - 64 := by omega
    simp only [att, top, headQ, h1, h4, h5, h6, if_true, if_false]
    match g with
    | 0 => pointwise [k0_pay8, k0_pay9, sel0, sel01, Fin.val_zero, mul_zero, Finset.sum_const_zero, add_zero, zero_mul, zero_add]
    | 1 => pointwise [k0_pay8, k0_pay9, sel1, sel10, Fin.val_one, mul_zero, Finset.sum_const_zero, add_zero, one_mul, zero_add]
  · rw [dif_neg h1, dif_neg h2, dif_neg h3]
    have h4 : ¬ (c : ℕ) < 128 := by omega
    have h5 : ¬ (c : ℕ) < 192 := by omega
    have h6 : (c : ℕ) % 64 = c - 64 - 64 - 64 := by omega
    simp only [att, top, headQ, h1, h4, h5, h6, if_true, if_false]
    match g with
    | 0 => pointwise [k0_pay8, k0_pay9, sel0, sel01, Fin.val_zero, mul_zero, Finset.sum_const_zero, add_zero, zero_mul, zero_add]
    | 1 => pointwise [k0_pay8, k0_pay9, sel1, sel10, Fin.val_one, mul_zero, Finset.sum_const_zero, add_zero, one_mul, zero_add]

end Cert.AttnIdeal.Hand
end
-- ==== Proof.A.Final.lean ====
module

public import proofs.«01_k».proof.Proof.Gen.AttnIdeal.Value
public import proofs.«01_k».proof.Proof.A.Block
public import Idealize.ShloMosaic.Lib.Pipeline.ValueKit

@[expose] public section

set_option maxRecDepth 16384

noncomputable section

namespace Cert.AttnIdeal.Hand
open Cert.AttnIdeal Cert.AttnIdeal.Gen
open Idealize.ShloMosaic Idealize.ShloMosaic.TcCoe Idealize.SL.Sem
open Idealize.ShloMosaic.Pipeline (Dat)
open Attention

variable (m : (ℓ : Loc nD τ sig) → Buf (Elt Ideal) ℓ)

/-- Where each window's block lies at a grid point, and the grid coordinate that names the group of heads. -/
theorem idx : ∀ t : Fin cfg0.N, win0_0.index t = ![t.val / 18, t.val / 9 % 2, t.val % 9]
    ∧ win0_1.index t = ![t.val / 18, 0, 0] ∧ win0_2.index t = ![t.val / 18, t.val / 9 % 2, 0]
    ∧ win0_3.index t = ![t.val / 18, t.val % 9, t.val / 9 % 2]
    ∧ (grid0.coords t 1).val = t.val / 9 % 2 :=
  (by decide +kernel : ∀ t : Fin grid0.N, _)

/-- The four tile loads of the query block put together: column `c`'s head reads row `c / 64 * 64 + d`. -/
theorem headQ_eq (B : Vec Ideal S1x256x256 .bf16) (v10 v18 v41 v49 : Vec Ideal S1x64x256 .bf16)
    (h10 : ∀ (d : Fin 64) (r : Fin 256), v10 (ix3 0 d r) = B (ix3 0 ⟨0 + d, by omega⟩ r))
    (h18 : ∀ (d : Fin 64) (r : Fin 256), v18 (ix3 0 d r) = B (ix3 0 ⟨64 + d, by omega⟩ r))
    (h41 : ∀ (d : Fin 64) (r : Fin 256), v41 (ix3 0 d r) = B (ix3 0 ⟨128 + d, by omega⟩ r))
    (h49 : ∀ (d : Fin 64) (r : Fin 256), v49 (ix3 0 d r) = B (ix3 0 ⟨192 + d, by omega⟩ r))
    (c r : Fin 256) (d : Fin 64) :
    headQ v10 v18 v41 v49 c r d = B (ix3 0 ⟨(c : ℕ) / 64 * 64 + d, by omega⟩ r) := by
  unfold headQ
  split_ifs <;> simp only [h10, h18, h41, h49] <;> congr 3 <;> omega

/-- Where the element of the written block lies in the array. -/
theorem emb3 (t : Fin cfg0.N) (y1 y2 : Fin 256) :
    (((cfg0.win 3).blk t).view.emb (ix3 0 y1 y2)) = (ix3 (⟨t.val / 18, by have := t.isLt; simp only [(by decide : cfg0.N = 288)] at this; omega⟩ : Fin 16)
      (⟨t.val % 9 * 256 + y1, by omega⟩ : Fin 2304) (⟨t.val / 9 % 2 * 256 + y2, by omega⟩ : Fin 512) : S16x2304x512.Idx) := by
  blk_ext [idx t]

/-- The query block of a grid point, read in the array. -/
theorem blk0 (c : Dev nD) (t : Fin cfg0.N) (y1 y2 : Fin 256) :
    iblk m c 0 t (ix3 0 y1 y2) = m ((c : Thread nD τ).loc main_arg0)
      (ix3 (⟨t.val / 18, by have := t.isLt; simp only [(by decide : cfg0.N = 288)] at this; omega⟩ : Fin 16)
      (⟨t.val / 9 % 2 * 256 + y1, by omega⟩ : Fin 512) (⟨t.val % 9 * 256 + y2, by omega⟩ : Fin 2304) : S16x512x2304.Idx) := by
  blk_ext [iblk, V, idx t]

/-- The key block of a grid point, read in the array. -/
theorem blk1 (c : Dev nD) (t : Fin cfg0.N) (y1 : Fin 2304) (y2 : Fin 128) :
    iblk m c 1 t (ix3 0 y1 y2) = m ((c : Thread nD τ).loc main_arg1)
      (ix3 (⟨t.val / 18, by have := t.isLt; simp only [(by decide : cfg0.N = 288)] at this; omega⟩ : Fin 16) y1 y2 : S16x2304x128.Idx) := by
  blk_ext [iblk, V, idx t]

/-- The value block of a grid point, read in the array. -/
theorem blk2 (c : Dev nD) (t : Fin cfg0.N) (y1 : Fin 64) (y2 : Fin 2304) :
    iblk m c 2 t (ix3 0 y1 y2) = m ((c : Thread nD τ).loc main_arg2)
      (ix3 (⟨t.val / 18, by have := t.isLt; simp only [(by decide : cfg0.N = 288)] at this; omega⟩ : Fin 16)
        (⟨t.val / 9 % 2 * 64 + y1, by omega⟩ : Fin 128) y2 : S16x128x2304.Idx) := by
  blk_ext [iblk, V, idx t]

/-- The array after the run is the attention array. -/
theorem final (c : Dev nD) : (dats m 0 c).arrAt 3 (cfgs 0).N
    = attn (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 9 = 8
  · rw [outsAt0_B m c t (by omega) h]
    frame_out
    idx_vars y
    obtain rfl : y0 = 0 := Subsingleton.elim _ _
    refine (pay2_at (grid0.coords t) ⟨t.val / 9 % 2, by omega⟩ (idx t).2.2.2.2 _ _ _ _ _ _ y1 y2).trans ?_
    refine Eq.trans ?_ (congrArg (attn _ _ _) (emb3 t y1 y2)).symm
    refine Eq.trans ?_ (if_neg (by show ¬ (t.val % 9 * 256 + (y1 : ℕ) < 2048); omega)).symm
    refine congrArg₂ att (funext fun x => Finset.sum_congr rfl fun d _ => Ideal.mul_congr ?_ ?_) (funext fun x => ?_)
    · pointwise
      rw [blk1]
      blk_ext
    · refine (headQ_eq (iblk m c 0 t) _ _ _ _ ?_ ?_ ?_ ?_ y2 y1 d).trans ?_
      · intro d r; pointwise; blk_ext
      · intro d r; pointwise
      · intro d r; pointwise
      · intro d r; pointwise
      · rw [blk0]; blk_ext
    · pointwise
      rw [blk2]
      blk_ext
  · rw [outsAt0_A m c t (by omega) h]
    frame_out
    idx_vars y
    obtain rfl : y0 = 0 := Subsingleton.elim _ _
    refine (pay1_at (grid0.coords t) ⟨t.val / 9 % 2, by omega⟩ (idx t).2.2.2.2 _ _ _ _ _ _ y1 y2).trans ?_
    refine Eq.trans ?_ (congrArg (attn _ _ _) (emb3 t y1 y2)).symm
    refine Eq.trans ?_ (if_pos (by show t.val % 9 * 256 + (y1 : ℕ) < 2048; omega)).symm
    refine congrArg₂ att (funext fun x => Finset.sum_congr rfl fun d _ => Ideal.mul_congr ?_ ?_) (funext fun x => ?_)
    · rw [blk1]
      blk_ext
    · refine (headQ_eq (iblk m c 0 t) _ _ _ _ ?_ ?_ ?_ ?_ y2 y1 d).trans ?_
      · intro d r; pointwise; blk_ext
      · intro d r; pointwise
      · intro d r; pointwise
      · intro d r; pointwise
      · rw [blk0]; blk_ext
    · rw [blk2]
      blk_ext

end Cert.AttnIdeal.Hand
end
-- ==== Proof.A.Softmax.lean ====
module

public import proofs.«01_k».proof.Proof.A.Spec

@[expose] public section

noncomputable section

namespace Attention
open Idealize.ShloMosaic

/-- The f32 pattern of minus infinity is the least extended real. -/
theorem negInf : Ideal.ofBits .f32 0xFF800000#32 = ⊥ := by
  simp [Ideal.ofBits, Ideal.ieee]

/-- The f32 pattern of plus infinity is the greatest extended real. -/
theorem posInf : Ideal.ofBits .f32 0x7F800000#32 = ⊤ := by
  simp [Ideal.ofBits, Ideal.ieee]

/-- An extended real is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- A finite sum of real numbers is a real number. -/
theorem IsReal.sum {ι : Type} (u : Finset ι) (f : ι → EReal) (h : ∀ i, IsReal (f i)) : IsReal (∑ i ∈ u, f i) := by
  classical
  induction u using Finset.induction_on with
  | empty => exact ⟨0, by simp⟩
  | insert a u ha ih => rw [Finset.sum_insert ha]; exact (h a).add ih

/-- The sum of real numbers, taken among the extended reals. -/
theorem coe_sum {ι : Type} (u : Finset ι) (f : ι → ℝ) : ((∑ i ∈ u, f i : ℝ) : EReal) = ∑ i ∈ u, (f i : EReal) := by
  classical
  induction u using Finset.induction_on with
  | empty => simp
  | insert a u ha ih => rw [Finset.sum_insert ha, Finset.sum_insert ha, EReal.coe_add, ih]

/-- The largest of finitely many real scores (at least one) is a real number. -/
theorem top_isReal {n : ℕ} [NeZero n] (s : Fin n → EReal) (h : ∀ x, IsReal (s x)) : IsReal (top s) := by
  have h1 : ⊥ < top s := by
    obtain ⟨r, hr⟩ := h 0
    exact lt_of_lt_of_le (hr ▸ EReal.bot_lt_coe r) (Finset.le_fold_max (s 0) |>.2 (Or.inr ⟨0, Finset.mem_univ _, le_rfl⟩))
  have h2 : top s < ⊤ := by
    refine Finset.fold_max_lt ⊤ |>.2 ⟨?_, fun x _ => ?_⟩
    · rw [negInf]; exact bot_lt_top
    · obtain ⟨r, hr⟩ := h x; rw [hr]; exact EReal.coe_lt_top r
  exact ⟨(top s).toReal, (EReal.coe_toReal h2.ne h1.ne').symm⟩

/-- A nonnegative real factor leaves a sum of extended reals term by term. -/
theorem sum_mul_real {ι : Type} (u : Finset ι) (f : ι → EReal) (c : ℝ) (hc : 0 ≤ c) :
    ∑ i ∈ u, f i * (c : EReal) = (∑ i ∈ u, f i) * (c : EReal) := by
  classical
  induction u using Finset.induction_on with
  | empty => simp
  | insert a u ha ih =>
    rw [Finset.sum_insert ha, Finset.sum_insert ha, ih,
      EReal.right_distrib_of_nonneg_of_ne_top (EReal.coe_nonneg.2 hc) (EReal.coe_ne_top c)]

/-- With real scores, weighting the values by the normalized weights and summing is dividing the weighted sum by
    the sum of the weights. -/
theorem normalized_first {n : ℕ} [NeZero n] (s v : Fin n → EReal) (h : ∀ x, IsReal (s x)) :
    ∑ x, v x * Ideal.div (Ideal.exp (s x - top s)) (∑ z, Ideal.exp (s z - top s)) = att s v := by
  obtain ⟨T, hT⟩ := top_isReal s h
  choose r hr using h
  have he : ∀ x, Ideal.exp (s x - top s) = ((Real.exp (r x - T) : ℝ) : EReal) := fun x => by
    rw [hr, hT, ← EReal.coe_sub]; rfl
  have hL : ∑ z, Ideal.exp (s z - top s) = ((∑ z, Real.exp (r z - T) : ℝ) : EReal) := by
    rw [coe_sum]; exact Finset.sum_congr rfl fun z _ => he z
  have hpos : 0 < ∑ z, Real.exp (r z - T) := Finset.sum_pos (fun z _ => Real.exp_pos _) ⟨0, Finset.mem_univ _⟩
  unfold att
  rw [hL]
  simp only [Ideal.div_coe hpos.ne']
  rw [← sum_mul_real _ _ _ (by positivity)]
  exact Finset.sum_congr rfl fun x _ => (mul_assoc _ _ _).symm

end Attention
end
-- ==== Proof.A.Ref.lean ====
module

public import proofs.«01_k».proof.Proof.Gen.AttnRefIdeal.Read
public import proofs.«01_k».proof.Proof.A.Softmax
public import Idealize.ShloMosaic.Lib.Pipeline.ValueKit

@[expose] public section

set_option maxRecDepth 16384

noncomputable section

namespace Cert.AttnRefIdeal.Hand
open Cert.AttnRefIdeal Cert.AttnRefIdeal.Gen Cert.AttnRefIdeal.Read
open Idealize.ShloMosaic Idealize.ShloMosaic.TcCoe Idealize.SL.Sem
open Attention

variable (q : FVec Ideal S16x512x2304 .bf16) (k : FVec Ideal S16x2304x128 .bf16) (v : FVec Ideal S16x128x2304 .bf16)

/-- The column of head `a` of group `g`, at its first lane. -/
abbrev col (g : Fin 2) (a : Fin 4) : Fin 512 := ⟨g * 256 + a * 64, by omega⟩

/-- The latent rows' scores over all keys. -/
theorem lat_score (b : Fin 16) (g : Fin 2) (a : Fin 4) (t : Fin 2048) (x : Fin 2304) :
    val_main_v19 (F := Ideal) q k (ix5 b g a t x) = score q k b ⟨t, by omega⟩ (col g a) x := by
  pointwise [val_main_v19, val_main_v18, val_main_v17, val_main_v16, val_main_v15, val_main_v9, val_main_v11, val_main_v12,
    val_main_v5, val_main_v4, val_main_v3, val_main_v2, val_main_v1, val_main_v0, score]
  by_cases h : (x : ℕ) < 2048
  · rw [dif_pos h]
    blk_point
  · rw [dif_neg h]
    blk_point

/-- The latent rows' largest score. -/
theorem lat_max (b : Fin 16) (g : Fin 2) (a : Fin 4) (t : Fin 2048) :
    val_main_v20 (F := Ideal) q k (ix4 b g a t) = top fun x => val_main_v19 (F := Ideal) q k (ix5 b g a t x) := by
  pointwise [val_main_v20, val_main_cst, top]

/-- The latent rows' exponentials of the shifted scores. -/
theorem lat_exp (b : Fin 16) (g : Fin 2) (a : Fin 4) (t : Fin 2048) (x : Fin 2304) :
    val_main_v26 (F := Ideal) q k (ix5 b g a t x) = Ideal.exp (score q k b ⟨t, by omega⟩ (col g a) x
      - top (score q k b ⟨t, by omega⟩ (col g a))) := by
  rw [val_main_v26_apply, val_main_v25_apply, val_main_v24_apply, val_main_v23_apply, val_main_v22_apply,
    val_main_v21_apply, val_main_cst_0_apply]
  have h : idx_main_v23 (idx_main_v24 (ix5 b g a t x)) = ix4 b g a t := by
    funext i; fin_cases i <;> rfl
  rw [h, lat_max, lat_score]
  simp only [lat_score]
  show Ideal.exp (_ - max (Ideal.ofBits .f32 0xFF800000#32) _) = _
  rw [negInf, max_eq_right bot_le]

/-- The latent rows' sum of the exponentials. -/
theorem lat_sum (b : Fin 16) (g : Fin 2) (a : Fin 4) (t : Fin 2048) (x : Fin 2304) :
    val_main_v29 (F := Ideal) q k (ix5 b g a t x) = ∑ z : Fin 2304, Ideal.exp (score q k b ⟨t, by omega⟩ (col g a) z
      - top (score q k b ⟨t, by omega⟩ (col g a))) := by
  rw [val_main_v29_apply, val_main_v28_apply, val_main_v27_apply]
  pointwise [val_main_cst_1]
  refine Finset.sum_congr rfl fun z _ => Eq.trans (congrArg _ ?_) (lat_exp q k b g a t z)
  funext i; fin_cases i <;> rfl

/-- The context rows' scores over the context keys. -/
theorem ctx_score (b : Fin 16) (g : Fin 2) (a : Fin 4) (t x : Fin 256) :
    val_main_v40 (F := Ideal) q k (ix5 b g a t x) = score q k b ⟨2048 + t, by omega⟩ (col g a) ⟨2048 + x, by omega⟩ := by
  pointwise [val_main_v40, val_main_v39, val_main_v10, val_main_v12,
    val_main_v5, val_main_v4, val_main_v3, val_main_v2, val_main_v1, val_main_v0, score]
  blk_point

/-- The context rows' largest score. -/
theorem ctx_max (b : Fin 16) (g : Fin 2) (a : Fin 4) (t : Fin 256) :
    val_main_v41 (F := Ideal) q k (ix4 b g a t) = top fun x => val_main_v40 (F := Ideal) q k (ix5 b g a t x) := by
  pointwise [val_main_v41, val_main_cst_2, top]

/-- The context rows' exponentials of the shifted scores. -/
theorem ctx_exp (b : Fin 16) (g : Fin 2) (a : Fin 4) (t x : Fin 256) :
    val_main_v47 (F := Ideal) q k (ix5 b g a t x) = Ideal.exp (score q k b ⟨2048 + t, by omega⟩ (col g a) ⟨2048 + x, by omega⟩
      - top fun x : Fin 256 => score q k b ⟨2048 + t, by omega⟩ (col g a) ⟨2048 + x, by omega⟩) := by
  rw [val_main_v47_apply, val_main_v46_apply, val_main_v45_apply, val_main_v44_apply, val_main_v43_apply,
    val_main_v42_apply, val_main_cst_3_apply]
  have h : idx_main_v44 (idx_main_v45 (ix5 b g a t x)) = ix4 b g a t := by
    funext i; fin_cases i <;> rfl
  rw [h, ctx_max, ctx_score]
  simp only [ctx_score]
  show Ideal.exp (_ - max (Ideal.ofBits .f32 0xFF800000#32) _) = _
  rw [negInf, max_eq_right bot_le]

/-- The context rows' sum of the exponentials. -/
theorem ctx_sum (b : Fin 16) (g : Fin 2) (a : Fin 4) (t x : Fin 256) :
    val_main_v50 (F := Ideal) q k (ix5 b g a t x) = ∑ z : Fin 256, Ideal.exp (score q k b ⟨2048 + t, by omega⟩ (col g a) ⟨2048 + z, by omega⟩
      - top fun x : Fin 256 => score q k b ⟨2048 + t, by omega⟩ (col g a) ⟨2048 + x, by omega⟩) := by
  rw [val_main_v50_apply, val_main_v49_apply, val_main_v48_apply]
  pointwise [val_main_cst_4]
  refine Finset.sum_congr rfl fun z _ => Eq.trans (congrArg _ ?_) (ctx_exp q k b g a t z)
  funext i; fin_cases i <;> rfl

/-- A real number at every index: then every score is a real number. -/
theorem score_isReal (hq : ∀ i, IsReal (q i)) (hk : ∀ i, IsReal (k i)) (b : Fin 16) (t : Fin 2304) (c : Fin 512) (x : Fin 2304) :
    IsReal (score q k b t c x) :=
  IsReal.sum _ _ fun d => (hk _).mul (hq _)

/-- The score depends on the column only through its head. -/
theorem score_col (b : Fin 16) (t : Fin 2304) (c : Fin 512) :
    score q k b t (col ⟨c / 256, by omega⟩ ⟨c / 64 % 4, by omega⟩) = score q k b t c := by
  funext x
  unfold score
  refine Finset.sum_congr rfl fun d _ => ?_
  blk_point

/-- One normalized weight of a row of scores. -/
def weight {n : ℕ} (s : Fin n → EReal) (x : Fin n) : EReal :=
  Ideal.div (Ideal.exp (s x - top s)) (∑ z, Ideal.exp (s z - top s))

/-- The latent rows' weights. -/
theorem lat_weight (b : Fin 16) (t : Fin 2048) (c : Fin 512) (x : Fin 2304) :
    val_main_v30 (F := Ideal) q k (ix5 b ⟨c / 256, by omega⟩ ⟨c / 64 % 4, by omega⟩ t x)
      = weight (score q k b ⟨t, by omega⟩ c) x := by
  rw [val_main_v30_apply, lat_exp, lat_sum, score_col]
  rfl

/-- The context rows' weights. -/
theorem ctx_weight (b : Fin 16) (t : Fin 256) (T : Fin 2304) (hT : (⟨2048 + t, by omega⟩ : Fin 2304) = T) (c : Fin 512) (x : Fin 256) :
    val_main_v51 (F := Ideal) q k (ix5 b ⟨c / 256, by omega⟩ ⟨c / 64 % 4, by omega⟩ t x)
      = weight (fun x : Fin 256 => score q k b T c ⟨2048 + x, by omega⟩) x := by
  subst hT
  rw [val_main_v51_apply, ctx_exp, ctx_sum, score_col]
  rfl

/-- The reference's result is the attention array, when the queries and keys are real numbers. -/
theorem ref_eq (hq : ∀ i, IsReal (q i)) (hk : ∀ i, IsReal (k i)) :
    val_main_v56 (F := Ideal) q k v = attn q k v := by
  funext i
  idx_vars i
  show _ = attnAt q k v i0 i1 i2
  pointwise [val_main_v56, val_main_v55, val_main_v54, val_main_v53, val_main_v52, val_main_v38, val_main_v37, val_main_v36, val_main_v35,
     val_main_v34, val_main_v33, val_main_v32, val_main_v31, val_main_v13, val_main_v14, val_main_v8, val_main_v7, val_main_v6]
  unfold attnAt
  by_cases h : (i1 : ℕ) < 2048
  · refine (dif_pos h).trans (Eq.trans ?_ (if_pos h).symm)
    refine Eq.trans ?_ (normalized_first (score q k i0 i1 i2) (value v i0 i2) fun x => score_isReal q k hq hk i0 i1 i2 x)
    refine Eq.trans ?_ (Fin.sum_univ_two_halves 2048 256 rfl _).symm
    refine congrArg₂ (· + ·) (Finset.sum_congr rfl fun x _ => ?_) (Finset.sum_congr rfl fun x _ => ?_)
    · exact Ideal.mul_congr rfl (lat_weight q k i0 ⟨i1, h⟩ i2 ⟨x, by omega⟩)
    · exact Ideal.mul_congr rfl (lat_weight q k i0 ⟨i1, h⟩ i2 ⟨2048 + x, by omega⟩)
  · have e : (⟨2048 + ((i1 : ℕ) - 2048), by omega⟩ : Fin 2304) = i1 := Fin.ext (by show 2048 + ((i1 : ℕ) - 2048) = i1; omega)
    refine (dif_neg h).trans (Eq.trans ?_ (if_neg h).symm)
    refine Eq.trans ?_ (normalized_first (fun x => score q k i0 i1 i2 ⟨2048 + x, by omega⟩)
      (fun x => value v i0 i2 ⟨2048 + x, by omega⟩) fun x => score_isReal q k hq hk i0 i1 i2 _)
    refine Finset.sum_congr rfl fun x _ => ?_
    have hw := ctx_weight q k i0 ⟨i1 - 2048, by omega⟩ i1 e i2 x
    unfold weight at hw
    rw [hw]
    rfl

end Cert.AttnRefIdeal.Hand
end
-- ==== Proof.A.Pre.lean ====
module

public import proofs.«01_k».proof.Proof.Gen.Pre_finite
public import proofs.«01_k».proof.Proof.A.Softmax
public import Idealize.ShloMosaic.Lib.ReduceAll

@[expose] public section

set_option maxRecDepth 16384

noncomputable section

namespace Cert.Pre_finite.Hand
open Cert.Pre_finite Cert.Pre_finite.Gen
open Idealize.ShloMosaic Idealize.SL.Sem
open Attention

/-- An extended real whose absolute value is below plus infinity is a real number. -/
theorem isReal_of_abs (x : Ideal .f32) (h : BitVec.ofBool (decide (FloatOps.absf x < Ideal.ofBits .f32 0x7F800000#32)) = 1#1) :
    IsReal x := by
  have hb : decide (FloatOps.absf x < Ideal.ofBits .f32 0x7F800000#32) = true := by
    revert h
    cases decide (FloatOps.absf x < Ideal.ofBits .f32 0x7F800000#32) <;> simp
  have hl := of_decide_eq_true hb
  rw [posInf] at hl
  have hm : max (x : EReal) (-x) < ⊤ := hl
  have h1 : (x : EReal) ≠ ⊤ := (lt_of_le_of_lt (le_max_left _ _) hm).ne
  have h2 : (-x : EReal) ≠ ⊤ := (lt_of_le_of_lt (le_max_right _ _) hm).ne
  have h3 : (x : EReal) ≠ ⊥ := fun e => h2 (by rw [e]; rfl)
  exact ⟨EReal.toReal x, (EReal.coe_toReal h1 h3).symm⟩

/-- A query whose test against plus infinity holds is a real number. -/
theorem q_real (q : FVec Ideal S16x512x2304 .bf16) (i : S16x512x2304.Idx)
    (h : cmpf .olt (Host.absf (extf .f32 q bitsLt_bf16_f32))
      (broadcastInDim S16x512x2304 ![] bcast_S_S16x512x2304 (constant (F := Ideal) S_ .f32 0x7F800000#32)) i = 1#1) :
    IsReal (q i) := by
  refine isReal_of_abs (q i) (Eq.trans ?_ h)
  pointwise

/-- A key whose test against plus infinity holds is a real number. -/
theorem k_real (k : FVec Ideal S16x2304x128 .bf16) (i : S16x2304x128.Idx)
    (h : cmpf .olt (Host.absf (extf .f32 k bitsLt_bf16_f32))
      (broadcastInDim S16x2304x128 ![] bcast_S_S16x2304x128 (constant (F := Ideal) S_ .f32 0x7F800000#32)) i = 1#1) :
    IsReal (k i) := by
  refine isReal_of_abs (k i) (Eq.trans ?_ h)
  pointwise

instance : Subsingleton S_.Idx := ⟨fun a b => funext fun i => i.elim0⟩

/-- The precondition says that every query and every key is a real number. -/
theorem real_of_fn (q : FVec Ideal S16x512x2304 .bf16) (k : FVec Ideal S16x2304x128 .bf16) (v : FVec Ideal S16x128x2304 .bf16)
    (h : fn (F := Ideal) q k v = fun _ => 1#1) : (∀ i, IsReal (q i)) ∧ ∀ i, IsReal (k i) := by
  have h0 := congrFun h (fun a => a.elim0)
  unfold fn at h0
  simp only [andi_apply] at h0
  obtain ⟨hq, hk⟩ := IntOp.andi_eq_one.1 h0
  exact ⟨fun i => q_real q i (Host.reduce_andi_all _ _ _ _ _ hq i), fun i => k_real k i (Host.reduce_andi_all _ _ _ _ _ hk i)⟩

end Cert.Pre_finite.Hand
end
-- ==== Proof.A.Claims.lean ====
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.A.Final
public import proofs.«01_k».proof.Proof.A.Ref
public import proofs.«01_k».proof.Proof.A.Pre
public import Idealize.ShloMosaic.Lib.Claim

/-! The claims about the attention call. -/

@[expose] public section

set_option maxRecDepth 16384

noncomputable section

namespace Cert.Attention
open Idealize.ShloMosaic Idealize.ShloMosaic.TcCoe Idealize.SL.Sem

/-- The attention kernel runs to its end, and leaves its arguments and every semaphore as they were. -/
theorem frame_p : quiescent_Attn := fun m g _ => Cert.Attn.Gen.frame m g

/-- The same of the kernel at the extended reals. -/
theorem frame_pi : quiescent_AttnIdeal := fun m g _ => Cert.AttnIdeal.Gen.frame m g

/-- The same, under the precondition. -/
theorem frame_pi_pre : quiescent_AttnIdeal_pre_finite := fun m g _ => Cert.AttnIdeal.Gen.frame m g

/-- The reference runs to its end, and leaves its arguments and every semaphore as they were. -/
theorem frame_ri : quiescent_AttnRefIdeal := fun m g _ =>
  (θ_run Cert.AttnRefIdeal.defs _ _).mono (fun r h => ⟨fun c => (h c).2, sem_eq_zero_of_no_sems (by decide) r.2⟩)
    (Cert.AttnRefIdeal.Value.run (F := Ideal) m g)

/-- The same, under the precondition. -/
theorem frame_ri_pre : quiescent_AttnRefIdeal_pre_finite := fun m g _ =>
  (θ_run Cert.AttnRefIdeal.defs _ _).mono (fun r h => ⟨fun c => (h c).2, sem_eq_zero_of_no_sems (by decide) r.2⟩)
    (Cert.AttnRefIdeal.Value.run (F := Ideal) m g)

/-- For finite queries and keys the kernel's result at the extended reals is the reference's. -/
theorem algebraic : algebraic_AttnIdeal_AttnRefIdeal_pre_finite := by
  pair_intro
  · run_from Cert.AttnIdeal.Gen.run_main m g
  · run_from Cert.AttnRefIdeal.Value.run m' g'
    obtain ⟨hq, hk⟩ := Cert.Pre_finite.Hand.real_of_fn _ _ _ (hpre c)
    rw [Cert.AttnRefIdeal.Read.val_main_v56_eq, (hagree c).1, (hagree c).2.1, (hagree c).2.2]
    exact (Cert.AttnRefIdeal.Hand.ref_eq _ _ _ hq hk).trans (Cert.AttnIdeal.Hand.final m c).symm

end Cert.Attention
end
-- ==== Proof.F.Reads.lean ====
module

public import Idealize.ShloMosaic.Lib.Pipeline.ValueKit

/-! Reads of a matrix that was written block by block, for any matrix and any block. -/

@[expose] public section

namespace Blocks
open Idealize.ShloMosaic
open Idealize.ShloMosaic.View (Piece)

variable {Val : EltTy → Type} [∀ e, Nonempty (Val e)] {sig : RefSig} {κ : Kind} {sp : Space} {e : EltTy} {m n : ℕ}

/-- The place in the matrix of an element of a block that starts at row `a` and column `b`. -/
theorem emb_at {p q a b : ℕ} (h : ∀ i, (![a, b] : Fin 2 → ℕ) i + (![p, q] : Fin 2 → ℕ) i ≤ (⟨2, ![m, n]⟩ : Shape).size i)
    (i : Fin p) (j : Fin q) (i' : Fin m) (j' : Fin n) (hi : i'.val = a + i.val) (hj : j'.val = b + j.val) :
    (Rect.unit (s := ⟨2, ![m, n]⟩) ![a, b] ![p, q] h).emb (ix2 i j) = ix2 i' j' := by
  funext z
  fin_cases z
  · exact Fin.ext ((Rect.emb_apply _ _ _).trans (by
      show a + 1 * i.val = i'.val
      omega))
  · exact Fin.ext ((Rect.emb_apply _ _ _).trans (by
      show b + 1 * j.val = j'.val
      omega))

/-- A load of a block reads the matrix at the block's place. -/
theorem ld_at {p q a b : ℕ} (x : (⟨2, ![m, n]⟩ : Shape).Idx → Val e)
    (h : ∀ i, (![a, b] : Fin 2 → ℕ) i + (![p, q] : Fin 2 → ℕ) i ≤ (⟨2, ![m, n]⟩ : Shape).size i)
    (i : Fin p) (j : Fin q) (i' : Fin m) (j' : Fin n) (hi : i'.val = a + i.val) (hj : j'.val = b + j.val) :
    View.ld x (Rect.unit (s := ⟨2, ![m, n]⟩) ![a, b] ![p, q] h) (ix2 i j) = x (ix2 i' j') :=
  congrArg x (emb_at h i j i' j' hi hj)

/-- After a write of a block, its elements read as written. -/
theorem canon_at {p q a b : ℕ} (h : ∀ i, (![a, b] : Fin 2 → ℕ) i + (![p, q] : Fin 2 → ℕ) i ≤ (⟨2, ![m, n]⟩ : Shape).size i)
    (w : (⟨2, ![p, q]⟩ : Shape).Idx → Val e) (L : List (Piece Val (⟨2, ![m, n]⟩ : Shape) e))
    (i' : Fin m) (j' : Fin n) (i : Fin p) (j : Fin q) (hi : i'.val = a + i.val) (hj : j'.val = b + j.val) :
    View.canon ((⟨Rect.unit (s := ⟨2, ![m, n]⟩) ![a, b] ![p, q] h, w⟩ : Piece Val (⟨2, ![m, n]⟩ : Shape) e) :: L) (ix2 i' j')
      = w (ix2 i j) := by
  rw [← emb_at h i j i' j' hi hj]
  exact View.canon_cons_emb _ _ _ _

/-- After a write of a block of other rows, an element reads as before. -/
theorem canon_off {p q a b : ℕ} (h : ∀ i, (![a, b] : Fin 2 → ℕ) i + (![p, q] : Fin 2 → ℕ) i ≤ (⟨2, ![m, n]⟩ : Shape).size i)
    (w : (⟨2, ![p, q]⟩ : Shape).Idx → Val e) (L : List (Piece Val (⟨2, ![m, n]⟩ : Shape) e))
    (i' : Fin m) (j' : Fin n) (hi : i'.val < a ∨ a + p ≤ i'.val) :
    View.canon ((⟨Rect.unit (s := ⟨2, ![m, n]⟩) ![a, b] ![p, q] h, w⟩ : Piece Val (⟨2, ![m, n]⟩ : Shape) e) :: L) (ix2 i' j')
      = View.canon L (ix2 i' j') := by
  refine View.canon_cons_of_not_mem _ _ fun hm => ?_
  have hm' : ix2 i' j' ∈ (Rect.unit (s := ⟨2, ![m, n]⟩) ![a, b] ![p, q] h).set := hm
  have h0 := (Rect.mem_set_unit.1 hm') 0
  have h1 : a ≤ i'.val ∧ i'.val < a + p := h0
  omega

/-- A load of a block of a written matrix reads what the writes left at the block's place. -/
theorem readCov_at {p q a b : ℕ} (v : View sig κ sp (⟨2, ![m, n]⟩ : Shape) e) (L : List (Piece Val (⟨2, ![m, n]⟩ : Shape) e))
    (h : ∀ i, (![a, b] : Fin 2 → ℕ) i + (![p, q] : Fin 2 → ℕ) i ≤ (⟨2, ![m, n]⟩ : Shape).size i)
    (i : Fin p) (j : Fin q) (i' : Fin m) (j' : Fin n) (hi : i'.val = a + i.val) (hj : j'.val = b + j.val) :
    v.readCov L (Rect.unit (s := ⟨2, ![m, n]⟩) ![a, b] ![p, q] h).toLoadRect (ix2 i j) = View.canon L (ix2 i' j') := by
  rw [View.readCov_eq_canon']
  exact congrArg (View.canon L) (emb_at h i j i' j' hi hj)

/-- A matrix written in blocks of whole columns, the last block written last: it holds `G` if every block does. -/
theorem canon_step {q b : ℕ} (h : ∀ i, (![0, b] : Fin 2 → ℕ) i + (![m, q] : Fin 2 → ℕ) i ≤ (⟨2, ![m, n]⟩ : Shape).size i)
    (w : (⟨2, ![m, q]⟩ : Shape).Idx → Val e) (L : List (Piece Val (⟨2, ![m, n]⟩ : Shape) e))
    (G : Fin m → Fin n → Val e) (i : Fin m) (j : Fin n) (hj : j.val < b + q)
    (hw : ∀ k : Fin q, j.val = b + k.val → w (ix2 i k) = G i j)
    (hL : j.val < b → View.canon L (ix2 i j) = G i j) :
    View.canon ((⟨Rect.unit (s := ⟨2, ![m, n]⟩) ![0, b] ![m, q] h, w⟩ : Piece Val (⟨2, ![m, n]⟩ : Shape) e) :: L) (ix2 i j) = G i j := by
  by_cases hb : b ≤ j.val
  · exact (canon_at h w L i j i ⟨j.val - b, by omega⟩ (by omega) (by simp; omega)).trans (hw _ (by simp; omega))
  · refine (View.canon_cons_of_not_mem _ _ fun hm => ?_).trans (hL (by omega))
    have hm' : ix2 i j ∈ (Rect.unit (s := ⟨2, ![m, n]⟩) ![0, b] ![m, q] h).set := hm
    have h0 := (Rect.mem_set_unit.1 hm') 1
    have h1 : b ≤ j.val ∧ j.val < b + q := h0
    omega

end Blocks
-- ==== Proof.F.Spec.lean ====
module

public import Idealize.ShloMosaic.Lib.Pointwise

/-! The feed-forward block on one row of the hidden state, in extended reals. -/

@[expose] public section

noncomputable section

namespace FeedForward
open Idealize.ShloMosaic

/-- The factor a row is divided by its root mean square with. -/
def rms (x : Fin 1024 → EReal) : EReal :=
  Ideal.rsqrt (Ideal.div (∑ k : Fin 1024, x k * x k) (Ideal.ofBits .f32 0x44800000#32) + Ideal.ofBits .f32 0x358637BD#32)

/-- A row normalised, then scaled and shifted by the conditioning. -/
def modulated (x g sc sh : Fin 1024 → EReal) (k : Fin 1024) : EReal :=
  x k * rms x * g k * (1 + sc k) + sh k

/-- One entry of the up projection of a row. -/
def up (h w : Fin 1024 → EReal) : EReal := ∑ k : Fin 1024, h k * w k

/-- Three taps along the rows and a bias. -/
def taps (b a0 d0 a1 d1 a2 d2 : EReal) : EReal := b + a0 * d0 + a1 * d1 + a2 * d2

/-- The gate passed through the swish, times the value. -/
def gated (y v : EReal) : EReal := y * Ideal.logistic y * v

/-- A row plus its gated down projection. -/
def resid (x md : Fin 1024 → EReal) (act : Fin 2816 → EReal) (wd : Fin 2816 → Fin 1024 → EReal) (n : Fin 1024) : EReal :=
  x n + md n * ∑ f : Fin 2816, act f * wd f n

/-- The last normalisation of a row. -/
def normed (o fg : Fin 1024 → EReal) (n : Fin 1024) : EReal := o n * rms o * fg n

variable (X : (⟨3, ![16, 2048, 1024]⟩ : Shape).Idx → EReal) (Md : (⟨3, ![24, 6, 1024]⟩ : Shape).Idx → EReal)
  (g : (⟨1, ![1024]⟩ : Shape).Idx → EReal) (Wu : (⟨2, ![1024, 5632]⟩ : Shape).Idx → EReal)
  (D : (⟨2, ![3, 2816]⟩ : Shape).Idx → EReal) (Db : (⟨1, ![2816]⟩ : Shape).Idx → EReal)
  (Wd : (⟨2, ![2816, 1024]⟩ : Shape).Idx → EReal) (fg : (⟨1, ![1024]⟩ : Shape).Idx → EReal)

/-- The modulated row of a position. -/
def hiddenRow (b : Fin 16) (s : Fin 2048) : Fin 1024 → EReal :=
  modulated (fun k => X (ix3 b s k)) (fun k => g (ix1 k)) (fun k => Md (ix3 ⟨b.val, by omega⟩ 4 k)) (fun k => Md (ix3 ⟨b.val, by omega⟩ 3 k))

/-- The gate of a position. -/
def gate (b : Fin 16) (s : Fin 2048) (f : Fin 2816) : EReal := up (hiddenRow X Md g b s) (fun k => Wu (ix2 k ⟨f.val, by omega⟩))

/-- The value of a position. -/
def value (b : Fin 16) (s : Fin 2048) (f : Fin 2816) : EReal := up (hiddenRow X Md g b s) (fun k => Wu (ix2 k ⟨2816 + f.val, by omega⟩))

/-- The gate of the position before, zero before the first. -/
def gateBefore (b : Fin 16) (s : Fin 2048) (f : Fin 2816) : EReal :=
  if h : s.val = 0 then 0 else gate X Md g Wu b ⟨s.val - 1, by omega⟩ f

/-- The gate of the position after, zero after the last. -/
def gateAfter (b : Fin 16) (s : Fin 2048) (f : Fin 2816) : EReal :=
  if h : s.val = 2047 then 0 else gate X Md g Wu b ⟨s.val + 1, by omega⟩ f

/-- The activation of a position. -/
def act (b : Fin 16) (s : Fin 2048) (f : Fin 2816) : EReal :=
  gated (taps (Db (ix1 f)) (gateBefore X Md g Wu b s f) (D (ix2 0 f)) (gate X Md g Wu b s f) (D (ix2 1 f))
    (gateAfter X Md g Wu b s f) (D (ix2 2 f))) (value X Md g Wu b s f)

/-- One entry of the feed-forward block and last normalisation. -/
def ffnAt (b : Fin 16) (s : Fin 2048) (n : Fin 1024) : EReal :=
  normed (resid (fun k => X (ix3 b s k)) (fun k => Md (ix3 ⟨b.val, by omega⟩ 5 k)) (act X Md g Wu D Db b s)
    (fun f k => Wd (ix2 f k))) (fun k => fg (ix1 k)) n

/-- The whole array. -/
def ffn (i : (⟨3, ![16, 2048, 1024]⟩ : Shape).Idx) : EReal := ffnAt X Md g Wu D Db Wd fg (i 0) (i 1) (i 2)

end FeedForward
end
-- ==== Proof.F.Chunk.lean ====
module

public import proofs.«01_k».proof.Proof.Gen.FfnIdeal.Skeleton
public import proofs.«01_k».proof.Proof.F.Reads
public import proofs.«01_k».proof.Proof.F.Spec

/-! What the kernel's operations compute for one chunk of 256 hidden columns. -/

@[expose] public section

set_option maxRecDepth 16384

noncomputable section

namespace Cert.FfnIdeal.Hand
open Cert.FfnIdeal Cert.FfnIdeal.Gen
open Idealize.ShloMosaic Idealize.ShloMosaic.TcCoe Idealize.SL.Sem
open Idealize.ShloMosaic.View (Piece)
open FeedForward

/-- The activation: the taps, the swish and the product with the value. -/
theorem pay15_at (v : FVec Ideal S256x256 .f32) (b d0 d1 d2 : Vec Ideal S1x256 .f32) (a0 a1 a2 : Vec Ideal S256x256 .f32)
    (r n : Fin 256) :
    k0_pay15 v b a0 d0 a1 d1 a2 d2 (ix2 r n)
      = gated (taps (b (ix2 0 n)) (a0 (ix2 r n)) (d0 (ix2 0 n)) (a1 (ix2 r n)) (d1 (ix2 0 n)) (a2 (ix2 r n)) (d2 (ix2 0 n)))
          (v (ix2 r n)) := by
  pointwise [k0_pay15, gated, taps]

/-- The halo of the rows before: the gate's last eight rows, or zeros. -/
theorem pay26_at (b : BitVec 1) (H : FVec Ideal S272x1024 .bf16) (W : Vec Ideal S1024x256 .bf16) (r : Fin 8) (n : Fin 256) :
    k0_pay26 b H W (ix2 r n) = Scalar.select b (up (fun k => H (ix2 ⟨264 + r.val, by omega⟩ k)) (fun k => W (ix2 k n))) (0 : EReal) := by
  pointwise [k0_pay26, k0_pay24, up]

/-- The gate's own rows. -/
theorem pay27_at (H : FVec Ideal S272x1024 .bf16) (W : Vec Ideal S1024x256 .bf16) (r : Fin 256) (n : Fin 256) :
    k0_pay27 H W (ix2 r n) = up (fun k => H (ix2 ⟨r.val, by omega⟩ k)) (fun k => W (ix2 k n)) := by
  pointwise [k0_pay27, k0_pay24, up]

/-- The halo of the rows after. -/
theorem pay28_at (b : BitVec 1) (H : FVec Ideal S272x1024 .bf16) (W : Vec Ideal S1024x256 .bf16) (r : Fin 8) (n : Fin 256) :
    k0_pay28 b H W (ix2 r n) = Scalar.select b (up (fun k => H (ix2 ⟨256 + r.val, by omega⟩ k)) (fun k => W (ix2 k n))) (0 : EReal) := by
  pointwise [k0_pay28, k0_pay24, up]

/-- The rows normalised and modulated. -/
theorem pay7_at (x : Vec Ideal S272x1024 .f32) (g : Vec Ideal S1x1024 .f32) (sc sh : Vec Ideal S1x1x1024 .f32)
    (r : Fin 272) (n : Fin 1024) :
    k0_pay7 x (k0_pay5 g) (k0_pay6 sc) sh (ix2 r n)
      = modulated (fun k => x (ix2 r k)) (fun k => g (ix2 0 k)) (fun k => sc (ix3 0 0 k)) (fun k => sh (ix3 0 0 k)) n := by
  pointwise [k0_pay7, k0_pay5, k0_pay6, modulated, rms]

/-- The value half of the up projection. -/
theorem pay25_at (x : Vec Ideal S272x1024 .f32) (g : FVec Ideal S1x1024 .f32) (sc : FVec Ideal S1x1024 .f32)
    (sh : Vec Ideal S1x1x1024 .f32) (W : Vec Ideal S1024x256 .bf16) (r : Fin 256) (n : Fin 256) :
    k0_pay25 (k0_pay8 x g sc sh) W (ix2 r n)
      = up (fun k => k0_pay7 x g sc sh (ix2 ⟨r.val, by omega⟩ k)) (fun k => W (ix2 k n)) := by
  pointwise [k0_pay25, k0_pay8, up]

/-- The output block: the down projection, the gated residual and the last normalisation. -/
theorem pay90_at (act : Vec Ideal S256x2816 .bf16) (wd : Vec Ideal S2816x1024 .bf16) (x : Vec Ideal S1x256x1024 .f32)
    (md : Vec Ideal S1x1x1024 .f32) (fg : Vec Ideal S1x1024 .f32) (z : Fin 1) (r : Fin 256) (n : Fin 1024) :
    k0_pay1 (k0_pay90 act wd x md fg) (ix3 z r n)
      = normed (resid (fun k => x (ix3 0 r k)) (fun k => md (ix3 0 0 k)) (fun f => act (ix2 r f)) (fun f k => wd (ix2 f k)))
          (fun k => fg (ix2 0 k)) n := by
  pointwise [k0_pay1, k0_pay90, normed, resid, rms]

/-- The gate of the row before a row of the tile: the halo's last row before the first, if there is one. -/
def gatePrev (b : BitVec 1) (g : Fin 272 → EReal) (r : Fin 256) : EReal :=
  if h : r.val = 0 then Scalar.select b (g 271) 0 else g ⟨r.val - 1, by omega⟩

/-- The gate of the row after a row of the tile. -/
def gateNext (b : BitVec 1) (g : Fin 272 → EReal) (r : Fin 256) : EReal :=
  if h : r.val = 255 then Scalar.select b (g 256) 0 else g ⟨r.val + 1, by omega⟩

/-- The activation of one row and hidden column from the modulated rows of the tile and its halos. -/
def actAt (b2 b5 : BitVec 1) (H : Fin 272 → Fin 1024 → EReal) (wg wv : Fin 1024 → EReal) (d0 d1 d2 b : EReal) (r : Fin 256) : EReal :=
  gated (taps b (gatePrev b2 (fun s => up (H s) wg) r) d0 (up (H ⟨r.val, by omega⟩) wg) d1
    (gateNext b5 (fun s => up (H s) wg) r) d2) (up (H ⟨r.val, by omega⟩) wv)

/-- The rows the kernel normalises: the tile's, then the eight after it, then the eight before it. -/
def haloRows (x0 : Vec Ideal S1x256x1024 .f32) (x1 x2 : Vec Ideal S1x8x1024 .f32) (s : Fin 272) (k : Fin 1024) : EReal :=
  if h : s.val < 256 then x0 (ix3 0 ⟨s.val, h⟩ k)
  else if h' : s.val < 264 then x2 (ix3 0 ⟨s.val - 256, by omega⟩ k) else x1 (ix3 0 ⟨s.val - 264, by omega⟩ k)

/-- The scratch matrix of rows, written in three pieces, read whole. -/
theorem xw_at {κ : Kind} {sp : Space} (v : View sig κ sp S272x1024 .f32) (x0 : Vec Ideal S1x256x1024 .f32) (x1 x2 : Vec Ideal S1x8x1024 .f32)
    (e0 : ∀ a, (![0, 0] : Fin 2 → ℕ) a + (![256, 1024] : Fin 2 → ℕ) a ≤ S272x1024.size a)
    (e1 : ∀ a, (![256, 0] : Fin 2 → ℕ) a + (![8, 1024] : Fin 2 → ℕ) a ≤ S272x1024.size a)
    (e2 : ∀ a, (![264, 0] : Fin 2 → ℕ) a + (![8, 1024] : Fin 2 → ℕ) a ≤ S272x1024.size a)
    (e : ∀ a, (![0, 0] : Fin 2 → ℕ) a + (![272, 1024] : Fin 2 → ℕ) a ≤ S272x1024.size a) (s : Fin 272) (k : Fin 1024) :
    v.readCov (Val := Elt Ideal) [⟨Rect.unit (s := S272x1024) ![264, 0] ![8, 1024] e2, k0_pay4 x1⟩,
        ⟨Rect.unit (s := S272x1024) ![256, 0] ![8, 1024] e1, k0_pay3 x2⟩,
        ⟨Rect.unit (s := S272x1024) ![0, 0] ![256, 1024] e0, k0_pay2 x0⟩]
      (Rect.unit (s := S272x1024) ![0, 0] ![272, 1024] e).toLoadRect (ix2 s k) = haloRows x0 x1 x2 s k := by
  have hs := s.isLt
  have p2 (r : Fin 256) : k0_pay2 x0 (ix2 r k) = x0 (ix3 0 r k) := by pointwise [k0_pay2]
  have p3 (r : Fin 8) : k0_pay3 x2 (ix2 r k) = x2 (ix3 0 r k) := by pointwise [k0_pay3]
  have p4 (r : Fin 8) : k0_pay4 x1 (ix2 r k) = x1 (ix3 0 r k) := by pointwise [k0_pay4]
  unfold haloRows
  rw [Blocks.readCov_at v _ e s k s k (by simp) (by simp)]
  split_ifs with h h'
  · rw [Blocks.canon_off e2 _ _ _ _ (by omega), Blocks.canon_off e1 _ _ _ _ (by omega),
      Blocks.canon_at e0 _ _ _ _ ⟨s.val, h⟩ k (by simp) (by simp), p2]
  · rw [Blocks.canon_off e2 _ _ _ _ (by omega),
      Blocks.canon_at e1 _ _ _ _ ⟨s.val - 256, by omega⟩ k (by simp; omega) (by simp), p3]
  · rw [Blocks.canon_at e2 _ _ _ _ ⟨s.val - 264, by omega⟩ k (by simp; omega) (by simp), p4]

variable {κ : Kind} {sp : Space} {C : ℕ}

/-- One chunk of the activations, written as the kernel writes it: the gate goes through a scratch matrix. -/
theorem act_chunk (hC : C + 256 ≤ 2816) (v : View sig κ sp S272x2816 .f32) (L : List (Piece (Elt Ideal) S272x2816 .f32))
    (b2 b5 : BitVec 1) (X : Vec Ideal S272x1024 .f32) (g : FVec Ideal S1x1024 .f32) (sc : FVec Ideal S1x1024 .f32)
    (sh : Vec Ideal S1x1x1024 .f32) (x5 x6 : Vec Ideal S1024x2816 .bf16) (x8 : Vec Ideal S3x2816 .f32) (x9 : Vec Ideal S1x2816 .f32)
    (eW : ∀ a, (![0, C] : Fin 2 → ℕ) a + (![1024, 256] : Fin 2 → ℕ) a ≤ S1024x2816.size a)
    (eB : ∀ a, (![0, C] : Fin 2 → ℕ) a + (![1, 256] : Fin 2 → ℕ) a ≤ S1x2816.size a)
    (eD0 : ∀ a, (![0, C] : Fin 2 → ℕ) a + (![1, 256] : Fin 2 → ℕ) a ≤ S3x2816.size a)
    (eD1 : ∀ a, (![1, C] : Fin 2 → ℕ) a + (![1, 256] : Fin 2 → ℕ) a ≤ S3x2816.size a)
    (eD2 : ∀ a, (![2, C] : Fin 2 → ℕ) a + (![1, 256] : Fin 2 → ℕ) a ≤ S3x2816.size a)
    (eP : ∀ a, (![0, C] : Fin 2 → ℕ) a + (![8, 256] : Fin 2 → ℕ) a ≤ S272x2816.size a)
    (eM : ∀ a, (![8, C] : Fin 2 → ℕ) a + (![256, 256] : Fin 2 → ℕ) a ≤ S272x2816.size a)
    (eN : ∀ a, (![264, C] : Fin 2 → ℕ) a + (![8, 256] : Fin 2 → ℕ) a ≤ S272x2816.size a)
    (e7 : ∀ a, (![7, C] : Fin 2 → ℕ) a + (![256, 256] : Fin 2 → ℕ) a ≤ S272x2816.size a)
    (e9 : ∀ a, (![9, C] : Fin 2 → ℕ) a + (![256, 256] : Fin 2 → ℕ) a ≤ S272x2816.size a)
    (r n : Fin 256) :
    k0_pay15 (k0_pay25 (k0_pay8 X g sc sh) (View.ld x6 (Rect.unit (s := S1024x2816) ![0, C] ![1024, 256] eW)))
      (View.ld x9 (Rect.unit (s := S1x2816) ![0, C] ![1, 256] eB))
      (v.readCov (⟨Rect.unit (s := S272x2816) ![264, C] ![8, 256] eN, k0_pay28 b5 (k0_pay7 X g sc sh) (View.ld x5 (Rect.unit (s := S1024x2816) ![0, C] ![1024, 256] eW))⟩
        :: ⟨Rect.unit (s := S272x2816) ![8, C] ![256, 256] eM, k0_pay27 (k0_pay7 X g sc sh) (View.ld x5 (Rect.unit (s := S1024x2816) ![0, C] ![1024, 256] eW))⟩
        :: ⟨Rect.unit (s := S272x2816) ![0, C] ![8, 256] eP, k0_pay26 b2 (k0_pay7 X g sc sh) (View.ld x5 (Rect.unit (s := S1024x2816) ![0, C] ![1024, 256] eW))⟩ :: L)
        (Rect.unit (s := S272x2816) ![7, C] ![256, 256] e7).toLoadRect)
      (View.ld x8 (Rect.unit (s := S3x2816) ![0, C] ![1, 256] eD0))
      (v.readCov (⟨Rect.unit (s := S272x2816) ![264, C] ![8, 256] eN, k0_pay28 b5 (k0_pay7 X g sc sh) (View.ld x5 (Rect.unit (s := S1024x2816) ![0, C] ![1024, 256] eW))⟩
        :: ⟨Rect.unit (s := S272x2816) ![8, C] ![256, 256] eM, k0_pay27 (k0_pay7 X g sc sh) (View.ld x5 (Rect.unit (s := S1024x2816) ![0, C] ![1024, 256] eW))⟩
        :: ⟨Rect.unit (s := S272x2816) ![0, C] ![8, 256] eP, k0_pay26 b2 (k0_pay7 X g sc sh) (View.ld x5 (Rect.unit (s := S1024x2816) ![0, C] ![1024, 256] eW))⟩ :: L)
        (Rect.unit (s := S272x2816) ![8, C] ![256, 256] eM).toLoadRect)
      (View.ld x8 (Rect.unit (s := S3x2816) ![1, C] ![1, 256] eD1))
      (v.readCov (⟨Rect.unit (s := S272x2816) ![264, C] ![8, 256] eN, k0_pay28 b5 (k0_pay7 X g sc sh) (View.ld x5 (Rect.unit (s := S1024x2816) ![0, C] ![1024, 256] eW))⟩
        :: ⟨Rect.unit (s := S272x2816) ![8, C] ![256, 256] eM, k0_pay27 (k0_pay7 X g sc sh) (View.ld x5 (Rect.unit (s := S1024x2816) ![0, C] ![1024, 256] eW))⟩
        :: ⟨Rect.unit (s := S272x2816) ![0, C] ![8, 256] eP, k0_pay26 b2 (k0_pay7 X g sc sh) (View.ld x5 (Rect.unit (s := S1024x2816) ![0, C] ![1024, 256] eW))⟩ :: L)
        (Rect.unit (s := S272x2816) ![9, C] ![256, 256] e9).toLoadRect)
      (View.ld x8 (Rect.unit (s := S3x2816) ![2, C] ![1, 256] eD2)) (ix2 r n)
      = actAt b2 b5 (fun s k => k0_pay7 X g sc sh (ix2 s k)) (fun k => x5 (ix2 k ⟨C + n.val, by omega⟩))
          (fun k => x6 (ix2 k ⟨C + n.val, by omega⟩)) (x8 (ix2 0 ⟨C + n.val, by omega⟩)) (x8 (ix2 1 ⟨C + n.val, by omega⟩))
          (x8 (ix2 2 ⟨C + n.val, by omega⟩)) (x9 (ix2 0 ⟨C + n.val, by omega⟩)) r := by
  have hn := n.isLt
  have hr := r.isLt
  have w5 (k : Fin 1024) := Blocks.ld_at x5 eW k n k ⟨C + n.val, by omega⟩ (by omega) rfl
  have w6 (k : Fin 1024) := Blocks.ld_at x6 eW k n k ⟨C + n.val, by omega⟩ (by omega) rfl
  rw [pay15_at, pay25_at]
  unfold actAt
  rw [Blocks.ld_at x9 eB 0 n 0 ⟨C + n.val, by omega⟩ rfl rfl, Blocks.ld_at x8 eD0 0 n 0 ⟨C + n.val, by omega⟩ rfl rfl,
    Blocks.ld_at x8 eD1 0 n 1 ⟨C + n.val, by omega⟩ rfl rfl, Blocks.ld_at x8 eD2 0 n 2 ⟨C + n.val, by omega⟩ rfl rfl]
  simp only [w6]
  generalize hg : (fun s : Fin 272 => up (fun k => k0_pay7 X g sc sh (ix2 s k)) (fun k => x5 (ix2 k ⟨C + n.val, by omega⟩))) = G
  have hG (s : Fin 272) : up (fun k => k0_pay7 X g sc sh (ix2 s k))
      (fun k => View.ld x5 (Rect.unit (s := S1024x2816) ![0, C] ![1024, 256] eW) (ix2 k n)) = G s := by
    rw [← hg]; simp only [w5]
  have hG' (s : Fin 272) : up (fun k => k0_pay7 X g sc sh (ix2 s k))
      (fun k => x5 (ix2 k ⟨C + n.val, by omega⟩)) = G s := by
    rw [← hg]
  rw [hG']
  congr 2
  · by_cases h0 : r.val = 0
    · refine Eq.trans ?_ (dif_pos h0).symm
      rw [Blocks.readCov_at v _ e7 r n ⟨7, by omega⟩ ⟨C + n.val, by omega⟩ (by simp [h0]) rfl,
        Blocks.canon_off eN _ _ _ _ (by simp), Blocks.canon_off eM _ _ _ _ (by simp),
        Blocks.canon_at eP _ _ _ _ ⟨7, by omega⟩ n (by simp) rfl, pay26_at, hG]
      rfl
    · refine Eq.trans ?_ (dif_neg h0).symm
      rw [Blocks.readCov_at v _ e7 r n ⟨7 + r.val, by omega⟩ ⟨C + n.val, by omega⟩ rfl rfl,
        Blocks.canon_off eN _ _ _ _ (by simp; omega),
        Blocks.canon_at eM _ _ _ _ ⟨r.val - 1, by omega⟩ n (by simp; omega) rfl, pay27_at, hG]
  · rw [Blocks.readCov_at v _ eM r n ⟨8 + r.val, by omega⟩ ⟨C + n.val, by omega⟩ rfl rfl,
        Blocks.canon_off eN _ _ _ _ (by simp; omega),
        Blocks.canon_at eM _ _ _ _ r n rfl rfl, pay27_at, hG]
  · by_cases h0 : r.val = 255
    · refine Eq.trans ?_ (dif_pos h0).symm
      rw [Blocks.readCov_at v _ e9 r n ⟨264, by omega⟩ ⟨C + n.val, by omega⟩ (by simp [h0]) rfl,
        Blocks.canon_at eN _ _ _ _ ⟨0, by omega⟩ n (by simp) rfl, pay28_at, hG]
      rfl
    · refine Eq.trans ?_ (dif_neg h0).symm
      rw [Blocks.readCov_at v _ e9 r n ⟨9 + r.val, by omega⟩ ⟨C + n.val, by omega⟩ rfl rfl,
        Blocks.canon_off eN _ _ _ _ (by simp; omega),
        Blocks.canon_at eM _ _ _ _ ⟨r.val + 1, by omega⟩ n (by simp; omega) rfl, pay27_at, hG]

end Cert.FfnIdeal.Hand
end
-- ==== Proof.F.Block.lean ====
module

public import proofs.«01_k».proof.Proof.Gen.FfnIdeal.Value
public import proofs.«01_k».proof.Proof.F.Chunk
public import Idealize.ShloMosaic.Lib.Pipeline.ValueKit

/-! What one grid point of the kernel writes, from the blocks it reads. -/

@[expose] public section

set_option maxRecDepth 16384

noncomputable section

namespace Cert.FfnIdeal.Hand
open Cert.FfnIdeal Cert.FfnIdeal.Gen
open Idealize.ShloMosaic Idealize.ShloMosaic.TcCoe Idealize.SL.Sem
open FeedForward

variable (m : (ℓ : Loc nD τ sig) → Buf (Elt Ideal) ℓ)

/-- Whether there are rows before the tile, as the kernel computes it. -/
abbrev bitPrev (i : Fin 8) : BitVec 1 :=
  Scalar.andi (Scalar.cmpi .ne (BitVec.ofNat 32 i.val) 0#32) (Scalar.cmpi .ne (BitVec.ofNat 32 i.val) 8#32)

/-- Whether there are rows after the tile, as the kernel computes it. -/
abbrev bitNext (i : Fin 8) : BitVec 1 :=
  Scalar.andi (Scalar.cmpi .ne (BitVec.ofNat 32 i.val) 7#32) (Scalar.cmpi .ne (BitVec.ofNat 32 i.val) 8#32)

/-- One entry of the written block, from the blocks a grid point reads. -/
def blockAt (i : Fin 8) (x0 : Vec Ideal S1x256x1024 .f32) (x1 x2 : Vec Ideal S1x8x1024 .f32) (x3 : Vec Ideal S1x6x1024 .f32)
    (x4 : Vec Ideal S1x1024 .f32) (x5 x6 : Vec Ideal S1024x2816 .bf16) (x7 : Vec Ideal S2816x1024 .bf16)
    (x8 : Vec Ideal S3x2816 .f32) (x9 : Vec Ideal S1x2816 .f32) (x10 : Vec Ideal S1x1024 .f32) (r : Fin 256) (n : Fin 1024) : EReal :=
  normed (resid (fun k => x0 (ix3 0 r k)) (fun k => x3 (ix3 0 5 k))
    (fun f => actAt (bitPrev i) (bitNext i)
      (fun s => modulated (haloRows x0 x1 x2 s) (fun k => x4 (ix2 0 k)) (fun k => x3 (ix3 0 4 k)) (fun k => x3 (ix3 0 3 k)))
      (fun k => x5 (ix2 k f)) (fun k => x6 (ix2 k f)) (x8 (ix2 0 f)) (x8 (ix2 1 f)) (x8 (ix2 2 f)) (x9 (ix2 0 f)) r)
    (fun f k => x7 (ix2 f k))) (fun k => x10 (ix2 0 k)) n

/-- One row of the conditioning block. -/
theorem modRow (x : Vec Ideal S1x6x1024 .f32) (q : Fin 6)
    (e : ∀ a, (![0, q.val, 0] : Fin 3 → ℕ) a + (![1, 1, 1024] : Fin 3 → ℕ) a ≤ S1x6x1024.size a) (k : Fin 1024) :
    View.ld (Val := Elt Ideal) (e' := .f32) x (Rect.unit (s := S1x6x1024) ![0, q.val, 0] ![1, 1, 1024] e) (ix3 0 0 k) = x (ix3 0 q k) := by
  refine congrArg x ?_
  funext z
  fin_cases z
  · rfl
  · exact Fin.ext ((Rect.emb_apply _ _ _).trans (by show q.val + 1 * 0 = q.val; omega))
  · exact Fin.ext ((Rect.emb_apply _ _ _).trans (by show 0 + 1 * k.val = k.val; omega))

/-- The block a grid point leaves in its output buffer, entry by entry. -/
theorem outs_at (c : Dev nD) (t : Fin cfg0.N) (r : Fin 256) (n : Fin 1024) :
    outsAt0 m c t (ix3 0 r n) = blockAt (grid0.coords t 1) (iblk m c 0 t) (iblk m c 1 t) (iblk m c 2 t) (iblk m c 3 t) (iblk m c 4 t)
      (iblk m c 5 t) (iblk m c 6 t) (iblk m c 7 t) (iblk m c 8 t) (iblk m c 9 t) (iblk m c 10 t) r n := by
  have hX := xw_at (View.whole (sig := sig) cc0_scratch0) (iblk m c 0 t) (iblk m c 1 t) (iblk m c 2 t)
    inb_S272x1024_S256x1024_0_0 inb_S272x1024_S8x1024_256_0 inb_S272x1024_S8x1024_264_0 inb_S272x1024_S272x1024_0_0
  unfold outsAt0
  frame_out
  rw [pay90_at]
  revert hX
  generalize (View.whole cc0_scratch0).readCov (Val := Elt Ideal) _ _ = X
  intro hX
  unfold blockAt
  congr 2
  · funext k
    exact modRow _ 5 _ k
  · funext f
    have hH (s : Fin 272) : (fun k => k0_pay7 X (k0_pay5 (iblk m c 4 t))
        (k0_pay6 (View.ld (iblk m c 3 t) (Rect.unit ![0, 4, 0] ![1, 1, 1024] inb_S1x6x1024_S1x1x1024_0_4_0)))
        (View.ld (iblk m c 3 t) (Rect.unit ![0, 3, 0] ![1, 1, 1024] inb_S1x6x1024_S1x1x1024_0_3_0)) (ix2 s k))
        = modulated (haloRows (iblk m c 0 t) (iblk m c 1 t) (iblk m c 2 t) s) (fun k => iblk m c 4 t (ix2 0 k))
            (fun k => iblk m c 3 t (ix3 0 4 k)) (fun k => iblk m c 3 t (ix3 0 3 k)) := by
      funext k
      rw [pay7_at]
      have e1 : (fun k => X (ix2 s k)) = haloRows (iblk m c 0 t) (iblk m c 1 t) (iblk m c 2 t) s := funext fun k => hX s k
      rw [e1]
      congr 1 <;> funext k
      · exact modRow _ 4 _ k
      · exact modRow _ 3 _ k
    simp only [← hH]
    rw [Blocks.readCov_at _ _ _ r f r f (by simp) (by simp)]
    have hf := f.isLt
    let G : Fin 256 → Fin 2816 → EReal := fun r f => actAt (bitPrev (grid0.coords t 1)) (bitNext (grid0.coords t 1))
      (fun s k => k0_pay7 X (k0_pay5 (iblk m c 4 t))
        (k0_pay6 (View.ld (iblk m c 3 t) (Rect.unit ![0, 4, 0] ![1, 1, 1024] inb_S1x6x1024_S1x1x1024_0_4_0)))
        (View.ld (iblk m c 3 t) (Rect.unit ![0, 3, 0] ![1, 1, 1024] inb_S1x6x1024_S1x1x1024_0_3_0)) (ix2 s k))
      (fun k => iblk m c 5 t (ix2 k f)) (fun k => iblk m c 6 t (ix2 k f)) (iblk m c 8 t (ix2 0 f)) (iblk m c 8 t (ix2 1 f))
      (iblk m c 8 t (ix2 2 f)) (iblk m c 9 t (ix2 0 f)) r
    show _ = G r f
    refine Blocks.canon_step (Val := Elt Ideal) (e := .bf16) (b := 2560) (q := 256) _ _ _ G r f (by omega) (fun n hn => ?_) fun hf => ?_
    · obtain rfl : f = ⟨2560 + n.val, (Nat.add_lt_add_left n.isLt _).trans_le (by decide)⟩ := Fin.ext hn
      exact act_chunk (C := 2560) (by omega) _ _ _ _ X _ _ _ _ _ _ _ _ _ _ _ _ _ _ _ _ _ r n
    refine Blocks.canon_step (Val := Elt Ideal) (e := .bf16) (b := 2304) (q := 256) _ _ _ G r f (by omega) (fun n hn => ?_) fun hf => ?_
    · obtain rfl : f = ⟨2304 + n.val, (Nat.add_lt_add_left n.isLt _).trans_le (by decide)⟩ := Fin.ext hn
      exact act_chunk (C := 2304) (by omega) _ _ _ _ X _ _ _ _ _ _ _ _ _ _ _ _ _ _ _ _ _ r n
    refine Blocks.canon_step (Val := Elt Ideal) (e := .bf16) (b := 2048) (q := 256) _ _ _ G r f (by omega) (fun n hn => ?_) fun hf => ?_
    · obtain rfl : f = ⟨2048 + n.val, (Nat.add_lt_add_left n.isLt _).trans_le (by decide)⟩ := Fin.ext hn
      exact act_chunk (C := 2048) (by omega) _ _ _ _ X _ _ _ _ _ _ _ _ _ _ _ _ _ _ _ _ _ r n
    refine Blocks.canon_step (Val := Elt Ideal) (e := .bf16) (b := 1792) (q := 256) _ _ _ G r f (by omega) (fun n hn => ?_) fun hf => ?_
    · obtain rfl : f = ⟨1792 + n.val, (Nat.add_lt_add_left n.isLt _).trans_le (by decide)⟩ := Fin.ext hn
      exact act_chunk (C := 1792) (by omega) _ _ _ _ X _ _ _ _ _ _ _ _ _ _ _ _ _ _ _ _ _ r n
    refine Blocks.canon_step (Val := Elt Ideal) (e := .bf16) (b := 1536) (q := 256) _ _ _ G r f (by omega) (fun n hn => ?_) fun hf => ?_
    · obtain rfl : f = ⟨1536 + n.val, (Nat.add_lt_add_left n.isLt _).trans_le (by decide)⟩ := Fin.ext hn
      exact act_chunk (C := 1536) (by omega) _ _ _ _ X _ _ _ _ _ _ _ _ _ _ _ _ _ _ _ _ _ r n
    refine Blocks.canon_step (Val := Elt Ideal) (e := .bf16) (b := 1280) (q := 256) _ _ _ G r f (by omega) (fun n hn => ?_) fun hf => ?_
    · obtain rfl : f = ⟨1280 + n.val, (Nat.add_lt_add_left n.isLt _).trans_le (by decide)⟩ := Fin.ext hn
      exact act_chunk (C := 1280) (by omega) _ _ _ _ X _ _ _ _ _ _ _ _ _ _ _ _ _ _ _ _ _ r n
    refine Blocks.canon_step (Val := Elt Ideal) (e := .bf16) (b := 1024) (q := 256) _ _ _ G r f (by omega) (fun n hn => ?_) fun hf => ?_
    · obtain rfl : f = ⟨1024 + n.val, (Nat.add_lt_add_left n.isLt _).trans_le (by decide)⟩ := Fin.ext hn
      exact act_chunk (C := 1024) (by omega) _ _ _ _ X _ _ _ _ _ _ _ _ _ _ _ _ _ _ _ _ _ r n
    refine Blocks.canon_step (Val := Elt Ideal) (e := .bf16) (b := 768) (q := 256) _ _ _ G r f (by omega) (fun n hn => ?_) fun hf => ?_
    · obtain rfl : f = ⟨768 + n.val, (Nat.add_lt_add_left n.isLt _).trans_le (by decide)⟩ := Fin.ext hn
      exact act_chunk (C := 768) (by omega) _ _ _ _ X _ _ _ _ _ _ _ _ _ _ _ _ _ _ _ _ _ r n
    refine Blocks.canon_step (Val := Elt Ideal) (e := .bf16) (b := 512) (q := 256) _ _ _ G r f (by omega) (fun n hn => ?_) fun hf => ?_
    · obtain rfl : f = ⟨512 + n.val, (Nat.add_lt_add_left n.isLt _).trans_le (by decide)⟩ := Fin.ext hn
      exact act_chunk (C := 512) (by omega) _ _ _ _ X _ _ _ _ _ _ _ _ _ _ _ _ _ _ _ _ _ r n
    refine Blocks.canon_step (Val := Elt Ideal) (e := .bf16) (b := 256) (q := 256) _ _ _ G r f (by omega) (fun n hn => ?_) fun hf => ?_
    · obtain rfl : f = ⟨256 + n.val, (Nat.add_lt_add_left n.isLt _).trans_le (by decide)⟩ := Fin.ext hn
      exact act_chunk (C := 256) (by omega) _ _ _ _ X _ _ _ _ _ _ _ _ _ _ _ _ _ _ _ _ _ r n
    refine Blocks.canon_step (Val := Elt Ideal) (e := .bf16) (b := 0) (q := 256) _ _ _ G r f (by omega) (fun n hn => ?_) fun hf => ?_
    · obtain rfl : f = ⟨0 + n.val, (Nat.add_lt_add_left n.isLt _).trans_le (by decide)⟩ := Fin.ext hn
      exact act_chunk (C := 0) (by omega) _ _ _ _ X _ _ _ _ _ _ _ _ _ _ _ _ _ _ _ _ _ r n
    omega

end Cert.FfnIdeal.Hand
end
-- ==== Proof.F.Final.lean ====
module

public import proofs.«01_k».proof.Proof.F.Block

/-! What the kernel leaves in its result. -/

@[expose] public section

set_option maxRecDepth 16384

noncomputable section

namespace Cert.FfnIdeal.Hand
open Cert.FfnIdeal Cert.FfnIdeal.Gen
open Idealize.ShloMosaic Idealize.ShloMosaic.TcCoe Idealize.SL.Sem
open Idealize.ShloMosaic.Pipeline (Dat)
open FeedForward

variable (m : (ℓ : Loc nD τ sig) → Buf (Elt Ideal) ℓ)

/-- Where each window's block lies at a grid point, and the grid coordinate along the positions. -/
theorem idx : ∀ t : Fin cfg0.N, win0_0.index t = ![t.val / 8, t.val % 8, 0]
    ∧ win0_1.index t = ![t.val / 8, t.val % 8 * 32 - 1, 0]
    ∧ win0_2.index t = ![t.val / 8, min ((t.val % 8 + 1) * 32) 255, 0]
    ∧ win0_3.index t = ![t.val / 8, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val / 8, t.val % 8, 0]
    ∧ (grid0.coords t 1).val = t.val % 8 :=
  (by decide +kernel : ∀ t : Fin grid0.N, _)

/-- The batch of a grid point. -/
def bat (t : Fin cfg0.N) : Fin 16 := ⟨t.val / 8, by have := t.isLt; simp only [(by decide : cfg0.N = 128)] at this; omega⟩

/-- The position of a row of the tile of a grid point. -/
def pos (t : Fin cfg0.N) (r : Fin 256) : Fin 2048 := ⟨t.val % 8 * 256 + r.val, by omega⟩

/-- Where an element of the written block lies in the array. -/
theorem emb11 (t : Fin cfg0.N) (r : Fin 256) (n : Fin 1024) :
    (((cfg0.win 11).blk t).view.emb (ix3 0 r n)) = (ix3 (bat t) (pos t r) n : S16x2048x1024.Idx) := by
  unfold bat pos
  blk_ext [idx t]

/-- The tile's rows, read in the array. -/
theorem blk0 (c : Dev nD) (t : Fin cfg0.N) (r : Fin 256) (n : Fin 1024) :
    iblk m c 0 t (ix3 0 r n) = m ((c : Thread nD τ).loc main_arg0) (ix3 (bat t) (pos t r) n : S16x2048x1024.Idx) := by
  unfold bat pos
  blk_ext [iblk, V, idx t]

/-- The eight rows before the tile, read in the array. -/
theorem blk1 (c : Dev nD) (t : Fin cfg0.N) (r : Fin 8) (n : Fin 1024) :
    iblk m c 1 t (ix3 0 r n) = m ((c : Thread nD τ).loc main_arg0)
      (ix3 (bat t) ⟨(t.val % 8 * 32 - 1) * 8 + r.val, by omega⟩ n : S16x2048x1024.Idx) := by
  unfold bat
  blk_ext [iblk, V, idx t]

/-- The eight rows after the tile, read in the array. -/
theorem blk2 (c : Dev nD) (t : Fin cfg0.N) (r : Fin 8) (n : Fin 1024) :
    iblk m c 2 t (ix3 0 r n) = m ((c : Thread nD τ).loc main_arg0)
      (ix3 (bat t) ⟨min ((t.val % 8 + 1) * 32) 255 * 8 + r.val, by omega⟩ n : S16x2048x1024.Idx) := by
  unfold bat
  blk_ext [iblk, V, idx t]

/-- The conditioning block, read in the array. -/
theorem blk3 (c : Dev nD) (t : Fin cfg0.N) (q : Fin 6) (n : Fin 1024) :
    iblk m c 3 t (ix3 0 q n) = m ((c : Thread nD τ).loc main_arg1)
      (ix3 ⟨(bat t).val, by omega⟩ q n : S24x6x1024.Idx) := by
  unfold bat
  blk_ext [iblk, V, idx t]

/-- The taps, read in the array. -/
theorem blk8 (c : Dev nD) (t : Fin cfg0.N) (q : Fin 3) (n : Fin 2816) :
    iblk m c 8 t (ix2 q n) = m ((c : Thread nD τ).loc main_arg4) (ix2 q n : S3x2816.Idx) := by
  blk_ext [iblk, V, idx t]

/-- The norm's weights, read in the argument they were reshaped from. -/
theorem blk4 (c : Dev nD) (t : Fin cfg0.N) (n : Fin 1024) :
    iblk m c 4 t (ix2 0 n) = m ((c : Thread nD τ).loc main_arg2) (ix1 n : S1024.Idx) := by
  blk_point [iblk, V, idx t]

/-- The gate half of the up projection, read in the argument it was cut from. -/
theorem blk5 (c : Dev nD) (t : Fin cfg0.N) (k : Fin 1024) (n : Fin 2816) :
    iblk m c 5 t (ix2 k n) = m ((c : Thread nD τ).loc main_arg3) (ix2 k ⟨n.val, by omega⟩ : S1024x5632.Idx) := by
  blk_point [iblk, V, idx t]

/-- The value half of the up projection, read in the argument it was cut from. -/
theorem blk6 (c : Dev nD) (t : Fin cfg0.N) (k : Fin 1024) (n : Fin 2816) :
    iblk m c 6 t (ix2 k n) = m ((c : Thread nD τ).loc main_arg3) (ix2 k ⟨2816 + n.val, by omega⟩ : S1024x5632.Idx) := by
  blk_point [iblk, V, idx t]

/-- The down projection, read in the argument. -/
theorem blk7 (c : Dev nD) (t : Fin cfg0.N) (k : Fin 2816) (n : Fin 1024) :
    iblk m c 7 t (ix2 k n) = m ((c : Thread nD τ).loc main_arg6) (ix2 k n : S2816x1024.Idx) := by
  blk_point [iblk, V, idx t]

/-- The taps' bias, read in the argument it was reshaped from. -/
theorem blk9 (c : Dev nD) (t : Fin cfg0.N) (n : Fin 2816) :
    iblk m c 9 t (ix2 0 n) = m ((c : Thread nD τ).loc main_arg5) (ix1 n : S2816.Idx) := by
  blk_point [iblk, V, idx t]

/-- The last norm's weights, read in the argument they were reshaped from. -/
theorem blk10 (c : Dev nD) (t : Fin cfg0.N) (n : Fin 1024) :
    iblk m c 10 t (ix2 0 n) = m ((c : Thread nD τ).loc main_arg7) (ix1 n : S1024.Idx) := by
  blk_point [iblk, V, idx t]

/-- A modulated row of the tile or of its halos is the modulated row of its position. -/
theorem hiddenRow_at (c : Dev nD) (t : Fin cfg0.N) (s : Fin 272) (u : Fin 2048)
    (h0 : s.val < 256 → u.val = t.val % 8 * 256 + s.val)
    (h1 : 256 ≤ s.val → s.val < 264 → u.val = min ((t.val % 8 + 1) * 32) 255 * 8 + (s.val - 256))
    (h2 : 264 ≤ s.val → u.val = (t.val % 8 * 32 - 1) * 8 + (s.val - 264)) :
    modulated (haloRows (iblk m c 0 t) (iblk m c 1 t) (iblk m c 2 t) s) (fun k => iblk m c 4 t (ix2 0 k))
        (fun k => iblk m c 3 t (ix3 0 4 k)) (fun k => iblk m c 3 t (ix3 0 3 k))
      = hiddenRow (m ((c : Thread nD τ).loc main_arg0)) (m ((c : Thread nD τ).loc main_arg1)) (m ((c : Thread nD τ).loc main_arg2)) (bat t) u := by
  have hs := s.isLt
  have e : haloRows (iblk m c 0 t) (iblk m c 1 t) (iblk m c 2 t) s
      = fun k => m ((c : Thread nD τ).loc main_arg0) (ix3 (bat t) u k : S16x2048x1024.Idx) := by
    funext k
    unfold haloRows
    split_ifs with h h'
    · rw [blk0]
      exact congrArg (fun w => m ((c : Thread nD τ).loc main_arg0) (ix3 (bat t) w k : S16x2048x1024.Idx)) (Fin.ext (h0 h).symm)
    · rw [blk2]
      exact congrArg (fun w => m ((c : Thread nD τ).loc main_arg0) (ix3 (bat t) w k : S16x2048x1024.Idx)) (Fin.ext (h1 (by omega) h').symm)
    · rw [blk1]
      exact congrArg (fun w => m ((c : Thread nD τ).loc main_arg0) (ix3 (bat t) w k : S16x2048x1024.Idx)) (Fin.ext (h2 (by omega)).symm)
  rw [e]
  unfold hiddenRow
  simp only [blk3, blk4]

theorem select_zero (a b : EReal) : Scalar.select (0#1) a b = b := rfl
theorem select_one (a b : EReal) : Scalar.select (1#1) a b = a := rfl
theorem bitPrev_zero : ∀ i : Fin 8, i.val = 0 → bitPrev i = 0#1 := by decide
theorem bitPrev_pos : ∀ i : Fin 8, i.val ≠ 0 → bitPrev i = 1#1 := by decide
theorem bitNext_last : ∀ i : Fin 8, i.val = 7 → bitNext i = 0#1 := by decide
theorem bitNext_lt : ∀ i : Fin 8, i.val ≠ 7 → bitNext i = 1#1 := by decide

/-- The array after the run is the feed-forward array. -/
theorem final (c : Dev nD) : (dats m 0 c).arrAt 11 (cfgs 0).N
    = ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 11 _ (by decide +kernel) fun t _ y => ?_
  blk_simp
  rw [after0_11]
  idx_vars y
  obtain rfl : y0 = 0 := Subsingleton.elim _ _
  obtain ⟨i, hi, hv⟩ : ∃ i : Fin 8, @Eq (Fin 8) (grid0.coords t 1) i ∧ i.val = t.val % 8 :=
    ⟨grid0.coords t 1, rfl, (idx t).2.2.2.2.2.2.2.2.2.2.2.2⟩
  refine (outs_at m c t y1 y2).trans ((congrArg (fun i : Fin 8 => blockAt i _ _ _ _ _ _ _ _ _ _ _ y1 y2) hi).trans ?_)
  refine Eq.trans ?_ (congrArg (ffn _ _ _ _ _ _ _ _) (emb11 t y1 y2)).symm
  show _ = ffnAt _ _ _ _ _ _ _ _ (bat t) (pos t y1) y2
  have hy := y1.isLt
  unfold blockAt ffnAt
  simp only [blk0, blk3, blk5, blk6, blk7, blk8, blk9, blk10]
  congr 2
  funext f
  unfold act actAt
  have hrow := hiddenRow_at m c t ⟨y1.val, by omega⟩ (pos t y1) (fun _ => rfl) (fun h => absurd h (by simp <;> omega))
    (fun h => absurd h (by simp <;> omega))
  simp only [blk3] at hrow
  beta_reduce
  rw [hrow]
  unfold value gate
  congr 2
  · unfold gatePrev gateBefore
    by_cases h : y1.val = 0
    · refine (dif_pos h).trans ?_
      by_cases hz : t.val % 8 = 0
      · rw [bitPrev_zero i (hv.trans hz), select_zero]
        refine Eq.trans ?_ (dif_pos (by show t.val % 8 * 256 + y1.val = 0; omega)).symm
        rfl
      · rw [bitPrev_pos i (fun e => hz (hv.symm.trans e)), select_one]
        refine Eq.trans ?_ (dif_neg (by show ¬ t.val % 8 * 256 + y1.val = 0; omega)).symm
        have := hiddenRow_at m c t 271 ⟨t.val % 8 * 256 + y1.val - 1, by omega⟩ (fun h => absurd h (by decide)) (fun _ h => absurd h (by decide))
          (fun _ => by show t.val % 8 * 256 + y1.val - 1 = (t.val % 8 * 32 - 1) * 8 + 7; omega)
        simp only [blk3] at this
        exact congrArg (fun w => up w _) this
    · refine (dif_neg h).trans ?_
      refine Eq.trans ?_ (dif_neg (by show ¬ t.val % 8 * 256 + y1.val = 0; omega)).symm
      have := hiddenRow_at m c t ⟨y1.val - 1, by omega⟩ ⟨t.val % 8 * 256 + y1.val - 1, by omega⟩
        (fun _ => by show t.val % 8 * 256 + y1.val - 1 = t.val % 8 * 256 + (y1.val - 1); omega)
        (fun h => absurd h (by simp <;> omega)) (fun h => absurd h (by simp <;> omega))
      simp only [blk3] at this
      exact congrArg (fun w => up w _) this
  · unfold gateNext gateAfter
    by_cases h : y1.val = 255
    · refine (dif_pos h).trans ?_
      by_cases hz : t.val % 8 = 7
      · rw [bitNext_last i (hv.trans hz), select_zero]
        refine Eq.trans ?_ (dif_pos (by show t.val % 8 * 256 + y1.val = 2047; omega)).symm
        rfl
      · rw [bitNext_lt i (fun e => hz (hv.symm.trans e)), select_one]
        refine Eq.trans ?_ (dif_neg (by show ¬ t.val % 8 * 256 + y1.val = 2047; omega)).symm
        have := hiddenRow_at m c t 256 ⟨t.val % 8 * 256 + y1.val + 1, by omega⟩ (fun h => absurd h (by decide))
          (fun _ _ => by show t.val % 8 * 256 + y1.val + 1 = min ((t.val % 8 + 1) * 32) 255 * 8 + 0; omega) (fun h => absurd h (by decide))
        simp only [blk3] at this
        exact congrArg (fun w => up w _) this
    · refine (dif_neg h).trans ?_
      refine Eq.trans ?_ (dif_neg (by show ¬ t.val % 8 * 256 + y1.val = 2047; omega)).symm
      have := hiddenRow_at m c t ⟨y1.val + 1, by omega⟩ ⟨t.val % 8 * 256 + y1.val + 1, by omega⟩
        (fun _ => by show t.val % 8 * 256 + y1.val + 1 = t.val % 8 * 256 + (y1.val + 1); omega)
        (fun h => absurd h (by simp <;> omega)) (fun h => absurd h (by simp <;> omega))
      simp only [blk3] at this
      exact congrArg (fun w => up w _) this

end Cert.FfnIdeal.Hand
end
-- ==== Proof.F.Ref.lean ====
module

public import proofs.«01_k».proof.Proof.Gen.FfnRefIdeal.Read
public import proofs.«01_k».proof.Proof.F.Spec
public import Idealize.ShloMosaic.Lib.Pipeline.ValueKit

/-! What the reference computes. -/

@[expose] public section

set_option maxRecDepth 16384

noncomputable section

namespace Cert.FfnRefIdeal.Hand
open Cert.FfnRefIdeal Cert.FfnRefIdeal.Gen Cert.FfnRefIdeal.Read
open Idealize.ShloMosaic Idealize.ShloMosaic.TcCoe Idealize.SL.Sem
open FeedForward

variable (X : FVec Ideal S16x2048x1024 .f32) (Md : FVec Ideal S24x6x1024 .f32) (g : FVec Ideal S1024 .f32)
  (Wu : FVec Ideal S1024x5632 .f32) (D : FVec Ideal S3x2816 .f32) (Db : FVec Ideal S2816 .f32) (Wd : FVec Ideal S2816x1024 .f32)
  (fg : FVec Ideal S1024 .f32)

/-- The factor of the first norm. -/
theorem rms_at (b : Fin 16) (s : Fin 2048) (k : Fin 1024) :
    val_main_v11 (F := Ideal) X (ix3 b s k) = rms fun k => X (ix3 b s k) := by
  have h (x : Fin 1024) : idx_main_v4 (idx_main_v5 (idx_main_v11 (ix3 b s k))) x = ix3 b s x := by
    funext i; fin_cases i <;> rfl
  rw [val_main_v11_apply, val_main_v10_apply, val_main_v9_apply, val_main_v7_apply, val_main_v5_apply, val_main_v4_apply]
  pointwise [val_main_cst, val_main_v6, val_main_v8, val_main_cst_0, val_main_cst_1, val_main_v3, rms]
  simp only [h]

/-- The modulated rows. -/
theorem hidden_at (b : Fin 16) (s : Fin 2048) (k : Fin 1024) :
    val_main_v21 (F := Ideal) X Md g (ix3 b s k) = hiddenRow X Md g b s k := by
  have h1 : idx_main_v13 (idx_main_v14 (ix3 b s k)) = ix1 k := by funext i; fin_cases i <;> rfl
  have h2 : idx_main_v1 (idx_main_v18 (ix3 b s k)) = ix3 ⟨b.val, by omega⟩ 4 k := by funext i; fin_cases i <;> rfl
  have h3 : idx_main_v0 (idx_main_v20 (ix3 b s k)) = ix3 ⟨b.val, by omega⟩ 3 k := by funext i; fin_cases i <;> rfl
  rw [val_main_v21_apply, val_main_v19_apply, val_main_v15_apply, val_main_v12_apply, rms_at, val_main_v14_apply, val_main_v13_apply,
    val_main_v18_apply, val_main_v17_apply, val_main_v20_apply, val_main_v1_apply, val_main_v0_apply]
  pointwise [val_main_v16, val_main_cst_2, hiddenRow, modulated]
  rw [h1, h2, h3]

/-- One entry of the up projection. -/
theorem up_at (b : Fin 16) (s : Fin 2048) (f : Fin 5632) :
    val_main_v22 (F := Ideal) X Md g Wu (ix3 b s f) = up (hiddenRow X Md g b s) (fun k => Wu (ix2 k f)) := by
  rw [val_main_v22_apply]
  unfold up
  refine Finset.sum_congr rfl fun k _ => ?_
  have h1 : lidx_main_v22 (ix3 b s f) k = ix3 b s k := by funext i; fin_cases i <;> rfl
  have h2 : ridx_main_v22 (ix3 b s f) k = ix2 k f := by funext i; fin_cases i <;> rfl
  rw [h1, h2, hidden_at]

/-- The gate half. -/
theorem gate_at (b : Fin 16) (s : Fin 2048) (f : Fin 2816) :
    val_main_v23 (F := Ideal) X Md g Wu (ix3 b s f) = gate X Md g Wu b s f := by
  have h : idx_main_v23 (ix3 b s f) = ix3 b s ⟨f.val, by omega⟩ := by
    funext i; fin_cases i
    · rfl
    · rfl
    · exact Fin.ext (by first | rfl | (show 0 + f.val = f.val; omega))
  rw [val_main_v23_apply, h, up_at]
  rfl

/-- The gate padded with a zero position on either side. -/
theorem pad_at (b : Fin 16) (s : Fin 2050) (f : Fin 2816) :
    val_main_v25 (F := Ideal) X Md g Wu (ix3 b s f)
      = if h : 1 ≤ s.val ∧ s.val - 1 < 2048 then gate X Md g Wu b ⟨s.val - 1, h.2⟩ f else 0 := by
  have hz : (FloatOps.sitofp .f32 0#32 : Ideal .f32) = (0 : EReal) := by
    show ((((0#32 : BitVec 32).toInt : ℝ) : EReal)) = 0
    simp
  pointwise [val_main_v25, val_main_call0_v0, val_main_c]
  by_cases h : 1 ≤ s.val ∧ s.val - 1 < 2048
  · refine (dif_pos h).trans (Eq.trans ?_ (dif_pos h).symm)
    exact gate_at X Md g Wu b _ f
  · exact (dif_neg h).trans (Eq.trans hz (by rw [dif_neg h]))

/-- The three taps. -/
theorem conv_at (b : Fin 16) (s : Fin 2048) (f : Fin 2816) :
    val_main_v48 (F := Ideal) X Md g Wu D Db (ix3 b s f)
      = taps (Db (ix1 f)) (gateBefore X Md g Wu b s f) (D (ix2 0 f)) (gate X Md g Wu b s f) (D (ix2 1 f))
          (gateAfter X Md g Wu b s f) (D (ix2 2 f)) := by
  have hs := s.isLt
  have h0 : val_main_v25 (F := Ideal) X Md g Wu (ix3 b ⟨s.val, by omega⟩ f) = gateBefore X Md g Wu b s f := by
    rw [pad_at]
    unfold gateBefore
    by_cases h : s.val = 0
    · refine (dif_neg (by show ¬ (1 ≤ s.val ∧ s.val - 1 < 2048); omega)).trans (Eq.trans ?_ (dif_pos h).symm)
      rfl
    · refine (dif_pos (by show 1 ≤ s.val ∧ s.val - 1 < 2048; omega)).trans (Eq.trans ?_ (dif_neg h).symm)
      rfl
  have h1 : val_main_v25 (F := Ideal) X Md g Wu (ix3 b ⟨1 + s.val, by omega⟩ f) = gate X Md g Wu b s f := by
    rw [pad_at]
    refine (dif_pos (by show 1 ≤ 1 + s.val ∧ 1 + s.val - 1 < 2048; omega)).trans ?_
    exact congrArg (fun w => gate X Md g Wu b w f) (Fin.ext (by show 1 + s.val - 1 = s.val; omega))
  have h2 : val_main_v25 (F := Ideal) X Md g Wu (ix3 b ⟨2 + s.val, by omega⟩ f) = gateAfter X Md g Wu b s f := by
    rw [pad_at]
    unfold gateAfter
    by_cases h : s.val = 2047
    · refine (dif_neg (by show ¬ (1 ≤ 2 + s.val ∧ 2 + s.val - 1 < 2048); omega)).trans (Eq.trans ?_ (dif_pos h).symm)
      rfl
    · refine (dif_pos (by show 1 ≤ 2 + s.val ∧ 2 + s.val - 1 < 2048; omega)).trans (Eq.trans ?_ (dif_neg h).symm)
      exact congrArg (fun w => gate X Md g Wu b w f) (Fin.ext (by show 2 + s.val - 1 = s.val + 1; omega))
  pointwise [val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28, val_main_v27, val_main_v26]
  rw [h0, h1, h2]
  unfold taps
  rw [add_comm, add_assoc, add_assoc, add_assoc]

/-- The activation. -/
theorem act_at (b : Fin 16) (s : Fin 2048) (f : Fin 2816) :
    val_main_v50 (F := Ideal) X Md g Wu D Db (ix3 b s f) = act X Md g Wu D Db b s f := by
  pointwise [val_main_v50, val_main_v49, val_main_call1_v5, val_main_call1_v4, val_main_call1_v3, val_main_call1_v2,
    val_main_call1_v1, val_main_call1_v0, val_main_v24, val_main_call1_cst, val_main_call1_cst_0]
  rw [up_at, conv_at]
  rfl

/-- The residual row. -/
theorem resid_at (b : Fin 16) (s : Fin 2048) (k : Fin 1024) :
    val_main_v54 (F := Ideal) X Md g Wu D Db Wd (ix3 b s k)
      = resid (fun k => X (ix3 b s k)) (fun k => Md (ix3 ⟨b.val, by omega⟩ 5 k)) (act X Md g Wu D Db b s)
          (fun f k => Wd (ix2 f k)) k := by
  pointwise [val_main_v54, val_main_v53, val_main_v52, val_main_v51, val_main_v2, resid]
  simp only [act_at]

/-- The reference's result is the feed-forward array. -/
theorem ref_eq : val_main_v67 (F := Ideal) X Md g Wu D Db Wd fg = ffn X Md g Wu D Db Wd fg := by
  funext i
  idx_vars i
  show _ = ffnAt X Md g Wu D Db Wd fg i0 i1 i2
  have h (x : Fin 1024) : idx_main_v56 (idx_main_v57 (idx_main_v63 (ix3 i0 i1 i2))) x = ix3 i0 i1 x := by
    funext i; fin_cases i <;> rfl
  have h1 : idx_main_v65 (idx_main_v66 (ix3 i0 i1 i2)) = ix1 i2 := by funext i; fin_cases i <;> rfl
  rw [val_main_v67_apply, val_main_v66_apply, val_main_v65_apply, val_main_v64_apply, val_main_v63_apply, val_main_v62_apply,
    val_main_v61_apply, val_main_v59_apply, val_main_v57_apply, val_main_v56_apply]
  pointwise [val_main_cst_3, val_main_cst_4, val_main_cst_5, val_main_v58, val_main_v60, val_main_v55, ffnAt, normed, rms]
  simp only [h, h1, resid_at]

end Cert.FfnRefIdeal.Hand
end
-- ==== Proof.F.Claims.lean ====
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.F.Final
public import proofs.«01_k».proof.Proof.F.Ref
public import Idealize.ShloMosaic.Lib.Claim

/-! The claims about the feed-forward call. -/

@[expose] public section

set_option maxRecDepth 16384

noncomputable section

namespace Cert.FeedForward
open Idealize.ShloMosaic Idealize.ShloMosaic.TcCoe Idealize.SL.Sem

/-- The feed-forward kernel runs to its end, and leaves its arguments and every semaphore as they were. -/
theorem frame_p : quiescent_Ffn := fun m g _ => Cert.Ffn.Gen.frame m g

/-- The same of the kernel at the extended reals. -/
theorem frame_pi : quiescent_FfnIdeal := fun m g _ => Cert.FfnIdeal.Gen.frame m g

/-- The reference runs to its end, and leaves its arguments and every semaphore as they were. -/
theorem frame_ri : quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- For all arguments the kernel's result at the extended reals is the reference's. -/
theorem algebraic : algebraic_FfnIdeal_FfnRefIdeal := by
  pair_intro
  · run_from Cert.FfnIdeal.Gen.run_main m g
  · run_from Cert.FfnRefIdeal.Value.run m' g'
    obtain ⟨h0, h1, h2, h3, h4, h5, h6, h7⟩ := hagree c
    rw [Cert.FfnRefIdeal.Read.val_main_v67_eq, h0, h1, h2, h3, h4, h5, h6, h7]
    exact (Cert.FfnRefIdeal.Hand.ref_eq _ _ _ _ _ _ _ _).trans (Cert.FfnIdeal.Hand.final m c).symm

end Cert.FeedForward
end
-- ==== Proof.I.Spec.lean ====
module

public import proofs.«01_k».proof.Proof.F.Spec

/-! The input projection of one position, in extended reals: queries and keys normalised head by head and rotated, values,
and the gated input of the convolution. -/

@[expose] public section

noncomputable section

namespace InputProjection
open Idealize.ShloMosaic FeedForward

/-- A head's row divided by its root mean square and weighted. -/
def headed (p g : Fin 64 → EReal) (d : Fin 64) : EReal :=
  p d * Ideal.rsqrt (Ideal.div (∑ k : Fin 64, p k * p k) (Ideal.ofBits .f32 0x42800000#32) + Ideal.ofBits .f32 0x358637BD#32) * g d

/-- The component a component is paired with: the one sixteen away in its half of the head. -/
def partner (d : Fin 64) : Fin 64 := if h : d.val % 32 < 16 then ⟨d.val + 16, by omega⟩ else ⟨d.val - 16, by omega⟩

/-- A head's row turned by tables of cosines and of signed sines. -/
def turned (x cs sn : Fin 64 → EReal) (d : Fin 64) : EReal := x d * cs d + x (partner d) * sn d

/-- The angle of a position: its row or its column in the grid times the frequency. -/
def angle (s : ℕ) (a : ℕ) (f : ℕ) : EReal :=
  FloatOps.sitofp (F := Ideal) .f32 (BitVec.ofNat 32 (if a < 1 then s / 64 else s % 64)) *
    Ideal.pow (Ideal.ofBits .f32 1176256512#32)
      (Ideal.div (-FloatOps.sitofp (F := Ideal) .f32 (BitVec.ofNat 32 f)) (Ideal.ofBits .f32 1098907648#32))

/-- A head's row rotated: pairs of components turned by the position's angles, the context's rows left as they are. -/
def rotated (s : Fin 2304) (x : Fin 64 → EReal) (d : Fin 64) : EReal :=
  if s.val < 2048 then
    if d.val % 32 < 16 then
      x d * Ideal.cos (angle s.val (d.val / 32) (d.val % 32)) - x (partner d) * Ideal.sin (angle s.val (d.val / 32) (d.val % 32))
    else
      x d * Ideal.cos (angle s.val (d.val / 32) (d.val % 32 - 16)) + x (partner d) * Ideal.sin (angle s.val (d.val / 32) (d.val % 32 - 16))
  else x d

variable (X : (⟨3, ![16, 2304, 1024]⟩ : Shape).Idx → EReal) (Md : (⟨3, ![24, 6, 1024]⟩ : Shape).Idx → EReal)
  (g : (⟨1, ![1024]⟩ : Shape).Idx → EReal) (W : (⟨2, ![1024, 1792]⟩ : Shape).Idx → EReal)
  (gq gk : (⟨1, ![64]⟩ : Shape).Idx → EReal)

/-- The row of the conditioning a position takes: its sequence's, or the context's. -/
def modRowOf (b : Fin 16) (s : Fin 2304) : Fin 24 := if s.val < 2048 then ⟨b.val, by omega⟩ else 16

/-- The modulated row of a position. -/
def inputRow (b : Fin 16) (s : Fin 2304) : Fin 1024 → EReal :=
  modulated (fun k => X (ix3 b s k)) (fun k => g (ix1 k)) (fun k => Md (ix3 (modRowOf b s) 1 k)) (fun k => Md (ix3 (modRowOf b s) 0 k))

/-- One column of the projection of a position. -/
def projected (b : Fin 16) (s : Fin 2304) (c : Fin 1792) : EReal := up (inputRow X Md g b s) (fun k => W (ix2 k c))

/-- A component of a query, already scaled. -/
def queryAt (b : Fin 16) (s : Fin 2304) (h : Fin 8) (d : Fin 64) : EReal :=
  rotated s (headed (fun e => projected X Md g W b s ⟨h.val * 64 + e.val, by omega⟩) (fun e => gq (ix1 e))) d *
    Ideal.ofBits .f32 0x3E000000#32

/-- A component of a key. -/
def keyAt (b : Fin 16) (s : Fin 2304) (h : Fin 2) (d : Fin 64) : EReal :=
  rotated s (headed (fun e => projected X Md g W b s ⟨512 + h.val * 64 + e.val, by omega⟩) (fun e => gk (ix1 e))) d

/-- A component of a value. -/
def valueAt (b : Fin 16) (s : Fin 2304) (n : Fin 128) : EReal := projected X Md g W b s ⟨640 + n.val, by omega⟩

/-- A gated input of the convolution. -/
def gluAt (b : Fin 16) (s : Fin 2304) (n : Fin 512) : EReal :=
  projected X Md g W b s ⟨768 + n.val, by omega⟩ * Ideal.logistic (projected X Md g W b s ⟨1280 + n.val, by omega⟩)

/-- The array of queries, transposed. -/
def queries (i : (⟨3, ![16, 512, 2304]⟩ : Shape).Idx) : EReal :=
  queryAt X Md g W gq (i 0) (i 2) ⟨(i 1).val / 64, Nat.div_lt_of_lt_mul (i 1).isLt⟩ ⟨(i 1).val % 64, Nat.mod_lt _ (by decide)⟩

/-- The array of keys. -/
def keys (i : (⟨3, ![16, 2304, 128]⟩ : Shape).Idx) : EReal :=
  keyAt X Md g W gk (i 0) (i 1) ⟨(i 2).val / 64, Nat.div_lt_of_lt_mul (i 2).isLt⟩ ⟨(i 2).val % 64, Nat.mod_lt _ (by decide)⟩

/-- The array of values, transposed. -/
def values (i : (⟨3, ![16, 128, 2304]⟩ : Shape).Idx) : EReal := valueAt X Md g W (i 0) (i 2) (i 1)

/-- The array of gated inputs. -/
def gluArr (i : (⟨3, ![16, 2304, 512]⟩ : Shape).Idx) : EReal := gluAt X Md g W (i 0) (i 1) (i 2)

end InputProjection
end
-- ==== Proof.I.Block.lean ====
module

public import proofs.«01_k».proof.Proof.I.Spec
public import proofs.«01_k».proof.Proof.F.Reads
public import proofs.«01_k».proof.Proof.Gen.InprojIdeal.Value
public import Idealize.ShloMosaic.Lib.Pipeline.ValueKit
public import Idealize.ShloMosaic.Lib.Pointwise

/-! What one tile of the input projection kernel computes. -/

@[expose] public section

set_option maxRecDepth 16384

noncomputable section

namespace Cert.InprojIdeal.Hand
open Cert.InprojIdeal Cert.InprojIdeal.Gen
open Idealize.ShloMosaic Idealize.ShloMosaic.TcCoe Idealize.SL.Sem
open FeedForward InputProjection

/-- The rows of one head. -/
def headRows (o : ℕ) (h : S768x256.Slices ![o, 0] S64x256) (A : FVec Ideal S768x256 .f32) : FVec Ideal S64x256 .f32 :=
  extractStridedSlice S64x256 ![o, 0] A h

/-- One head normalised, as the kernel writes it. -/
def headNorm (x g : FVec Ideal S64x256 .f32) : FVec Ideal S64x256 .f32 :=
  mulf (mulf x (broadcastTo S64x256 (rsqrt (addf (divf (shapeCast S1x256 (multiReduction .add [0] S256 (mulf x x) 0x00000000#32 reduces_S64x256_S256 (.inl rfl) rfl) shapeCasts_S256_S1x256) (broadcast S1x256 (Scalar.ofBits .f32 0x42800000#32))) (broadcast S1x256 (Scalar.ofBits .f32 0x358637BD#32)))) broadcasts_S1x256_S64x256)) (shapeCast S64x256 g shapeCasts_S64x256_S64x256)

/-- One head turned, as the kernel writes it. -/
def headTurn (x cs sn : FVec Ideal S64x256 .f32) (sc : BitVec 32) : FVec Ideal S64x256 .f32 :=
  mulf (addf (mulf x (shapeCast S64x256 cs shapeCasts_S64x256_S64x256))
    (mulf (concatenate S64x256 0 [⟨S16x256, extractStridedSlice S16x256 ![16, 0] x slices_S64x256_o16_0_S16x256⟩,
      ⟨S16x256, extractStridedSlice S16x256 ![0, 0] x slices_S64x256_o0_0_S16x256⟩,
      ⟨S16x256, extractStridedSlice S16x256 ![48, 0] x slices_S64x256_o48_0_S16x256⟩,
      ⟨S16x256, extractStridedSlice S16x256 ![32, 0] x slices_S64x256_o32_0_S16x256⟩] concatenates_S16x256_S16x256_S16x256_S16x256_S64x256_d0)
      (shapeCast S64x256 sn shapeCasts_S64x256_S64x256))) (broadcast S64x256 (Scalar.ofBits .f32 sc))

/-- A normalised head's entry. -/
theorem headNorm_at (x g : FVec Ideal S64x256 .f32) (d : Fin 64) (r : Fin 256) :
    headNorm x g (ix2 d r) = headed (fun e => x (ix2 e r)) (fun e => g (ix2 e r)) d := by
  pointwise [headNorm, headed]

/-- A turned head's entry. -/
theorem headTurn_at (x cs sn : FVec Ideal S64x256 .f32) (sc : BitVec 32) (d : Fin 64) (r : Fin 256) :
    headTurn x cs sn sc (ix2 d r) = turned (fun e => x (ix2 e r)) (fun e => cs (ix2 e r)) (fun e => sn (ix2 e r)) d * Ideal.ofBits .f32 sc := by
  pointwise [headTurn, turned, partner]
  congr 3
  by_cases h : d.val % 32 < 16
  · rw [dif_pos h]
    split_ifs <;> first
      | (exfalso; omega)
      | exact congrArg (fun e : Fin 64 => x (ix2 e r)) (Fin.ext (by show _ = d.val + 16; omega))
      | exact congrArg (fun e : Fin 64 => x (ix2 e r)) (Fin.ext (by show _ + _ = d.val + 16; omega))
  · rw [dif_neg h]
    split_ifs <;> first
      | (exfalso; omega)
      | exact congrArg (fun e : Fin 64 => x (ix2 e r)) (Fin.ext (by show _ - _ = d.val - 16; omega))
      | exact congrArg (fun e : Fin 64 => x (ix2 e r)) (Fin.ext (by show _ + _ = d.val - 16; omega))

/-- A head's row is a run of rows of the projection. -/
theorem headRows_at (o : ℕ) (h : S768x256.Slices ![o, 0] S64x256) (A : FVec Ideal S768x256 .f32) (d : Fin 64) (r : Fin 256) (c : Fin 768)
    (hc : c.val = o + d.val) : headRows o h A (ix2 d r) = A (ix2 c r) := by
  unfold headRows
  refine extractStridedSlice_apply ![o, 0] A h (ix2 d r) (ix2 c r) fun a => ?_
  match a with
  | ⟨0, _⟩ => exact hc
  | ⟨1, _⟩ => exact (Nat.zero_add _).symm

/-- The projection of a tile: the weights times the modulated row. -/
theorem pay5_at (P0 : Vec Ideal S1x256x1024 .f32) (P1 : Vec Ideal S1x1024 .f32) (P2 P3 : Vec Ideal S1x1x1024 .f32) (P4 : Vec Ideal S768x1024 .bf16)
    (c : Fin 768) (r : Fin 256) :
    k0_pay5 (k0_pay3 P0 P1 P2 P3) P4 (ix2 c r)
      = up (modulated (fun k => P0 (ix3 0 r k)) (fun k => P1 (ix2 0 k)) (fun k => P2 (ix3 0 0 k)) (fun k => P3 (ix3 0 0 k)))
          (fun k => P4 (ix2 c k)) := by
  have e (k : Fin 1024) : k0_pay3 P0 P1 P2 P3 (ix2 r k) = modulated (fun k => P0 (ix3 0 r k)) (fun k => P1 (ix2 0 k)) (fun k => P2 (ix3 0 0 k)) (fun k => P3 (ix3 0 0 k)) k := by
    pointwise [k0_pay3, modulated, rms]
  generalize k0_pay3 P0 P1 P2 P3 = H at e ⊢
  generalize modulated (fun k => P0 (ix3 0 r k)) (fun k => P1 (ix2 0 k)) (fun k => P2 (ix3 0 0 k)) (fun k => P3 (ix3 0 0 k)) = M at e ⊢
  pointwise [k0_pay5, up]
  simp only [e, mul_comm]

/-- A head of a tile: the rows of the projection from `o` on, normalised and turned. -/
theorem head_at (o : ℕ) (h : S768x256.Slices ![o, 0] S64x256) (A : FVec Ideal S768x256 .f32) (g cs sn : FVec Ideal S64x256 .f32) (sc : BitVec 32)
    (d : Fin 64) (r : Fin 256) (c : Fin 64 → Fin 768) (hc : ∀ e, (c e).val = o + e.val) :
    headTurn (headNorm (headRows o h A) g) cs sn sc (ix2 d r)
      = turned (headed (fun e => A (ix2 (c e) r)) (fun e => g (ix2 e r))) (fun e => cs (ix2 e r)) (fun e => sn (ix2 e r)) d * Ideal.ofBits .f32 sc := by
  have e1 (e : Fin 64) : headRows o h A (ix2 e r) = A (ix2 (c e) r) := headRows_at o h A e r (c e) (hc e)
  rw [headTurn_at]
  simp only [headNorm_at, e1]

/-- The query heads of a tile. -/
theorem query_head (P0 : Vec Ideal S1x256x1024 .f32) (P1 : Vec Ideal S1x1024 .f32) (P2 P3 : Vec Ideal S1x1x1024 .f32) (P4 : Vec Ideal S768x1024 .bf16)
    (P5 P6 P7 : Vec Ideal S64x256 .f32) (n : Fin 8) (d : Fin 64) (r : Fin 256) :
    Value.Cat9_0 P0 P1 P2 P3 P4 P5 P6 P7 n (ix2 d r)
      = turned (headed (fun e => k0_pay5 (k0_pay3 P0 P1 P2 P3) P4 (ix2 (⟨64 * n.val + e.val, by omega⟩ : Fin 768) r)) (fun e => P5 (ix2 e r)))
          (fun e => P6 (ix2 e r)) (fun e => P7 (ix2 e r)) d * Ideal.ofBits .f32 0x3E000000#32 := by
  match n with
  | ⟨0, _⟩ => exact head_at 0 slices_S768x256_o0_0_S64x256 _ P5 P6 P7 _ d r _ fun e => rfl
  | ⟨1, _⟩ => exact head_at 64 slices_S768x256_o64_0_S64x256 _ P5 P6 P7 _ d r _ fun e => rfl
  | ⟨2, _⟩ => exact head_at 128 slices_S768x256_o128_0_S64x256 _ P5 P6 P7 _ d r _ fun e => rfl
  | ⟨3, _⟩ => exact head_at 192 slices_S768x256_o192_0_S64x256 _ P5 P6 P7 _ d r _ fun e => rfl
  | ⟨4, _⟩ => exact head_at 256 slices_S768x256_o256_0_S64x256 _ P5 P6 P7 _ d r _ fun e => rfl
  | ⟨5, _⟩ => exact head_at 320 slices_S768x256_o320_0_S64x256 _ P5 P6 P7 _ d r _ fun e => rfl
  | ⟨6, _⟩ => exact head_at 384 slices_S768x256_o384_0_S64x256 _ P5 P6 P7 _ d r _ fun e => rfl
  | ⟨7, _⟩ => exact head_at 448 slices_S768x256_o448_0_S64x256 _ P5 P6 P7 _ d r _ fun e => rfl

/-- The key heads of a tile. -/
theorem key_head (P0 : Vec Ideal S1x256x1024 .f32) (P1 : Vec Ideal S1x1024 .f32) (P2 P3 : Vec Ideal S1x1x1024 .f32) (P4 : Vec Ideal S768x1024 .bf16)
    (P5 P6 P7 : Vec Ideal S64x256 .f32) (n : Fin 2) (d : Fin 64) (r : Fin 256) :
    Value.Cat10_0 P0 P1 P2 P3 P4 P5 P6 P7 n (ix2 d r)
      = turned (headed (fun e => k0_pay5 (k0_pay3 P0 P1 P2 P3) P4 (ix2 (⟨512 + 64 * n.val + e.val, by omega⟩ : Fin 768) r)) (fun e => P5 (ix2 e r)))
          (fun e => P6 (ix2 e r)) (fun e => P7 (ix2 e r)) d * Ideal.ofBits .f32 0x3F800000#32 := by
  match n with
  | ⟨0, _⟩ => exact head_at 512 slices_S768x256_o512_0_S64x256 _ P5 P6 P7 _ d r _ fun e => rfl
  | ⟨1, _⟩ => exact head_at 576 slices_S768x256_o576_0_S64x256 _ P5 P6 P7 _ d r _ fun e => rfl

/-- The gated input of the convolution, of a tile. -/
theorem pay4_at (P0 : Vec Ideal S1x256x1024 .f32) (P1 : Vec Ideal S1x1024 .f32) (P2 P3 : Vec Ideal S1x1x1024 .f32) (P4 : Vec Ideal S1024x1024 .bf16)
    (r : Fin 256) (n : Fin 512) :
    k0_pay4 P0 P1 P2 P3 P4 (ix3 0 r n)
      = up (modulated (fun k => P0 (ix3 0 r k)) (fun k => P1 (ix2 0 k)) (fun k => P2 (ix3 0 0 k)) (fun k => P3 (ix3 0 0 k))) (fun k => P4 (ix2 k ⟨n.val, by omega⟩))
        * Ideal.logistic (up (modulated (fun k => P0 (ix3 0 r k)) (fun k => P1 (ix2 0 k)) (fun k => P2 (ix3 0 0 k)) (fun k => P3 (ix3 0 0 k)))
            (fun k => P4 (ix2 k ⟨512 + n.val, by omega⟩))) := by
  pointwise [k0_pay4, k0_pay3, up, modulated, rms]

/-- One row of the conditioning block. -/
theorem modRow (x : Vec Ideal S1x6x1024 .f32) (q : Fin 6)
    (e : ∀ a, (![0, q.val, 0] : Fin 3 → ℕ) a + (![1, 1, 1024] : Fin 3 → ℕ) a ≤ S1x6x1024.size a) (k : Fin 1024) :
    View.ld (Val := Elt Ideal) (e' := .f32) x (Rect.unit (s := S1x6x1024) ![0, q.val, 0] ![1, 1, 1024] e) (ix3 0 0 k) = x (ix3 0 q k) := by
  refine congrArg x ?_
  funext z
  fin_cases z
  · rfl
  · exact Fin.ext ((Rect.emb_apply _ _ _).trans (by show q.val + 1 * 0 = q.val; omega))
  · exact Fin.ext ((Rect.emb_apply _ _ _).trans (by show 0 + 1 * k.val = k.val; omega))

/-- The modulated row of a row of the tile. -/
def tileRow (x0 : Vec Ideal S1x256x1024 .f32) (x1 : Vec Ideal S1x6x1024 .f32) (x2 : Vec Ideal S1x1024 .f32) (r : Fin 256) : Fin 1024 → EReal :=
  modulated (fun k => x0 (ix3 0 r k)) (fun k => x2 (ix2 0 k)) (fun k => x1 (ix3 0 1 k)) (fun k => x1 (ix3 0 0 k))

/-- The modulated row, with the two rows of the conditioning loaded. -/
theorem tileRow_ld (x0 : Vec Ideal S1x256x1024 .f32) (x1 : Vec Ideal S1x6x1024 .f32) (x2 : Vec Ideal S1x1024 .f32) (r : Fin 256) :
    modulated (fun k => x0 (ix3 0 r k)) (fun k => x2 (ix2 0 k)) (fun k => View.ld (Val := Elt Ideal) (e' := .f32) x1 r0_2 (ix3 0 0 k))
      (fun k => View.ld (Val := Elt Ideal) (e' := .f32) x1 r0_3 (ix3 0 0 k)) = tileRow x0 x1 x2 r := by
  unfold tileRow
  congr 1 <;> funext k
  · exact modRow _ 1 _ k
  · exact modRow _ 0 _ k

/-! Loads of whole blocks. -/

theorem ld0 (x : Vec Ideal S1x256x1024 .f32) : View.ld (Val := Elt Ideal) x r0_0 = x := View.ld_unit_lit _ _ (by decide)

theorem ld2 (x : Vec Ideal S1x1024 .f32) : View.ld (Val := Elt Ideal) x r0_1 = x := View.ld_unit_lit _ _ (by decide)

theorem ld3 (x : Vec Ideal S768x1024 .bf16) : View.ld (Val := Elt Ideal) x r0_6 = x := View.ld_unit_lit _ _ (by decide)

theorem ldh (x : Vec Ideal S64x256 .f32) : View.ld (Val := Elt Ideal) x r0_7 = x := View.ld_unit_lit _ _ (by decide)

section Outs
variable (x0 : Vec Ideal S1x256x1024 .f32) (x1 : Vec Ideal S1x6x1024 .f32) (x2 : Vec Ideal S1x1024 .f32) (x3 : Vec Ideal S768x1024 .bf16)
  (x4 : Vec Ideal S1024x1024 .bf16) (x5 x6 x7 x8 : Vec Ideal S64x256 .f32)

/-- The block of queries a grid point leaves, entry by entry. -/
theorem out9_at (n : Fin 512) (r : Fin 256) : out0_9 x0 x1 x2 x3 x4 x5 x6 x7 x8 (ix3 0 n r)
    = turned (headed (fun e => up (tileRow x0 x1 x2 r) (fun k => x3 (ix2 (⟨64 * (n.val / 64) + e.val, by omega⟩ : Fin 768) k))) (fun e => x5 (ix2 e r)))
        (fun e => x7 (ix2 e r)) (fun e => x8 (ix2 e r)) ⟨n.val % 64, by omega⟩ * Ideal.ofBits .f32 0x3E000000#32 := by
  unfold_out out0_9
  refine (Value.canon9_eq (View.ld (Val := Elt Ideal) x0 r0_0) (View.ld (Val := Elt Ideal) x2 r0_1) (View.ld (Val := Elt Ideal) x1 r0_2)
    (View.ld (Val := Elt Ideal) x1 r0_3) (View.ld (Val := Elt Ideal) x3 r0_6) (View.ld (Val := Elt Ideal) x5 r0_7) (View.ld (Val := Elt Ideal) x7 r0_7)
    (View.ld (Val := Elt Ideal) x8 r0_7) (ix3 0 n r)).trans ?_
  rw [ld0, ld2, ld3, ldh, ldh, ldh]
  show Value.Cat9_0 _ _ _ _ _ _ _ _ (Value.csel9_0 (ix3 0 n r)) (Value.ix9_0 (ix3 0 n r)) = _
  have e1 : Value.csel9_0 (ix3 0 n r) = ⟨n.val / 64, by omega⟩ := rfl
  have e2 : Value.ix9_0 (ix3 0 n r) = ix2 (⟨n.val % 64, by omega⟩ : Fin 64) r := by
    funext z
    fin_cases z
    · rfl
    · rfl
  rw [e1, e2, query_head]
  simp only [pay5_at, tileRow_ld]

/-- The block of keys a grid point leaves, entry by entry. -/
theorem out10_at (n : Fin 128) (r : Fin 256) : out0_10 x0 x1 x2 x3 x4 x5 x6 x7 x8 (ix3 0 r n)
    = turned (headed (fun e => up (tileRow x0 x1 x2 r) (fun k => x3 (ix2 (⟨512 + 64 * (n.val / 64) + e.val, by omega⟩ : Fin 768) k))) (fun e => x6 (ix2 e r)))
        (fun e => x7 (ix2 e r)) (fun e => x8 (ix2 e r)) ⟨n.val % 64, by omega⟩ * Ideal.ofBits .f32 0x3F800000#32 := by
  unfold_out out0_10
  refine (Value.canon10_eq (View.ld (Val := Elt Ideal) x0 r0_0) (View.ld (Val := Elt Ideal) x2 r0_1) (View.ld (Val := Elt Ideal) x1 r0_2)
    (View.ld (Val := Elt Ideal) x1 r0_3) (View.ld (Val := Elt Ideal) x3 r0_6) (View.ld (Val := Elt Ideal) x6 r0_7) (View.ld (Val := Elt Ideal) x7 r0_7)
    (View.ld (Val := Elt Ideal) x8 r0_7) (ix3 0 r n)).trans ?_
  rw [ld0, ld2, ld3, ldh, ldh, ldh]
  show Value.Cat10_0 _ _ _ _ _ _ _ _ (Value.csel10_0 (ix3 0 r n)) (Value.ix10_0 (ix3 0 r n)) = _
  have e1 : Value.csel10_0 (ix3 0 r n) = ⟨n.val / 64, by omega⟩ := rfl
  have e2 : Value.ix10_0 (ix3 0 r n) = ix2 (⟨n.val % 64, by omega⟩ : Fin 64) r := by
    funext z
    fin_cases z
    · rfl
    · rfl
  rw [e1, e2, key_head]
  simp only [pay5_at, tileRow_ld]

/-- The block of values a grid point leaves, entry by entry. -/
theorem out11_at (n : Fin 128) (r : Fin 256) : out0_11 x0 x1 x2 x3 x4 x5 x6 x7 x8 (ix3 0 n r)
    = up (tileRow x0 x1 x2 r) (fun k => x3 (ix2 (⟨640 + n.val, by omega⟩ : Fin 768) k)) := by
  frame_out
  unfold k0_pay27 k0_pay26
  rw [ld0, ld2, ld3]
  refine Eq.trans (b := k0_pay5 (k0_pay3 x0 x2 (View.ld (Val := Elt Ideal) x1 r0_2) (View.ld (Val := Elt Ideal) x1 r0_3)) x3
    (ix2 (⟨640 + n.val, by omega⟩ : Fin 768) r)) ?_ ?_
  · show k0_pay2 (k0_pay5 (k0_pay3 x0 x2 (View.ld (Val := Elt Ideal) x1 r0_2) (View.ld (Val := Elt Ideal) x1 r0_3)) x3) (ix3 0 n r) = _
    generalize k0_pay5 (k0_pay3 x0 x2 (View.ld (Val := Elt Ideal) x1 r0_2) (View.ld (Val := Elt Ideal) x1 r0_3)) x3 = A
    pointwise [k0_pay2]
  · simp only [pay5_at, tileRow_ld]

/-- The block of gated inputs a grid point leaves, entry by entry. -/
theorem out12_at (n : Fin 512) (r : Fin 256) : out0_12 x0 x1 x2 x3 x4 x5 x6 x7 x8 (ix3 0 r n)
    = up (tileRow x0 x1 x2 r) (fun k => x4 (ix2 k ⟨n.val, by omega⟩))
      * Ideal.logistic (up (tileRow x0 x1 x2 r) (fun k => x4 (ix2 k ⟨512 + n.val, by omega⟩))) := by
  frame_out
  refine (pay4_at x0 x2 (View.ld (Val := Elt Ideal) x1 r0_2) (View.ld (Val := Elt Ideal) x1 r0_3) x4 r n).trans ?_
  rw [tileRow_ld]

end Outs

end Cert.InprojIdeal.Hand
end
-- ==== Proof.I.Tables.lean ====
module

public import proofs.«01_k».proof.Proof.Gen.InprojIdeal.Value
public import proofs.«01_k».proof.Proof.I.Spec
public import Idealize.ShloMosaic.Lib.Pipeline.ValueKit
public import Idealize.ShloMosaic.Lib.Pointwise
public import Idealize.ShloMosaic.Lib.StableHlo.ReadAt

/-! What the arrays prepared before the kernel hold: the weights laid out, and the tables of cosines and signed sines. -/

@[expose] public section

set_option maxRecDepth 16384

noncomputable section

namespace Cert.InprojIdeal.Hand
open Cert.InprojIdeal Cert.InprojIdeal.Gen
open Idealize.ShloMosaic Idealize.ShloMosaic.TcCoe Idealize.SL.Sem
open InputProjection

variable (m : (ℓ : Loc nD τ sig) → Buf (Elt Ideal) ℓ)

/-- The columns of queries, keys and values, transposed. -/
theorem v2 (c : Dev nD) (q : Fin 768) (n : Fin 1024) :
    V m c main_v2 (ix2 q n : S768x1024.Idx) = m ((c : Thread nD τ).loc main_arg3) (ix2 n ⟨q.val, by omega⟩ : S1024x1792.Idx) := by
  after_reads_at

/-- The columns of the convolution's input. -/
theorem v4 (c : Dev nD) (q : Fin 1024) (n : Fin 1024) :
    V m c main_v4 (ix2 q n : S1024x1024.Idx) = m ((c : Thread nD τ).loc main_arg3) (ix2 q ⟨768 + n.val, by omega⟩ : S1024x1792.Idx) := by
  after_reads_at

/-- The queries' weights, repeated along the tile. -/
theorem v6 (c : Dev nD) (q : Fin 64) (n : Fin 256) :
    V m c main_v6 (ix2 q n : S64x256.Idx) = m ((c : Thread nD τ).loc main_arg4) (ix1 q : S64.Idx) := by
  after_reads_at

/-- The keys' weights, repeated along the tile. -/
theorem v8 (c : Dev nD) (q : Fin 64) (n : Fin 256) :
    V m c main_v8 (ix2 q n : S64x256.Idx) = m ((c : Thread nD τ).loc main_arg5) (ix1 q : S64.Idx) := by
  after_reads_at

/-- The norm's weights as a row. -/
theorem v38 (c : Dev nD) (n : Fin 1024) :
    V m c main_v38 (ix2 0 n : S1x1024.Idx) = m ((c : Thread nD τ).loc main_arg2) (ix1 n : S1024.Idx) := by
  after_reads_at

/-- The row of a position, in the whole-number operations that compute it. -/
theorem row_of : ∀ n : Fin 2304, n.val < 2048 → (Scalar.select
      (IntOp.andi
        (IntOp.cmpi CmpIPredicate.ne
          (if BitVec.ofNat 32 n.val = 0 then (0 : BitVec 32) else if (BitVec.ofNat 32 n.val).msb = true then -1 else 1)
          (if id (constantI S_ 32 64#32) ix0 = 0 then 0
          else if BitVec.msb (id (constantI S_ 32 64#32) ix0) = true then -1 else 1))
        (IntOp.cmpi CmpIPredicate.ne (IntOp.remsi ArithUnit.host (BitVec.ofNat 32 n.val) (id (constantI S_ 32 64#32) ix0)) 0#32))
      (IntOp.subi (IntOp.divsi ArithUnit.host (BitVec.ofNat 32 n.val) (id (constantI S_ 32 64#32) ix0)) 1#32)
      (IntOp.divsi ArithUnit.host (BitVec.ofNat 32 n.val) (id (constantI S_ 32 64#32) ix0)) : BitVec 32) = BitVec.ofNat 32 (n.val / 64) := by
  decide +kernel

/-- The column of a position, in the whole-number operations that compute it. -/
theorem col_of : ∀ n : Fin 2304, n.val < 2048 → (Scalar.select
        (IntOp.andi
          (IntOp.cmpi CmpIPredicate.ne
            (IntOp.cmpi CmpIPredicate.slt
              (IntOp.remsi ArithUnit.host (BitVec.ofNat 32 n.val)
                (Scalar.select (IntOp.cmpi CmpIPredicate.eq (id (constantI S_ 32 64#32) ix0) 0#32) (1#32)
                  (id (constantI S_ 32 64#32) ix0)))
              0#32)
            (IntOp.cmpi CmpIPredicate.slt
              (Scalar.select (IntOp.cmpi CmpIPredicate.eq (id (constantI S_ 32 64#32) ix0) 0#32) (1#32)
                (id (constantI S_ 32 64#32) ix0))
              0#32))
          (IntOp.cmpi CmpIPredicate.ne
            (IntOp.remsi ArithUnit.host (BitVec.ofNat 32 n.val)
              (Scalar.select (IntOp.cmpi CmpIPredicate.eq (id (constantI S_ 32 64#32) ix0) 0#32) (1#32)
                (id (constantI S_ 32 64#32) ix0)))
            0#32))
        (IntOp.addi
          (IntOp.remsi ArithUnit.host (BitVec.ofNat 32 n.val)
            (Scalar.select (IntOp.cmpi CmpIPredicate.eq (id (constantI S_ 32 64#32) ix0) 0#32) (1#32)
              (id (constantI S_ 32 64#32) ix0)))
          (Scalar.select (IntOp.cmpi CmpIPredicate.eq (id (constantI S_ 32 64#32) ix0) 0#32) (1#32)
            (id (constantI S_ 32 64#32) ix0)))
        (IntOp.remsi ArithUnit.host (BitVec.ofNat 32 n.val)
          (Scalar.select (IntOp.cmpi CmpIPredicate.eq (id (constantI S_ 32 64#32) ix0) 0#32) (1#32)
            (id (constantI S_ 32 64#32) ix0))) : BitVec 32) = BitVec.ofNat 32 (n.val % 64) := by
  decide +kernel

/-- The table of cosines, in the first half of each half of the head. -/
theorem cos_lo (c : Dev nD) (q : Fin 64) (n : Fin 2304) (h : n.val < 2048) (h' : q.val % 32 < 16) :
    V m c main_v35 (ix2 q n : S64x2304.Idx) = Ideal.cos (angle n.val (q.val / 32) (q.val % 32)) := by
  generalize hZ : Ideal.cos (angle n.val (q.val / 32) (q.val % 32)) = Z
  after_reads_at
  rw [dif_pos h, dif_pos h']
  after_reads_at
  by_cases h1 : q.val / 32 < 1
  · rw [dif_pos h1]
    after_reads_at
    subst hZ
    generalize hp : Scalar.select _ _ _ = p
    unfold angle
    generalize Ideal.pow _ _ = w
    have e : p = BitVec.ofNat 32 (n.val / 64) := by
      rw [← hp]
      exact row_of n h
    subst e
    rw [if_pos h1]
  · rw [dif_neg h1]
    after_reads_at
    subst hZ
    generalize hp : Scalar.select _ _ _ = p
    unfold angle
    generalize Ideal.pow _ _ = w
    have e : p = BitVec.ofNat 32 (n.val % 64) := by
      rw [← hp]
      exact col_of n h
    subst e
    rw [if_neg h1]

/-- The table of cosines, in the second half of each half of the head. -/
theorem cos_hi (c : Dev nD) (q : Fin 64) (n : Fin 2304) (h : n.val < 2048) (h' : ¬ q.val % 32 < 16) :
    V m c main_v35 (ix2 q n : S64x2304.Idx) = Ideal.cos (angle n.val (q.val / 32) (q.val % 32 - 16)) := by
  generalize hZ : Ideal.cos (angle n.val (q.val / 32) (q.val % 32 - 16)) = Z
  after_reads_at
  rw [dif_pos h, dif_neg h']
  after_reads_at
  by_cases h1 : q.val / 32 < 1
  · rw [dif_pos h1]
    after_reads_at
    subst hZ
    generalize hp : Scalar.select _ _ _ = p
    unfold angle
    generalize Ideal.pow _ _ = w
    have e : p = BitVec.ofNat 32 (n.val / 64) := by
      rw [← hp]
      exact row_of n h
    subst e
    rw [if_pos h1]
  · rw [dif_neg h1]
    after_reads_at
    subst hZ
    generalize hp : Scalar.select _ _ _ = p
    unfold angle
    generalize Ideal.pow _ _ = w
    have e : p = BitVec.ofNat 32 (n.val % 64) := by
      rw [← hp]
      exact col_of n h
    subst e
    rw [if_neg h1]

/-- The table of sines, negated in the first half of each half of the head. -/
theorem sin_lo (c : Dev nD) (q : Fin 64) (n : Fin 2304) (h : n.val < 2048) (h' : q.val % 32 < 16) :
    V m c main_v37 (ix2 q n : S64x2304.Idx) = -Ideal.sin (angle n.val (q.val / 32) (q.val % 32)) := by
  generalize hZ : -Ideal.sin (angle n.val (q.val / 32) (q.val % 32)) = Z
  after_reads_at
  rw [dif_pos h, dif_pos h']
  after_reads_at
  by_cases h1 : q.val / 32 < 1
  · rw [dif_pos h1]
    after_reads_at
    subst hZ
    generalize hp : Scalar.select _ _ _ = p
    unfold angle
    generalize Ideal.pow _ _ = w
    have e : p = BitVec.ofNat 32 (n.val / 64) := by
      rw [← hp]
      exact row_of n h
    subst e
    rw [if_pos h1]
  · rw [dif_neg h1]
    after_reads_at
    subst hZ
    generalize hp : Scalar.select _ _ _ = p
    unfold angle
    generalize Ideal.pow _ _ = w
    have e : p = BitVec.ofNat 32 (n.val % 64) := by
      rw [← hp]
      exact col_of n h
    subst e
    rw [if_neg h1]

/-- The table of sines, in the second half of each half of the head. -/
theorem sin_hi (c : Dev nD) (q : Fin 64) (n : Fin 2304) (h : n.val < 2048) (h' : ¬ q.val % 32 < 16) :
    V m c main_v37 (ix2 q n : S64x2304.Idx) = Ideal.sin (angle n.val (q.val / 32) (q.val % 32 - 16)) := by
  generalize hZ : Ideal.sin (angle n.val (q.val / 32) (q.val % 32 - 16)) = Z
  after_reads_at
  rw [dif_pos h, dif_neg h']
  after_reads_at
  by_cases h1 : q.val / 32 < 1
  · rw [dif_pos h1]
    after_reads_at
    subst hZ
    generalize hp : Scalar.select _ _ _ = p
    unfold angle
    generalize Ideal.pow _ _ = w
    have e : p = BitVec.ofNat 32 (n.val / 64) := by
      rw [← hp]
      exact row_of n h
    subst e
    rw [if_pos h1]
  · rw [dif_neg h1]
    after_reads_at
    subst hZ
    generalize hp : Scalar.select _ _ _ = p
    unfold angle
    generalize Ideal.pow _ _ = w
    have e : p = BitVec.ofNat 32 (n.val % 64) := by
      rw [← hp]
      exact col_of n h
    subst e
    rw [if_neg h1]

/-- The table of cosines is one for the context. -/
theorem cos_ctx (c : Dev nD) (q : Fin 64) (n : Fin 2304) (h : ¬ n.val < 2048) :
    V m c main_v35 (ix2 q n : S64x2304.Idx) = (1 : EReal) := by
  after_reads_at
  rw [dif_neg h]

/-- The table of sines is zero for the context. -/
theorem sin_ctx (c : Dev nD) (q : Fin 64) (n : Fin 2304) (h : ¬ n.val < 2048) :
    V m c main_v37 (ix2 q n : S64x2304.Idx) = (0 : EReal) := by
  after_reads_at
  rw [dif_neg h]

end Cert.InprojIdeal.Hand
end
-- ==== Proof.I.Final.lean ====
module

public import proofs.«01_k».proof.Proof.I.Block
public import proofs.«01_k».proof.Proof.I.Tables
public import Idealize.ShloMosaic.Lib.IdealHost

/-! What the kernel leaves in its four results. -/

@[expose] public section

set_option maxRecDepth 16384

noncomputable section

namespace Cert.InprojIdeal.Hand
open Cert.InprojIdeal Cert.InprojIdeal.Gen
open Idealize.ShloMosaic Idealize.ShloMosaic.TcCoe Idealize.SL.Sem
open Idealize.ShloMosaic.Pipeline (Dat)
open InputProjection FeedForward

variable (m : (ℓ : Loc nD τ sig) → Buf (Elt Ideal) ℓ)

/-- Where each window's block lies at a grid point. -/
theorem idx : ∀ t : Fin cfg0.N, win0_0.index t = ![t.val / 9, t.val % 9, 0]
    ∧ win0_1.index t = ![if t.val % 9 < 8 then t.val / 9 else 16, 0, 0]
    ∧ win0_2.index t = ![0, 0] ∧ win0_3.index t = ![0, 0] ∧ win0_4.index t = ![0, 0] ∧ win0_5.index t = ![0, 0]
    ∧ win0_6.index t = ![0, 0] ∧ win0_7.index t = ![0, t.val % 9] ∧ win0_8.index t = ![0, t.val % 9]
    ∧ win0_9.index t = ![t.val / 9, 0, t.val % 9] ∧ win0_10.index t = ![t.val / 9, t.val % 9, 0]
    ∧ win0_11.index t = ![t.val / 9, 0, t.val % 9] ∧ win0_12.index t = ![t.val / 9, t.val % 9, 0] :=
  (by decide +kernel : ∀ t : Fin grid0.N, _)

/-- The batch of a grid point. -/
def bat (t : Fin cfg0.N) : Fin 16 := ⟨t.val / 9, by have := t.isLt; simp only [(by decide : cfg0.N = 144)] at this; omega⟩

/-- The position of a row of the tile of a grid point. -/
def pos (t : Fin cfg0.N) (r : Fin 256) : Fin 2304 := ⟨t.val % 9 * 256 + r.val, by omega⟩

theorem emb9 (t : Fin cfg0.N) (n : Fin 512) (r : Fin 256) :
    (((cfg0.win 9).blk t).view.emb (ix3 0 n r)) = (ix3 (bat t) n (pos t r) : S16x512x2304.Idx) := by
  unfold bat pos
  blk_ext [idx t]

theorem emb10 (t : Fin cfg0.N) (n : Fin 128) (r : Fin 256) :
    (((cfg0.win 10).blk t).view.emb (ix3 0 r n)) = (ix3 (bat t) (pos t r) n : S16x2304x128.Idx) := by
  unfold bat pos
  blk_ext [idx t]

theorem emb11 (t : Fin cfg0.N) (n : Fin 128) (r : Fin 256) :
    (((cfg0.win 11).blk t).view.emb (ix3 0 n r)) = (ix3 (bat t) n (pos t r) : S16x128x2304.Idx) := by
  unfold bat pos
  blk_ext [idx t]

theorem emb12 (t : Fin cfg0.N) (n : Fin 512) (r : Fin 256) :
    (((cfg0.win 12).blk t).view.emb (ix3 0 r n)) = (ix3 (bat t) (pos t r) n : S16x2304x512.Idx) := by
  unfold bat pos
  blk_ext [idx t]

/-- The tile's rows, read in the array. -/
theorem blk0 (c : Dev nD) (t : Fin cfg0.N) (r : Fin 256) (n : Fin 1024) :
    iblk m c 0 t (ix3 0 r n) = m ((c : Thread nD τ).loc main_arg0) (ix3 (bat t) (pos t r) n : S16x2304x1024.Idx) := by
  unfold bat pos
  blk_ext [iblk, V, idx t]

/-- The conditioning block, read in the array. -/
theorem blk1_row (c : Dev nD) (t : Fin cfg0.N) (w : Fin 24) (hw : w.val = if t.val % 9 < 8 then t.val / 9 else 16) (q : Fin 6) (n : Fin 1024) :
    iblk m c 1 t (ix3 0 q n) = m ((c : Thread nD τ).loc main_arg1) (ix3 w q n : S24x6x1024.Idx) := by
  have hm := (idx t).2.1
  rw [← hw] at hm
  blk_ext [iblk, V, hm]

/-- The conditioning block is the sequence's, or the context's. -/
theorem blk1 (c : Dev nD) (t : Fin cfg0.N) (r : Fin 256) (q : Fin 6) (n : Fin 1024) :
    iblk m c 1 t (ix3 0 q n) = m ((c : Thread nD τ).loc main_arg1) (ix3 (modRowOf (bat t) (pos t r)) q n : S24x6x1024.Idx) := by
  refine blk1_row m c t _ ?_ q n
  have hr := r.isLt
  unfold modRowOf
  by_cases h : t.val % 9 < 8
  · rw [if_pos h, if_pos (by show t.val % 9 * 256 + r.val < 2048; omega)]
    rfl
  · rw [if_neg h, if_neg (by show ¬ t.val % 9 * 256 + r.val < 2048; omega)]
    rfl

/-- The norm's weights. -/
theorem blk2 (c : Dev nD) (t : Fin cfg0.N) (n : Fin 1024) :
    iblk m c 2 t (ix2 0 n) = m ((c : Thread nD τ).loc main_arg2) (ix1 n : S1024.Idx) := by
  refine (?_ : _ = V m c main_v38 (ix2 0 n : S1x1024.Idx)).trans (v38 m c n)
  blk_ext [iblk, idx t]

/-- The columns of queries, keys and values. -/
theorem blk3 (c : Dev nD) (t : Fin cfg0.N) (q : Fin 768) (n : Fin 1024) :
    iblk m c 3 t (ix2 q n) = m ((c : Thread nD τ).loc main_arg3) (ix2 n ⟨q.val, by omega⟩ : S1024x1792.Idx) := by
  refine (?_ : _ = V m c main_v2 (ix2 q n : S768x1024.Idx)).trans (v2 m c q n)
  blk_ext [iblk, idx t]

/-- The columns of the convolution's input. -/
theorem blk4 (c : Dev nD) (t : Fin cfg0.N) (q : Fin 1024) (n : Fin 1024) :
    iblk m c 4 t (ix2 q n) = m ((c : Thread nD τ).loc main_arg3) (ix2 q ⟨768 + n.val, by omega⟩ : S1024x1792.Idx) := by
  refine (?_ : _ = V m c main_v4 (ix2 q n : S1024x1024.Idx)).trans (v4 m c q n)
  blk_ext [iblk, idx t]

/-- The queries' weights. -/
theorem blk5 (c : Dev nD) (t : Fin cfg0.N) (q : Fin 64) (n : Fin 256) :
    iblk m c 5 t (ix2 q n) = m ((c : Thread nD τ).loc main_arg4) (ix1 q : S64.Idx) := by
  refine (?_ : _ = V m c main_v6 (ix2 q n : S64x256.Idx)).trans (v6 m c q n)
  blk_ext [iblk, idx t]

/-- The keys' weights. -/
theorem blk6 (c : Dev nD) (t : Fin cfg0.N) (q : Fin 64) (n : Fin 256) :
    iblk m c 6 t (ix2 q n) = m ((c : Thread nD τ).loc main_arg5) (ix1 q : S64.Idx) := by
  refine (?_ : _ = V m c main_v8 (ix2 q n : S64x256.Idx)).trans (v8 m c q n)
  blk_ext [iblk, idx t]

/-- The tile of cosines. -/
theorem blk7 (c : Dev nD) (t : Fin cfg0.N) (q : Fin 64) (n : Fin 256) :
    iblk m c 7 t (ix2 q n) = V m c main_v35 (ix2 q (pos t n) : S64x2304.Idx) := by
  unfold pos
  blk_ext [iblk, idx t]

/-- The tile of signed sines. -/
theorem blk8 (c : Dev nD) (t : Fin cfg0.N) (q : Fin 64) (n : Fin 256) :
    iblk m c 8 t (ix2 q n) = V m c main_v37 (ix2 q (pos t n) : S64x2304.Idx) := by
  unfold pos
  blk_ext [iblk, idx t]

/-- Turning by the tables is rotating by the position's angles. -/
theorem turned_tables (c : Dev nD) (s : Fin 2304) (x : Fin 64 → EReal) (d : Fin 64) :
    turned x (fun e => V m c main_v35 (ix2 e s : S64x2304.Idx)) (fun e => V m c main_v37 (ix2 e s : S64x2304.Idx)) d = rotated s x d := by
  unfold turned rotated
  beta_reduce
  by_cases h : s.val < 2048
  · rw [if_pos h]
    by_cases h' : d.val % 32 < 16
    · rw [if_pos h', cos_lo m c d s h h', sin_lo m c d s h h', mul_neg, ← sub_eq_add_neg]
    · rw [if_neg h', cos_hi m c d s h h', sin_hi m c d s h h']
  · rw [if_neg h, cos_ctx m c d s h, sin_ctx m c d s h, mul_one, mul_zero, add_zero]

/-- The modulated row of a row of the tile is its position's. -/
theorem tileRow_at (c : Dev nD) (t : Fin cfg0.N) (r : Fin 256) :
    tileRow (iblk m c 0 t) (iblk m c 1 t) (iblk m c 2 t) r
      = inputRow (m ((c : Thread nD τ).loc main_arg0)) (m ((c : Thread nD τ).loc main_arg1)) (m ((c : Thread nD τ).loc main_arg2)) (bat t) (pos t r) := by
  unfold tileRow inputRow
  simp only [blk0, blk1 m c t r, blk2]

/-- The array of queries after the run. -/
theorem final9 (c : Dev nD) : (dats m 0 c).arrAt 9 (cfgs 0).N
    = queries (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t _ y => ?_
  blk_simp
  rw [after0_9]
  idx_vars y
  obtain rfl : y0 = 0 := Subsingleton.elim _ _
  refine (out9_at _ _ _ _ _ _ _ _ _ y1 y2).trans ?_
  refine Eq.trans ?_ (congrArg (queries _ _ _ _ _) (emb9 t y1 y2)).symm
  show _ = queryAt _ _ _ _ _ (bat t) (pos t y2) ⟨y1.val / 64, _⟩ ⟨y1.val % 64, _⟩
  unfold queryAt projected
  simp only [blk3, blk5, blk7, blk8, tileRow_at]
  rw [turned_tables]
  simp only [Nat.mul_comm 64]

/-- The array of keys after the run. -/
theorem final10 (c : Dev nD) : (dats m 0 c).arrAt 10 (cfgs 0).N
    = keys (m ((c : Thread nD τ).loc main_arg0)) (m ((c : Thread nD τ).loc main_arg1)) (m ((c : Thread nD τ).loc main_arg2))
        (m ((c : Thread nD τ).loc main_arg3)) (m ((c : Thread nD τ).loc main_arg5)) := by
  refine (dats m 0 c).arrAt_eq_of_covers 10 _ (by decide +kernel) fun t _ y => ?_
  blk_simp
  rw [after0_10]
  idx_vars y
  obtain rfl : y0 = 0 := Subsingleton.elim _ _
  refine (out10_at _ _ _ _ _ _ _ _ _ y2 y1).trans ?_
  refine Eq.trans ?_ (congrArg (keys _ _ _ _ _) (emb10 t y2 y1)).symm
  show _ = keyAt _ _ _ _ _ (bat t) (pos t y1) ⟨y2.val / 64, _⟩ ⟨y2.val % 64, _⟩
  unfold keyAt projected
  simp only [blk3, blk6, blk7, blk8, tileRow_at]
  rw [turned_tables, Ideal.ofBits_one_f32, mul_one]
  simp only [Nat.mul_comm 64]

/-- The array of values after the run. -/
theorem final11 (c : Dev nD) : (dats m 0 c).arrAt 11 (cfgs 0).N
    = values (m ((c : Thread nD τ).loc main_arg0)) (m ((c : Thread nD τ).loc main_arg1)) (m ((c : Thread nD τ).loc main_arg2))
        (m ((c : Thread nD τ).loc main_arg3)) := by
  refine (dats m 0 c).arrAt_eq_of_covers 11 _ (by decide +kernel) fun t _ y => ?_
  blk_simp
  rw [after0_11]
  idx_vars y
  obtain rfl : y0 = 0 := Subsingleton.elim _ _
  refine (out11_at _ _ _ _ _ _ _ _ _ y1 y2).trans ?_
  refine Eq.trans ?_ (congrArg (values _ _ _ _) (emb11 t y1 y2)).symm
  show _ = valueAt _ _ _ _ (bat t) (pos t y2) y1
  unfold valueAt projected
  simp only [blk3, tileRow_at]

/-- The array of gated inputs after the run. -/
theorem final12 (c : Dev nD) : (dats m 0 c).arrAt 12 (cfgs 0).N
    = gluArr (m ((c : Thread nD τ).loc main_arg0)) (m ((c : Thread nD τ).loc main_arg1)) (m ((c : Thread nD τ).loc main_arg2))
        (m ((c : Thread nD τ).loc main_arg3)) := by
  refine (dats m 0 c).arrAt_eq_of_covers 12 _ (by decide +kernel) fun t _ y => ?_
  blk_simp
  rw [after0_12]
  idx_vars y
  obtain rfl : y0 = 0 := Subsingleton.elim _ _
  refine (out12_at _ _ _ _ _ _ _ _ _ y2 y1).trans ?_
  refine Eq.trans ?_ (congrArg (gluArr _ _ _ _) (emb12 t y2 y1)).symm
  show _ = gluAt _ _ _ _ (bat t) (pos t y1) y2
  unfold gluAt projected
  simp only [blk4, tileRow_at, ← Nat.add_assoc]

end Cert.InprojIdeal.Hand
end
-- ==== Proof.I.RefHead.lean ====
module

public import proofs.«01_k».proof.Proof.Gen.InprojRefIdeal.Read
public import proofs.«01_k».proof.Proof.I.Spec
public import Idealize.ShloMosaic.Lib.Pipeline.ValueKit

/-! What the reference computes before the rotation: modulated rows, projections, and normalised heads. -/

@[expose] public section

set_option maxRecDepth 16384

noncomputable section

namespace Cert.InprojRefIdeal.Hand
open Cert.InprojRefIdeal Cert.InprojRefIdeal.Gen Cert.InprojRefIdeal.Read
open Idealize.ShloMosaic Idealize.ShloMosaic.TcCoe Idealize.SL.Sem
open InputProjection FeedForward

variable (X : FVec Ideal S16x2304x1024 .f32) (Md : FVec Ideal S24x6x1024 .f32) (g : FVec Ideal S1024 .f32)
  (W : FVec Ideal S1024x1792 .f32) (gq gk : FVec Ideal S64 .f32)

/-- A row of the sequence. -/
theorem row_l (b : Fin 16) (s : Fin 2048) (k : Fin 1024) : val_main_v24 (F := Ideal) X (ix3 b s k) = X (ix3 b ⟨s.val, by omega⟩ k) := by
  pointwise [val_main_v24]

/-- The factor of the norm. -/
theorem rms_l (b : Fin 16) (s : Fin 2048) (k : Fin 1024) :
    val_main_v36 (F := Ideal) X (ix3 b s k) = rms fun k => X (ix3 b ⟨s.val, by omega⟩ k) := by
  have h (x : Fin 1024) : idx_main_v29 (idx_main_v30 (idx_main_v36 (ix3 b s k))) x = ix3 b s x := by
    funext i; fin_cases i <;> rfl
  rw [val_main_v36_apply, val_main_v35_apply, val_main_v34_apply, val_main_v32_apply, val_main_v30_apply, val_main_v29_apply]
  pointwise [val_main_cst_1, val_main_v31, val_main_v33, val_main_cst_2, val_main_cst_3, val_main_v28, rms]
  simp only [h, row_l]

/-- The modulated rows of the sequence. -/
theorem hidden_l (b : Fin 16) (s : Fin 2048) (k : Fin 1024) : val_main_v46 (F := Ideal) X Md g (ix3 b s k) = inputRow X Md g b ⟨s.val, by omega⟩ k := by
  have h1 : idx_main_v38 (idx_main_v39 (ix3 b s k)) = ix1 k := by funext i; fin_cases i <;> rfl
  have h2 : val_main_v27 (F := Ideal) Md (idx_main_v43 (ix3 b s k)) = Md (ix3 ⟨b.val, by omega⟩ 1 k) := by
    rw [val_main_v27_apply]; refine congrArg Md ?_; funext i; fin_cases i <;> rfl
  have h3 : val_main_v26 (F := Ideal) Md (idx_main_v45 (ix3 b s k)) = Md (ix3 ⟨b.val, by omega⟩ 0 k) := by
    rw [val_main_v26_apply]; refine congrArg Md ?_; funext i; fin_cases i <;> rfl
  have hp : modRowOf b ⟨s.val, by omega⟩ = ⟨b.val, by omega⟩ := if_pos s.isLt
  rw [val_main_v46_apply, val_main_v44_apply, val_main_v40_apply, val_main_v37_apply, rms_l, row_l, val_main_v39_apply, val_main_v38_apply,
    val_main_v43_apply, val_main_v42_apply, val_main_v45_apply, h1, h2, h3]
  unfold inputRow
  rw [hp]
  pointwise [val_main_v41, val_main_cst_4, modulated]

/-- A row of the context. -/
theorem row_c (b : Fin 16) (s : Fin 256) (k : Fin 1024) : val_main_v25 (F := Ideal) X (ix3 b s k) = X (ix3 b ⟨2048 + s.val, by omega⟩ k) := by
  pointwise [val_main_v25]

/-- The factor of the norm. -/
theorem rms_c (b : Fin 16) (s : Fin 256) (k : Fin 1024) :
    val_main_v59 (F := Ideal) X (ix3 b s k) = rms fun k => X (ix3 b ⟨2048 + s.val, by omega⟩ k) := by
  have h (x : Fin 1024) : idx_main_v52 (idx_main_v53 (idx_main_v59 (ix3 b s k))) x = ix3 b s x := by
    funext i; fin_cases i <;> rfl
  rw [val_main_v59_apply, val_main_v58_apply, val_main_v57_apply, val_main_v55_apply, val_main_v53_apply, val_main_v52_apply]
  pointwise [val_main_cst_5, val_main_v54, val_main_v56, val_main_cst_6, val_main_cst_7, val_main_v51, rms]
  simp only [h, row_c]

/-- The modulated rows of the context. -/
theorem hidden_c (b : Fin 16) (s : Fin 256) (k : Fin 1024) : val_main_v71 (F := Ideal) X Md g (ix3 b s k) = inputRow X Md g b ⟨2048 + s.val, by omega⟩ k := by
  have h1 : idx_main_v61 (idx_main_v62 (ix3 b s k)) = ix1 k := by funext i; fin_cases i <;> rfl
  have h2 : val_main_v50 (F := Ideal) Md (ix1 k) = Md (ix3 16 1 k) := by pointwise [val_main_v50, val_main_v49]
  have h3 : val_main_v48 (F := Ideal) Md (ix1 k) = Md (ix3 16 0 k) := by pointwise [val_main_v48, val_main_v47]
  have h4 : idx_main_v66 (idx_main_v67 (ix3 b s k)) = ix1 k := by funext i; fin_cases i <;> rfl
  have h5 : idx_main_v69 (idx_main_v70 (ix3 b s k)) = ix1 k := by funext i; fin_cases i <;> rfl
  have hp : modRowOf b ⟨2048 + s.val, by omega⟩ = 16 := if_neg (by show ¬ 2048 + s.val < 2048; omega)
  rw [val_main_v71_apply, val_main_v68_apply, val_main_v63_apply, val_main_v60_apply, rms_c, row_c, val_main_v62_apply, val_main_v61_apply,
    val_main_v67_apply, val_main_v66_apply, val_main_v65_apply, val_main_v70_apply, val_main_v69_apply, h1, h4, h5, h2, h3]
  unfold inputRow
  rw [hp]
  pointwise [val_main_v64, val_main_cst_8, modulated]

/-- The columns of queries. -/
theorem of_queries_l (b : Fin 16) (s : Fin 2048) (c : Fin 512) :
    val_main_v73 (F := Ideal) X Md g W (ix3 b s c) = projected X Md g W b ⟨s.val, by omega⟩ ⟨c.val, by omega⟩ := by
  rw [val_main_v73_apply]
  unfold projected up
  refine Finset.sum_congr rfl fun k _ => ?_
  have h1 : lidx_main_v73 (ix3 b s c) k = ix3 b s k := by funext i; fin_cases i <;> rfl
  have h2 : ridx_main_v73 (ix3 b s c) k = ix2 k c := by funext i; fin_cases i <;> rfl
  rw [h1, h2, hidden_l]
  refine congrArg (fun z => inputRow X Md g b _ k * z) ?_
  pointwise [val_main_v72]

/-- The columns of keys and values. -/
theorem of_keys_and_values_l (b : Fin 16) (s : Fin 2048) (c : Fin 256) :
    val_main_v89 (F := Ideal) X Md g W (ix3 b s c) = projected X Md g W b ⟨s.val, by omega⟩ ⟨512 + c.val, by omega⟩ := by
  rw [val_main_v89_apply]
  unfold projected up
  refine Finset.sum_congr rfl fun k _ => ?_
  have h1 : lidx_main_v89 (ix3 b s c) k = ix3 b s k := by funext i; fin_cases i <;> rfl
  have h2 : ridx_main_v89 (ix3 b s c) k = ix2 k c := by funext i; fin_cases i <;> rfl
  rw [h1, h2, hidden_l]
  refine congrArg (fun z => inputRow X Md g b _ k * z) ?_
  pointwise [val_main_v88]

/-- The columns of the gate. -/
theorem of_the_gate_l (b : Fin 16) (s : Fin 2048) (c : Fin 1024) :
    val_main_v107 (F := Ideal) X Md g W (ix3 b s c) = projected X Md g W b ⟨s.val, by omega⟩ ⟨768 + c.val, by omega⟩ := by
  rw [val_main_v107_apply]
  unfold projected up
  refine Finset.sum_congr rfl fun k _ => ?_
  have h1 : lidx_main_v107 (ix3 b s c) k = ix3 b s k := by funext i; fin_cases i <;> rfl
  have h2 : ridx_main_v107 (ix3 b s c) k = ix2 k c := by funext i; fin_cases i <;> rfl
  rw [h1, h2, hidden_l]
  refine congrArg (fun z => inputRow X Md g b _ k * z) ?_
  pointwise [val_main_v106]

/-- The columns of queries. -/
theorem of_queries_c (b : Fin 16) (s : Fin 256) (c : Fin 512) :
    val_main_v118 (F := Ideal) X Md g W (ix3 b s c) = projected X Md g W b ⟨2048 + s.val, by omega⟩ ⟨c.val, by omega⟩ := by
  rw [val_main_v118_apply]
  unfold projected up
  refine Finset.sum_congr rfl fun k _ => ?_
  have h1 : lidx_main_v118 (ix3 b s c) k = ix3 b s k := by funext i; fin_cases i <;> rfl
  have h2 : ridx_main_v118 (ix3 b s c) k = ix2 k c := by funext i; fin_cases i <;> rfl
  rw [h1, h2, hidden_c]
  refine congrArg (fun z => inputRow X Md g b _ k * z) ?_
  pointwise [val_main_v117]

/-- The columns of keys and values. -/
theorem of_keys_and_values_c (b : Fin 16) (s : Fin 256) (c : Fin 256) :
    val_main_v134 (F := Ideal) X Md g W (ix3 b s c) = projected X Md g W b ⟨2048 + s.val, by omega⟩ ⟨512 + c.val, by omega⟩ := by
  rw [val_main_v134_apply]
  unfold projected up
  refine Finset.sum_congr rfl fun k _ => ?_
  have h1 : lidx_main_v134 (ix3 b s c) k = ix3 b s k := by funext i; fin_cases i <;> rfl
  have h2 : ridx_main_v134 (ix3 b s c) k = ix2 k c := by funext i; fin_cases i <;> rfl
  rw [h1, h2, hidden_c]
  refine congrArg (fun z => inputRow X Md g b _ k * z) ?_
  pointwise [val_main_v133]

/-- The columns of the gate. -/
theorem of_the_gate_c (b : Fin 16) (s : Fin 256) (c : Fin 1024) :
    val_main_v152 (F := Ideal) X Md g W (ix3 b s c) = projected X Md g W b ⟨2048 + s.val, by omega⟩ ⟨768 + c.val, by omega⟩ := by
  rw [val_main_v152_apply]
  unfold projected up
  refine Finset.sum_congr rfl fun k _ => ?_
  have h1 : lidx_main_v152 (ix3 b s c) k = ix3 b s k := by funext i; fin_cases i <;> rfl
  have h2 : ridx_main_v152 (ix3 b s c) k = ix2 k c := by funext i; fin_cases i <;> rfl
  rw [h1, h2, hidden_c]
  refine congrArg (fun z => inputRow X Md g b _ k * z) ?_
  pointwise [val_main_v151]

/-- One query before the norm. -/
theorem query_raw_l (b : Fin 16) (s : Fin 2048) (h : Fin 8) (e : Fin 64) :
    val_main_v74 (F := Ideal) X Md g W (ix4 b s h e) = projected X Md g W b ⟨s.val, by omega⟩ ⟨h.val * 64 + e.val, by omega⟩ := by
  refine Eq.trans (b := val_main_v73 (F := Ideal) X Md g W (ix3 b s (⟨h.val * 64 + e.val, by omega⟩ : Fin 512))) ?_ ?_
  · rw [val_main_v74_apply]
    refine congrArg (val_main_v73 (F := Ideal) X Md g W) ?_
    funext i
    fin_cases i
    · exact Fin.ext (by show (((b.val * 2048 + s.val) * 8 + h.val) * 64 + e.val) / 1048576 = b.val; omega)
    · exact Fin.ext (by show (((b.val * 2048 + s.val) * 8 + h.val) * 64 + e.val) / 512 % 2048 = s.val; omega)
    · exact Fin.ext (by show (((b.val * 2048 + s.val) * 8 + h.val) * 64 + e.val) % 512 = h.val * 64 + e.val; omega)
  · exact of_queries_l X Md g W b s _

/-- One query after the norm. -/
theorem query_l (b : Fin 16) (s : Fin 2048) (h : Fin 8) (d : Fin 64) :
    val_main_v87 (F := Ideal) X Md g W gq (ix4 b s h d) = headed (fun e => projected X Md g W b ⟨s.val, by omega⟩ ⟨h.val * 64 + e.val, by omega⟩) (fun e => gq (ix1 e)) d := by
  have h1 (x : Fin 64) : idx_main_v76 (idx_main_v77 (idx_main_v83 (ix4 b s h d))) x = ix4 b s h x := by
    funext i; fin_cases i <;> rfl
  have h2 : idx_main_v85 (idx_main_v86 (ix4 b s h d)) = ix1 d := by funext i; fin_cases i <;> rfl
  rw [val_main_v87_apply, val_main_v86_apply, val_main_v85_apply, val_main_v84_apply, val_main_v83_apply, val_main_v82_apply, val_main_v81_apply,
    val_main_v79_apply, val_main_v77_apply, val_main_v76_apply]
  pointwise [val_main_cst_9, val_main_v78, val_main_v80, val_main_cst_10, val_main_cst_11, val_main_v75, headed]
  simp only [h1, h2, query_raw_l]

/-- One key before the norm. -/
theorem key_raw_l (b : Fin 16) (s : Fin 2048) (h : Fin 2) (e : Fin 64) :
    val_main_v92 (F := Ideal) X Md g W (ix4 b s h e) = projected X Md g W b ⟨s.val, by omega⟩ ⟨512 + h.val * 64 + e.val, by omega⟩ := by
  refine Eq.trans (b := val_main_v90 (F := Ideal) X Md g W (ix3 b s (⟨h.val * 64 + e.val, by omega⟩ : Fin 128))) ?_ ?_
  · rw [val_main_v92_apply]
    refine congrArg (val_main_v90 (F := Ideal) X Md g W) ?_
    funext i
    fin_cases i
    · exact Fin.ext (by show (((b.val * 2048 + s.val) * 2 + h.val) * 64 + e.val) / 262144 = b.val; omega)
    · exact Fin.ext (by show (((b.val * 2048 + s.val) * 2 + h.val) * 64 + e.val) / 128 % 2048 = s.val; omega)
    · exact Fin.ext (by show (((b.val * 2048 + s.val) * 2 + h.val) * 64 + e.val) % 128 = h.val * 64 + e.val; omega)
  · rw [val_main_v90_apply]
    refine Eq.trans (b := val_main_v89 (F := Ideal) X Md g W (ix3 b s (⟨h.val * 64 + e.val, by omega⟩ : Fin 256))) ?_ ?_
    · refine congrArg (val_main_v89 (F := Ideal) X Md g W) ?_
      funext i; fin_cases i <;> rfl
    · refine (of_keys_and_values_l X Md g W b s _).trans ?_
      exact congrArg (projected X Md g W b _) (Fin.ext (by show 512 + (h.val * 64 + e.val) = 512 + h.val * 64 + e.val; omega))

/-- One key after the norm. -/
theorem key_l (b : Fin 16) (s : Fin 2048) (h : Fin 2) (d : Fin 64) :
    val_main_v105 (F := Ideal) X Md g W gk (ix4 b s h d) = headed (fun e => projected X Md g W b ⟨s.val, by omega⟩ ⟨512 + h.val * 64 + e.val, by omega⟩) (fun e => gk (ix1 e)) d := by
  have h1 (x : Fin 64) : idx_main_v94 (idx_main_v95 (idx_main_v101 (ix4 b s h d))) x = ix4 b s h x := by
    funext i; fin_cases i <;> rfl
  have h2 : idx_main_v103 (idx_main_v104 (ix4 b s h d)) = ix1 d := by funext i; fin_cases i <;> rfl
  rw [val_main_v105_apply, val_main_v104_apply, val_main_v103_apply, val_main_v102_apply, val_main_v101_apply, val_main_v100_apply, val_main_v99_apply,
    val_main_v97_apply, val_main_v95_apply, val_main_v94_apply]
  pointwise [val_main_cst_12, val_main_v96, val_main_v98, val_main_cst_13, val_main_cst_14, val_main_v93, headed]
  simp only [h1, h2, key_raw_l]

/-- One gated input. -/
theorem glu_l (b : Fin 16) (s : Fin 2048) (n : Fin 512) : val_main_v116 (F := Ideal) X Md g W (ix3 b s n) = gluAt X Md g W b ⟨s.val, by omega⟩ n := by
  pointwise [val_main_v116, val_main_v115, val_main_v114, val_main_v113, val_main_v112, val_main_v111, val_main_v110, val_main_v109, val_main_v108, val_main_cst_15, val_main_cst_16, gluAt]
  rw [of_the_gate_l, of_the_gate_l]
  simp only [← Nat.add_assoc]
  rfl

/-- One value. -/
theorem value_l (b : Fin 16) (s : Fin 2048) (n : Fin 128) : val_main_v91 (F := Ideal) X Md g W (ix3 b s n) = valueAt X Md g W b ⟨s.val, by omega⟩ n := by
  pointwise [val_main_v91, valueAt]
  rw [of_keys_and_values_l]
  simp only [← Nat.add_assoc]

/-- One query before the norm. -/
theorem query_raw_c (b : Fin 16) (s : Fin 256) (h : Fin 8) (e : Fin 64) :
    val_main_v119 (F := Ideal) X Md g W (ix4 b s h e) = projected X Md g W b ⟨2048 + s.val, by omega⟩ ⟨h.val * 64 + e.val, by omega⟩ := by
  refine Eq.trans (b := val_main_v118 (F := Ideal) X Md g W (ix3 b s (⟨h.val * 64 + e.val, by omega⟩ : Fin 512))) ?_ ?_
  · rw [val_main_v119_apply]
    refine congrArg (val_main_v118 (F := Ideal) X Md g W) ?_
    funext i
    fin_cases i
    · exact Fin.ext (by show (((b.val * 256 + s.val) * 8 + h.val) * 64 + e.val) / 131072 = b.val; omega)
    · exact Fin.ext (by show (((b.val * 256 + s.val) * 8 + h.val) * 64 + e.val) / 512 % 256 = s.val; omega)
    · exact Fin.ext (by show (((b.val * 256 + s.val) * 8 + h.val) * 64 + e.val) % 512 = h.val * 64 + e.val; omega)
  · exact of_queries_c X Md g W b s _

/-- One query after the norm. -/
theorem query_c (b : Fin 16) (s : Fin 256) (h : Fin 8) (d : Fin 64) :
    val_main_v132 (F := Ideal) X Md g W gq (ix4 b s h d) = headed (fun e => projected X Md g W b ⟨2048 + s.val, by omega⟩ ⟨h.val * 64 + e.val, by omega⟩) (fun e => gq (ix1 e)) d := by
  have h1 (x : Fin 64) : idx_main_v121 (idx_main_v122 (idx_main_v128 (ix4 b s h d))) x = ix4 b s h x := by
    funext i; fin_cases i <;> rfl
  have h2 : idx_main_v130 (idx_main_v131 (ix4 b s h d)) = ix1 d := by funext i; fin_cases i <;> rfl
  rw [val_main_v132_apply, val_main_v131_apply, val_main_v130_apply, val_main_v129_apply, val_main_v128_apply, val_main_v127_apply, val_main_v126_apply,
    val_main_v124_apply, val_main_v122_apply, val_main_v121_apply]
  pointwise [val_main_cst_17, val_main_v123, val_main_v125, val_main_cst_18, val_main_cst_19, val_main_v120, headed]
  simp only [h1, h2, query_raw_c]

/-- One key before the norm. -/
theorem key_raw_c (b : Fin 16) (s : Fin 256) (h : Fin 2) (e : Fin 64) :
    val_main_v137 (F := Ideal) X Md g W (ix4 b s h e) = projected X Md g W b ⟨2048 + s.val, by omega⟩ ⟨512 + h.val * 64 + e.val, by omega⟩ := by
  refine Eq.trans (b := val_main_v135 (F := Ideal) X Md g W (ix3 b s (⟨h.val * 64 + e.val, by omega⟩ : Fin 128))) ?_ ?_
  · rw [val_main_v137_apply]
    refine congrArg (val_main_v135 (F := Ideal) X Md g W) ?_
    funext i
    fin_cases i
    · exact Fin.ext (by show (((b.val * 256 + s.val) * 2 + h.val) * 64 + e.val) / 32768 = b.val; omega)
    · exact Fin.ext (by show (((b.val * 256 + s.val) * 2 + h.val) * 64 + e.val) / 128 % 256 = s.val; omega)
    · exact Fin.ext (by show (((b.val * 256 + s.val) * 2 + h.val) * 64 + e.val) % 128 = h.val * 64 + e.val; omega)
  · rw [val_main_v135_apply]
    refine Eq.trans (b := val_main_v134 (F := Ideal) X Md g W (ix3 b s (⟨h.val * 64 + e.val, by omega⟩ : Fin 256))) ?_ ?_
    · refine congrArg (val_main_v134 (F := Ideal) X Md g W) ?_
      funext i; fin_cases i <;> rfl
    · refine (of_keys_and_values_c X Md g W b s _).trans ?_
      exact congrArg (projected X Md g W b _) (Fin.ext (by show 512 + (h.val * 64 + e.val) = 512 + h.val * 64 + e.val; omega))

/-- One key after the norm. -/
theorem key_c (b : Fin 16) (s : Fin 256) (h : Fin 2) (d : Fin 64) :
    val_main_v150 (F := Ideal) X Md g W gk (ix4 b s h d) = headed (fun e => projected X Md g W b ⟨2048 + s.val, by omega⟩ ⟨512 + h.val * 64 + e.val, by omega⟩) (fun e => gk (ix1 e)) d := by
  have h1 (x : Fin 64) : idx_main_v139 (idx_main_v140 (idx_main_v146 (ix4 b s h d))) x = ix4 b s h x := by
    funext i; fin_cases i <;> rfl
  have h2 : idx_main_v148 (idx_main_v149 (ix4 b s h d)) = ix1 d := by funext i; fin_cases i <;> rfl
  rw [val_main_v150_apply, val_main_v149_apply, val_main_v148_apply, val_main_v147_apply, val_main_v146_apply, val_main_v145_apply, val_main_v144_apply,
    val_main_v142_apply, val_main_v140_apply, val_main_v139_apply]
  pointwise [val_main_cst_20, val_main_v141, val_main_v143, val_main_cst_21, val_main_cst_22, val_main_v138, headed]
  simp only [h1, h2, key_raw_c]

/-- One gated input. -/
theorem glu_c (b : Fin 16) (s : Fin 256) (n : Fin 512) : val_main_v161 (F := Ideal) X Md g W (ix3 b s n) = gluAt X Md g W b ⟨2048 + s.val, by omega⟩ n := by
  pointwise [val_main_v161, val_main_v160, val_main_v159, val_main_v158, val_main_v157, val_main_v156, val_main_v155, val_main_v154, val_main_v153, val_main_cst_23, val_main_cst_24, gluAt]
  rw [of_the_gate_c, of_the_gate_c]
  simp only [← Nat.add_assoc]
  rfl

/-- One value. -/
theorem value_c (b : Fin 16) (s : Fin 256) (n : Fin 128) : val_main_v136 (F := Ideal) X Md g W (ix3 b s n) = valueAt X Md g W b ⟨2048 + s.val, by omega⟩ n := by
  pointwise [val_main_v136, valueAt]
  rw [of_keys_and_values_c]
  simp only [← Nat.add_assoc]

end Cert.InprojRefIdeal.Hand
end
-- ==== Proof.I.RefTurn.lean ====
module

public import proofs.«01_k».proof.Proof.Gen.InprojRefIdeal.Read
public import proofs.«01_k».proof.Proof.I.Spec
public import Idealize.ShloMosaic.Lib.Pipeline.ValueKit
public import Idealize.ShloMosaic.Lib.ValueIdxRank6

/-! What the reference's rotation computes. -/

@[expose] public section

set_option maxRecDepth 16384

noncomputable section

namespace Cert.InprojRefIdeal.Hand
open Cert.InprojRefIdeal Cert.InprojRefIdeal.Gen Cert.InprojRefIdeal.Read
open Idealize.ShloMosaic Idealize.ShloMosaic.TcCoe Idealize.SL.Sem
open InputProjection FeedForward

variable (X : FVec Ideal S16x2304x1024 .f32) (Md : FVec Ideal S24x6x1024 .f32) (g : FVec Ideal S1024 .f32)
  (W : FVec Ideal S1024x1792 .f32) (gq gk : FVec Ideal S64 .f32)

/-- The angle of a position along an axis of the grid. -/
theorem pos_at (s : Fin 2048) (a : Fin 2) : val_main_v9 (F := Ideal) (ix2 s a) = BitVec.ofNat 32 (if a.val < 1 then s.val / 64 else s.val % 64) := by
  pointwise [val_main_v9, val_main_v8, val_main_v7, val_main_v6, val_main_v5, val_main_v4, val_main_v3, val_main_v2, val_main_v1, val_main_v0]
  by_cases h : a.val < 1
  · rw [dif_pos h, if_pos h]
  · rw [dif_neg h, if_neg h]

theorem angle_at (s : Fin 2048) (a : Fin 2) (f : Fin 16) : val_main_v21 (F := Ideal) (ix3 s a f) = angle s.val a.val f.val := by
  pointwise [val_main_v21, val_main_v20, val_main_v19, val_main_v18, val_main_v17, val_main_v16, val_main_v15, val_main_v14, val_main_v13,
    val_main_v12, val_main_v11, val_main_v10, val_main_cst, val_main_cst_0]
  rw [pos_at]
  rfl

/-- The cosine of a position's angle. -/
theorem cos_at (s : Fin 2048) (a : Fin 2) (f : Fin 16) : val_main_v22 (F := Ideal) (ix3 s a f) = Ideal.cos (angle s.val a.val f.val) := by
  rw [val_main_v22_apply, angle_at]
  rfl

/-- The sine of a position's angle. -/
theorem sin_at (s : Fin 2048) (a : Fin 2) (f : Fin 16) : val_main_v23 (F := Ideal) (ix3 s a f) = Ideal.sin (angle s.val a.val f.val) := by
  rw [val_main_v23_apply, angle_at]
  rfl

/-- A query's head, cut in halves and quarters. -/
theorem query_cut (b : Fin 16) (s : Fin 2048) (h : Fin 8) (a p : Fin 2) (f : Fin 16) :
    val_main_v162 (F := Ideal) X Md g W gq (ix6 b s h a p f) = val_main_v87 (F := Ideal) X Md g W gq (ix4 b s h (⟨a.val * 32 + p.val * 16 + f.val, by omega⟩ : Fin 64)) := by
  unfold val_main_v162
  generalize val_main_v87 (F := Ideal) X Md g W gq = y
  exact shapeCast_apply y _ _ _ (by
    rewrite [Shape.rowMajor_val_four, Shape.rowMajor_val_six]
    show ((b.val * 2048 + s.val) * 8 + h.val) * 64 + (a.val * 32 + p.val * 16 + f.val)
      = ((((b.val * 2048 + s.val) * 8 + h.val) * 2 + a.val) * 2 + p.val) * 16 + f.val
    omega)

/-- The first quarter of a half of a query's head. -/
theorem query_fst (b : Fin 16) (s : Fin 2048) (h : Fin 8) (a : Fin 2) (f : Fin 16) :
    val_main_v164 (F := Ideal) X Md g W gq (ix5 b s h a f) = val_main_v87 (F := Ideal) X Md g W gq (ix4 b s h (⟨a.val * 32 + f.val, by omega⟩ : Fin 64)) := by
  refine Eq.trans (b := val_main_v163 (F := Ideal) X Md g W gq (ix6 b s h a 0 f)) ?_ ?_
  · unfold val_main_v164
    generalize val_main_v163 (F := Ideal) X Md g W gq = y
    exact shapeCast_apply y _ _ _ (by
      rewrite [Shape.rowMajor_val_six, Shape.rowMajor_val_five]
      show ((((b.val * 2048 + s.val) * 8 + h.val) * 2 + a.val) * 1 + 0) * 16 + f.val
        = (((b.val * 2048 + s.val) * 8 + h.val) * 2 + a.val) * 16 + f.val
      omega)
  · rw [val_main_v163_apply]
    refine Eq.trans (congrArg (val_main_v162 (F := Ideal) X Md g W gq) (?_ : _ = ix6 b s h a 0 f)) ((query_cut X Md g W gq b s h a 0 f).trans ?_)
    · funext i; fin_cases i <;> rfl
    · exact congrArg (fun e : Fin 64 => val_main_v87 (F := Ideal) X Md g W gq (ix4 b s h e)) (Fin.ext (by show a.val * 32 + 0 * 16 + f.val = a.val * 32 + f.val; omega))

/-- The second quarter of a half of a query's head. -/
theorem query_snd (b : Fin 16) (s : Fin 2048) (h : Fin 8) (a : Fin 2) (f : Fin 16) :
    val_main_v166 (F := Ideal) X Md g W gq (ix5 b s h a f) = val_main_v87 (F := Ideal) X Md g W gq (ix4 b s h (⟨a.val * 32 + 16 + f.val, by omega⟩ : Fin 64)) := by
  refine Eq.trans (b := val_main_v165 (F := Ideal) X Md g W gq (ix6 b s h a 0 f)) ?_ ?_
  · unfold val_main_v166
    generalize val_main_v165 (F := Ideal) X Md g W gq = y
    exact shapeCast_apply y _ _ _ (by
      rewrite [Shape.rowMajor_val_six, Shape.rowMajor_val_five]
      show ((((b.val * 2048 + s.val) * 8 + h.val) * 2 + a.val) * 1 + 0) * 16 + f.val
        = (((b.val * 2048 + s.val) * 8 + h.val) * 2 + a.val) * 16 + f.val
      omega)
  · rw [val_main_v165_apply]
    refine Eq.trans (congrArg (val_main_v162 (F := Ideal) X Md g W gq) (?_ : _ = ix6 b s h a 1 f)) ((query_cut X Md g W gq b s h a 1 f).trans ?_)
    · funext i; fin_cases i <;> rfl
    · exact congrArg (fun e : Fin 64 => val_main_v87 (F := Ideal) X Md g W gq (ix4 b s h e)) (Fin.ext (by show a.val * 32 + 1 * 16 + f.val = a.val * 32 + 16 + f.val; omega))

/-- A query's rotated first quarters. -/
theorem query_lo (b : Fin 16) (s : Fin 2048) (h : Fin 8) (a : Fin 2) (f : Fin 16) :
    val_main_v173 (F := Ideal) X Md g W gq (ix5 b s h a f)
      = val_main_v87 (F := Ideal) X Md g W gq (ix4 b s h (⟨a.val * 32 + f.val, by omega⟩ : Fin 64)) * Ideal.cos (angle s.val a.val f.val)
        - val_main_v87 (F := Ideal) X Md g W gq (ix4 b s h (⟨a.val * 32 + 16 + f.val, by omega⟩ : Fin 64)) * Ideal.sin (angle s.val a.val f.val) := by
  have h1 : idx_main_v167 (idx_main_v169 (ix5 b s h a f)) = ix3 s a f := by funext i; fin_cases i <;> rfl
  have h2 : idx_main_v168 (idx_main_v171 (ix5 b s h a f)) = ix3 s a f := by funext i; fin_cases i <;> rfl
  rw [val_main_v173_apply, val_main_v170_apply, val_main_v172_apply, query_fst, query_snd, val_main_v169_apply, val_main_v167_apply,
    val_main_v171_apply, val_main_v168_apply, h1, h2, cos_at, sin_at]
  rfl

/-- A query's rotated second quarters. -/
theorem query_hi (b : Fin 16) (s : Fin 2048) (h : Fin 8) (a : Fin 2) (f : Fin 16) :
    val_main_v178 (F := Ideal) X Md g W gq (ix5 b s h a f)
      = val_main_v87 (F := Ideal) X Md g W gq (ix4 b s h (⟨a.val * 32 + 16 + f.val, by omega⟩ : Fin 64)) * Ideal.cos (angle s.val a.val f.val)
        + val_main_v87 (F := Ideal) X Md g W gq (ix4 b s h (⟨a.val * 32 + f.val, by omega⟩ : Fin 64)) * Ideal.sin (angle s.val a.val f.val) := by
  have h1 : idx_main_v167 (idx_main_v174 (ix5 b s h a f)) = ix3 s a f := by funext i; fin_cases i <;> rfl
  have h2 : idx_main_v168 (idx_main_v176 (ix5 b s h a f)) = ix3 s a f := by funext i; fin_cases i <;> rfl
  rw [val_main_v178_apply, val_main_v175_apply, val_main_v177_apply, query_fst, query_snd, val_main_v174_apply, val_main_v167_apply,
    val_main_v176_apply, val_main_v168_apply, h1, h2, cos_at, sin_at]
  rfl

/-- The two rotated quarters side by side. -/
theorem query_cat (b : Fin 16) (s : Fin 2048) (h : Fin 8) (a p : Fin 2) (f : Fin 16) :
    val_main_v181 (F := Ideal) X Md g W gq (ix6 b s h a p f)
      = if p.val < 1 then val_main_v173 (F := Ideal) X Md g W gq (ix5 b s h a f) else val_main_v178 (F := Ideal) X Md g W gq (ix5 b s h a f) := by
  pointwise [val_main_v181, val_main_v179, val_main_v180]
  try rfl

/-- A rotated query. -/
theorem query_turned (b : Fin 16) (s : Fin 2048) (h : Fin 8) (d : Fin 64) :
    val_main_v182 (F := Ideal) X Md g W gq (ix4 b s h d) = rotated ⟨s.val, by omega⟩ (fun e => val_main_v87 (F := Ideal) X Md g W gq (ix4 b s h e)) d := by
  refine Eq.trans (b := val_main_v181 (F := Ideal) X Md g W gq (ix6 b s h (⟨d.val / 32, by omega⟩ : Fin 2) (⟨d.val % 32 / 16, by omega⟩ : Fin 2) (⟨d.val % 16, by omega⟩ : Fin 16))) ?_ ?_
  · unfold val_main_v182
    generalize val_main_v181 (F := Ideal) X Md g W gq = y
    exact shapeCast_apply y _ _ _ (by
      rewrite [Shape.rowMajor_val_six, Shape.rowMajor_val_four]
      show ((((b.val * 2048 + s.val) * 8 + h.val) * 2 + d.val / 32) * 2 + d.val % 32 / 16) * 16 + d.val % 16
        = ((b.val * 2048 + s.val) * 8 + h.val) * 64 + d.val
      omega)
  unfold rotated
  rw [if_pos (show (⟨s.val, by omega⟩ : Fin 2304).val < 2048 from s.isLt)]
  by_cases h' : d.val % 32 < 16
  · rw [if_pos h']
    rw [query_cat, if_pos (show d.val % 32 / 16 < 1 by omega), query_lo]
    have e1 : (⟨d.val / 32 * 32 + d.val % 16, by omega⟩ : Fin 64) = d := Fin.ext (by show d.val / 32 * 32 + d.val % 16 = d.val; omega)
    have e2 : (⟨d.val / 32 * 32 + 16 + d.val % 16, by omega⟩ : Fin 64) = partner d := by
      unfold partner
      exact Fin.ext (by show _ = _; split_ifs <;> (show _ = _; simp only []; omega))
    have e3 : d.val % 16 = d.val % 32 := by omega
    show val_main_v87 (F := Ideal) X Md g W gq (ix4 b s h ⟨d.val / 32 * 32 + d.val % 16, _⟩) * Ideal.cos (angle s.val (d.val / 32) (d.val % 16))
      - val_main_v87 (F := Ideal) X Md g W gq (ix4 b s h ⟨d.val / 32 * 32 + 16 + d.val % 16, _⟩) * Ideal.sin (angle s.val (d.val / 32) (d.val % 16)) = _
    rw [e1, e2, e3]
  · rw [if_neg h']
    rw [query_cat, if_neg (show ¬ d.val % 32 / 16 < 1 by omega), query_hi]
    have e1 : (⟨d.val / 32 * 32 + 16 + d.val % 16, by omega⟩ : Fin 64) = d := Fin.ext (by show d.val / 32 * 32 + 16 + d.val % 16 = d.val; omega)
    have e2 : (⟨d.val / 32 * 32 + d.val % 16, by omega⟩ : Fin 64) = partner d := by
      unfold partner
      exact Fin.ext (by show _ = _; split_ifs <;> (show _ = _; simp only []; omega))
    have e3 : d.val % 16 = d.val % 32 - 16 := by omega
    show val_main_v87 (F := Ideal) X Md g W gq (ix4 b s h ⟨d.val / 32 * 32 + 16 + d.val % 16, _⟩) * Ideal.cos (angle s.val (d.val / 32) (d.val % 16))
      + val_main_v87 (F := Ideal) X Md g W gq (ix4 b s h ⟨d.val / 32 * 32 + d.val % 16, _⟩) * Ideal.sin (angle s.val (d.val / 32) (d.val % 16)) = _
    rw [e1, e2, e3]

/-- A key's head, cut in halves and quarters. -/
theorem key_cut (b : Fin 16) (s : Fin 2048) (h : Fin 2) (a p : Fin 2) (f : Fin 16) :
    val_main_v183 (F := Ideal) X Md g W gk (ix6 b s h a p f) = val_main_v105 (F := Ideal) X Md g W gk (ix4 b s h (⟨a.val * 32 + p.val * 16 + f.val, by omega⟩ : Fin 64)) := by
  unfold val_main_v183
  generalize val_main_v105 (F := Ideal) X Md g W gk = y
  exact shapeCast_apply y _ _ _ (by
    rewrite [Shape.rowMajor_val_four, Shape.rowMajor_val_six]
    show ((b.val * 2048 + s.val) * 2 + h.val) * 64 + (a.val * 32 + p.val * 16 + f.val)
      = ((((b.val * 2048 + s.val) * 2 + h.val) * 2 + a.val) * 2 + p.val) * 16 + f.val
    omega)

/-- The first quarter of a half of a key's head. -/
theorem key_fst (b : Fin 16) (s : Fin 2048) (h : Fin 2) (a : Fin 2) (f : Fin 16) :
    val_main_v185 (F := Ideal) X Md g W gk (ix5 b s h a f) = val_main_v105 (F := Ideal) X Md g W gk (ix4 b s h (⟨a.val * 32 + f.val, by omega⟩ : Fin 64)) := by
  refine Eq.trans (b := val_main_v184 (F := Ideal) X Md g W gk (ix6 b s h a 0 f)) ?_ ?_
  · unfold val_main_v185
    generalize val_main_v184 (F := Ideal) X Md g W gk = y
    exact shapeCast_apply y _ _ _ (by
      rewrite [Shape.rowMajor_val_six, Shape.rowMajor_val_five]
      show ((((b.val * 2048 + s.val) * 2 + h.val) * 2 + a.val) * 1 + 0) * 16 + f.val
        = (((b.val * 2048 + s.val) * 2 + h.val) * 2 + a.val) * 16 + f.val
      omega)
  · rw [val_main_v184_apply]
    refine Eq.trans (congrArg (val_main_v183 (F := Ideal) X Md g W gk) (?_ : _ = ix6 b s h a 0 f)) ((key_cut X Md g W gk b s h a 0 f).trans ?_)
    · funext i; fin_cases i <;> rfl
    · exact congrArg (fun e : Fin 64 => val_main_v105 (F := Ideal) X Md g W gk (ix4 b s h e)) (Fin.ext (by show a.val * 32 + 0 * 16 + f.val = a.val * 32 + f.val; omega))

/-- The second quarter of a half of a key's head. -/
theorem key_snd (b : Fin 16) (s : Fin 2048) (h : Fin 2) (a : Fin 2) (f : Fin 16) :
    val_main_v187 (F := Ideal) X Md g W gk (ix5 b s h a f) = val_main_v105 (F := Ideal) X Md g W gk (ix4 b s h (⟨a.val * 32 + 16 + f.val, by omega⟩ : Fin 64)) := by
  refine Eq.trans (b := val_main_v186 (F := Ideal) X Md g W gk (ix6 b s h a 0 f)) ?_ ?_
  · unfold val_main_v187
    generalize val_main_v186 (F := Ideal) X Md g W gk = y
    exact shapeCast_apply y _ _ _ (by
      rewrite [Shape.rowMajor_val_six, Shape.rowMajor_val_five]
      show ((((b.val * 2048 + s.val) * 2 + h.val) * 2 + a.val) * 1 + 0) * 16 + f.val
        = (((b.val * 2048 + s.val) * 2 + h.val) * 2 + a.val) * 16 + f.val
      omega)
  · rw [val_main_v186_apply]
    refine Eq.trans (congrArg (val_main_v183 (F := Ideal) X Md g W gk) (?_ : _ = ix6 b s h a 1 f)) ((key_cut X Md g W gk b s h a 1 f).trans ?_)
    · funext i; fin_cases i <;> rfl
    · exact congrArg (fun e : Fin 64 => val_main_v105 (F := Ideal) X Md g W gk (ix4 b s h e)) (Fin.ext (by show a.val * 32 + 1 * 16 + f.val = a.val * 32 + 16 + f.val; omega))

/-- A key's rotated first quarters. -/
theorem key_lo (b : Fin 16) (s : Fin 2048) (h : Fin 2) (a : Fin 2) (f : Fin 16) :
    val_main_v194 (F := Ideal) X Md g W gk (ix5 b s h a f)
      = val_main_v105 (F := Ideal) X Md g W gk (ix4 b s h (⟨a.val * 32 + f.val, by omega⟩ : Fin 64)) * Ideal.cos (angle s.val a.val f.val)
        - val_main_v105 (F := Ideal) X Md g W gk (ix4 b s h (⟨a.val * 32 + 16 + f.val, by omega⟩ : Fin 64)) * Ideal.sin (angle s.val a.val f.val) := by
  have h1 : idx_main_v188 (idx_main_v190 (ix5 b s h a f)) = ix3 s a f := by funext i; fin_cases i <;> rfl
  have h2 : idx_main_v189 (idx_main_v192 (ix5 b s h a f)) = ix3 s a f := by funext i; fin_cases i <;> rfl
  rw [val_main_v194_apply, val_main_v191_apply, val_main_v193_apply, key_fst, key_snd, val_main_v190_apply, val_main_v188_apply,
    val_main_v192_apply, val_main_v189_apply, h1, h2, cos_at, sin_at]
  rfl

/-- A key's rotated second quarters. -/
theorem key_hi (b : Fin 16) (s : Fin 2048) (h : Fin 2) (a : Fin 2) (f : Fin 16) :
    val_main_v199 (F := Ideal) X Md g W gk (ix5 b s h a f)
      = val_main_v105 (F := Ideal) X Md g W gk (ix4 b s h (⟨a.val * 32 + 16 + f.val, by omega⟩ : Fin 64)) * Ideal.cos (angle s.val a.val f.val)
        + val_main_v105 (F := Ideal) X Md g W gk (ix4 b s h (⟨a.val * 32 + f.val, by omega⟩ : Fin 64)) * Ideal.sin (angle s.val a.val f.val) := by
  have h1 : idx_main_v188 (idx_main_v195 (ix5 b s h a f)) = ix3 s a f := by funext i; fin_cases i <;> rfl
  have h2 : idx_main_v189 (idx_main_v197 (ix5 b s h a f)) = ix3 s a f := by funext i; fin_cases i <;> rfl
  rw [val_main_v199_apply, val_main_v196_apply, val_main_v198_apply, key_fst, key_snd, val_main_v195_apply, val_main_v188_apply,
    val_main_v197_apply, val_main_v189_apply, h1, h2, cos_at, sin_at]
  rfl

/-- The two rotated quarters side by side. -/
theorem key_cat (b : Fin 16) (s : Fin 2048) (h : Fin 2) (a p : Fin 2) (f : Fin 16) :
    val_main_v202 (F := Ideal) X Md g W gk (ix6 b s h a p f)
      = if p.val < 1 then val_main_v194 (F := Ideal) X Md g W gk (ix5 b s h a f) else val_main_v199 (F := Ideal) X Md g W gk (ix5 b s h a f) := by
  pointwise [val_main_v202, val_main_v200, val_main_v201]
  try rfl

/-- A rotated key. -/
theorem key_turned (b : Fin 16) (s : Fin 2048) (h : Fin 2) (d : Fin 64) :
    val_main_v203 (F := Ideal) X Md g W gk (ix4 b s h d) = rotated ⟨s.val, by omega⟩ (fun e => val_main_v105 (F := Ideal) X Md g W gk (ix4 b s h e)) d := by
  refine Eq.trans (b := val_main_v202 (F := Ideal) X Md g W gk (ix6 b s h (⟨d.val / 32, by omega⟩ : Fin 2) (⟨d.val % 32 / 16, by omega⟩ : Fin 2) (⟨d.val % 16, by omega⟩ : Fin 16))) ?_ ?_
  · unfold val_main_v203
    generalize val_main_v202 (F := Ideal) X Md g W gk = y
    exact shapeCast_apply y _ _ _ (by
      rewrite [Shape.rowMajor_val_six, Shape.rowMajor_val_four]
      show ((((b.val * 2048 + s.val) * 2 + h.val) * 2 + d.val / 32) * 2 + d.val % 32 / 16) * 16 + d.val % 16
        = ((b.val * 2048 + s.val) * 2 + h.val) * 64 + d.val
      omega)
  unfold rotated
  rw [if_pos (show (⟨s.val, by omega⟩ : Fin 2304).val < 2048 from s.isLt)]
  by_cases h' : d.val % 32 < 16
  · rw [if_pos h']
    rw [key_cat, if_pos (show d.val % 32 / 16 < 1 by omega), key_lo]
    have e1 : (⟨d.val / 32 * 32 + d.val % 16, by omega⟩ : Fin 64) = d := Fin.ext (by show d.val / 32 * 32 + d.val % 16 = d.val; omega)
    have e2 : (⟨d.val / 32 * 32 + 16 + d.val % 16, by omega⟩ : Fin 64) = partner d := by
      unfold partner
      exact Fin.ext (by show _ = _; split_ifs <;> (show _ = _; simp only []; omega))
    have e3 : d.val % 16 = d.val % 32 := by omega
    show val_main_v105 (F := Ideal) X Md g W gk (ix4 b s h ⟨d.val / 32 * 32 + d.val % 16, _⟩) * Ideal.cos (angle s.val (d.val / 32) (d.val % 16))
      - val_main_v105 (F := Ideal) X Md g W gk (ix4 b s h ⟨d.val / 32 * 32 + 16 + d.val % 16, _⟩) * Ideal.sin (angle s.val (d.val / 32) (d.val % 16)) = _
    rw [e1, e2, e3]
  · rw [if_neg h']
    rw [key_cat, if_neg (show ¬ d.val % 32 / 16 < 1 by omega), key_hi]
    have e1 : (⟨d.val / 32 * 32 + 16 + d.val % 16, by omega⟩ : Fin 64) = d := Fin.ext (by show d.val / 32 * 32 + 16 + d.val % 16 = d.val; omega)
    have e2 : (⟨d.val / 32 * 32 + d.val % 16, by omega⟩ : Fin 64) = partner d := by
      unfold partner
      exact Fin.ext (by show _ = _; split_ifs <;> (show _ = _; simp only []; omega))
    have e3 : d.val % 16 = d.val % 32 - 16 := by omega
    show val_main_v105 (F := Ideal) X Md g W gk (ix4 b s h ⟨d.val / 32 * 32 + 16 + d.val % 16, _⟩) * Ideal.cos (angle s.val (d.val / 32) (d.val % 16))
      + val_main_v105 (F := Ideal) X Md g W gk (ix4 b s h ⟨d.val / 32 * 32 + d.val % 16, _⟩) * Ideal.sin (angle s.val (d.val / 32) (d.val % 16)) = _
    rw [e1, e2, e3]

end Cert.InprojRefIdeal.Hand
end
-- ==== Proof.I.Ref.lean ====
module

public import proofs.«01_k».proof.Proof.Gen.InprojRefIdeal.Read
public import proofs.«01_k».proof.Proof.I.Spec
public import Idealize.ShloMosaic.Lib.Pipeline.ValueKit
public import proofs.«01_k».proof.Proof.I.RefHead
public import proofs.«01_k».proof.Proof.I.RefTurn

/-! The reference's four arrays are the specification's. -/

@[expose] public section

set_option maxRecDepth 16384

noncomputable section

namespace Cert.InprojRefIdeal.Hand
open Cert.InprojRefIdeal Cert.InprojRefIdeal.Gen Cert.InprojRefIdeal.Read
open Idealize.ShloMosaic Idealize.ShloMosaic.TcCoe Idealize.SL.Sem
open InputProjection FeedForward

variable (X : FVec Ideal S16x2304x1024 .f32) (Md : FVec Ideal S24x6x1024 .f32) (g : FVec Ideal S1024 .f32)
  (W : FVec Ideal S1024x1792 .f32) (gq gk : FVec Ideal S64 .f32)

/-- The query of a position, rotated, the context's as it is. -/
theorem query_all (b : Fin 16) (s : Fin 2304) (h : Fin 8) (d : Fin 64) :
    val_main_v204 (F := Ideal) X Md g W gq (ix4 b s h d)
      = rotated s (headed (fun e => projected X Md g W b s ⟨h.val * 64 + e.val, by omega⟩) (fun e => gq (ix1 e))) d := by
  by_cases hs : s.val < 2048
  · refine Eq.trans (b := val_main_v182 (F := Ideal) X Md g W gq (ix4 b (⟨s.val, hs⟩ : Fin 2048) h d)) ?_ ?_
    · pointwise [val_main_v204]
      rw [dif_pos hs]
    · rw [query_turned]
      simp only [query_l]
  · refine Eq.trans (b := val_main_v132 (F := Ideal) X Md g W gq (ix4 b (⟨s.val - 2048, by omega⟩ : Fin 256) h d)) ?_ ?_
    · pointwise [val_main_v204]
      rw [dif_neg hs]
    · rw [query_c]
      have e : (⟨2048 + (s.val - 2048), by omega⟩ : Fin 2304) = s := Fin.ext (by show 2048 + (s.val - 2048) = s.val; omega)
      unfold rotated
      rw [if_neg hs, e]

/-- The query of a position as a row of all heads. -/
theorem query_row (b : Fin 16) (s : Fin 2304) (n : Fin 512) :
    val_main_v205 (F := Ideal) X Md g W gq (ix3 b s n) = val_main_v204 (F := Ideal) X Md g W gq (ix4 b s (⟨n.val / 64, by omega⟩ : Fin 8) (⟨n.val % 64, by omega⟩ : Fin 64)) := by
  rw [val_main_v205_apply]
  refine congrArg (val_main_v204 (F := Ideal) X Md g W gq) ?_
  funext i
  fin_cases i
  · exact Fin.ext (by show ((b.val * 2304 + s.val) * 512 + n.val) / 1179648 = b.val; omega)
  · exact Fin.ext (by show ((b.val * 2304 + s.val) * 512 + n.val) / 512 % 2304 = s.val; omega)
  · exact Fin.ext (by show ((b.val * 2304 + s.val) * 512 + n.val) / 64 % 8 = n.val / 64; omega)
  · exact Fin.ext (by show ((b.val * 2304 + s.val) * 512 + n.val) % 64 = n.val % 64; omega)

/-- The key of a position, rotated, the context's as it is. -/
theorem key_all (b : Fin 16) (s : Fin 2304) (h : Fin 2) (d : Fin 64) :
    val_main_v208 (F := Ideal) X Md g W gk (ix4 b s h d)
      = rotated s (headed (fun e => projected X Md g W b s ⟨512 + h.val * 64 + e.val, by omega⟩) (fun e => gk (ix1 e))) d := by
  by_cases hs : s.val < 2048
  · refine Eq.trans (b := val_main_v203 (F := Ideal) X Md g W gk (ix4 b (⟨s.val, hs⟩ : Fin 2048) h d)) ?_ ?_
    · pointwise [val_main_v208]
      rw [dif_pos hs]
    · rw [key_turned]
      simp only [key_l]
  · refine Eq.trans (b := val_main_v150 (F := Ideal) X Md g W gk (ix4 b (⟨s.val - 2048, by omega⟩ : Fin 256) h d)) ?_ ?_
    · pointwise [val_main_v208]
      rw [dif_neg hs]
    · rw [key_c]
      have e : (⟨2048 + (s.val - 2048), by omega⟩ : Fin 2304) = s := Fin.ext (by show 2048 + (s.val - 2048) = s.val; omega)
      unfold rotated
      rw [if_neg hs, e]

/-- The key of a position as a row of all heads. -/
theorem key_row (b : Fin 16) (s : Fin 2304) (n : Fin 128) :
    val_main_v209 (F := Ideal) X Md g W gk (ix3 b s n) = val_main_v208 (F := Ideal) X Md g W gk (ix4 b s (⟨n.val / 64, by omega⟩ : Fin 2) (⟨n.val % 64, by omega⟩ : Fin 64)) := by
  rw [val_main_v209_apply]
  refine congrArg (val_main_v208 (F := Ideal) X Md g W gk) ?_
  funext i
  fin_cases i
  · exact Fin.ext (by show ((b.val * 2304 + s.val) * 128 + n.val) / 294912 = b.val; omega)
  · exact Fin.ext (by show ((b.val * 2304 + s.val) * 128 + n.val) / 128 % 2304 = s.val; omega)
  · exact Fin.ext (by show ((b.val * 2304 + s.val) * 128 + n.val) / 64 % 2 = n.val / 64; omega)
  · exact Fin.ext (by show ((b.val * 2304 + s.val) * 128 + n.val) % 64 = n.val % 64; omega)

/-- A value of any position. -/
theorem value_all (b : Fin 16) (s : Fin 2304) (n : Fin 128) : val_main_v210 (F := Ideal) X Md g W (ix3 b s n) = valueAt X Md g W b s n := by
  by_cases hs : s.val < 2048
  · refine Eq.trans (b := val_main_v91 (F := Ideal) X Md g W (ix3 b (⟨s.val, hs⟩ : Fin 2048) n)) ?_ ?_
    · pointwise [val_main_v210]
      rw [dif_pos hs]
    · rw [value_l]
  · refine Eq.trans (b := val_main_v136 (F := Ideal) X Md g W (ix3 b (⟨s.val - 2048, by omega⟩ : Fin 256) n)) ?_ ?_
    · pointwise [val_main_v210]
      rw [dif_neg hs]
    · rw [value_c]
      have e : (⟨2048 + (s.val - 2048), by omega⟩ : Fin 2304) = s := Fin.ext (by show 2048 + (s.val - 2048) = s.val; omega)
      rw [e]

/-- A gated input of any position. -/
theorem glu_all (b : Fin 16) (s : Fin 2304) (n : Fin 512) : val_main_v216 (F := Ideal) X Md g W (ix3 b s n) = gluAt X Md g W b s n := by
  by_cases hs : s.val < 2048
  · refine Eq.trans (b := val_main_v116 (F := Ideal) X Md g W (ix3 b (⟨s.val, hs⟩ : Fin 2048) n)) ?_ ?_
    · pointwise [val_main_v216]
      rw [dif_pos hs]
    · rw [glu_l]
  · refine Eq.trans (b := val_main_v161 (F := Ideal) X Md g W (ix3 b (⟨s.val - 2048, by omega⟩ : Fin 256) n)) ?_ ?_
    · pointwise [val_main_v216]
      rw [dif_neg hs]
    · rw [glu_c]
      have e : (⟨2048 + (s.val - 2048), by omega⟩ : Fin 2304) = s := Fin.ext (by show 2048 + (s.val - 2048) = s.val; omega)
      rw [e]

/-- The reference's queries. -/
theorem ref_queries : val_main_v212 (F := Ideal) X Md g W gq = queries X Md g W gq := by
  funext i
  idx_vars i
  rw [val_main_v212_apply, val_main_v211_apply, val_main_v207_apply]
  have h : idx_main_v211 (ix3 i0 i1 i2) = ix3 i0 i2 i1 := by funext i; fin_cases i <;> rfl
  rw [h, query_row, query_all]
  rfl

/-- The reference's keys. -/
theorem ref_keys : val_main_v213 (F := Ideal) X Md g W gk = keys X Md g W gk := by
  funext i
  idx_vars i
  rw [val_main_v213_apply, key_row, key_all]
  rfl

/-- The reference's values. -/
theorem ref_values : val_main_v215 (F := Ideal) X Md g W = values X Md g W := by
  funext i
  idx_vars i
  rw [val_main_v215_apply, val_main_v214_apply]
  have h : idx_main_v214 (ix3 i0 i1 i2) = ix3 i0 i2 i1 := by funext i; fin_cases i <;> rfl
  rw [h, value_all]
  rfl

/-- The reference's gated inputs. -/
theorem ref_glu : val_main_v216 (F := Ideal) X Md g W = gluArr X Md g W := by
  funext i
  idx_vars i
  rw [glu_all]
  rfl

end Cert.InprojRefIdeal.Hand
end
-- ==== Proof.I.Claims.lean ====
module

public import proofs.«01_k».proof.Defs
public import proofs.«01_k».proof.Proof.Gen.Inproj.Frame
public import proofs.«01_k».proof.Proof.Gen.InprojIdeal.Frame
public import proofs.«01_k».proof.Proof.Gen.InprojRefIdeal.Run
public import proofs.«01_k».proof.Proof.I.Final
public import proofs.«01_k».proof.Proof.I.Ref
public import Idealize.ShloMosaic.Lib.Claim

/-! The claims about the input projection call. -/

@[expose] public section

set_option maxRecDepth 16384

noncomputable section

namespace Cert.InputProjectionCall
open Idealize.ShloMosaic Idealize.ShloMosaic.TcCoe Idealize.SL.Sem

/-- The input projection kernel runs to its end, and leaves its arguments and every semaphore as they were. -/
theorem frame_p : quiescent_Inproj := fun m g _ => Cert.Inproj.Gen.frame m g

/-- The same of the kernel at the extended reals. -/
theorem frame_pi : quiescent_InprojIdeal := fun m g _ => Cert.InprojIdeal.Gen.frame m g

/-- The reference runs to its end, and leaves its arguments and every semaphore as they were. -/
theorem frame_ri : quiescent_InprojRefIdeal := fun m g _ =>
  (θ_run Cert.InprojRefIdeal.defs _ _).mono (fun r h => ⟨fun c => (h c).2.2.2.2, sem_eq_zero_of_no_sems (by decide) r.2⟩)
    (Cert.InprojRefIdeal.Value.run (F := Ideal) m g)

set_option maxHeartbeats 1000000 in
/-- For all arguments the kernel's four results at the extended reals are the reference's. -/
theorem algebraic : algebraic_InprojIdeal_InprojRefIdeal := by
  pair_intro
  · run_from Cert.InprojIdeal.Value.run_blocks m g
  · run_from Cert.InprojRefIdeal.Value.run m' g'
    · obtain ⟨h0, h1, h2, h3, h4, h5⟩ := hagree c
      rw [Cert.InprojRefIdeal.Read.val_main_v212_eq]
      refine (Cert.InprojRefIdeal.Hand.ref_queries _ _ _ _ _).trans (Eq.trans ?_ (Cert.InprojIdeal.Hand.final9 m c).symm)
      show InputProjection.queries (m' (c.tc.loc Cert.InprojRefIdeal.main_arg0)) (m' (c.tc.loc Cert.InprojRefIdeal.main_arg1)) (m' (c.tc.loc Cert.InprojRefIdeal.main_arg2)) (m' (c.tc.loc Cert.InprojRefIdeal.main_arg3)) (m' (c.tc.loc Cert.InprojRefIdeal.main_arg4)) = _
      rw [h0, h1, h2, h3, h4]
    · obtain ⟨h0, h1, h2, h3, h4, h5⟩ := hagree c
      rw [Cert.InprojRefIdeal.Read.val_main_v213_eq]
      refine (Cert.InprojRefIdeal.Hand.ref_keys _ _ _ _ _).trans (Eq.trans ?_ (Cert.InprojIdeal.Hand.final10 m c).symm)
      show InputProjection.keys (m' (c.tc.loc Cert.InprojRefIdeal.main_arg0)) (m' (c.tc.loc Cert.InprojRefIdeal.main_arg1)) (m' (c.tc.loc Cert.InprojRefIdeal.main_arg2)) (m' (c.tc.loc Cert.InprojRefIdeal.main_arg3)) (m' (c.tc.loc Cert.InprojRefIdeal.main_arg5)) = _
      rw [h0, h1, h2, h3, h5]
    · obtain ⟨h0, h1, h2, h3, h4, h5⟩ := hagree c
      rw [Cert.InprojRefIdeal.Read.val_main_v215_eq]
      refine (Cert.InprojRefIdeal.Hand.ref_values _ _ _ _).trans (Eq.trans ?_ (Cert.InprojIdeal.Hand.final11 m c).symm)
      show InputProjection.values (m' (c.tc.loc Cert.InprojRefIdeal.main_arg0)) (m' (c.tc.loc Cert.InprojRefIdeal.main_arg1)) (m' (c.tc.loc Cert.InprojRefIdeal.main_arg2)) (m' (c.tc.loc Cert.InprojRefIdeal.main_arg3)) = _
      rw [h0, h1, h2, h3]
    · obtain ⟨h0, h1, h2, h3, h4, h5⟩ := hagree c
      rw [Cert.InprojRefIdeal.Read.val_main_v216_eq]
      refine (Cert.InprojRefIdeal.Hand.ref_glu _ _ _ _).trans (Eq.trans ?_ (Cert.InprojIdeal.Hand.final12 m c).symm)
      show InputProjection.gluArr (m' (c.tc.loc Cert.InprojRefIdeal.main_arg0)) (m' (c.tc.loc Cert.InprojRefIdeal.main_arg1)) (m' (c.tc.loc Cert.InprojRefIdeal.main_arg2)) (m' (c.tc.loc Cert.InprojRefIdeal.main_arg3)) = _
      rw [h0, h1, h2, h3]

end Cert.InputProjectionCall
end
-- ==== Proof.O.Taps.lean ====
module

public import proofs.«01_k».proof.Proof.Gen.OutprojIdeal.Value
public import Idealize.ShloMosaic.Lib.Pipeline.ValueKit
public import Idealize.ShloMosaic.Lib.Pointwise

/-! The sum of products of the depthwise convolution, in the order of the kernel. -/

@[expose] public section

set_option maxRecDepth 16384

noncomputable section

namespace Cert.OutprojIdeal.Hand
open Cert.OutprojIdeal Cert.OutprojIdeal.Gen
open Idealize.ShloMosaic Idealize.ShloMosaic.TcCoe Idealize.SL.Sem

/-- The products of a window's rows with the taps, summed. -/
def taps (win : Fin 288 → Fin 512 → EReal) (x6 : Vec Ideal S32x512 .f32) (r : Fin 256) (n : Fin 512) : EReal :=
  ∑ j : Fin 31, win ⟨r.val + j.val + 1, by omega⟩ n * x6 (ix2 (⟨j.val, by omega⟩ : Fin 32) n)

/-- A sum of 31 terms in the order of the kernel: by the remainder of the row shift modulo eight. -/
theorem sum_order (T : Fin 31 → EReal) :
    T 7 + T 15 + T 23 + T 0 + T 8 + T 16 + T 24 + T 1 + T 9 + T 17 + T 25 + T 2 + T 10 + T 18 + T 26 + T 3 + T 11 + T 19 + T 27 + T 4 + T 12 + T 20 + T 28 + T 5 + T 13 + T 21 + T 29 + T 6 + T 14 + T 22 + T 30 = ∑ j : Fin 31, T j := by
  have h : (∑ j : Fin 31, T j) = T 0 + (T 1 + (T 2 + (T 3 + (T 4 + (T 5 + (T 6 + (T 7 + (T 8 + (T 9 + (T 10 + (T 11 + (T 12 + (T 13 + (T 14 + (T 15 + (T 16 + (T 17 + (T 18 + (T 19 + (T 20 + (T 21 + (T 22 + (T 23 + (T 24 + (T 25 + (T 26 + (T 27 + (T 28 + (T 29 + (T 30)))))))))))))))))))))))))))))) := by
    simp only [Fin.sum_univ_succ, Fin.sum_univ_zero, add_zero]
    rfl
  rw [h]
  ac_rfl

/-- Equal summands have equal sums. -/
theorem add_of {a a' b b' : EReal} (h : a = a') (h' : b = b') : a + b = a' + b' := by rw [h, h']

/-- One product of a row of the block with a tap. -/
theorem prod_of {win : Fin 288 → Fin 512 → EReal} {x6 : Vec Ideal S32x512 .f32} {B : Vec Ideal S160x128 .f32} {b o : ℕ} (hb : b ≤ 128) (ho : o ≤ 384)
    (hB : ∀ (i : Fin 160) (l : Fin 128), B (ix2 i l) = win ⟨b + i.val, by omega⟩ ⟨o + l.val, by omega⟩)
    (q : Fin 160) (J : Fin 32) (N : Fin 512) (j : Fin 31) (l : Fin 128) (r : Fin 256) (n : Fin 512) (hJ : J.val = j.val) (hN : N.val = n.val)
    (hr : b + q.val = r.val + j.val + 1) (hn : n.val = o + l.val) :
    B (ix2 q l) * x6 (ix2 J N) = win ⟨r.val + j.val + 1, by omega⟩ n * x6 (ix2 (⟨j.val, by omega⟩ : Fin 32) n) := by
  obtain rfl : N = n := Fin.ext hN
  rw [hB]
  have e1 : (⟨b + q.val, by omega⟩ : Fin 288) = ⟨r.val + j.val + 1, by omega⟩ := Fin.ext hr
  have e2 : (⟨o + l.val, by omega⟩ : Fin 512) = N := Fin.ext hn.symm
  have e3 : J = ⟨j.val, by omega⟩ := Fin.ext hJ
  rw [e1, e2]
  exact congrArg (fun a => win ⟨r.val + j.val + 1, by omega⟩ N * x6 (ix2 a N)) e3

end Cert.OutprojIdeal.Hand
end
-- ==== Proof.O.Column0.lean ====
module

public import proofs.«01_k».proof.Proof.Gen.OutprojIdeal.Value
public import Idealize.ShloMosaic.Lib.Pipeline.ValueKit
public import Idealize.ShloMosaic.Lib.Pointwise
public import proofs.«01_k».proof.Proof.O.Taps

/-! What the kernel computes in columns 0 to 127 of the convolution. -/

@[expose] public section

set_option maxRecDepth 16384

noncomputable section

namespace Cert.OutprojIdeal.Hand
open Cert.OutprojIdeal Cert.OutprojIdeal.Gen
open Idealize.ShloMosaic Idealize.ShloMosaic.TcCoe Idealize.SL.Sem

set_option maxHeartbeats 2000000 in
/-- Columns 0 to 127 of the convolution. -/
theorem col0 (win : Fin 288 → Fin 512 → EReal) (x6 : Vec Ideal S32x512 .f32) (v26 v221 : Vec Ideal S160x128 .f32)
    (hv26 : ∀ (i : Fin 160) (l : Fin 128), v26 (ix2 i l) = win ⟨0 + i.val, by omega⟩ ⟨0 + l.val, by omega⟩)
    (hv221 : ∀ (i : Fin 160) (l : Fin 128), v221 (ix2 i l) = win ⟨128 + i.val, by omega⟩ ⟨0 + l.val, by omega⟩) (r : Fin 256) (l : Fin 128) :
    (k0_pay37 (k0_pay22 (k0_pay18 v26) (k0_pay19 v26 (k0_pay14 v26) (k0_pay15 v26 (k0_pay11 v26 (k0_pay7 k0_pay5 v26 (k0_pay6 v26) (View.ld (Val := Elt Ideal) x6 (Rect.unit (s := S32x512) ![7, 0] ![1, 128] inb_S32x512_S1x128_7_0)) (View.ld (Val := Elt Ideal) x6 (Rect.unit (s := S32x512) ![15, 0] ![1, 128] inb_S32x512_S1x128_15_0)) (View.ld (Val := Elt Ideal) x6 (Rect.unit (s := S32x512) ![23, 0] ![1, 128] inb_S32x512_S1x128_23_0)) (View.ld (Val := Elt Ideal) x6 (Rect.unit (s := S32x512) ![0, 0] ![1, 128] inb_S32x512_S1x128_0_0)) (View.ld (Val := Elt Ideal) x6 (Rect.unit (s := S32x512) ![8, 0] ![1, 128] inb_S32x512_S1x128_8_0)) (View.ld (Val := Elt Ideal) x6 (Rect.unit (s := S32x512) ![16, 0] ![1, 128] inb_S32x512_S1x128_16_0)) (View.ld (Val := Elt Ideal) x6 (Rect.unit (s := S32x512) ![24, 0] ![1, 128] inb_S32x512_S1x128_24_0))) (k0_pay8 v26) (k0_pay9 v26) (View.ld (Val := Elt Ideal) x6 (Rect.unit (s := S32x512) ![1, 0] ![1, 128] inb_S32x512_S1x128_1_0)) (View.ld (Val := Elt Ideal) x6 (Rect.unit (s := S32x512) ![9, 0] ![1, 128] inb_S32x512_S1x128_9_0)) (View.ld (Val := Elt Ideal) x6 (Rect.unit (s := S32x512) ![17, 0] ![1, 128] inb_S32x512_S1x128_17_0)) (View.ld (Val := Elt Ideal) x6 (Rect.unit (s := S32x512) ![25, 0] ![1, 128] inb_S32x512_S1x128_25_0)) (View.ld (Val := Elt Ideal) x6 (Rect.unit (s := S32x512) ![2, 0] ![1, 128] inb_S32x512_S1x128_2_0)) (View.ld (Val := Elt Ideal) x6 (Rect.unit (s := S32x512) ![10, 0] ![1, 128] inb_S32x512_S1x128_10_0)) (View.ld (Val := Elt Ideal) x6 (Rect.unit (s := S32x512) ![18, 0] ![1, 128] inb_S32x512_S1x128_18_0))) (k0_pay12 v26) (k0_pay13 (View.ld (Val := Elt Ideal) x6 (Rect.unit (s := S32x512) ![26, 0] ![1, 128] inb_S32x512_S1x128_26_0))) (View.ld (Val := Elt Ideal) x6 (Rect.unit (s := S32x512) ![3, 0] ![1, 128] inb_S32x512_S1x128_3_0)) (View.ld (Val := Elt Ideal) x6 (Rect.unit (s := S32x512) ![11, 0] ![1, 128] inb_S32x512_S1x128_11_0)) (View.ld (Val := Elt Ideal) x6 (Rect.unit (s := S32x512) ![19, 0] ![1, 128] inb_S32x512_S1x128_19_0)) (View.ld (Val := Elt Ideal) x6 (Rect.unit (s := S32x512) ![27, 0] ![1, 128] inb_S32x512_S1x128_27_0)) (View.ld (Val := Elt Ideal) x6 (Rect.unit (s := S32x512) ![4, 0] ![1, 128] inb_S32x512_S1x128_4_0)) (View.ld (Val := Elt Ideal) x6 (Rect.unit (s := S32x512) ![12, 0] ![1, 128] inb_S32x512_S1x128_12_0))) (k0_pay16 v26) (k0_pay17 (View.ld (Val := Elt Ideal) x6 (Rect.unit (s := S32x512) ![20, 0] ![1, 128] inb_S32x512_S1x128_20_0))) (View.ld (Val := Elt Ideal) x6 (Rect.unit (s := S32x512) ![28, 0] ![1, 128] inb_S32x512_S1x128_28_0)) (View.ld (Val := Elt Ideal) x6 (Rect.unit (s := S32x512) ![5, 0] ![1, 128] inb_S32x512_S1x128_5_0)) (View.ld (Val := Elt Ideal) x6 (Rect.unit (s := S32x512) ![13, 0] ![1, 128] inb_S32x512_S1x128_13_0)) (View.ld (Val := Elt Ideal) x6 (Rect.unit (s := S32x512) ![21, 0] ![1, 128] inb_S32x512_S1x128_21_0)) (View.ld (Val := Elt Ideal) x6 (Rect.unit (s := S32x512) ![29, 0] ![1, 128] inb_S32x512_S1x128_29_0)) (View.ld (Val := Elt Ideal) x6 (Rect.unit (s := S32x512) ![6, 0] ![1, 128] inb_S32x512_S1x128_6_0))) (k0_pay20 v26) (k0_pay21 (View.ld (Val := Elt Ideal) x6 (Rect.unit (s := S32x512) ![14, 0] ![1, 128] inb_S32x512_S1x128_14_0))) (View.ld (Val := Elt Ideal) x6 (Rect.unit (s := S32x512) ![22, 0] ![1, 128] inb_S32x512_S1x128_22_0)) (View.ld (Val := Elt Ideal) x6 (Rect.unit (s := S32x512) ![30, 0] ![1, 128] inb_S32x512_S1x128_30_0))) v221 (k0_pay33 v221) (k0_pay34 v221 (k0_pay30 v221 (k0_pay26 v221 (k0_pay23 v221) (k0_pay24 v221 (View.ld (Val := Elt Ideal) x6 (Rect.unit (s := S32x512) ![7, 0] ![1, 128] inb_S32x512_S1x128_7_0)) (View.ld (Val := Elt Ideal) x6 (Rect.unit (s := S32x512) ![15, 0] ![1, 128] inb_S32x512_S1x128_15_0)) (View.ld (Val := Elt Ideal) x6 (Rect.unit (s := S32x512) ![23, 0] ![1, 128] inb_S32x512_S1x128_23_0)) (View.ld (Val := Elt Ideal) x6 (Rect.unit (s := S32x512) ![0, 0] ![1, 128] inb_S32x512_S1x128_0_0))) (k0_pay25 v221) (View.ld (Val := Elt Ideal) x6 (Rect.unit (s := S32x512) ![8, 0] ![1, 128] inb_S32x512_S1x128_8_0)) (View.ld (Val := Elt Ideal) x6 (Rect.unit (s := S32x512) ![16, 0] ![1, 128] inb_S32x512_S1x128_16_0)) (View.ld (Val := Elt Ideal) x6 (Rect.unit (s := S32x512) ![24, 0] ![1, 128] inb_S32x512_S1x128_24_0)) (View.ld (Val := Elt Ideal) x6 (Rect.unit (s := S32x512) ![1, 0] ![1, 128] inb_S32x512_S1x128_1_0)) (View.ld (Val := Elt Ideal) x6 (Rect.unit (s := S32x512) ![9, 0] ![1, 128] inb_S32x512_S1x128_9_0)) (View.ld (Val := Elt Ideal) x6 (Rect.unit (s := S32x512) ![17, 0] ![1, 128] inb_S32x512_S1x128_17_0)) (View.ld (Val := Elt Ideal) x6 (Rect.unit (s := S32x512) ![25, 0] ![1, 128] inb_S32x512_S1x128_25_0))) (k0_pay27 v221) (k0_pay28 v221) (View.ld (Val := Elt Ideal) x6 (Rect.unit (s := S32x512) ![2, 0] ![1, 128] inb_S32x512_S1x128_2_0)) (View.ld (Val := Elt Ideal) x6 (Rect.unit (s := S32x512) ![10, 0] ![1, 128] inb_S32x512_S1x128_10_0)) (View.ld (Val := Elt Ideal) x6 (Rect.unit (s := S32x512) ![18, 0] ![1, 128] inb_S32x512_S1x128_18_0)) (View.ld (Val := Elt Ideal) x6 (Rect.unit (s := S32x512) ![26, 0] ![1, 128] inb_S32x512_S1x128_26_0)) (View.ld (Val := Elt Ideal) x6 (Rect.unit (s := S32x512) ![3, 0] ![1, 128] inb_S32x512_S1x128_3_0)) (View.ld (Val := Elt Ideal) x6 (Rect.unit (s := S32x512) ![11, 0] ![1, 128] inb_S32x512_S1x128_11_0)) (View.ld (Val := Elt Ideal) x6 (Rect.unit (s := S32x512) ![19, 0] ![1, 128] inb_S32x512_S1x128_19_0))) (k0_pay31 v221) (k0_pay32 (View.ld (Val := Elt Ideal) x6 (Rect.unit (s := S32x512) ![27, 0] ![1, 128] inb_S32x512_S1x128_27_0))) (View.ld (Val := Elt Ideal) x6 (Rect.unit (s := S32x512) ![4, 0] ![1, 128] inb_S32x512_S1x128_4_0)) (View.ld (Val := Elt Ideal) x6 (Rect.unit (s := S32x512) ![12, 0] ![1, 128] inb_S32x512_S1x128_12_0)) (View.ld (Val := Elt Ideal) x6 (Rect.unit (s := S32x512) ![20, 0] ![1, 128] inb_S32x512_S1x128_20_0)) (View.ld (Val := Elt Ideal) x6 (Rect.unit (s := S32x512) ![28, 0] ![1, 128] inb_S32x512_S1x128_28_0)) (View.ld (Val := Elt Ideal) x6 (Rect.unit (s := S32x512) ![5, 0] ![1, 128] inb_S32x512_S1x128_5_0)) (View.ld (Val := Elt Ideal) x6 (Rect.unit (s := S32x512) ![13, 0] ![1, 128] inb_S32x512_S1x128_13_0))) (k0_pay35 v221) (k0_pay36 (View.ld (Val := Elt Ideal) x6 (Rect.unit (s := S32x512) ![21, 0] ![1, 128] inb_S32x512_S1x128_21_0))) (View.ld (Val := Elt Ideal) x6 (Rect.unit (s := S32x512) ![29, 0] ![1, 128] inb_S32x512_S1x128_29_0)) (View.ld (Val := Elt Ideal) x6 (Rect.unit (s := S32x512) ![6, 0] ![1, 128] inb_S32x512_S1x128_6_0)) (View.ld (Val := Elt Ideal) x6 (Rect.unit (s := S32x512) ![14, 0] ![1, 128] inb_S32x512_S1x128_14_0)) (View.ld (Val := Elt Ideal) x6 (Rect.unit (s := S32x512) ![22, 0] ![1, 128] inb_S32x512_S1x128_22_0)) (View.ld (Val := Elt Ideal) x6 (Rect.unit (s := S32x512) ![30, 0] ![1, 128] inb_S32x512_S1x128_30_0))) (ix2 r l)
      = taps win x6 r ⟨0 + l.val, by omega⟩ := by
  by_cases h : r.val < 128
  · pointwise [k0_pay37, k0_pay22, k0_pay18, k0_pay19, k0_pay14, k0_pay15, k0_pay11, k0_pay10, k0_pay7, k0_pay5, k0_pay6, k0_pay8, k0_pay9, k0_pay12, k0_pay13, k0_pay16, k0_pay17, k0_pay20, k0_pay21, k0_pay33, k0_pay34, k0_pay30, k0_pay29, k0_pay26, k0_pay23, k0_pay24, k0_pay25, k0_pay27, k0_pay28, k0_pay31, k0_pay32, k0_pay35, k0_pay36]
    refine (dif_pos h).trans ?_
    unfold taps
    refine Eq.trans ?_ (sum_order _)
    iterate 30 refine add_of ?_ (prod_of (by decide) (by decide) hv26 _ _ _ _ _ _ _ rfl (by simp) (by simp; omega) (by simp))
    exact prod_of (by decide) (by decide) hv26 _ _ _ _ _ _ _ rfl (by simp) (by simp; omega) (by simp)
  · pointwise [k0_pay37, k0_pay22, k0_pay18, k0_pay19, k0_pay14, k0_pay15, k0_pay11, k0_pay10, k0_pay7, k0_pay5, k0_pay6, k0_pay8, k0_pay9, k0_pay12, k0_pay13, k0_pay16, k0_pay17, k0_pay20, k0_pay21, k0_pay33, k0_pay34, k0_pay30, k0_pay29, k0_pay26, k0_pay23, k0_pay24, k0_pay25, k0_pay27, k0_pay28, k0_pay31, k0_pay32, k0_pay35, k0_pay36]
    refine (dif_neg h).trans ?_
    unfold taps
    refine Eq.trans ?_ (sum_order _)
    iterate 30 refine add_of ?_ (prod_of (by decide) (by decide) hv221 _ _ _ _ _ _ _ rfl (by simp) (by simp; omega) (by simp))
    exact prod_of (by decide) (by decide) hv221 _ _ _ _ _ _ _ rfl (by simp) (by simp; omega) (by simp)

end Cert.OutprojIdeal.Hand
end
-- ==== Proof.O.Column1.lean ====
module

public import proofs.«01_k».proof.Proof.Gen.OutprojIdeal.Value
public import Idealize.ShloMosaic.Lib.Pipeline.ValueKit
public import Idealize.ShloMosaic.Lib.Pointwise
public import proofs.«01_k».proof.Proof.O.Taps

/-! What the kernel computes in columns 128 to 255 of the convolution. -/

@[expose] public section

set_option maxRecDepth 16384

noncomputable section

namespace Cert.OutprojIdeal.Hand
open Cert.OutprojIdeal Cert.OutprojIdeal.Gen
open Idealize.ShloMosaic Idealize.ShloMosaic.TcCoe Idealize.SL.Sem

set_option maxHeartbeats 2000000 in
/-- Columns 128 to 255 of the convolution. -/
theorem col1 (win : Fin 288 → Fin 512 → EReal) (x6 : Vec Ideal S32x512 .f32) (v417 v612 : Vec Ideal S160x128 .f32)
    (hv417 : ∀ (i : Fin 160) (l : Fin 128), v417 (ix2 i l) = win ⟨0 + i.val, by omega⟩ ⟨128 + l.val, by omega⟩)
    (hv612 : ∀ (i : Fin 160) (l : Fin 128), v612 (ix2 i l) = win ⟨128 + i.val, by omega⟩ ⟨128 + l.val, by omega⟩) (r : Fin 256) (l : Fin 128) :
    (k0_pay62 (k0_pay52 (k0_pay49 v417) (k0_pay50 v417 (k0_pay47 v417 (k0_pay43 v417 (k0_pay40 v417) (k0_pay41 v417 (k0_pay38 v417 (View.ld (Val := Elt Ideal) x6 (Rect.unit (s := S32x512) ![7, 128] ![1, 128] inb_S32x512_S1x128_7_128))) (k0_pay39 v417) (View.ld (Val := Elt Ideal) x6 (Rect.unit (s := S32x512) ![15, 128] ![1, 128] inb_S32x512_S1x128_15_128)) (View.ld (Val := Elt Ideal) x6 (Rect.unit (s := S32x512) ![23, 128] ![1, 128] inb_S32x512_S1x128_23_128)) (View.ld (Val := Elt Ideal) x6 (Rect.unit (s := S32x512) ![0, 128] ![1, 128] inb_S32x512_S1x128_0_128)) (View.ld (Val := Elt Ideal) x6 (Rect.unit (s := S32x512) ![8, 128] ![1, 128] inb_S32x512_S1x128_8_128)) (View.ld (Val := Elt Ideal) x6 (Rect.unit (s := S32x512) ![16, 128] ![1, 128] inb_S32x512_S1x128_16_128)) (View.ld (Val := Elt Ideal) x6 (Rect.unit (s := S32x512) ![24, 128] ![1, 128] inb_S32x512_S1x128_24_128)) (View.ld (Val := Elt Ideal) x6 (Rect.unit (s := S32x512) ![1, 128] ![1, 128] inb_S32x512_S1x128_1_128))) (k0_pay42 v417) (View.ld (Val := Elt Ideal) x6 (Rect.unit (s := S32x512) ![9, 128] ![1, 128] inb_S32x512_S1x128_9_128)) (View.ld (Val := Elt Ideal) x6 (Rect.unit (s := S32x512) ![17, 128] ![1, 128] inb_S32x512_S1x128_17_128)) (View.ld (Val := Elt Ideal) x6 (Rect.unit (s := S32x512) ![25, 128] ![1, 128] inb_S32x512_S1x128_25_128)) (View.ld (Val := Elt Ideal) x6 (Rect.unit (s := S32x512) ![2, 128] ![1, 128] inb_S32x512_S1x128_2_128)) (View.ld (Val := Elt Ideal) x6 (Rect.unit (s := S32x512) ![10, 128] ![1, 128] inb_S32x512_S1x128_10_128)) (View.ld (Val := Elt Ideal) x6 (Rect.unit (s := S32x512) ![18, 128] ![1, 128] inb_S32x512_S1x128_18_128)) (View.ld (Val := Elt Ideal) x6 (Rect.unit (s := S32x512) ![26, 128] ![1, 128] inb_S32x512_S1x128_26_128))) (k0_pay44 v417) (k0_pay45 v417) (View.ld (Val := Elt Ideal) x6 (Rect.unit (s := S32x512) ![3, 128] ![1, 128] inb_S32x512_S1x128_3_128)) (View.ld (Val := Elt Ideal) x6 (Rect.unit (s := S32x512) ![11, 128] ![1, 128] inb_S32x512_S1x128_11_128)) (View.ld (Val := Elt Ideal) x6 (Rect.unit (s := S32x512) ![19, 128] ![1, 128] inb_S32x512_S1x128_19_128)) (View.ld (Val := Elt Ideal) x6 (Rect.unit (s := S32x512) ![27, 128] ![1, 128] inb_S32x512_S1x128_27_128)) (View.ld (Val := Elt Ideal) x6 (Rect.unit (s := S32x512) ![4, 128] ![1, 128] inb_S32x512_S1x128_4_128)) (View.ld (Val := Elt Ideal) x6 (Rect.unit (s := S32x512) ![12, 128] ![1, 128] inb_S32x512_S1x128_12_128)) (View.ld (Val := Elt Ideal) x6 (Rect.unit (s := S32x512) ![20, 128] ![1, 128] inb_S32x512_S1x128_20_128))) (k0_pay48 v417) (View.ld (Val := Elt Ideal) x6 (Rect.unit (s := S32x512) ![28, 128] ![1, 128] inb_S32x512_S1x128_28_128)) (View.ld (Val := Elt Ideal) x6 (Rect.unit (s := S32x512) ![5, 128] ![1, 128] inb_S32x512_S1x128_5_128)) (View.ld (Val := Elt Ideal) x6 (Rect.unit (s := S32x512) ![13, 128] ![1, 128] inb_S32x512_S1x128_13_128)) (View.ld (Val := Elt Ideal) x6 (Rect.unit (s := S32x512) ![21, 128] ![1, 128] inb_S32x512_S1x128_21_128)) (View.ld (Val := Elt Ideal) x6 (Rect.unit (s := S32x512) ![29, 128] ![1, 128] inb_S32x512_S1x128_29_128)) (View.ld (Val := Elt Ideal) x6 (Rect.unit (s := S32x512) ![6, 128] ![1, 128] inb_S32x512_S1x128_6_128)) (View.ld (Val := Elt Ideal) x6 (Rect.unit (s := S32x512) ![14, 128] ![1, 128] inb_S32x512_S1x128_14_128))) (k0_pay51 v417) (View.ld (Val := Elt Ideal) x6 (Rect.unit (s := S32x512) ![22, 128] ![1, 128] inb_S32x512_S1x128_22_128)) (View.ld (Val := Elt Ideal) x6 (Rect.unit (s := S32x512) ![30, 128] ![1, 128] inb_S32x512_S1x128_30_128))) v612 (k0_pay60 v612 (k0_pay57 v612 (k0_pay55 v612) (k0_pay56 v612 (k0_pay53 v612) (k0_pay54 v612 (View.ld (Val := Elt Ideal) x6 (Rect.unit (s := S32x512) ![7, 128] ![1, 128] inb_S32x512_S1x128_7_128)) (View.ld (Val := Elt Ideal) x6 (Rect.unit (s := S32x512) ![15, 128] ![1, 128] inb_S32x512_S1x128_15_128)) (View.ld (Val := Elt Ideal) x6 (Rect.unit (s := S32x512) ![23, 128] ![1, 128] inb_S32x512_S1x128_23_128)) (View.ld (Val := Elt Ideal) x6 (Rect.unit (s := S32x512) ![0, 128] ![1, 128] inb_S32x512_S1x128_0_128)) (View.ld (Val := Elt Ideal) x6 (Rect.unit (s := S32x512) ![8, 128] ![1, 128] inb_S32x512_S1x128_8_128))) (View.ld (Val := Elt Ideal) x6 (Rect.unit (s := S32x512) ![16, 128] ![1, 128] inb_S32x512_S1x128_16_128)) (View.ld (Val := Elt Ideal) x6 (Rect.unit (s := S32x512) ![24, 128] ![1, 128] inb_S32x512_S1x128_24_128)) (View.ld (Val := Elt Ideal) x6 (Rect.unit (s := S32x512) ![1, 128] ![1, 128] inb_S32x512_S1x128_1_128)) (View.ld (Val := Elt Ideal) x6 (Rect.unit (s := S32x512) ![9, 128] ![1, 128] inb_S32x512_S1x128_9_128)) (View.ld (Val := Elt Ideal) x6 (Rect.unit (s := S32x512) ![17, 128] ![1, 128] inb_S32x512_S1x128_17_128)) (View.ld (Val := Elt Ideal) x6 (Rect.unit (s := S32x512) ![25, 128] ![1, 128] inb_S32x512_S1x128_25_128)) (View.ld (Val := Elt Ideal) x6 (Rect.unit (s := S32x512) ![2, 128] ![1, 128] inb_S32x512_S1x128_2_128))) (View.ld (Val := Elt Ideal) x6 (Rect.unit (s := S32x512) ![10, 128] ![1, 128] inb_S32x512_S1x128_10_128)) (View.ld (Val := Elt Ideal) x6 (Rect.unit (s := S32x512) ![18, 128] ![1, 128] inb_S32x512_S1x128_18_128)) (View.ld (Val := Elt Ideal) x6 (Rect.unit (s := S32x512) ![26, 128] ![1, 128] inb_S32x512_S1x128_26_128)) (View.ld (Val := Elt Ideal) x6 (Rect.unit (s := S32x512) ![3, 128] ![1, 128] inb_S32x512_S1x128_3_128)) (View.ld (Val := Elt Ideal) x6 (Rect.unit (s := S32x512) ![11, 128] ![1, 128] inb_S32x512_S1x128_11_128)) (View.ld (Val := Elt Ideal) x6 (Rect.unit (s := S32x512) ![19, 128] ![1, 128] inb_S32x512_S1x128_19_128)) (View.ld (Val := Elt Ideal) x6 (Rect.unit (s := S32x512) ![27, 128] ![1, 128] inb_S32x512_S1x128_27_128))) (k0_pay58 v612) (View.ld (Val := Elt Ideal) x6 (Rect.unit (s := S32x512) ![4, 128] ![1, 128] inb_S32x512_S1x128_4_128)) (View.ld (Val := Elt Ideal) x6 (Rect.unit (s := S32x512) ![12, 128] ![1, 128] inb_S32x512_S1x128_12_128)) (View.ld (Val := Elt Ideal) x6 (Rect.unit (s := S32x512) ![20, 128] ![1, 128] inb_S32x512_S1x128_20_128)) (View.ld (Val := Elt Ideal) x6 (Rect.unit (s := S32x512) ![28, 128] ![1, 128] inb_S32x512_S1x128_28_128)) (View.ld (Val := Elt Ideal) x6 (Rect.unit (s := S32x512) ![5, 128] ![1, 128] inb_S32x512_S1x128_5_128)) (View.ld (Val := Elt Ideal) x6 (Rect.unit (s := S32x512) ![13, 128] ![1, 128] inb_S32x512_S1x128_13_128)) (View.ld (Val := Elt Ideal) x6 (Rect.unit (s := S32x512) ![21, 128] ![1, 128] inb_S32x512_S1x128_21_128))) (k0_pay61 v612) (View.ld (Val := Elt Ideal) x6 (Rect.unit (s := S32x512) ![29, 128] ![1, 128] inb_S32x512_S1x128_29_128)) (View.ld (Val := Elt Ideal) x6 (Rect.unit (s := S32x512) ![6, 128] ![1, 128] inb_S32x512_S1x128_6_128)) (View.ld (Val := Elt Ideal) x6 (Rect.unit (s := S32x512) ![14, 128] ![1, 128] inb_S32x512_S1x128_14_128)) (View.ld (Val := Elt Ideal) x6 (Rect.unit (s := S32x512) ![22, 128] ![1, 128] inb_S32x512_S1x128_22_128)) (View.ld (Val := Elt Ideal) x6 (Rect.unit (s := S32x512) ![30, 128] ![1, 128] inb_S32x512_S1x128_30_128))) (ix2 r l)
      = taps win x6 r ⟨128 + l.val, by omega⟩ := by
  by_cases h : r.val < 128
  · pointwise [k0_pay62, k0_pay52, k0_pay49, k0_pay50, k0_pay47, k0_pay46, k0_pay43, k0_pay40, k0_pay41, k0_pay38, k0_pay39, k0_pay42, k0_pay44, k0_pay45, k0_pay48, k0_pay51, k0_pay60, k0_pay59, k0_pay57, k0_pay55, k0_pay56, k0_pay53, k0_pay54, k0_pay58, k0_pay61]
    refine (dif_pos h).trans ?_
    unfold taps
    refine Eq.trans ?_ (sum_order _)
    iterate 30 refine add_of ?_ (prod_of (by decide) (by decide) hv417 _ _ _ _ _ _ _ rfl (by simp) (by simp; omega) (by simp))
    exact prod_of (by decide) (by decide) hv417 _ _ _ _ _ _ _ rfl (by simp) (by simp; omega) (by simp)
  · pointwise [k0_pay62, k0_pay52, k0_pay49, k0_pay50, k0_pay47, k0_pay46, k0_pay43, k0_pay40, k0_pay41, k0_pay38, k0_pay39, k0_pay42, k0_pay44, k0_pay45, k0_pay48, k0_pay51, k0_pay60, k0_pay59, k0_pay57, k0_pay55, k0_pay56, k0_pay53, k0_pay54, k0_pay58, k0_pay61]
    refine (dif_neg h).trans ?_
    unfold taps
    refine Eq.trans ?_ (sum_order _)
    iterate 30 refine add_of ?_ (prod_of (by decide) (by decide) hv612 _ _ _ _ _ _ _ rfl (by simp) (by simp; omega) (by simp))
    exact prod_of (by decide) (by decide) hv612 _ _ _ _ _ _ _ rfl (by simp) (by simp; omega) (by simp)

end Cert.OutprojIdeal.Hand
end
-- ==== Proof.O.Column2.lean ====
module

public import proofs.«01_k».proof.Proof.Gen.OutprojIdeal.Value
public import Idealize.ShloMosaic.Lib.Pipeline.ValueKit
public import Idealize.ShloMosaic.Lib.Pointwise
public import proofs.«01_k».proof.Proof.O.Taps

/-! What the kernel computes in columns 256 to 383 of the convolution. -/

@[expose] public section

set_option maxRecDepth 16384

noncomputable section

namespace Cert.OutprojIdeal.Hand
open Cert.OutprojIdeal Cert.OutprojIdeal.Gen
open Idealize.ShloMosaic Idealize.ShloMosaic.TcCoe Idealize.SL.Sem

set_option maxHeartbeats 2000000 in
/-- Columns 256 to 383 of the convolution. -/
theorem col2 (win : Fin 288 → Fin 512 → EReal) (x6 : Vec Ideal S32x512 .f32) (v808 v1003 : Vec Ideal S160x128 .f32)
    (hv808 : ∀ (i : Fin 160) (l : Fin 128), v808 (ix2 i l) = win ⟨0 + i.val, by omega⟩ ⟨256 + l.val, by omega⟩)
    (hv1003 : ∀ (i : Fin 160) (l : Fin 128), v1003 (ix2 i l) = win ⟨128 + i.val, by omega⟩ ⟨256 + l.val, by omega⟩) (r : Fin 256) (l : Fin 128) :
    (k0_pay93 (k0_pay77 (k0_pay75 v808) (k0_pay76 v808 (k0_pay74 v808 (k0_pay70 v808 (k0_pay66 v808) (k0_pay67 v808 (k0_pay63 v808 (View.ld (Val := Elt Ideal) x6 (Rect.unit (s := S32x512) ![7, 256] ![1, 128] inb_S32x512_S1x128_7_256))) (k0_pay64 v808) (k0_pay65 (View.ld (Val := Elt Ideal) x6 (Rect.unit (s := S32x512) ![15, 256] ![1, 128] inb_S32x512_S1x128_15_256))) (View.ld (Val := Elt Ideal) x6 (Rect.unit (s := S32x512) ![23, 256] ![1, 128] inb_S32x512_S1x128_23_256)) (View.ld (Val := Elt Ideal) x6 (Rect.unit (s := S32x512) ![0, 256] ![1, 128] inb_S32x512_S1x128_0_256)) (View.ld (Val := Elt Ideal) x6 (Rect.unit (s := S32x512) ![8, 256] ![1, 128] inb_S32x512_S1x128_8_256)) (View.ld (Val := Elt Ideal) x6 (Rect.unit (s := S32x512) ![16, 256] ![1, 128] inb_S32x512_S1x128_16_256)) (View.ld (Val := Elt Ideal) x6 (Rect.unit (s := S32x512) ![24, 256] ![1, 128] inb_S32x512_S1x128_24_256)) (View.ld (Val := Elt Ideal) x6 (Rect.unit (s := S32x512) ![1, 256] ![1, 128] inb_S32x512_S1x128_1_256))) (k0_pay68 v808) (k0_pay69 (View.ld (Val := Elt Ideal) x6 (Rect.unit (s := S32x512) ![9, 256] ![1, 128] inb_S32x512_S1x128_9_256))) (View.ld (Val := Elt Ideal) x6 (Rect.unit (s := S32x512) ![17, 256] ![1, 128] inb_S32x512_S1x128_17_256)) (View.ld (Val := Elt Ideal) x6 (Rect.unit (s := S32x512) ![25, 256] ![1, 128] inb_S32x512_S1x128_25_256)) (View.ld (Val := Elt Ideal) x6 (Rect.unit (s := S32x512) ![2, 256] ![1, 128] inb_S32x512_S1x128_2_256)) (View.ld (Val := Elt Ideal) x6 (Rect.unit (s := S32x512) ![10, 256] ![1, 128] inb_S32x512_S1x128_10_256)) (View.ld (Val := Elt Ideal) x6 (Rect.unit (s := S32x512) ![18, 256] ![1, 128] inb_S32x512_S1x128_18_256)) (View.ld (Val := Elt Ideal) x6 (Rect.unit (s := S32x512) ![26, 256] ![1, 128] inb_S32x512_S1x128_26_256))) (k0_pay71 v808) (k0_pay72 v808) (k0_pay73 (View.ld (Val := Elt Ideal) x6 (Rect.unit (s := S32x512) ![3, 256] ![1, 128] inb_S32x512_S1x128_3_256))) (View.ld (Val := Elt Ideal) x6 (Rect.unit (s := S32x512) ![11, 256] ![1, 128] inb_S32x512_S1x128_11_256)) (View.ld (Val := Elt Ideal) x6 (Rect.unit (s := S32x512) ![19, 256] ![1, 128] inb_S32x512_S1x128_19_256)) (View.ld (Val := Elt Ideal) x6 (Rect.unit (s := S32x512) ![27, 256] ![1, 128] inb_S32x512_S1x128_27_256)) (View.ld (Val := Elt Ideal) x6 (Rect.unit (s := S32x512) ![4, 256] ![1, 128] inb_S32x512_S1x128_4_256)) (View.ld (Val := Elt Ideal) x6 (Rect.unit (s := S32x512) ![12, 256] ![1, 128] inb_S32x512_S1x128_12_256)) (View.ld (Val := Elt Ideal) x6 (Rect.unit (s := S32x512) ![20, 256] ![1, 128] inb_S32x512_S1x128_20_256)) (View.ld (Val := Elt Ideal) x6 (Rect.unit (s := S32x512) ![28, 256] ![1, 128] inb_S32x512_S1x128_28_256))) (View.ld (Val := Elt Ideal) x6 (Rect.unit (s := S32x512) ![5, 256] ![1, 128] inb_S32x512_S1x128_5_256)) (View.ld (Val := Elt Ideal) x6 (Rect.unit (s := S32x512) ![13, 256] ![1, 128] inb_S32x512_S1x128_13_256)) (View.ld (Val := Elt Ideal) x6 (Rect.unit (s := S32x512) ![21, 256] ![1, 128] inb_S32x512_S1x128_21_256)) (View.ld (Val := Elt Ideal) x6 (Rect.unit (s := S32x512) ![29, 256] ![1, 128] inb_S32x512_S1x128_29_256)) (View.ld (Val := Elt Ideal) x6 (Rect.unit (s := S32x512) ![6, 256] ![1, 128] inb_S32x512_S1x128_6_256)) (View.ld (Val := Elt Ideal) x6 (Rect.unit (s := S32x512) ![14, 256] ![1, 128] inb_S32x512_S1x128_14_256)) (View.ld (Val := Elt Ideal) x6 (Rect.unit (s := S32x512) ![22, 256] ![1, 128] inb_S32x512_S1x128_22_256))) (View.ld (Val := Elt Ideal) x6 (Rect.unit (s := S32x512) ![30, 256] ![1, 128] inb_S32x512_S1x128_30_256))) v1003 (k0_pay91 v1003 (k0_pay86 v1003 (k0_pay82 v1003) (k0_pay83 v1003 (k0_pay78 v1003) (k0_pay79 v1003 (View.ld (Val := Elt Ideal) x6 (Rect.unit (s := S32x512) ![7, 256] ![1, 128] inb_S32x512_S1x128_7_256)) (View.ld (Val := Elt Ideal) x6 (Rect.unit (s := S32x512) ![15, 256] ![1, 128] inb_S32x512_S1x128_15_256)) (View.ld (Val := Elt Ideal) x6 (Rect.unit (s := S32x512) ![23, 256] ![1, 128] inb_S32x512_S1x128_23_256)) (View.ld (Val := Elt Ideal) x6 (Rect.unit (s := S32x512) ![0, 256] ![1, 128] inb_S32x512_S1x128_0_256)) (View.ld (Val := Elt Ideal) x6 (Rect.unit (s := S32x512) ![8, 256] ![1, 128] inb_S32x512_S1x128_8_256))) (k0_pay80 v1003) (k0_pay81 (View.ld (Val := Elt Ideal) x6 (Rect.unit (s := S32x512) ![16, 256] ![1, 128] inb_S32x512_S1x128_16_256))) (View.ld (Val := Elt Ideal) x6 (Rect.unit (s := S32x512) ![24, 256] ![1, 128] inb_S32x512_S1x128_24_256)) (View.ld (Val := Elt Ideal) x6 (Rect.unit (s := S32x512) ![1, 256] ![1, 128] inb_S32x512_S1x128_1_256)) (View.ld (Val := Elt Ideal) x6 (Rect.unit (s := S32x512) ![9, 256] ![1, 128] inb_S32x512_S1x128_9_256)) (View.ld (Val := Elt Ideal) x6 (Rect.unit (s := S32x512) ![17, 256] ![1, 128] inb_S32x512_S1x128_17_256)) (View.ld (Val := Elt Ideal) x6 (Rect.unit (s := S32x512) ![25, 256] ![1, 128] inb_S32x512_S1x128_25_256)) (View.ld (Val := Elt Ideal) x6 (Rect.unit (s := S32x512) ![2, 256] ![1, 128] inb_S32x512_S1x128_2_256))) (k0_pay84 v1003) (k0_pay85 (View.ld (Val := Elt Ideal) x6 (Rect.unit (s := S32x512) ![10, 256] ![1, 128] inb_S32x512_S1x128_10_256))) (View.ld (Val := Elt Ideal) x6 (Rect.unit (s := S32x512) ![18, 256] ![1, 128] inb_S32x512_S1x128_18_256)) (View.ld (Val := Elt Ideal) x6 (Rect.unit (s := S32x512) ![26, 256] ![1, 128] inb_S32x512_S1x128_26_256)) (View.ld (Val := Elt Ideal) x6 (Rect.unit (s := S32x512) ![3, 256] ![1, 128] inb_S32x512_S1x128_3_256)) (View.ld (Val := Elt Ideal) x6 (Rect.unit (s := S32x512) ![11, 256] ![1, 128] inb_S32x512_S1x128_11_256)) (View.ld (Val := Elt Ideal) x6 (Rect.unit (s := S32x512) ![19, 256] ![1, 128] inb_S32x512_S1x128_19_256)) (View.ld (Val := Elt Ideal) x6 (Rect.unit (s := S32x512) ![27, 256] ![1, 128] inb_S32x512_S1x128_27_256))) (k0_pay87 v1003) (k0_pay88 v1003) (k0_pay89 (View.ld (Val := Elt Ideal) x6 (Rect.unit (s := S32x512) ![4, 256] ![1, 128] inb_S32x512_S1x128_4_256))) (View.ld (Val := Elt Ideal) x6 (Rect.unit (s := S32x512) ![12, 256] ![1, 128] inb_S32x512_S1x128_12_256)) (View.ld (Val := Elt Ideal) x6 (Rect.unit (s := S32x512) ![20, 256] ![1, 128] inb_S32x512_S1x128_20_256)) (View.ld (Val := Elt Ideal) x6 (Rect.unit (s := S32x512) ![28, 256] ![1, 128] inb_S32x512_S1x128_28_256)) (View.ld (Val := Elt Ideal) x6 (Rect.unit (s := S32x512) ![5, 256] ![1, 128] inb_S32x512_S1x128_5_256)) (View.ld (Val := Elt Ideal) x6 (Rect.unit (s := S32x512) ![13, 256] ![1, 128] inb_S32x512_S1x128_13_256)) (View.ld (Val := Elt Ideal) x6 (Rect.unit (s := S32x512) ![21, 256] ![1, 128] inb_S32x512_S1x128_21_256))) (k0_pay92 v1003 (View.ld (Val := Elt Ideal) x6 (Rect.unit (s := S32x512) ![29, 256] ![1, 128] inb_S32x512_S1x128_29_256))) (View.ld (Val := Elt Ideal) x6 (Rect.unit (s := S32x512) ![6, 256] ![1, 128] inb_S32x512_S1x128_6_256)) (View.ld (Val := Elt Ideal) x6 (Rect.unit (s := S32x512) ![14, 256] ![1, 128] inb_S32x512_S1x128_14_256)) (View.ld (Val := Elt Ideal) x6 (Rect.unit (s := S32x512) ![22, 256] ![1, 128] inb_S32x512_S1x128_22_256)) (View.ld (Val := Elt Ideal) x6 (Rect.unit (s := S32x512) ![30, 256] ![1, 128] inb_S32x512_S1x128_30_256))) (ix2 r l)
      = taps win x6 r ⟨256 + l.val, by omega⟩ := by
  by_cases h : r.val < 128
  · pointwise [k0_pay93, k0_pay77, k0_pay75, k0_pay76, k0_pay74, k0_pay70, k0_pay66, k0_pay67, k0_pay63, k0_pay64, k0_pay65, k0_pay68, k0_pay69, k0_pay71, k0_pay72, k0_pay73, k0_pay91, k0_pay90, k0_pay86, k0_pay82, k0_pay83, k0_pay78, k0_pay79, k0_pay80, k0_pay81, k0_pay84, k0_pay85, k0_pay87, k0_pay88, k0_pay89, k0_pay92]
    refine (dif_pos h).trans ?_
    unfold taps
    refine Eq.trans ?_ (sum_order _)
    iterate 30 refine add_of ?_ (prod_of (by decide) (by decide) hv808 _ _ _ _ _ _ _ rfl (by simp) (by simp; omega) (by simp))
    exact prod_of (by decide) (by decide) hv808 _ _ _ _ _ _ _ rfl (by simp) (by simp; omega) (by simp)
  · pointwise [k0_pay93, k0_pay77, k0_pay75, k0_pay76, k0_pay74, k0_pay70, k0_pay66, k0_pay67, k0_pay63, k0_pay64, k0_pay65, k0_pay68, k0_pay69, k0_pay71, k0_pay72, k0_pay73, k0_pay91, k0_pay90, k0_pay86, k0_pay82, k0_pay83, k0_pay78, k0_pay79, k0_pay80, k0_pay81, k0_pay84, k0_pay85, k0_pay87, k0_pay88, k0_pay89, k0_pay92]
    refine (dif_neg h).trans ?_
    unfold taps
    refine Eq.trans ?_ (sum_order _)
    iterate 30 refine add_of ?_ (prod_of (by decide) (by decide) hv1003 _ _ _ _ _ _ _ rfl (by simp) (by simp; omega) (by simp))
    exact prod_of (by decide) (by decide) hv1003 _ _ _ _ _ _ _ rfl (by simp) (by simp; omega) (by simp)

end Cert.OutprojIdeal.Hand
end
-- ==== Proof.O.Column3.lean ====
module

public import proofs.«01_k».proof.Proof.Gen.OutprojIdeal.Value
public import Idealize.ShloMosaic.Lib.Pipeline.ValueKit
public import Idealize.ShloMosaic.Lib.Pointwise
public import proofs.«01_k».proof.Proof.O.Taps

/-! What the kernel computes in columns 384 to 511 of the convolution. -/

@[expose] public section

set_option maxRecDepth 16384

noncomputable section

namespace Cert.OutprojIdeal.Hand
open Cert.OutprojIdeal Cert.OutprojIdeal.Gen
open Idealize.ShloMosaic Idealize.ShloMosaic.TcCoe Idealize.SL.Sem

set_option maxHeartbeats 2000000 in
/-- The first 128 rows of columns 384 to 511 of the convolution. -/
theorem col3a (win : Fin 288 → Fin 512 → EReal) (x6 : Vec Ideal S32x512 .f32) (v1199 : Vec Ideal S160x128 .f32)
    (hv1199 : ∀ (i : Fin 160) (l : Fin 128), v1199 (ix2 i l) = win ⟨0 + i.val, by omega⟩ ⟨384 + l.val, by omega⟩) (r : Fin 128) (l : Fin 128) :
    (k0_pay109 (k0_pay106 v1199 (k0_pay102 v1199 (k0_pay99 v1199) (k0_pay100 v1199 (k0_pay96 v1199) (k0_pay97 v1199 (k0_pay94 v1199 (View.ld (Val := Elt Ideal) x6 (Rect.unit (s := S32x512) ![7, 384] ![1, 128] inb_S32x512_S1x128_7_384)) (View.ld (Val := Elt Ideal) x6 (Rect.unit (s := S32x512) ![15, 384] ![1, 128] inb_S32x512_S1x128_15_384))) (k0_pay95 v1199) (View.ld (Val := Elt Ideal) x6 (Rect.unit (s := S32x512) ![23, 384] ![1, 128] inb_S32x512_S1x128_23_384)) (View.ld (Val := Elt Ideal) x6 (Rect.unit (s := S32x512) ![0, 384] ![1, 128] inb_S32x512_S1x128_0_384)) (View.ld (Val := Elt Ideal) x6 (Rect.unit (s := S32x512) ![8, 384] ![1, 128] inb_S32x512_S1x128_8_384)) (View.ld (Val := Elt Ideal) x6 (Rect.unit (s := S32x512) ![16, 384] ![1, 128] inb_S32x512_S1x128_16_384)) (View.ld (Val := Elt Ideal) x6 (Rect.unit (s := S32x512) ![24, 384] ![1, 128] inb_S32x512_S1x128_24_384)) (View.ld (Val := Elt Ideal) x6 (Rect.unit (s := S32x512) ![1, 384] ![1, 128] inb_S32x512_S1x128_1_384)) (View.ld (Val := Elt Ideal) x6 (Rect.unit (s := S32x512) ![9, 384] ![1, 128] inb_S32x512_S1x128_9_384))) (k0_pay98 v1199) (View.ld (Val := Elt Ideal) x6 (Rect.unit (s := S32x512) ![17, 384] ![1, 128] inb_S32x512_S1x128_17_384)) (View.ld (Val := Elt Ideal) x6 (Rect.unit (s := S32x512) ![25, 384] ![1, 128] inb_S32x512_S1x128_25_384)) (View.ld (Val := Elt Ideal) x6 (Rect.unit (s := S32x512) ![2, 384] ![1, 128] inb_S32x512_S1x128_2_384)) (View.ld (Val := Elt Ideal) x6 (Rect.unit (s := S32x512) ![10, 384] ![1, 128] inb_S32x512_S1x128_10_384)) (View.ld (Val := Elt Ideal) x6 (Rect.unit (s := S32x512) ![18, 384] ![1, 128] inb_S32x512_S1x128_18_384)) (View.ld (Val := Elt Ideal) x6 (Rect.unit (s := S32x512) ![26, 384] ![1, 128] inb_S32x512_S1x128_26_384)) (View.ld (Val := Elt Ideal) x6 (Rect.unit (s := S32x512) ![3, 384] ![1, 128] inb_S32x512_S1x128_3_384))) (k0_pay101 v1199) (View.ld (Val := Elt Ideal) x6 (Rect.unit (s := S32x512) ![11, 384] ![1, 128] inb_S32x512_S1x128_11_384)) (View.ld (Val := Elt Ideal) x6 (Rect.unit (s := S32x512) ![19, 384] ![1, 128] inb_S32x512_S1x128_19_384)) (View.ld (Val := Elt Ideal) x6 (Rect.unit (s := S32x512) ![27, 384] ![1, 128] inb_S32x512_S1x128_27_384)) (View.ld (Val := Elt Ideal) x6 (Rect.unit (s := S32x512) ![4, 384] ![1, 128] inb_S32x512_S1x128_4_384)) (View.ld (Val := Elt Ideal) x6 (Rect.unit (s := S32x512) ![12, 384] ![1, 128] inb_S32x512_S1x128_12_384)) (View.ld (Val := Elt Ideal) x6 (Rect.unit (s := S32x512) ![20, 384] ![1, 128] inb_S32x512_S1x128_20_384)) (View.ld (Val := Elt Ideal) x6 (Rect.unit (s := S32x512) ![28, 384] ![1, 128] inb_S32x512_S1x128_28_384))) (k0_pay103 v1199) (k0_pay104 v1199) (View.ld (Val := Elt Ideal) x6 (Rect.unit (s := S32x512) ![5, 384] ![1, 128] inb_S32x512_S1x128_5_384)) (View.ld (Val := Elt Ideal) x6 (Rect.unit (s := S32x512) ![13, 384] ![1, 128] inb_S32x512_S1x128_13_384)) (View.ld (Val := Elt Ideal) x6 (Rect.unit (s := S32x512) ![21, 384] ![1, 128] inb_S32x512_S1x128_21_384)) (View.ld (Val := Elt Ideal) x6 (Rect.unit (s := S32x512) ![29, 384] ![1, 128] inb_S32x512_S1x128_29_384)) (View.ld (Val := Elt Ideal) x6 (Rect.unit (s := S32x512) ![6, 384] ![1, 128] inb_S32x512_S1x128_6_384)) (View.ld (Val := Elt Ideal) x6 (Rect.unit (s := S32x512) ![14, 384] ![1, 128] inb_S32x512_S1x128_14_384)) (View.ld (Val := Elt Ideal) x6 (Rect.unit (s := S32x512) ![22, 384] ![1, 128] inb_S32x512_S1x128_22_384))) (k0_pay107 v1199) (k0_pay108 (View.ld (Val := Elt Ideal) x6 (Rect.unit (s := S32x512) ![30, 384] ![1, 128] inb_S32x512_S1x128_30_384)))) (ix2 r l)
      = taps win x6 ⟨r.val, by omega⟩ ⟨384 + l.val, by omega⟩ := by
  pointwise [k0_pay109, k0_pay106, k0_pay105, k0_pay102, k0_pay99, k0_pay100, k0_pay96, k0_pay97, k0_pay94, k0_pay95, k0_pay98, k0_pay101, k0_pay103, k0_pay104, k0_pay107, k0_pay108]
  unfold taps
  refine Eq.trans ?_ (sum_order _)
  iterate 30 refine add_of ?_ (prod_of (by decide) (by decide) hv1199 _ _ _ _ _ _ _ rfl (by simp) (by simp; omega) (by simp))
  exact prod_of (by decide) (by decide) hv1199 _ _ _ _ _ _ _ rfl (by simp) (by simp; omega) (by simp)

set_option maxHeartbeats 2000000 in
/-- The last 128 rows of columns 384 to 511 of the convolution. -/
theorem col3b (win : Fin 288 → Fin 512 → EReal) (x6 : Vec Ideal S32x512 .f32) (v1394 : Vec Ideal S160x128 .f32)
    (hv1394 : ∀ (i : Fin 160) (l : Fin 128), v1394 (ix2 i l) = win ⟨128 + i.val, by omega⟩ ⟨384 + l.val, by omega⟩) (r : Fin 128) (l : Fin 128) :
    (k0_pay119 v1394 (k0_pay116 v1394) (k0_pay117 v1394 (k0_pay113 v1394) (k0_pay114 v1394 (k0_pay111 v1394 (View.ld (Val := Elt Ideal) x6 (Rect.unit (s := S32x512) ![7, 384] ![1, 128] inb_S32x512_S1x128_7_384)) (View.ld (Val := Elt Ideal) x6 (Rect.unit (s := S32x512) ![15, 384] ![1, 128] inb_S32x512_S1x128_15_384)) (View.ld (Val := Elt Ideal) x6 (Rect.unit (s := S32x512) ![23, 384] ![1, 128] inb_S32x512_S1x128_23_384)) (View.ld (Val := Elt Ideal) x6 (Rect.unit (s := S32x512) ![0, 384] ![1, 128] inb_S32x512_S1x128_0_384)) (View.ld (Val := Elt Ideal) x6 (Rect.unit (s := S32x512) ![8, 384] ![1, 128] inb_S32x512_S1x128_8_384)) (View.ld (Val := Elt Ideal) x6 (Rect.unit (s := S32x512) ![16, 384] ![1, 128] inb_S32x512_S1x128_16_384))) (k0_pay112 v1394) (View.ld (Val := Elt Ideal) x6 (Rect.unit (s := S32x512) ![24, 384] ![1, 128] inb_S32x512_S1x128_24_384)) (View.ld (Val := Elt Ideal) x6 (Rect.unit (s := S32x512) ![1, 384] ![1, 128] inb_S32x512_S1x128_1_384)) (View.ld (Val := Elt Ideal) x6 (Rect.unit (s := S32x512) ![9, 384] ![1, 128] inb_S32x512_S1x128_9_384)) (View.ld (Val := Elt Ideal) x6 (Rect.unit (s := S32x512) ![17, 384] ![1, 128] inb_S32x512_S1x128_17_384)) (View.ld (Val := Elt Ideal) x6 (Rect.unit (s := S32x512) ![25, 384] ![1, 128] inb_S32x512_S1x128_25_384)) (View.ld (Val := Elt Ideal) x6 (Rect.unit (s := S32x512) ![2, 384] ![1, 128] inb_S32x512_S1x128_2_384)) (View.ld (Val := Elt Ideal) x6 (Rect.unit (s := S32x512) ![10, 384] ![1, 128] inb_S32x512_S1x128_10_384))) (k0_pay115 v1394) (View.ld (Val := Elt Ideal) x6 (Rect.unit (s := S32x512) ![18, 384] ![1, 128] inb_S32x512_S1x128_18_384)) (View.ld (Val := Elt Ideal) x6 (Rect.unit (s := S32x512) ![26, 384] ![1, 128] inb_S32x512_S1x128_26_384)) (View.ld (Val := Elt Ideal) x6 (Rect.unit (s := S32x512) ![3, 384] ![1, 128] inb_S32x512_S1x128_3_384)) (View.ld (Val := Elt Ideal) x6 (Rect.unit (s := S32x512) ![11, 384] ![1, 128] inb_S32x512_S1x128_11_384)) (View.ld (Val := Elt Ideal) x6 (Rect.unit (s := S32x512) ![19, 384] ![1, 128] inb_S32x512_S1x128_19_384)) (View.ld (Val := Elt Ideal) x6 (Rect.unit (s := S32x512) ![27, 384] ![1, 128] inb_S32x512_S1x128_27_384)) (View.ld (Val := Elt Ideal) x6 (Rect.unit (s := S32x512) ![4, 384] ![1, 128] inb_S32x512_S1x128_4_384))) (k0_pay118 v1394) (View.ld (Val := Elt Ideal) x6 (Rect.unit (s := S32x512) ![12, 384] ![1, 128] inb_S32x512_S1x128_12_384)) (View.ld (Val := Elt Ideal) x6 (Rect.unit (s := S32x512) ![20, 384] ![1, 128] inb_S32x512_S1x128_20_384)) (View.ld (Val := Elt Ideal) x6 (Rect.unit (s := S32x512) ![28, 384] ![1, 128] inb_S32x512_S1x128_28_384)) (View.ld (Val := Elt Ideal) x6 (Rect.unit (s := S32x512) ![5, 384] ![1, 128] inb_S32x512_S1x128_5_384)) (View.ld (Val := Elt Ideal) x6 (Rect.unit (s := S32x512) ![13, 384] ![1, 128] inb_S32x512_S1x128_13_384)) (View.ld (Val := Elt Ideal) x6 (Rect.unit (s := S32x512) ![21, 384] ![1, 128] inb_S32x512_S1x128_21_384)) (View.ld (Val := Elt Ideal) x6 (Rect.unit (s := S32x512) ![29, 384] ![1, 128] inb_S32x512_S1x128_29_384))) (ix2 r l) + (k0_pay121 v1394) (ix2 r l) * (View.ld (Val := Elt Ideal) x6 (Rect.unit (s := S32x512) ![6, 384] ![1, 128] inb_S32x512_S1x128_6_384)) (ix2 0 l)
        + (k0_pay120 v1394) (ix2 ⟨8 + r.val, by omega⟩ l) * (View.ld (Val := Elt Ideal) x6 (Rect.unit (s := S32x512) ![14, 384] ![1, 128] inb_S32x512_S1x128_14_384)) (ix2 0 l)
        + (k0_pay120 v1394) (ix2 ⟨16 + r.val, by omega⟩ l) * (View.ld (Val := Elt Ideal) x6 (Rect.unit (s := S32x512) ![22, 384] ![1, 128] inb_S32x512_S1x128_22_384)) (ix2 0 l)
        + (k0_pay120 v1394) (ix2 ⟨24 + r.val, by omega⟩ l) * (View.ld (Val := Elt Ideal) x6 (Rect.unit (s := S32x512) ![30, 384] ![1, 128] inb_S32x512_S1x128_30_384)) (ix2 0 l)
      = taps win x6 ⟨128 + r.val, by omega⟩ ⟨384 + l.val, by omega⟩ := by
  pointwise [k0_pay119, k0_pay116, k0_pay117, k0_pay113, k0_pay114, k0_pay111, k0_pay110, k0_pay112, k0_pay115, k0_pay118, k0_pay121, k0_pay120]
  unfold taps
  refine Eq.trans ?_ (sum_order _)
  iterate 30 refine add_of ?_ (prod_of (by decide) (by decide) hv1394 _ _ _ _ _ _ _ rfl (by simp) (by simp; omega) (by simp))
  exact prod_of (by decide) (by decide) hv1394 _ _ _ _ _ _ _ rfl (by simp) (by simp; omega) (by simp)

end Cert.OutprojIdeal.Hand
end
-- ==== Proof.O.Spec.lean ====
module

public import proofs.«01_k».proof.Proof.I.Spec
public import Idealize.ShloMosaic.Lib.Pointwise

/-! The convolution and output projection of one position, in extended reals. -/

@[expose] public section

noncomputable section

namespace OutputProjection
open Idealize.ShloMosaic InputProjection

/-- The mean of a row. -/
def mean (y : Fin 512 → EReal) : EReal := Ideal.div (∑ k : Fin 512, y k) (Ideal.ofBits .f32 0x44000000#32)

/-- A row centred at its mean. -/
def centred (y : Fin 512 → EReal) (n : Fin 512) : EReal := y n - mean y

/-- A row brought to mean zero and variance one, scaled and shifted. -/
def layerNormed (y g b : Fin 512 → EReal) (n : Fin 512) : EReal :=
  centred y n * Ideal.rsqrt (mean (fun k => centred y k * centred y k) + Ideal.ofBits .f32 0x358637BD#32) * g n + b n

/-- A row normalised and passed through the swish. -/
def swished (y g b : Fin 512 → EReal) (n : Fin 512) : EReal := layerNormed y g b n * Ideal.logistic (layerNormed y g b n)

/-- A row plus its projection: the attended values times one half of the weights, and the convolved values times the other. -/
def projectedSum (x md : Fin 1024 → EReal) (a c : Fin 512 → EReal) (w : Fin 1024 → Fin 1024 → EReal) (n : Fin 1024) : EReal :=
  x n + md n * ((∑ e : Fin 512, a e * w ⟨e.val, by omega⟩ n) + ∑ e : Fin 512, c e * w ⟨512 + e.val, by omega⟩ n)

variable (G : (⟨3, ![16, 2304, 512]⟩ : Shape).Idx → EReal) (A : (⟨3, ![16, 2304, 512]⟩ : Shape).Idx → EReal)
  (X : (⟨3, ![16, 2304, 1024]⟩ : Shape).Idx → EReal) (Md : (⟨3, ![24, 6, 1024]⟩ : Shape).Idx → EReal)
  (D : (⟨2, ![31, 512]⟩ : Shape).Idx → EReal) (Db g b : (⟨1, ![512]⟩ : Shape).Idx → EReal)
  (W : (⟨2, ![1024, 1024]⟩ : Shape).Idx → EReal)

/-- The value at `j - 15` positions after a position, or zero where that is not a position of the same part of the sequence. -/
def nearby (p : Fin 16) (s : Fin 2304) (j : Fin 31) (n : Fin 512) : EReal :=
  if h : 15 ≤ s.val + j.val ∧ s.val + j.val - 15 < 2304 ∧ (s.val < 2048 ↔ s.val + j.val - 15 < 2048) then
    G (ix3 p ⟨s.val + j.val - 15, h.2.1⟩ n) else 0

/-- The convolution along the positions, with its bias. -/
def convolved (p : Fin 16) (s : Fin 2304) (n : Fin 512) : EReal :=
  (∑ j : Fin 31, nearby G p s j n * D (ix2 j n)) + Db (ix1 n)

/-- One entry of the hidden state after attention and convolution. -/
def outAt (p : Fin 16) (s : Fin 2304) (n : Fin 1024) : EReal :=
  projectedSum (fun k => X (ix3 p s k)) (fun k => Md (ix3 (modRowOf p s) 2 k)) (fun e => A (ix3 p s e))
    (swished (convolved G D Db p s) (fun k => g (ix1 k)) (fun k => b (ix1 k))) (fun e k => W (ix2 e k)) n

/-- The whole array. -/
def out (i : (⟨3, ![16, 2304, 1024]⟩ : Shape).Idx) : EReal := outAt G A X Md D Db g b W (i 0) (i 1) (i 2)

end OutputProjection
end
-- ==== Proof.O.Norm.lean ====
module

public import proofs.«01_k».proof.Proof.Gen.OutprojIdeal.Value
public import Idealize.ShloMosaic.Lib.Pipeline.ValueKit
public import Idealize.ShloMosaic.Lib.Pointwise
public import proofs.«01_k».proof.Proof.O.Spec

/-! What the kernel does to the convolved rows of a tile: normalisation, projection, residual. -/

@[expose] public section

set_option maxRecDepth 16384

noncomputable section

namespace Cert.OutprojIdeal.Hand
open Cert.OutprojIdeal Cert.OutprojIdeal.Gen
open OutputProjection
open Idealize.ShloMosaic Idealize.ShloMosaic.TcCoe Idealize.SL.Sem

/-- Four matrices of 128 columns side by side. -/
theorem four_at (T : Fin 256 → Fin 512 → EReal) (a0 a1 a2 a3 : FVec Ideal S256x128 .f32)
    (h0 : ∀ (r : Fin 256) (l : Fin 128), a0 (ix2 r l) = T r ⟨0 + l.val, by omega⟩)
    (h1 : ∀ (r : Fin 256) (l : Fin 128), a1 (ix2 r l) = T r ⟨128 + l.val, by omega⟩)
    (h2 : ∀ (r : Fin 256) (l : Fin 128), a2 (ix2 r l) = T r ⟨256 + l.val, by omega⟩)
    (h3 : ∀ (r : Fin 256) (l : Fin 128), a3 (ix2 r l) = T r ⟨384 + l.val, by omega⟩) (r : Fin 256) (n : Fin 512) :
    concatenate S256x512 1 [⟨S256x128, a0⟩, ⟨S256x128, a1⟩, ⟨S256x128, a2⟩, ⟨S256x128, a3⟩] concatenates_S256x128_S256x128_S256x128_S256x128_S256x512_d1 (ix2 r n) = T r n := by
  pointwise []
  by_cases c0 : n.val < 128
  · refine (dif_pos c0).trans ((h0 _ _).trans (congrArg (T r) (Fin.ext ?_))); simp
  refine (dif_neg c0).trans ?_
  by_cases c1 : n.val - 128 < 128
  · refine (dif_pos c1).trans ((h1 _ _).trans (congrArg (T r) (Fin.ext ?_))); simp; omega
  refine (dif_neg c1).trans ?_
  by_cases c2 : n.val - 128 - 128 < 128
  · refine (dif_pos c2).trans ((h2 _ _).trans (congrArg (T r) (Fin.ext ?_))); simp; omega
  refine (dif_neg c2).trans ((h3 _ _).trans (congrArg (T r) (Fin.ext ?_))); simp; omega

/-- The kernel's normalisation of the convolved rows. -/
theorem act_at (T : Fin 256 → Fin 512 → EReal) (v415 v806 v1197 : FVec Ideal S256x128 .f32) (v1392 v1562 : FVec Ideal S128x128 .f32)
    (v1563 : FVec Ideal S160x128 .f32) (v1564 : FVec Ideal S128x128 .f32) (v1565 v1571 v1577 v1583 : Vec Ideal S1x128 .f32)
    (P7 P8 P9 : Vec Ideal S1x512 .f32)
    (h0 : ∀ (r : Fin 256) (l : Fin 128), v415 (ix2 r l) = T r ⟨0 + l.val, by omega⟩)
    (h1 : ∀ (r : Fin 256) (l : Fin 128), v806 (ix2 r l) = T r ⟨128 + l.val, by omega⟩)
    (h2 : ∀ (r : Fin 256) (l : Fin 128), v1197 (ix2 r l) = T r ⟨256 + l.val, by omega⟩)
    (h3 : ∀ (r : Fin 128) (l : Fin 128), v1392 (ix2 r l) = T ⟨r.val, by omega⟩ ⟨384 + l.val, by omega⟩)
    (h4 : ∀ (r : Fin 128) (l : Fin 128), v1562 (ix2 r l) + v1564 (ix2 r l) * v1565 (ix2 0 l)
        + v1563 (ix2 ⟨8 + r.val, by omega⟩ l) * v1571 (ix2 0 l) + v1563 (ix2 ⟨16 + r.val, by omega⟩ l) * v1577 (ix2 0 l)
        + v1563 (ix2 ⟨24 + r.val, by omega⟩ l) * v1583 (ix2 0 l) = T ⟨128 + r.val, by omega⟩ ⟨384 + l.val, by omega⟩)
    (r : Fin 256) (n : Fin 512) :
    k0_pay123 (k0_pay122 v415 v806 v1197 v1392 v1562 v1563 v1564 v1565 v1571 v1577 v1583 P7) P8 P9 (ix2 r n)
      = swished (fun n => T r n + P7 (ix2 0 n)) (fun n => P8 (ix2 0 n)) (fun n => P9 (ix2 0 n)) n := by
  have e4 : ∀ (v1587 : FVec Ideal S128x128 .f32) (h : ∀ (r : Fin 128) (l : Fin 128), v1587 (ix2 r l) = T ⟨128 + r.val, by omega⟩ ⟨384 + l.val, by omega⟩)
      (r : Fin 256) (l : Fin 128), concatenate S256x128 0 [⟨S128x128, v1392⟩, ⟨S128x128, v1587⟩] concatenates_S128x128_S128x128_S256x128_d0 (ix2 r l)
        = T r ⟨384 + l.val, by omega⟩ := by
    intro w h r l
    pointwise []
    by_cases hr : r.val < 128
    · exact (dif_pos hr).trans (h3 _ _)
    · refine (dif_neg hr).trans ((h _ _).trans (congrArg (fun r => T r _) (Fin.ext ?_))); simp; omega
  unfold k0_pay123 k0_pay122
  dsimp only
  generalize hL : addf _ (mulf (extractStridedSlice S128x128 ![24, 0] v1563 slices_S160x128_o24_0_S128x128) _) = L
  have hL' : ∀ (r : Fin 128) (l : Fin 128), L (ix2 r l) = T ⟨128 + r.val, by omega⟩ ⟨384 + l.val, by omega⟩ := by
    intro r l
    rw [← h4 r l, ← hL]
    pointwise []
  generalize hC : concatenate S256x512 1 _ _ = C
  have hC' : ∀ (r : Fin 256) (n : Fin 512), C (ix2 r n) = T r n := fun r n =>
    (congrFun hC.symm _).trans (four_at T _ _ _ _ h0 h1 h2 (e4 L hL') r n)
  clear hC hL
  pointwise [swished, layerNormed, centred, mean]
  simp only [hC']

/-- What a tile adds to its rows. -/
theorem pay1_at (c : FVec Ideal S256x512 .bf16) (A : Vec Ideal S1x256x512 .bf16) (W0 W1 : Vec Ideal S512x1024 .bf16) (X : Vec Ideal S1x256x1024 .f32)
    (M : Vec Ideal S1x1x1024 .f32) (w : Fin 1024 → Fin 1024 → EReal)
    (h0 : ∀ (e : Fin 512) (n : Fin 1024), W0 (ix2 e n) = w ⟨e.val, by omega⟩ n)
    (h1 : ∀ (e : Fin 512) (n : Fin 1024), W1 (ix2 e n) = w ⟨512 + e.val, by omega⟩ n) (r : Fin 256) (n : Fin 1024) :
    k0_pay1 c (k0_pay124 A) (k0_pay125 W0) W1 X M (ix3 0 r n)
      = projectedSum (fun k => X (ix3 0 r k)) (fun k => M (ix3 0 0 k)) (fun e => A (ix3 0 r e)) (fun e => c (ix2 r e)) w n := by
  pointwise [k0_pay1, k0_pay124, k0_pay125, projectedSum]
  simp only [h0, h1]

end Cert.OutprojIdeal.Hand
end
-- ==== Proof.O.Block.lean ====
module

public import proofs.«01_k».proof.Proof.F.Reads
public import proofs.«01_k».proof.Proof.O.Column0
public import proofs.«01_k».proof.Proof.O.Column1
public import proofs.«01_k».proof.Proof.O.Column2
public import proofs.«01_k».proof.Proof.O.Column3
public import proofs.«01_k».proof.Proof.O.Norm

/-! What one grid point of the kernel writes, from the blocks it reads. -/

@[expose] public section

set_option maxRecDepth 16384

noncomputable section

namespace Cert.OutprojIdeal.Hand
open Cert.OutprojIdeal Cert.OutprojIdeal.Gen
open OutputProjection
open Idealize.ShloMosaic Idealize.ShloMosaic.TcCoe Idealize.SL.Sem
open Idealize.ShloMosaic.View (Piece)

variable (m : (ℓ : Loc nD τ sig) → Buf (Elt Ideal) ℓ)

/-- Whether there are rows before the tile, as the kernel computes it. -/
abbrev bitPrev (i : Fin 9) : BitVec 1 :=
  Scalar.andi (Scalar.cmpi .ne (BitVec.ofNat 32 i.val) 0#32) (Scalar.cmpi .ne (BitVec.ofNat 32 i.val) 8#32)

/-- Whether there are rows after the tile, as the kernel computes it. -/
abbrev bitNext (i : Fin 9) : BitVec 1 :=
  Scalar.andi (Scalar.cmpi .ne (BitVec.ofNat 32 i.val) 7#32) (Scalar.cmpi .ne (BitVec.ofNat 32 i.val) 8#32)

/-- The rows the convolution of a tile reads: sixteen before it, its own, and sixteen after it. -/
def window (i : Fin 9) (x0 : Vec Ideal S1x256x512 .f32) (x1 x2 : Vec Ideal S1x16x512 .f32) (s : Fin 288) (n : Fin 512) : EReal :=
  if h : s.val < 16 then Scalar.select (bitPrev i) (x1 (ix3 0 ⟨s.val, h⟩ n)) 0
  else if h' : s.val < 272 then x0 (ix3 0 ⟨s.val - 16, by omega⟩ n)
  else Scalar.select (bitNext i) (x2 (ix3 0 ⟨s.val - 272, by omega⟩ n)) 0

/-- The sixteen rows before, or zeros. -/
theorem pay2_at (i : grid0.Coords) (x : Vec Ideal S1x16x512 .f32) (r : Fin 16) (n : Fin 512) :
    k0_pay2 i x (ix2 r n) = Scalar.select (bitPrev (i 1)) (x (ix3 0 r n)) (0 : EReal) := by
  pointwise [k0_pay2]

/-- The tile's own rows. -/
theorem pay3_at (x : Vec Ideal S1x256x512 .f32) (r : Fin 256) (n : Fin 512) : k0_pay3 x (ix2 r n) = x (ix3 0 r n) := by
  pointwise [k0_pay3]

/-- The sixteen rows after, or zeros. -/
theorem pay4_at (i : grid0.Coords) (x : Vec Ideal S1x16x512 .f32) (r : Fin 16) (n : Fin 512) :
    k0_pay4 i x (ix2 r n) = Scalar.select (bitNext (i 1)) (x (ix3 0 r n)) (0 : EReal) := by
  pointwise [k0_pay4]

/-- The window as it was written. -/
theorem canon_window (i : grid0.Coords) (x0 : Vec Ideal S1x256x512 .f32) (x1 x2 : Vec Ideal S1x16x512 .f32) (s : Fin 288) (n : Fin 512) :
    View.canon (Val := Elt Ideal) (s := S288x512) (e := .f32) [⟨Rect.unit ![272, 0] ![16, 512] inb_S288x512_S16x512_272_0, k0_pay4 i x2⟩,
      ⟨Rect.unit ![16, 0] ![256, 512] inb_S288x512_S256x512_16_0, k0_pay3 x0⟩,
      ⟨Rect.unit ![0, 0] ![16, 512] inb_S288x512_S16x512_0_0, k0_pay2 i x1⟩] (ix2 s n) = window (i 1) x0 x1 x2 s n := by
  have hs := s.isLt
  unfold window
  by_cases h : s.val < 16
  · refine Eq.trans ?_ (dif_pos h).symm
    rw [Blocks.canon_off _ _ _ s n (by omega), Blocks.canon_off _ _ _ s n (by omega),
      Blocks.canon_at _ _ _ s n ⟨s.val, h⟩ n (by simp) (by simp), pay2_at]
  · refine Eq.trans ?_ (dif_neg h).symm
    by_cases h' : s.val < 272
    · refine Eq.trans ?_ (dif_pos h').symm
      rw [Blocks.canon_off _ _ _ s n (by omega),
        Blocks.canon_at _ _ _ s n ⟨s.val - 16, by omega⟩ n (by simp; omega) (by simp), pay3_at]
    · refine Eq.trans ?_ (dif_neg h').symm
      rw [Blocks.canon_at _ _ _ s n ⟨s.val - 272, by omega⟩ n (by simp; omega) (by simp), pay4_at]

/-- One row of the conditioning block. -/
theorem modRow (x : Vec Ideal S1x6x1024 .f32) (k : Fin 1024) :
    View.ld (Val := Elt Ideal) (e' := .f32) x (Rect.unit (s := S1x6x1024) ![0, 2, 0] ![1, 1, 1024] inb_S1x6x1024_S1x1x1024_0_2_0) (ix3 0 0 k) = x (ix3 0 2 k) := by
  refine congrArg x ?_
  funext z
  fin_cases z
  · rfl
  · rfl
  · exact Fin.ext ((Rect.emb_apply _ _ _).trans (by show 0 + 1 * k.val = k.val; omega))

/-- One entry of the written block, from the blocks a grid point reads. -/
def blockAt (i : Fin 9) (x0 : Vec Ideal S1x256x512 .f32) (x1 x2 : Vec Ideal S1x16x512 .f32) (x3 : Vec Ideal S1x256x512 .bf16)
    (x4 : Vec Ideal S1x256x1024 .f32) (x5 : Vec Ideal S1x6x1024 .f32) (x6 : Vec Ideal S32x512 .f32) (x7 x8 x9 : Vec Ideal S1x512 .f32)
    (x10 : Vec Ideal S1024x1024 .bf16) (r : Fin 256) (n : Fin 1024) : EReal :=
  projectedSum (fun k => x4 (ix3 0 r k)) (fun k => x5 (ix3 0 2 k)) (fun e => x3 (ix3 0 r e))
    (swished (fun n => taps (window i x0 x1 x2) x6 r n + x7 (ix2 0 n)) (fun n => x8 (ix2 0 n)) (fun n => x9 (ix2 0 n)))
    (fun e n => x10 (ix2 e n)) n

set_option maxHeartbeats 2000000 in
/-- The block a grid point leaves in its output buffer, entry by entry. -/
theorem outs_at (c : Dev nD) (t : Fin cfg0.N) (r : Fin 256) (n : Fin 1024) :
    outsAt0 m c t (ix3 0 r n) = blockAt (grid0.coords t 1) (iblk m c 0 t) (iblk m c 1 t) (iblk m c 2 t) (iblk m c 3 t) (iblk m c 4 t)
      (iblk m c 5 t) (iblk m c 6 t) (iblk m c 7 t) (iblk m c 8 t) (iblk m c 9 t) (iblk m c 10 t) r n := by
  have hw := canon_window (grid0.coords t) (iblk m c 0 t) (iblk m c 1 t) (iblk m c 2 t)
  unfold outsAt0
  frame_out
  refine (pay1_at _ _ _ _ _ _ (fun e n => iblk m c 10 t (ix2 e n)) (fun e n => ?_) (fun e n => ?_) r n).trans ?_
  · exact Blocks.ld_at _ _ e n ⟨e.val, by omega⟩ n (by simp) (by simp)
  · exact Blocks.ld_at _ _ e n ⟨512 + e.val, by omega⟩ n (by simp) (by simp)
  unfold blockAt
  congr 1
  · funext k
    exact modRow _ k
  funext e
  refine act_at (taps (window (grid0.coords t 1) (iblk m c 0 t) (iblk m c 1 t) (iblk m c 2 t)) (iblk m c 6 t)) _ _ _ _ _ _ _ _ _ _ _ _ _ _
    (col0 _ _ _ _ ?_ ?_) (col1 _ _ _ _ ?_ ?_) (col2 _ _ _ _ ?_ ?_) (col3a _ _ _ ?_) (col3b _ _ _ ?_) r e
  all_goals exact fun i l => (Blocks.readCov_at _ _ _ i l _ _ rfl rfl).trans (hw _ _)

end Cert.OutprojIdeal.Hand
end
-- ==== Proof.O.Final.lean ====
module

public import proofs.«01_k».proof.Proof.O.Block

/-! What the kernel leaves in its result. -/

@[expose] public section

set_option maxRecDepth 16384

noncomputable section

namespace Cert.OutprojIdeal.Hand
open Cert.OutprojIdeal Cert.OutprojIdeal.Gen
open OutputProjection InputProjection
open Idealize.ShloMosaic Idealize.ShloMosaic.TcCoe Idealize.SL.Sem
open Idealize.ShloMosaic.Pipeline (Dat)

variable (m : (ℓ : Loc nD τ sig) → Buf (Elt Ideal) ℓ)

/-- Where each window's block lies at a grid point, and the grid coordinate along the positions. -/
theorem idx : ∀ t : Fin cfg0.N, win0_0.index t = ![t.val / 9, t.val % 9, 0]
    ∧ win0_1.index t = ![t.val / 9, t.val % 9 * 16 - 1, 0]
    ∧ win0_2.index t = ![t.val / 9, min ((t.val % 9 + 1) * 16) 143, 0]
    ∧ win0_3.index t = ![t.val / 9, t.val % 9, 0] ∧ win0_4.index t = ![t.val / 9, t.val % 9, 0]
    ∧ win0_5.index t = ![if t.val % 9 < 8 then t.val / 9 else 16, 0, 0]
    ∧ win0_6.index t = ![0, 0] ∧ win0_7.index t = ![0, 0] ∧ win0_8.index t = ![0, 0] ∧ win0_9.index t = ![0, 0] ∧ win0_10.index t = ![0, 0]
    ∧ win0_11.index t = ![t.val / 9, t.val % 9, 0]
    ∧ (grid0.coords t 1).val = t.val % 9 :=
  (by decide +kernel : ∀ t : Fin grid0.N, _)

/-- The batch of a grid point. -/
def bat (t : Fin cfg0.N) : Fin 16 := ⟨t.val / 9, by have := t.isLt; simp only [(by decide : cfg0.N = 144)] at this; omega⟩

/-- The position of a row of the tile of a grid point. -/
def pos (t : Fin cfg0.N) (r : Fin 256) : Fin 2304 := ⟨t.val % 9 * 256 + r.val, by omega⟩

/-- Where an element of the written block lies in the array. -/
theorem emb11 (t : Fin cfg0.N) (r : Fin 256) (n : Fin 1024) :
    (((cfg0.win 11).blk t).view.emb (ix3 0 r n)) = (ix3 (bat t) (pos t r) n : S16x2304x1024.Idx) := by
  unfold bat pos
  blk_ext [idx t]

/-- The tile's rows, read in the array. -/
theorem blk0 (c : Dev nD) (t : Fin cfg0.N) (r : Fin 256) (n : Fin 512) :
    iblk m c 0 t (ix3 0 r n) = m ((c : Thread nD τ).loc main_arg0) (ix3 (bat t) (pos t r) n : S16x2304x512.Idx) := by
  unfold bat pos
  blk_ext [iblk, V, idx t]

/-- The sixteen rows before the tile, read in the array. -/
theorem blk1 (c : Dev nD) (t : Fin cfg0.N) (r : Fin 16) (n : Fin 512) :
    iblk m c 1 t (ix3 0 r n) = m ((c : Thread nD τ).loc main_arg0)
      (ix3 (bat t) ⟨(t.val % 9 * 16 - 1) * 16 + r.val, by omega⟩ n : S16x2304x512.Idx) := by
  unfold bat
  blk_ext [iblk, V, idx t]

/-- The sixteen rows after the tile, read in the array. -/
theorem blk2 (c : Dev nD) (t : Fin cfg0.N) (r : Fin 16) (n : Fin 512) :
    iblk m c 2 t (ix3 0 r n) = m ((c : Thread nD τ).loc main_arg0)
      (ix3 (bat t) ⟨min ((t.val % 9 + 1) * 16) 143 * 16 + r.val, by omega⟩ n : S16x2304x512.Idx) := by
  unfold bat
  blk_ext [iblk, V, idx t]

/-- The attended values' block, read in the array. -/
theorem blk3 (c : Dev nD) (t : Fin cfg0.N) (r : Fin 256) (n : Fin 512) :
    iblk m c 3 t (ix3 0 r n) = m ((c : Thread nD τ).loc main_arg1) (ix3 (bat t) (pos t r) n : S16x2304x512.Idx) := by
  unfold bat pos
  blk_ext [iblk, V, idx t]

/-- The hidden state's block, read in the array. -/
theorem blk4 (c : Dev nD) (t : Fin cfg0.N) (r : Fin 256) (n : Fin 1024) :
    iblk m c 4 t (ix3 0 r n) = m ((c : Thread nD τ).loc main_arg2) (ix3 (bat t) (pos t r) n : S16x2304x1024.Idx) := by
  unfold bat pos
  blk_ext [iblk, V, idx t]

/-- The conditioning block, read in the array. -/
theorem blk5 (c : Dev nD) (t : Fin cfg0.N) (r : Fin 256) (q : Fin 6) (n : Fin 1024) :
    iblk m c 5 t (ix3 0 q n) = m ((c : Thread nD τ).loc main_arg3) (ix3 (modRowOf (bat t) (pos t r)) q n : S24x6x1024.Idx) := by
  have hm : (modRowOf (bat t) (pos t r)).val = if t.val % 9 < 8 then t.val / 9 else 16 := by
    unfold modRowOf bat pos
    have hr := r.isLt
    by_cases h : t.val % 9 < 8
    · rw [if_pos h, if_pos (by show t.val % 9 * 256 + r.val < 2048; omega)]
    · rw [if_neg h, if_neg (by show ¬ t.val % 9 * 256 + r.val < 2048; omega)]
      rfl
  have h5 := (idx t).2.2.2.2.2.1
  rw [← hm] at h5
  generalize modRowOf (bat t) (pos t r) = w at h5 ⊢
  blk_ext [iblk, V, h5]

/-- The taps, read in the argument a row was added to. -/
theorem blk6 (c : Dev nD) (t : Fin cfg0.N) (j : Fin 31) (n : Fin 512) :
    iblk m c 6 t (ix2 (⟨j.val, by omega⟩ : Fin 32) n) = m ((c : Thread nD τ).loc main_arg4) (ix2 j n : S31x512.Idx) := by
  have h : iblk m c 6 t (ix2 (⟨j.val, by omega⟩ : Fin 32) n)
      = concatenate S32x512 0 [⟨S31x512, (m ((c : Thread nD τ).loc main_arg4) : FVec Ideal S31x512 .f32)⟩,
          ⟨S1x512, (constant S1x512 .f32 0x00000000#32 : FVec Ideal S1x512 .f32)⟩] concatenates_S31x512_S1x512_S32x512_d0
          (ix2 (⟨j.val, by omega⟩ : Fin 32) n) := by
    blk_point [iblk, V, idx t]
  refine h.trans ?_
  pointwise []

/-- The bias of the convolution, read in the argument it was reshaped from. -/
theorem blk7 (c : Dev nD) (t : Fin cfg0.N) (n : Fin 512) :
    iblk m c 7 t (ix2 0 n) = m ((c : Thread nD τ).loc main_arg5) (ix1 n : S512.Idx) := by
  blk_point [iblk, V, idx t]

/-- The scale of the norm, read in the argument it was reshaped from. -/
theorem blk8 (c : Dev nD) (t : Fin cfg0.N) (n : Fin 512) :
    iblk m c 8 t (ix2 0 n) = m ((c : Thread nD τ).loc main_arg6) (ix1 n : S512.Idx) := by
  blk_point [iblk, V, idx t]

/-- The shift of the norm, read in the argument it was reshaped from. -/
theorem blk9 (c : Dev nD) (t : Fin cfg0.N) (n : Fin 512) :
    iblk m c 9 t (ix2 0 n) = m ((c : Thread nD τ).loc main_arg7) (ix1 n : S512.Idx) := by
  blk_point [iblk, V, idx t]

/-- The weights of the projection, read in the argument. -/
theorem blk10 (c : Dev nD) (t : Fin cfg0.N) (e n : Fin 1024) :
    iblk m c 10 t (ix2 e n) = m ((c : Thread nD τ).loc main_arg8) (ix2 e n : S1024x1024.Idx) := by
  blk_point [iblk, V, idx t]

theorem select_zero (a b : EReal) : Scalar.select (0#1) a b = b := rfl
theorem select_one (a b : EReal) : Scalar.select (1#1) a b = a := rfl
theorem bitPrev_zero : ∀ i : Fin 9, (i.val = 0 ∨ i.val = 8) → bitPrev i = 0#1 := by decide
theorem bitPrev_one : ∀ i : Fin 9, ¬ (i.val = 0 ∨ i.val = 8) → bitPrev i = 1#1 := by decide
theorem bitNext_zero : ∀ i : Fin 9, (i.val = 7 ∨ i.val = 8) → bitNext i = 0#1 := by decide
theorem bitNext_one : ∀ i : Fin 9, ¬ (i.val = 7 ∨ i.val = 8) → bitNext i = 1#1 := by decide

/-- A row of the window is the row of the array at that distance, or zeros outside the part of the sequence. -/
theorem window_at (c : Dev nD) (t : Fin cfg0.N) (i : Fin 9) (hv : i.val = t.val % 9) (r : Fin 256) (j : Fin 31) (n : Fin 512) :
    window i (iblk m c 0 t) (iblk m c 1 t) (iblk m c 2 t) ⟨r.val + j.val + 1, by omega⟩ n
      = nearby (m ((c : Thread nD τ).loc main_arg0)) (bat t) (pos t r) j n := by
  have hr := r.isLt
  have hj := j.isLt
  have hp : (pos t r).val = t.val % 9 * 256 + r.val := rfl
  unfold window nearby
  by_cases h : r.val + j.val + 1 < 16
  · refine (dif_pos h).trans ?_
    by_cases hz : i.val = 0 ∨ i.val = 8
    · rw [bitPrev_zero i hz, select_zero, dif_neg (by omega)]
    · rw [bitPrev_one i hz, select_one, dif_pos (by omega), blk1]
      exact congrArg (fun w => m ((c : Thread nD τ).loc main_arg0) (ix3 (bat t) w n : S16x2304x512.Idx))
        (Fin.ext (by show (t.val % 9 * 16 - 1) * 16 + (r.val + j.val + 1) = (pos t r).val + j.val - 15; omega))
  · refine (dif_neg h).trans ?_
    by_cases h' : r.val + j.val + 1 < 272
    · refine (dif_pos h').trans ?_
      rw [dif_pos (by omega), blk0]
      exact congrArg (fun w => m ((c : Thread nD τ).loc main_arg0) (ix3 (bat t) w n : S16x2304x512.Idx))
        (Fin.ext (by show t.val % 9 * 256 + (r.val + j.val + 1 - 16) = (pos t r).val + j.val - 15; omega))
    · refine (dif_neg h').trans ?_
      by_cases hz : i.val = 7 ∨ i.val = 8
      · rw [bitNext_zero i hz, select_zero, dif_neg (by omega)]
      · rw [bitNext_one i hz, select_one, dif_pos (by omega), blk2]
        exact congrArg (fun w => m ((c : Thread nD τ).loc main_arg0) (ix3 (bat t) w n : S16x2304x512.Idx))
          (Fin.ext (by show min ((t.val % 9 + 1) * 16) 143 * 16 + (r.val + j.val + 1 - 272) = (pos t r).val + j.val - 15; omega))

/-- The array after the run is the array of the hidden states after attention and convolution. -/
theorem final (c : Dev nD) : (dats m 0 c).arrAt 11 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  idx_vars y
  obtain rfl : y0 = 0 := Subsingleton.elim _ _
  obtain ⟨i, hi, hv⟩ : ∃ i : Fin 9, @Eq (Fin 9) (grid0.coords t 1) i ∧ i.val = t.val % 9 :=
    ⟨grid0.coords t 1, rfl, (idx t).2.2.2.2.2.2.2.2.2.2.2.2⟩
  refine (outs_at m c t y1 y2).trans ((congrArg (fun i : Fin 9 => blockAt i _ _ _ _ _ _ _ _ _ _ _ y1 y2) hi).trans ?_)
  refine Eq.trans ?_ (congrArg (out _ _ _ _ _ _ _ _ _) (emb11 t y1 y2)).symm
  show _ = outAt _ _ _ _ _ _ _ _ _ (bat t) (pos t y1) y2
  unfold blockAt outAt
  have hT (n : Fin 512) : taps (window i (iblk m c 0 t) (iblk m c 1 t) (iblk m c 2 t)) (iblk m c 6 t) y1 n + iblk m c 7 t (ix2 0 n)
      = convolved (m ((c : Thread nD τ).loc main_arg0)) (m ((c : Thread nD τ).loc main_arg4)) (m ((c : Thread nD τ).loc main_arg5))
          (bat t) (pos t y1) n := by
    unfold taps convolved
    simp only [window_at m c t i hv, blk6, blk7]
  simp only [hT, blk3, blk4, blk5 m c t y1, blk8, blk9, blk10]

end Cert.OutprojIdeal.Hand
end
-- ==== Proof.O.RefSums.lean ====
module

public import proofs.«01_k».proof.Proof.Gen.OutprojRefIdeal.Read
public import Idealize.ShloMosaic.Lib.Pipeline.ValueKit
public import proofs.«01_k».proof.Proof.O.Spec

/-! Sums, in the order the reference takes them. -/

@[expose] public section

set_option maxRecDepth 16384

noncomputable section

namespace Cert.OutprojRefIdeal.Hand
open Cert.OutprojRefIdeal Cert.OutprojRefIdeal.Gen Cert.OutprojRefIdeal.Read
open Idealize.ShloMosaic Idealize.ShloMosaic.TcCoe Idealize.SL.Sem
open OutputProjection InputProjection

variable (G : FVec Ideal S16x2304x512 .f32) (A : FVec Ideal S16x2304x512 .bf16) (X : FVec Ideal S16x2304x1024 .f32) (Md : FVec Ideal S24x6x1024 .f32)
  (D : FVec Ideal S31x512 .f32) (Db g b : FVec Ideal S512 .f32) (W : FVec Ideal S1024x1024 .f32)

/-- A sum of 31 terms in the order of the reference. -/
theorem sum_left (T : Fin 31 → EReal) : T 0 + T 1 + T 2 + T 3 + T 4 + T 5 + T 6 + T 7 + T 8 + T 9 + T 10 + T 11 + T 12 + T 13 + T 14 + T 15 + T 16 + T 17 + T 18 + T 19 + T 20 + T 21 + T 22 + T 23 + T 24 + T 25 + T 26 + T 27 + T 28 + T 29 + T 30 = ∑ j : Fin 31, T j := by
  simp only [Fin.sum_univ_castSucc, Fin.sum_univ_zero, zero_add]
  rfl

/-- Equal summands have equal sums. -/
theorem sum_of {a a' b b' : EReal} (h : a = a') (h' : b = b') : a + b = a' + b' := by rw [h, h']

/-- A sum of 1024 terms is the sum of its halves. -/
theorem sum_halves (f : Fin 1024 → EReal) : ∑ k : Fin 1024, f k = (∑ e : Fin 512, f ⟨e.val, by omega⟩) + ∑ e : Fin 512, f ⟨512 + e.val, by omega⟩ :=
  Fin.sum_univ_add (a := 512) (b := 512) f

/-- The zero the reference pads with. -/
theorem pad_zero : (FloatOps.sitofp .f32 0#32 : Ideal .f32) = (0 : EReal) := by
  show ((((0#32 : BitVec 32).toInt : ℝ) : EReal)) = 0
  simp

end Cert.OutprojRefIdeal.Hand
end
-- ==== Proof.O.RefConvL.lean ====
module

public import proofs.«01_k».proof.Proof.Gen.OutprojRefIdeal.Read
public import Idealize.ShloMosaic.Lib.Pipeline.ValueKit
public import proofs.«01_k».proof.Proof.O.RefSums

/-! What the reference computes: the convolution along the sequence. -/

@[expose] public section

set_option maxRecDepth 16384

noncomputable section

namespace Cert.OutprojRefIdeal.Hand
open Cert.OutprojRefIdeal Cert.OutprojRefIdeal.Gen Cert.OutprojRefIdeal.Read
open Idealize.ShloMosaic Idealize.ShloMosaic.TcCoe Idealize.SL.Sem
open OutputProjection InputProjection

variable (G : FVec Ideal S16x2304x512 .f32) (A : FVec Ideal S16x2304x512 .bf16) (X : FVec Ideal S16x2304x1024 .f32) (Md : FVec Ideal S24x6x1024 .f32)
  (D : FVec Ideal S31x512 .f32) (Db g b : FVec Ideal S512 .f32) (W : FVec Ideal S1024x1024 .f32)

/-- The padded rows of the sequence. -/
theorem pad_l (p : Fin 16) (q : Fin 2078) (n : Fin 512) :
    val_main_v6 (F := Ideal) G (ix3 p q n) = if h : 15 ≤ q.val ∧ q.val - 15 < 2048 then G (ix3 p ⟨0 + (q.val - 15), by omega⟩ n) else 0 := by
  pointwise [val_main_v6, val_main_call0_v0, val_main_c]
  by_cases h : 15 ≤ q.val ∧ q.val - 15 < 2048
  · refine (dif_pos h).trans (Eq.trans ?_ (dif_pos h).symm)
    pointwise [val_main_v5]
    try exact congrArg (fun w => G (ix3 p w n)) (Fin.ext (by simp))
  · exact (dif_neg h).trans (Eq.trans pad_zero (by rw [dif_neg h]))

/-- A padded row is the row at that distance, or zeros. -/
theorem near_l (p : Fin 16) (s : Fin 2048) (j : Fin 31) (n : Fin 512) (q : Fin 2078) (hq : q.val = j.val + s.val) :
    val_main_v6 (F := Ideal) G (ix3 p q n) = nearby G p ⟨s.val, by omega⟩ j n := by
  have hs := s.isLt
  rw [pad_l]
  unfold nearby
  by_cases h : 15 ≤ q.val ∧ q.val - 15 < 2048
  · rw [dif_pos h, dif_pos (by constructor <;> [skip; constructor] <;> simp <;> omega)]
    exact congrArg (fun w => G (ix3 p w n)) (Fin.ext (by simp; omega))
  · rw [dif_neg h, dif_neg (by simp; omega)]

set_option maxHeartbeats 4000000 in
/-- The convolution of the sequence. -/
theorem conv_l (p : Fin 16) (s : Fin 2048) (n : Fin 512) :
    val_main_v225 (F := Ideal) G D Db (ix3 p s n) = convolved G D Db p ⟨s.val, by omega⟩ n := by
  unfold convolved
  pointwise [val_main_v225, val_main_v224, val_main_v223]
  refine congrArg (fun w => w + Db (ix1 n)) ?_
  pointwise [val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7]
  refine Eq.trans ?_ (sum_left _)
  iterate 30 refine sum_of ?_ (congrArg (fun w => w * D (ix2 _ n)) (near_l G p s _ n _ (by simp)))
  exact congrArg (fun w => w * D (ix2 _ n)) (near_l G p s _ n _ (by simp))

end Cert.OutprojRefIdeal.Hand
end
-- ==== Proof.O.RefRowL.lean ====
module

public import proofs.«01_k».proof.Proof.Gen.OutprojRefIdeal.Read
public import Idealize.ShloMosaic.Lib.Pipeline.ValueKit
public import proofs.«01_k».proof.Proof.O.RefConvL

/-! What the reference computes from the convolved rows of the sequence. -/

@[expose] public section

set_option maxRecDepth 16384

noncomputable section

namespace Cert.OutprojRefIdeal.Hand
open Cert.OutprojRefIdeal Cert.OutprojRefIdeal.Gen Cert.OutprojRefIdeal.Read
open Idealize.ShloMosaic Idealize.ShloMosaic.TcCoe Idealize.SL.Sem
open OutputProjection InputProjection

variable (G : FVec Ideal S16x2304x512 .f32) (A : FVec Ideal S16x2304x512 .bf16) (X : FVec Ideal S16x2304x1024 .f32) (Md : FVec Ideal S24x6x1024 .f32)
  (D : FVec Ideal S31x512 .f32) (Db g b : FVec Ideal S512 .f32) (W : FVec Ideal S1024x1024 .f32)

/-- The mean of a convolved row of the sequence. -/
theorem mean_l (p : Fin 16) (s : Fin 2048) : val_main_v229 (F := Ideal) G D Db (ix3 p s 0) = mean (convolved G D Db p ⟨s.val, by omega⟩) := by
  have h (x : Fin 512) : idx_main_v226 (idx_main_v227 (ix3 p s 0)) x = ix3 p s x := by
    funext i; fin_cases i <;> rfl
  rw [val_main_v229_apply, val_main_v227_apply, val_main_v226_apply]
  pointwise [val_main_cst, val_main_v228, val_main_cst_0, mean]
  simp only [h, conv_l]

/-- A convolved row of the sequence, centred. -/
theorem centred_l (p : Fin 16) (s : Fin 2048) (n : Fin 512) :
    val_main_v231 (F := Ideal) G D Db (ix3 p s n) = centred (convolved G D Db p ⟨s.val, by omega⟩) n := by
  have h : idx_main_v230 (ix3 p s n) = ix3 p s 0 := by funext i; fin_cases i <;> rfl
  rw [val_main_v231_apply, val_main_v230_apply, h, mean_l, conv_l]
  rfl

/-- The same, as the reference computes it again. -/
theorem again_l (p : Fin 16) (s : Fin 2048) (n : Fin 512) :
    val_main_v238 (F := Ideal) G D Db (ix3 p s n) = centred (convolved G D Db p ⟨s.val, by omega⟩) n := by
  have h : idx_main_v237 (ix3 p s n) = ix3 p s 0 := by funext i; fin_cases i <;> rfl
  rw [val_main_v238_apply, val_main_v237_apply, h, mean_l, conv_l]
  rfl

/-- The factor of the norm of the sequence. -/
theorem factor_l (p : Fin 16) (s : Fin 2048) (n : Fin 512) :
    val_main_v242 (F := Ideal) G D Db (ix3 p s n)
      = Ideal.rsqrt (mean (fun k => centred (convolved G D Db p ⟨s.val, by omega⟩) k * centred (convolved G D Db p ⟨s.val, by omega⟩) k) + Ideal.ofBits .f32 0x358637BD#32) := by
  have h0 : idx_main_v242 (ix3 p s n) = ix3 p s 0 := by funext i; fin_cases i <;> rfl
  have h (x : Fin 512) : idx_main_v233 (idx_main_v234 (ix3 p s 0)) x = ix3 p s x := by
    funext i; fin_cases i <;> rfl
  rw [val_main_v242_apply, h0, val_main_v241_apply, val_main_v240_apply, val_main_v236_apply, val_main_v234_apply, val_main_v233_apply]
  simp only [h, val_main_v232_apply, centred_l]
  pointwise [val_main_cst_1, val_main_v235, val_main_cst_2, val_main_v239, val_main_cst_3]
  rfl

/-- The normalised rows of the sequence. -/
theorem normed_l (p : Fin 16) (s : Fin 2048) (n : Fin 512) :
    val_main_v249 (F := Ideal) G D Db g b (ix3 p s n)
      = layerNormed (convolved G D Db p ⟨s.val, by omega⟩) (fun k => g (ix1 k)) (fun k => b (ix1 k)) n := by
  have h1 : idx_main_v244 (idx_main_v245 (ix3 p s n)) = ix1 n := by funext i; fin_cases i <;> rfl
  have h2 : idx_main_v247 (idx_main_v248 (ix3 p s n)) = ix1 n := by funext i; fin_cases i <;> rfl
  rw [val_main_v249_apply, val_main_v246_apply, val_main_v243_apply, again_l, factor_l, val_main_v245_apply, val_main_v244_apply, val_main_v248_apply, val_main_v247_apply, h1, h2]
  rfl

/-- The convolved values of the sequence. -/
theorem swish_l (p : Fin 16) (s : Fin 2048) (n : Fin 512) :
    val_main_v250 (F := Ideal) G D Db g b (ix3 p s n)
      = swished (convolved G D Db p ⟨s.val, by omega⟩) (fun k => g (ix1 k)) (fun k => b (ix1 k)) n := by
  pointwise [val_main_v250, val_main_call1_v5, val_main_call1_v4, val_main_call1_v3, val_main_call1_v2, val_main_call1_v1, val_main_call1_v0,
    val_main_call1_cst, val_main_call1_cst_0]
  rw [normed_l]
  rfl

/-- The attended values of the sequence. -/
theorem left_l (p : Fin 16) (s : Fin 2048) (e : Fin 512) :
    val_main_v251 (F := Ideal) G A D Db g b (ix3 p s ⟨e.val, by omega⟩) = A (ix3 p ⟨s.val, by omega⟩ e) := by
  pointwise [val_main_v251, val_main_v4, val_main_v0]

/-- The convolved values of the sequence, beside them. -/
theorem right_l (p : Fin 16) (s : Fin 2048) (e : Fin 512) :
    val_main_v251 (F := Ideal) G A D Db g b (ix3 p s ⟨512 + e.val, by omega⟩)
      = swished (convolved G D Db p ⟨s.val, by omega⟩) (fun k => g (ix1 k)) (fun k => b (ix1 k)) e := by
  pointwise [val_main_v251]
  exact swish_l G D Db g b p s e

/-- The projection of the sequence. -/
theorem proj_l (p : Fin 16) (s : Fin 2048) (n : Fin 1024) :
    val_main_v252 (F := Ideal) G A D Db g b W (ix3 p s n)
      = (∑ e : Fin 512, A (ix3 p ⟨s.val, by omega⟩ e) * W (ix2 ⟨e.val, by omega⟩ n))
        + ∑ e : Fin 512, swished (convolved G D Db p ⟨s.val, by omega⟩) (fun k => g (ix1 k)) (fun k => b (ix1 k)) e * W (ix2 ⟨512 + e.val, by omega⟩ n) := by
  have h1 (k : Fin 1024) : lidx_main_v252 (ix3 p s n) k = ix3 p s k := by funext i; fin_cases i <;> rfl
  have h2 (k : Fin 1024) : ridx_main_v252 (ix3 p s n) k = ix2 k n := by funext i; fin_cases i <;> rfl
  rw [val_main_v252_apply]
  simp only [h1, h2]
  rw [sum_halves]
  simp only [left_l, right_l]

/-- The result at the positions of the sequence. -/
theorem out_l (p : Fin 16) (s : Fin 2048) (n : Fin 1024) :
    val_main_v255 (F := Ideal) G A X Md D Db g b W (ix3 p s n) = outAt G A X Md D Db g b W p ⟨s.val, by omega⟩ n := by
  have hp : modRowOf p ⟨s.val, by omega⟩ = ⟨p.val, by omega⟩ := if_pos s.isLt
  unfold outAt projectedSum
  rw [hp, val_main_v255_apply, val_main_v254_apply, proj_l]
  pointwise [val_main_v1, val_main_v253, val_main_v3]

end Cert.OutprojRefIdeal.Hand
end
-- ==== Proof.O.RefConvC.lean ====
module

public import proofs.«01_k».proof.Proof.Gen.OutprojRefIdeal.Read
public import Idealize.ShloMosaic.Lib.Pipeline.ValueKit
public import proofs.«01_k».proof.Proof.O.RefSums

/-! What the reference computes: the convolution along the context. -/

@[expose] public section

set_option maxRecDepth 16384

noncomputable section

namespace Cert.OutprojRefIdeal.Hand
open Cert.OutprojRefIdeal Cert.OutprojRefIdeal.Gen Cert.OutprojRefIdeal.Read
open Idealize.ShloMosaic Idealize.ShloMosaic.TcCoe Idealize.SL.Sem
open OutputProjection InputProjection

variable (G : FVec Ideal S16x2304x512 .f32) (A : FVec Ideal S16x2304x512 .bf16) (X : FVec Ideal S16x2304x1024 .f32) (Md : FVec Ideal S24x6x1024 .f32)
  (D : FVec Ideal S31x512 .f32) (Db g b : FVec Ideal S512 .f32) (W : FVec Ideal S1024x1024 .f32)

/-- The padded rows of the context. -/
theorem pad_c (p : Fin 16) (q : Fin 286) (n : Fin 512) :
    val_main_v260 (F := Ideal) G (ix3 p q n) = if h : 15 ≤ q.val ∧ q.val - 15 < 256 then G (ix3 p ⟨2048 + (q.val - 15), by omega⟩ n) else 0 := by
  pointwise [val_main_v260, val_main_call2_v0, val_main_c_4]
  by_cases h : 15 ≤ q.val ∧ q.val - 15 < 256
  · refine (dif_pos h).trans (Eq.trans ?_ (dif_pos h).symm)
    pointwise [val_main_v259]
    try exact congrArg (fun w => G (ix3 p w n)) (Fin.ext (by simp))
  · exact (dif_neg h).trans (Eq.trans pad_zero (by rw [dif_neg h]))

/-- A padded row is the row at that distance, or zeros. -/
theorem near_c (p : Fin 16) (s : Fin 256) (j : Fin 31) (n : Fin 512) (q : Fin 286) (hq : q.val = j.val + s.val) :
    val_main_v260 (F := Ideal) G (ix3 p q n) = nearby G p ⟨2048 + s.val, by omega⟩ j n := by
  have hs := s.isLt
  rw [pad_c]
  unfold nearby
  by_cases h : 15 ≤ q.val ∧ q.val - 15 < 256
  · rw [dif_pos h, dif_pos (by constructor <;> [skip; constructor] <;> simp <;> omega)]
    exact congrArg (fun w => G (ix3 p w n)) (Fin.ext (by simp; omega))
  · rw [dif_neg h, dif_neg (by simp; omega)]

set_option maxHeartbeats 4000000 in
/-- The convolution of the context. -/
theorem conv_c (p : Fin 16) (s : Fin 256) (n : Fin 512) :
    val_main_v479 (F := Ideal) G D Db (ix3 p s n) = convolved G D Db p ⟨2048 + s.val, by omega⟩ n := by
  unfold convolved
  pointwise [val_main_v479, val_main_v478, val_main_v477]
  refine congrArg (fun w => w + Db (ix1 n)) ?_
  pointwise [val_main_v476, val_main_v475, val_main_v474, val_main_v473, val_main_v472, val_main_v471, val_main_v470, val_main_v469, val_main_v468, val_main_v467, val_main_v466, val_main_v465, val_main_v464, val_main_v463, val_main_v462, val_main_v461, val_main_v460, val_main_v459, val_main_v458, val_main_v457, val_main_v456, val_main_v455, val_main_v454, val_main_v453, val_main_v452, val_main_v451, val_main_v450, val_main_v449, val_main_v448, val_main_v447, val_main_v446, val_main_v445, val_main_v444, val_main_v443, val_main_v442, val_main_v441, val_main_v440, val_main_v439, val_main_v438, val_main_v437, val_main_v436, val_main_v435, val_main_v434, val_main_v433, val_main_v432, val_main_v431, val_main_v430, val_main_v429, val_main_v428, val_main_v427, val_main_v426, val_main_v425, val_main_v424, val_main_v423, val_main_v422, val_main_v421, val_main_v420, val_main_v419, val_main_v418, val_main_v417, val_main_v416, val_main_v415, val_main_v414, val_main_v413, val_main_v412, val_main_v411, val_main_v410, val_main_v409, val_main_v408, val_main_v407, val_main_v406, val_main_v405, val_main_v404, val_main_v403, val_main_v402, val_main_v401, val_main_v400, val_main_v399, val_main_v398, val_main_v397, val_main_v396, val_main_v395, val_main_v394, val_main_v393, val_main_v392, val_main_v391, val_main_v390, val_main_v389, val_main_v388, val_main_v387, val_main_v386, val_main_v385, val_main_v384, val_main_v383, val_main_v382, val_main_v381, val_main_v380, val_main_v379, val_main_v378, val_main_v377, val_main_v376, val_main_v375, val_main_v374, val_main_v373, val_main_v372, val_main_v371, val_main_v370, val_main_v369, val_main_v368, val_main_v367, val_main_v366, val_main_v365, val_main_v364, val_main_v363, val_main_v362, val_main_v361, val_main_v360, val_main_v359, val_main_v358, val_main_v357, val_main_v356, val_main_v355, val_main_v354, val_main_v353, val_main_v352, val_main_v351, val_main_v350, val_main_v349, val_main_v348, val_main_v347, val_main_v346, val_main_v345, val_main_v344, val_main_v343, val_main_v342, val_main_v341, val_main_v340, val_main_v339, val_main_v338, val_main_v337, val_main_v336, val_main_v335, val_main_v334, val_main_v333, val_main_v332, val_main_v331, val_main_v330, val_main_v329, val_main_v328, val_main_v327, val_main_v326, val_main_v325, val_main_v324, val_main_v323, val_main_v322, val_main_v321, val_main_v320, val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v300, val_main_v299, val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v280, val_main_v279, val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261]
  refine Eq.trans ?_ (sum_left _)
  iterate 30 refine sum_of ?_ (congrArg (fun w => w * D (ix2 _ n)) (near_c G p s _ n _ (by simp)))
  exact congrArg (fun w => w * D (ix2 _ n)) (near_c G p s _ n _ (by simp))

end Cert.OutprojRefIdeal.Hand
end
-- ==== Proof.O.RefRowC.lean ====
module

public import proofs.«01_k».proof.Proof.Gen.OutprojRefIdeal.Read
public import Idealize.ShloMosaic.Lib.Pipeline.ValueKit
public import proofs.«01_k».proof.Proof.O.RefConvC

/-! What the reference computes from the convolved rows of the context. -/

@[expose] public section

set_option maxRecDepth 16384

noncomputable section

namespace Cert.OutprojRefIdeal.Hand
open Cert.OutprojRefIdeal Cert.OutprojRefIdeal.Gen Cert.OutprojRefIdeal.Read
open Idealize.ShloMosaic Idealize.ShloMosaic.TcCoe Idealize.SL.Sem
open OutputProjection InputProjection

variable (G : FVec Ideal S16x2304x512 .f32) (A : FVec Ideal S16x2304x512 .bf16) (X : FVec Ideal S16x2304x1024 .f32) (Md : FVec Ideal S24x6x1024 .f32)
  (D : FVec Ideal S31x512 .f32) (Db g b : FVec Ideal S512 .f32) (W : FVec Ideal S1024x1024 .f32)

/-- The mean of a convolved row of the context. -/
theorem mean_c (p : Fin 16) (s : Fin 256) : val_main_v483 (F := Ideal) G D Db (ix3 p s 0) = mean (convolved G D Db p ⟨2048 + s.val, by omega⟩) := by
  have h (x : Fin 512) : idx_main_v480 (idx_main_v481 (ix3 p s 0)) x = ix3 p s x := by
    funext i; fin_cases i <;> rfl
  rw [val_main_v483_apply, val_main_v481_apply, val_main_v480_apply]
  pointwise [val_main_cst_5, val_main_v482, val_main_cst_6, mean]
  simp only [h, conv_c]

/-- A convolved row of the context, centred. -/
theorem centred_c (p : Fin 16) (s : Fin 256) (n : Fin 512) :
    val_main_v485 (F := Ideal) G D Db (ix3 p s n) = centred (convolved G D Db p ⟨2048 + s.val, by omega⟩) n := by
  have h : idx_main_v484 (ix3 p s n) = ix3 p s 0 := by funext i; fin_cases i <;> rfl
  rw [val_main_v485_apply, val_main_v484_apply, h, mean_c, conv_c]
  rfl

/-- The same, as the reference computes it again. -/
theorem again_c (p : Fin 16) (s : Fin 256) (n : Fin 512) :
    val_main_v492 (F := Ideal) G D Db (ix3 p s n) = centred (convolved G D Db p ⟨2048 + s.val, by omega⟩) n := by
  have h : idx_main_v491 (ix3 p s n) = ix3 p s 0 := by funext i; fin_cases i <;> rfl
  rw [val_main_v492_apply, val_main_v491_apply, h, mean_c, conv_c]
  rfl

/-- The factor of the norm of the context. -/
theorem factor_c (p : Fin 16) (s : Fin 256) (n : Fin 512) :
    val_main_v496 (F := Ideal) G D Db (ix3 p s n)
      = Ideal.rsqrt (mean (fun k => centred (convolved G D Db p ⟨2048 + s.val, by omega⟩) k * centred (convolved G D Db p ⟨2048 + s.val, by omega⟩) k) + Ideal.ofBits .f32 0x358637BD#32) := by
  have h0 : idx_main_v496 (ix3 p s n) = ix3 p s 0 := by funext i; fin_cases i <;> rfl
  have h (x : Fin 512) : idx_main_v487 (idx_main_v488 (ix3 p s 0)) x = ix3 p s x := by
    funext i; fin_cases i <;> rfl
  rw [val_main_v496_apply, h0, val_main_v495_apply, val_main_v494_apply, val_main_v490_apply, val_main_v488_apply, val_main_v487_apply]
  simp only [h, val_main_v486_apply, centred_c]
  pointwise [val_main_cst_7, val_main_v489, val_main_cst_8, val_main_v493, val_main_cst_9]
  rfl

/-- The normalised rows of the context. -/
theorem normed_c (p : Fin 16) (s : Fin 256) (n : Fin 512) :
    val_main_v503 (F := Ideal) G D Db g b (ix3 p s n)
      = layerNormed (convolved G D Db p ⟨2048 + s.val, by omega⟩) (fun k => g (ix1 k)) (fun k => b (ix1 k)) n := by
  have h1 : idx_main_v498 (idx_main_v499 (ix3 p s n)) = ix1 n := by funext i; fin_cases i <;> rfl
  have h2 : idx_main_v501 (idx_main_v502 (ix3 p s n)) = ix1 n := by funext i; fin_cases i <;> rfl
  rw [val_main_v503_apply, val_main_v500_apply, val_main_v497_apply, again_c, factor_c, val_main_v499_apply, val_main_v498_apply, val_main_v502_apply, val_main_v501_apply, h1, h2]
  rfl

/-- The convolved values of the context. -/
theorem swish_c (p : Fin 16) (s : Fin 256) (n : Fin 512) :
    val_main_v504 (F := Ideal) G D Db g b (ix3 p s n)
      = swished (convolved G D Db p ⟨2048 + s.val, by omega⟩) (fun k => g (ix1 k)) (fun k => b (ix1 k)) n := by
  pointwise [val_main_v504, val_main_call3_v5, val_main_call3_v4, val_main_call3_v3, val_main_call3_v2, val_main_call3_v1, val_main_call3_v0,
    val_main_call3_cst, val_main_call3_cst_0]
  rw [normed_c]
  rfl

/-- The attended values of the context. -/
theorem left_c (p : Fin 16) (s : Fin 256) (e : Fin 512) :
    val_main_v505 (F := Ideal) G A D Db g b (ix3 p s ⟨e.val, by omega⟩) = A (ix3 p ⟨2048 + s.val, by omega⟩ e) := by
  pointwise [val_main_v505, val_main_v258, val_main_v0]

/-- The convolved values of the context, beside them. -/
theorem right_c (p : Fin 16) (s : Fin 256) (e : Fin 512) :
    val_main_v505 (F := Ideal) G A D Db g b (ix3 p s ⟨512 + e.val, by omega⟩)
      = swished (convolved G D Db p ⟨2048 + s.val, by omega⟩) (fun k => g (ix1 k)) (fun k => b (ix1 k)) e := by
  pointwise [val_main_v505]
  exact swish_c G D Db g b p s e

/-- The projection of the context. -/
theorem proj_c (p : Fin 16) (s : Fin 256) (n : Fin 1024) :
    val_main_v506 (F := Ideal) G A D Db g b W (ix3 p s n)
      = (∑ e : Fin 512, A (ix3 p ⟨2048 + s.val, by omega⟩ e) * W (ix2 ⟨e.val, by omega⟩ n))
        + ∑ e : Fin 512, swished (convolved G D Db p ⟨2048 + s.val, by omega⟩) (fun k => g (ix1 k)) (fun k => b (ix1 k)) e * W (ix2 ⟨512 + e.val, by omega⟩ n) := by
  have h1 (k : Fin 1024) : lidx_main_v506 (ix3 p s n) k = ix3 p s k := by funext i; fin_cases i <;> rfl
  have h2 (k : Fin 1024) : ridx_main_v506 (ix3 p s n) k = ix2 k n := by funext i; fin_cases i <;> rfl
  rw [val_main_v506_apply]
  simp only [h1, h2]
  rw [sum_halves]
  simp only [left_c, right_c]

/-- The result at the positions of the context. -/
theorem out_c (p : Fin 16) (s : Fin 256) (n : Fin 1024) :
    val_main_v510 (F := Ideal) G A X Md D Db g b W (ix3 p s n) = outAt G A X Md D Db g b W p ⟨2048 + s.val, by omega⟩ n := by
  have hp : modRowOf p ⟨2048 + s.val, by omega⟩ = 16 := if_neg (by show ¬ 2048 + s.val < 2048; omega)
  unfold outAt projectedSum
  rw [hp, val_main_v510_apply, val_main_v509_apply, proj_c]
  pointwise [val_main_v2, val_main_v508, val_main_v507, val_main_v257, val_main_v256]

end Cert.OutprojRefIdeal.Hand
end
-- ==== Proof.O.Ref.lean ====
module

public import proofs.«01_k».proof.Proof.Gen.OutprojRefIdeal.Read
public import Idealize.ShloMosaic.Lib.Pipeline.ValueKit
public import proofs.«01_k».proof.Proof.O.RefRowL
public import proofs.«01_k».proof.Proof.O.RefRowC

/-! What the reference computes. -/

@[expose] public section

set_option maxRecDepth 16384

noncomputable section

namespace Cert.OutprojRefIdeal.Hand
open Cert.OutprojRefIdeal Cert.OutprojRefIdeal.Gen Cert.OutprojRefIdeal.Read
open Idealize.ShloMosaic Idealize.ShloMosaic.TcCoe Idealize.SL.Sem
open OutputProjection InputProjection

variable (G : FVec Ideal S16x2304x512 .f32) (A : FVec Ideal S16x2304x512 .bf16) (X : FVec Ideal S16x2304x1024 .f32) (Md : FVec Ideal S24x6x1024 .f32)
  (D : FVec Ideal S31x512 .f32) (Db g b : FVec Ideal S512 .f32) (W : FVec Ideal S1024x1024 .f32)

/-- The reference's result is the array of the hidden states after attention and convolution. -/
theorem ref_eq : val_main_v511 (F := Ideal) G A X Md D Db g b W = out G A X Md D Db g b W := by
  funext i
  idx_vars i
  show _ = outAt G A X Md D Db g b W i0 i1 i2
  have h1 := i1.isLt
  pointwise [val_main_v511]
  by_cases h : i1.val < 2048
  · exact (dif_pos h).trans (out_l G A X Md D Db g b W i0 ⟨i1.val, h⟩ i2)
  · refine (dif_neg h).trans ((out_c G A X Md D Db g b W i0 ⟨i1.val - 2048, by omega⟩ i2).trans ?_)
    exact congrArg (fun w => outAt G A X Md D Db g b W i0 w i2) (Fin.ext (by show 2048 + (i1.val - 2048) = i1.val; omega))

end Cert.OutprojRefIdeal.Hand
end
-- ==== Proof.O.Claims.lean ====
module

public import proofs.«01_k».proof.Defs
public import proofs.«01_k».proof.Proof.Gen.Outproj.Frame
public import proofs.«01_k».proof.Proof.Gen.OutprojIdeal.Frame
public import proofs.«01_k».proof.Proof.Gen.OutprojRefIdeal.Run
public import proofs.«01_k».proof.Proof.O.Final
public import proofs.«01_k».proof.Proof.O.Ref
public import Idealize.ShloMosaic.Lib.Claim

/-! The claims about the convolution and output projection call. -/

@[expose] public section

set_option maxRecDepth 16384

noncomputable section

namespace Cert.OutputProjectionCall
open Idealize.ShloMosaic Idealize.ShloMosaic.TcCoe Idealize.SL.Sem

/-- The convolution and output projection kernel runs to its end, and leaves its arguments and every semaphore as they were. -/
theorem frame_p : quiescent_Outproj := fun m g _ => Cert.Outproj.Gen.frame m g

/-- The same of the kernel at the extended reals. -/
theorem frame_pi : quiescent_OutprojIdeal := fun m g _ => Cert.OutprojIdeal.Gen.frame m g

/-- The reference runs to its end, and leaves its arguments and every semaphore as they were. -/
theorem frame_ri : quiescent_OutprojRefIdeal := fun m g _ =>
  (θ_run Cert.OutprojRefIdeal.defs _ _).mono (fun r h => ⟨fun c => (h c).2, sem_eq_zero_of_no_sems (by decide) r.2⟩)
    (Cert.OutprojRefIdeal.Value.run (F := Ideal) m g)

set_option maxHeartbeats 1000000 in
/-- For all arguments the kernel's result at the extended reals is the reference's. -/
theorem algebraic : algebraic_OutprojIdeal_OutprojRefIdeal := by
  pair_intro
  · run_from Cert.OutprojIdeal.Value.run_blocks m g
  · run_from Cert.OutprojRefIdeal.Value.run m' g'
    obtain ⟨h0, h1, h2, h3, h4, h5, h6, h7, h8⟩ := hagree c
    refine (Cert.OutprojRefIdeal.Read.val_main_v511_eq (StableHlo.launchContents m' c)).trans ?_
    refine (Cert.OutprojRefIdeal.Hand.ref_eq _ _ _ _ _ _ _ _ _).trans (Eq.trans ?_ (Cert.OutprojIdeal.Hand.final m c).symm)
    show OutputProjection.out (m' (c.tc.loc Cert.OutprojRefIdeal.main_arg0)) (m' (c.tc.loc Cert.OutprojRefIdeal.main_arg1)) (m' (c.tc.loc Cert.OutprojRefIdeal.main_arg2)) (m' (c.tc.loc Cert.OutprojRefIdeal.main_arg3)) (m' (c.tc.loc Cert.OutprojRefIdeal.main_arg4)) (m' (c.tc.loc Cert.OutprojRefIdeal.main_arg5)) (m' (c.tc.loc Cert.OutprojRefIdeal.main_arg6)) (m' (c.tc.loc Cert.OutprojRefIdeal.main_arg7)) (m' (c.tc.loc Cert.OutprojRefIdeal.main_arg8)) = _
    rw [h0, h1, h2, h3, h4, h5, h6, h7, h8]

end Cert.OutputProjectionCall
end
-- ==== Proof.G.Chunk.lean ====
module

public import proofs.«01_k».proof.Proof.Gen.FfnFirstIdeal.Skeleton
public import proofs.«01_k».proof.Proof.F.Reads
public import proofs.«01_k».proof.Proof.F.Spec

/-! What the kernel's operations compute for one chunk of 256 hidden columns. -/

@[expose] public section

set_option maxRecDepth 16384

noncomputable section

namespace Cert.FfnFirstIdeal.Hand
open Cert.FfnFirstIdeal Cert.FfnFirstIdeal.Gen
open Idealize.ShloMosaic Idealize.ShloMosaic.TcCoe Idealize.SL.Sem
open Idealize.ShloMosaic.View (Piece)
open FeedForward

/-- The activation: the taps, the swish and the product with the value. -/
theorem pay15_at (v : FVec Ideal S256x256 .f32) (b d0 d1 d2 : Vec Ideal S1x256 .f32) (a0 a1 a2 : Vec Ideal S256x256 .f32)
    (r n : Fin 256) :
    k0_pay15 v b a0 d0 a1 d1 a2 d2 (ix2 r n)
      = gated (taps (b (ix2 0 n)) (a0 (ix2 r n)) (d0 (ix2 0 n)) (a1 (ix2 r n)) (d1 (ix2 0 n)) (a2 (ix2 r n)) (d2 (ix2 0 n)))
          (v (ix2 r n)) := by
  pointwise [k0_pay15, gated, taps]

/-- The halo of the rows before: the gate's last eight rows, or zeros. -/
theorem pay26_at (b : BitVec 1) (H : FVec Ideal S272x1024 .bf16) (W : Vec Ideal S1024x256 .bf16) (r : Fin 8) (n : Fin 256) :
    k0_pay26 b H W (ix2 r n) = Scalar.select b (up (fun k => H (ix2 ⟨264 + r.val, by omega⟩ k)) (fun k => W (ix2 k n))) (0 : EReal) := by
  pointwise [k0_pay26, k0_pay24, up]

/-- The gate's own rows. -/
theorem pay27_at (H : FVec Ideal S272x1024 .bf16) (W : Vec Ideal S1024x256 .bf16) (r : Fin 256) (n : Fin 256) :
    k0_pay27 H W (ix2 r n) = up (fun k => H (ix2 ⟨r.val, by omega⟩ k)) (fun k => W (ix2 k n)) := by
  pointwise [k0_pay27, k0_pay24, up]

/-- The halo of the rows after. -/
theorem pay28_at (b : BitVec 1) (H : FVec Ideal S272x1024 .bf16) (W : Vec Ideal S1024x256 .bf16) (r : Fin 8) (n : Fin 256) :
    k0_pay28 b H W (ix2 r n) = Scalar.select b (up (fun k => H (ix2 ⟨256 + r.val, by omega⟩ k)) (fun k => W (ix2 k n))) (0 : EReal) := by
  pointwise [k0_pay28, k0_pay24, up]

/-- The rows normalised and modulated. -/
theorem pay7_at (x : Vec Ideal S272x1024 .f32) (g : Vec Ideal S1x1024 .f32) (sc sh : Vec Ideal S1x1x1024 .f32)
    (r : Fin 272) (n : Fin 1024) :
    k0_pay7 x (k0_pay5 g) (k0_pay6 sc) sh (ix2 r n)
      = modulated (fun k => x (ix2 r k)) (fun k => g (ix2 0 k)) (fun k => sc (ix3 0 0 k)) (fun k => sh (ix3 0 0 k)) n := by
  pointwise [k0_pay7, k0_pay5, k0_pay6, modulated, rms]

/-- The value half of the up projection. -/
theorem pay25_at (x : Vec Ideal S272x1024 .f32) (g : FVec Ideal S1x1024 .f32) (sc : FVec Ideal S1x1024 .f32)
    (sh : Vec Ideal S1x1x1024 .f32) (W : Vec Ideal S1024x256 .bf16) (r : Fin 256) (n : Fin 256) :
    k0_pay25 (k0_pay8 x g sc sh) W (ix2 r n)
      = up (fun k => k0_pay7 x g sc sh (ix2 ⟨r.val, by omega⟩ k)) (fun k => W (ix2 k n)) := by
  pointwise [k0_pay25, k0_pay8, up]

/-- The output block: the down projection and the gated residual. -/
theorem pay90_at (act : Vec Ideal S256x2816 .bf16) (wd : Vec Ideal S2816x1024 .bf16) (x : Vec Ideal S1x256x1024 .f32)
    (md : Vec Ideal S1x1x1024 .f32) (z : Fin 1) (r : Fin 256) (n : Fin 1024) :
    k0_pay1 (k0_pay90 act wd x md) (ix3 z r n)
      = resid (fun k => x (ix3 0 r k)) (fun k => md (ix3 0 0 k)) (fun f => act (ix2 r f)) (fun f k => wd (ix2 f k)) n := by
  pointwise [k0_pay1, k0_pay90, resid]

/-- The gate of the row before a row of the tile: the halo's last row before the first, if there is one. -/
def gatePrev (b : BitVec 1) (g : Fin 272 → EReal) (r : Fin 256) : EReal :=
  if h : r.val = 0 then Scalar.select b (g 271) 0 else g ⟨r.val - 1, by omega⟩

/-- The gate of the row after a row of the tile. -/
def gateNext (b : BitVec 1) (g : Fin 272 → EReal) (r : Fin 256) : EReal :=
  if h : r.val = 255 then Scalar.select b (g 256) 0 else g ⟨r.val + 1, by omega⟩

/-- The activation of one row and hidden column from the modulated rows of the tile and its halos. -/
def actAt (b2 b5 : BitVec 1) (H : Fin 272 → Fin 1024 → EReal) (wg wv : Fin 1024 → EReal) (d0 d1 d2 b : EReal) (r : Fin 256) : EReal :=
  gated (taps b (gatePrev b2 (fun s => up (H s) wg) r) d0 (up (H ⟨r.val, by omega⟩) wg) d1
    (gateNext b5 (fun s => up (H s) wg) r) d2) (up (H ⟨r.val, by omega⟩) wv)

/-- The rows the kernel normalises: the tile's, then the eight after it, then the eight before it. -/
def haloRows (x0 : Vec Ideal S1x256x1024 .f32) (x1 x2 : Vec Ideal S1x8x1024 .f32) (s : Fin 272) (k : Fin 1024) : EReal :=
  if h : s.val < 256 then x0 (ix3 0 ⟨s.val, h⟩ k)
  else if h' : s.val < 264 then x2 (ix3 0 ⟨s.val - 256, by omega⟩ k) else x1 (ix3 0 ⟨s.val - 264, by omega⟩ k)

/-- The scratch matrix of rows, written in three pieces, read whole. -/
theorem xw_at {κ : Kind} {sp : Space} (v : View sig κ sp S272x1024 .f32) (x0 : Vec Ideal S1x256x1024 .f32) (x1 x2 : Vec Ideal S1x8x1024 .f32)
    (e0 : ∀ a, (![0, 0] : Fin 2 → ℕ) a + (![256, 1024] : Fin 2 → ℕ) a ≤ S272x1024.size a)
    (e1 : ∀ a, (![256, 0] : Fin 2 → ℕ) a + (![8, 1024] : Fin 2 → ℕ) a ≤ S272x1024.size a)
    (e2 : ∀ a, (![264, 0] : Fin 2 → ℕ) a + (![8, 1024] : Fin 2 → ℕ) a ≤ S272x1024.size a)
    (e : ∀ a, (![0, 0] : Fin 2 → ℕ) a + (![272, 1024] : Fin 2 → ℕ) a ≤ S272x1024.size a) (s : Fin 272) (k : Fin 1024) :
    v.readCov (Val := Elt Ideal) [⟨Rect.unit (s := S272x1024) ![264, 0] ![8, 1024] e2, k0_pay4 x1⟩,
        ⟨Rect.unit (s := S272x1024) ![256, 0] ![8, 1024] e1, k0_pay3 x2⟩,
        ⟨Rect.unit (s := S272x1024) ![0, 0] ![256, 1024] e0, k0_pay2 x0⟩]
      (Rect.unit (s := S272x1024) ![0, 0] ![272, 1024] e).toLoadRect (ix2 s k) = haloRows x0 x1 x2 s k := by
  have hs := s.isLt
  have p2 (r : Fin 256) : k0_pay2 x0 (ix2 r k) = x0 (ix3 0 r k) := by pointwise [k0_pay2]
  have p3 (r : Fin 8) : k0_pay3 x2 (ix2 r k) = x2 (ix3 0 r k) := by pointwise [k0_pay3]
  have p4 (r : Fin 8) : k0_pay4 x1 (ix2 r k) = x1 (ix3 0 r k) := by pointwise [k0_pay4]
  unfold haloRows
  rw [Blocks.readCov_at v _ e s k s k (by simp) (by simp)]
  split_ifs with h h'
  · rw [Blocks.canon_off e2 _ _ _ _ (by omega), Blocks.canon_off e1 _ _ _ _ (by omega),
      Blocks.canon_at e0 _ _ _ _ ⟨s.val, h⟩ k (by simp) (by simp), p2]
  · rw [Blocks.canon_off e2 _ _ _ _ (by omega),
      Blocks.canon_at e1 _ _ _ _ ⟨s.val - 256, by omega⟩ k (by simp; omega) (by simp), p3]
  · rw [Blocks.canon_at e2 _ _ _ _ ⟨s.val - 264, by omega⟩ k (by simp; omega) (by simp), p4]

variable {κ : Kind} {sp : Space} {C : ℕ}

/-- One chunk of the activations, written as the kernel writes it: the gate goes through a scratch matrix. -/
theorem act_chunk (hC : C + 256 ≤ 2816) (v : View sig κ sp S272x2816 .f32) (L : List (Piece (Elt Ideal) S272x2816 .f32))
    (b2 b5 : BitVec 1) (X : Vec Ideal S272x1024 .f32) (g : FVec Ideal S1x1024 .f32) (sc : FVec Ideal S1x1024 .f32)
    (sh : Vec Ideal S1x1x1024 .f32) (x5 x6 : Vec Ideal S1024x2816 .bf16) (x8 : Vec Ideal S3x2816 .f32) (x9 : Vec Ideal S1x2816 .f32)
    (eW : ∀ a, (![0, C] : Fin 2 → ℕ) a + (![1024, 256] : Fin 2 → ℕ) a ≤ S1024x2816.size a)
    (eB : ∀ a, (![0, C] : Fin 2 → ℕ) a + (![1, 256] : Fin 2 → ℕ) a ≤ S1x2816.size a)
    (eD0 : ∀ a, (![0, C] : Fin 2 → ℕ) a + (![1, 256] : Fin 2 → ℕ) a ≤ S3x2816.size a)
    (eD1 : ∀ a, (![1, C] : Fin 2 → ℕ) a + (![1, 256] : Fin 2 → ℕ) a ≤ S3x2816.size a)
    (eD2 : ∀ a, (![2, C] : Fin 2 → ℕ) a + (![1, 256] : Fin 2 → ℕ) a ≤ S3x2816.size a)
    (eP : ∀ a, (![0, C] : Fin 2 → ℕ) a + (![8, 256] : Fin 2 → ℕ) a ≤ S272x2816.size a)
    (eM : ∀ a, (![8, C] : Fin 2 → ℕ) a + (![256, 256] : Fin 2 → ℕ) a ≤ S272x2816.size a)
    (eN : ∀ a, (![264, C] : Fin 2 → ℕ) a + (![8, 256] : Fin 2 → ℕ) a ≤ S272x2816.size a)
    (e7 : ∀ a, (![7, C] : Fin 2 → ℕ) a + (![256, 256] : Fin 2 → ℕ) a ≤ S272x2816.size a)
    (e9 : ∀ a, (![9, C] : Fin 2 → ℕ) a + (![256, 256] : Fin 2 → ℕ) a ≤ S272x2816.size a)
    (r n : Fin 256) :
    k0_pay15 (k0_pay25 (k0_pay8 X g sc sh) (View.ld x6 (Rect.unit (s := S1024x2816) ![0, C] ![1024, 256] eW)))
      (View.ld x9 (Rect.unit (s := S1x2816) ![0, C] ![1, 256] eB))
      (v.readCov (⟨Rect.unit (s := S272x2816) ![264, C] ![8, 256] eN, k0_pay28 b5 (k0_pay7 X g sc sh) (View.ld x5 (Rect.unit (s := S1024x2816) ![0, C] ![1024, 256] eW))⟩
        :: ⟨Rect.unit (s := S272x2816) ![8, C] ![256, 256] eM, k0_pay27 (k0_pay7 X g sc sh) (View.ld x5 (Rect.unit (s := S1024x2816) ![0, C] ![1024, 256] eW))⟩
        :: ⟨Rect.unit (s := S272x2816) ![0, C] ![8, 256] eP, k0_pay26 b2 (k0_pay7 X g sc sh) (View.ld x5 (Rect.unit (s := S1024x2816) ![0, C] ![1024, 256] eW))⟩ :: L)
        (Rect.unit (s := S272x2816) ![7, C] ![256, 256] e7).toLoadRect)
      (View.ld x8 (Rect.unit (s := S3x2816) ![0, C] ![1, 256] eD0))
      (v.readCov (⟨Rect.unit (s := S272x2816) ![264, C] ![8, 256] eN, k0_pay28 b5 (k0_pay7 X g sc sh) (View.ld x5 (Rect.unit (s := S1024x2816) ![0, C] ![1024, 256] eW))⟩
        :: ⟨Rect.unit (s := S272x2816) ![8, C] ![256, 256] eM, k0_pay27 (k0_pay7 X g sc sh) (View.ld x5 (Rect.unit (s := S1024x2816) ![0, C] ![1024, 256] eW))⟩
        :: ⟨Rect.unit (s := S272x2816) ![0, C] ![8, 256] eP, k0_pay26 b2 (k0_pay7 X g sc sh) (View.ld x5 (Rect.unit (s := S1024x2816) ![0, C] ![1024, 256] eW))⟩ :: L)
        (Rect.unit (s := S272x2816) ![8, C] ![256, 256] eM).toLoadRect)
      (View.ld x8 (Rect.unit (s := S3x2816) ![1, C] ![1, 256] eD1))
      (v.readCov (⟨Rect.unit (s := S272x2816) ![264, C] ![8, 256] eN, k0_pay28 b5 (k0_pay7 X g sc sh) (View.ld x5 (Rect.unit (s := S1024x2816) ![0, C] ![1024, 256] eW))⟩
        :: ⟨Rect.unit (s := S272x2816) ![8, C] ![256, 256] eM, k0_pay27 (k0_pay7 X g sc sh) (View.ld x5 (Rect.unit (s := S1024x2816) ![0, C] ![1024, 256] eW))⟩
        :: ⟨Rect.unit (s := S272x2816) ![0, C] ![8, 256] eP, k0_pay26 b2 (k0_pay7 X g sc sh) (View.ld x5 (Rect.unit (s := S1024x2816) ![0, C] ![1024, 256] eW))⟩ :: L)
        (Rect.unit (s := S272x2816) ![9, C] ![256, 256] e9).toLoadRect)
      (View.ld x8 (Rect.unit (s := S3x2816) ![2, C] ![1, 256] eD2)) (ix2 r n)
      = actAt b2 b5 (fun s k => k0_pay7 X g sc sh (ix2 s k)) (fun k => x5 (ix2 k ⟨C + n.val, by omega⟩))
          (fun k => x6 (ix2 k ⟨C + n.val, by omega⟩)) (x8 (ix2 0 ⟨C + n.val, by omega⟩)) (x8 (ix2 1 ⟨C + n.val, by omega⟩))
          (x8 (ix2 2 ⟨C + n.val, by omega⟩)) (x9 (ix2 0 ⟨C + n.val, by omega⟩)) r := by
  have hn := n.isLt
  have hr := r.isLt
  have w5 (k : Fin 1024) := Blocks.ld_at x5 eW k n k ⟨C + n.val, by omega⟩ (by omega) rfl
  have w6 (k : Fin 1024) := Blocks.ld_at x6 eW k n k ⟨C + n.val, by omega⟩ (by omega) rfl
  rw [pay15_at, pay25_at]
  unfold actAt
  rw [Blocks.ld_at x9 eB 0 n 0 ⟨C + n.val, by omega⟩ rfl rfl, Blocks.ld_at x8 eD0 0 n 0 ⟨C + n.val, by omega⟩ rfl rfl,
    Blocks.ld_at x8 eD1 0 n 1 ⟨C + n.val, by omega⟩ rfl rfl, Blocks.ld_at x8 eD2 0 n 2 ⟨C + n.val, by omega⟩ rfl rfl]
  simp only [w6]
  generalize hg : (fun s : Fin 272 => up (fun k => k0_pay7 X g sc sh (ix2 s k)) (fun k => x5 (ix2 k ⟨C + n.val, by omega⟩))) = G
  have hG (s : Fin 272) : up (fun k => k0_pay7 X g sc sh (ix2 s k))
      (fun k => View.ld x5 (Rect.unit (s := S1024x2816) ![0, C] ![1024, 256] eW) (ix2 k n)) = G s := by
    rw [← hg]; simp only [w5]
  have hG' (s : Fin 272) : up (fun k => k0_pay7 X g sc sh (ix2 s k))
      (fun k => x5 (ix2 k ⟨C + n.val, by omega⟩)) = G s := by
    rw [← hg]
  rw [hG']
  congr 2
  · by_cases h0 : r.val = 0
    · refine Eq.trans ?_ (dif_pos h0).symm
      rw [Blocks.readCov_at v _ e7 r n ⟨7, by omega⟩ ⟨C + n.val, by omega⟩ (by simp [h0]) rfl,
        Blocks.canon_off eN _ _ _ _ (by simp), Blocks.canon_off eM _ _ _ _ (by simp),
        Blocks.canon_at eP _ _ _ _ ⟨7, by omega⟩ n (by simp) rfl, pay26_at, hG]
      rfl
    · refine Eq.trans ?_ (dif_neg h0).symm
      rw [Blocks.readCov_at v _ e7 r n ⟨7 + r.val, by omega⟩ ⟨C + n.val, by omega⟩ rfl rfl,
        Blocks.canon_off eN _ _ _ _ (by simp; omega),
        Blocks.canon_at eM _ _ _ _ ⟨r.val - 1, by omega⟩ n (by simp; omega) rfl, pay27_at, hG]
  · rw [Blocks.readCov_at v _ eM r n ⟨8 + r.val, by omega⟩ ⟨C + n.val, by omega⟩ rfl rfl,
        Blocks.canon_off eN _ _ _ _ (by simp; omega),
        Blocks.canon_at eM _ _ _ _ r n rfl rfl, pay27_at, hG]
  · by_cases h0 : r.val = 255
    · refine Eq.trans ?_ (dif_pos h0).symm
      rw [Blocks.readCov_at v _ e9 r n ⟨264, by omega⟩ ⟨C + n.val, by omega⟩ (by simp [h0]) rfl,
        Blocks.canon_at eN _ _ _ _ ⟨0, by omega⟩ n (by simp) rfl, pay28_at, hG]
      rfl
    · refine Eq.trans ?_ (dif_neg h0).symm
      rw [Blocks.readCov_at v _ e9 r n ⟨9 + r.val, by omega⟩ ⟨C + n.val, by omega⟩ rfl rfl,
        Blocks.canon_off eN _ _ _ _ (by simp; omega),
        Blocks.canon_at eM _ _ _ _ ⟨r.val + 1, by omega⟩ n (by simp; omega) rfl, pay27_at, hG]

end Cert.FfnFirstIdeal.Hand
end
-- ==== Proof.G.Block.lean ====
module

public import proofs.«01_k».proof.Proof.Gen.FfnFirstIdeal.Value
public import proofs.«01_k».proof.Proof.G.Chunk
public import Idealize.ShloMosaic.Lib.Pipeline.ValueKit

/-! What one grid point of the kernel writes, from the blocks it reads. -/

@[expose] public section

set_option maxRecDepth 16384

noncomputable section

namespace Cert.FfnFirstIdeal.Hand
open Cert.FfnFirstIdeal Cert.FfnFirstIdeal.Gen
open Idealize.ShloMosaic Idealize.ShloMosaic.TcCoe Idealize.SL.Sem
open FeedForward

variable (m : (ℓ : Loc nD τ sig) → Buf (Elt Ideal) ℓ)

/-- Whether there are rows before the tile, as the kernel computes it. -/
abbrev bitPrev (i : Fin 9) : BitVec 1 :=
  Scalar.andi (Scalar.cmpi .ne (BitVec.ofNat 32 i.val) 0#32) (Scalar.cmpi .ne (BitVec.ofNat 32 i.val) 8#32)

/-- Whether there are rows after the tile, as the kernel computes it. -/
abbrev bitNext (i : Fin 9) : BitVec 1 :=
  Scalar.andi (Scalar.cmpi .ne (BitVec.ofNat 32 i.val) 7#32) (Scalar.cmpi .ne (BitVec.ofNat 32 i.val) 8#32)

/-- One entry of the written block, from the blocks a grid point reads. -/
def blockAt (i : Fin 9) (x0 : Vec Ideal S1x256x1024 .f32) (x1 x2 : Vec Ideal S1x8x1024 .f32) (x3 : Vec Ideal S1x6x1024 .f32)
    (x4 : Vec Ideal S1x1024 .f32) (x5 x6 : Vec Ideal S1024x2816 .bf16) (x7 : Vec Ideal S2816x1024 .bf16)
    (x8 : Vec Ideal S3x2816 .f32) (x9 : Vec Ideal S1x2816 .f32) (r : Fin 256) (n : Fin 1024) : EReal :=
  resid (fun k => x0 (ix3 0 r k)) (fun k => x3 (ix3 0 5 k))
    (fun f => actAt (bitPrev i) (bitNext i)
      (fun s => modulated (haloRows x0 x1 x2 s) (fun k => x4 (ix2 0 k)) (fun k => x3 (ix3 0 4 k)) (fun k => x3 (ix3 0 3 k)))
      (fun k => x5 (ix2 k f)) (fun k => x6 (ix2 k f)) (x8 (ix2 0 f)) (x8 (ix2 1 f)) (x8 (ix2 2 f)) (x9 (ix2 0 f)) r)
    (fun f k => x7 (ix2 f k)) n

/-- One row of the conditioning block. -/
theorem modRow (x : Vec Ideal S1x6x1024 .f32) (q : Fin 6)
    (e : ∀ a, (![0, q.val, 0] : Fin 3 → ℕ) a + (![1, 1, 1024] : Fin 3 → ℕ) a ≤ S1x6x1024.size a) (k : Fin 1024) :
    View.ld (Val := Elt Ideal) (e' := .f32) x (Rect.unit (s := S1x6x1024) ![0, q.val, 0] ![1, 1, 1024] e) (ix3 0 0 k) = x (ix3 0 q k) := by
  refine congrArg x ?_
  funext z
  fin_cases z
  · rfl
  · exact Fin.ext ((Rect.emb_apply _ _ _).trans (by show q.val + 1 * 0 = q.val; omega))
  · exact Fin.ext ((Rect.emb_apply _ _ _).trans (by show 0 + 1 * k.val = k.val; omega))

/-- The block a grid point leaves in its output buffer, entry by entry. -/
theorem outs_at (c : Dev nD) (t : Fin cfg0.N) (r : Fin 256) (n : Fin 1024) :
    outsAt0 m c t (ix3 0 r n) = blockAt (grid0.coords t 1) (iblk m c 0 t) (iblk m c 1 t) (iblk m c 2 t) (iblk m c 3 t) (iblk m c 4 t)
      (iblk m c 5 t) (iblk m c 6 t) (iblk m c 7 t) (iblk m c 8 t) (iblk m c 9 t) r n := by
  have hX := xw_at (View.whole (sig := sig) cc0_scratch0) (iblk m c 0 t) (iblk m c 1 t) (iblk m c 2 t)
    inb_S272x1024_S256x1024_0_0 inb_S272x1024_S8x1024_256_0 inb_S272x1024_S8x1024_264_0 inb_S272x1024_S272x1024_0_0
  unfold outsAt0
  frame_out
  rw [pay90_at]
  simp only [k0_pay2, k0_pay3, k0_pay4, k0_pay5, k0_pay6] at hX ⊢
  revert hX
  generalize (View.whole cc0_scratch0).readCov (Val := Elt Ideal) _ _ = X
  intro hX
  unfold blockAt
  congr 1
  · funext k
    exact modRow _ 5 _ k
  · funext f
    have hH (s : Fin 272) : (fun k => k0_pay7 X (k0_pay5 (iblk m c 4 t))
        (k0_pay6 (View.ld (iblk m c 3 t) (Rect.unit ![0, 4, 0] ![1, 1, 1024] inb_S1x6x1024_S1x1x1024_0_4_0)))
        (View.ld (iblk m c 3 t) (Rect.unit ![0, 3, 0] ![1, 1, 1024] inb_S1x6x1024_S1x1x1024_0_3_0)) (ix2 s k))
        = modulated (haloRows (iblk m c 0 t) (iblk m c 1 t) (iblk m c 2 t) s) (fun k => iblk m c 4 t (ix2 0 k))
            (fun k => iblk m c 3 t (ix3 0 4 k)) (fun k => iblk m c 3 t (ix3 0 3 k)) := by
      funext k
      rw [pay7_at]
      have e1 : (fun k => X (ix2 s k)) = haloRows (iblk m c 0 t) (iblk m c 1 t) (iblk m c 2 t) s := funext fun k => hX s k
      rw [e1]
      congr 1 <;> funext k
      · exact modRow _ 4 _ k
      · exact modRow _ 3 _ k
    simp only [k0_pay5, k0_pay6] at hH
    simp only [← hH]
    rw [Blocks.readCov_at _ _ _ r f r f (by simp) (by simp)]
    have hf := f.isLt
    let G : Fin 256 → Fin 2816 → EReal := fun r f => actAt (bitPrev (grid0.coords t 1)) (bitNext (grid0.coords t 1))
      (fun s k => k0_pay7 X (k0_pay5 (iblk m c 4 t))
        (k0_pay6 (View.ld (iblk m c 3 t) (Rect.unit ![0, 4, 0] ![1, 1, 1024] inb_S1x6x1024_S1x1x1024_0_4_0)))
        (View.ld (iblk m c 3 t) (Rect.unit ![0, 3, 0] ![1, 1, 1024] inb_S1x6x1024_S1x1x1024_0_3_0)) (ix2 s k))
      (fun k => iblk m c 5 t (ix2 k f)) (fun k => iblk m c 6 t (ix2 k f)) (iblk m c 8 t (ix2 0 f)) (iblk m c 8 t (ix2 1 f))
      (iblk m c 8 t (ix2 2 f)) (iblk m c 9 t (ix2 0 f)) r
    show _ = G r f
    refine Blocks.canon_step (Val := Elt Ideal) (e := .bf16) (b := 2560) (q := 256) _ _ _ G r f (by omega) (fun n hn => ?_) fun hf => ?_
    · obtain rfl : f = ⟨2560 + n.val, (Nat.add_lt_add_left n.isLt _).trans_le (by decide)⟩ := Fin.ext hn
      exact act_chunk (C := 2560) (by omega) _ _ _ _ X _ _ _ _ _ _ _ _ _ _ _ _ _ _ _ _ _ r n
    refine Blocks.canon_step (Val := Elt Ideal) (e := .bf16) (b := 2304) (q := 256) _ _ _ G r f (by omega) (fun n hn => ?_) fun hf => ?_
    · obtain rfl : f = ⟨2304 + n.val, (Nat.add_lt_add_left n.isLt _).trans_le (by decide)⟩ := Fin.ext hn
      exact act_chunk (C := 2304) (by omega) _ _ _ _ X _ _ _ _ _ _ _ _ _ _ _ _ _ _ _ _ _ r n
    refine Blocks.canon_step (Val := Elt Ideal) (e := .bf16) (b := 2048) (q := 256) _ _ _ G r f (by omega) (fun n hn => ?_) fun hf => ?_
    · obtain rfl : f = ⟨2048 + n.val, (Nat.add_lt_add_left n.isLt _).trans_le (by decide)⟩ := Fin.ext hn
      exact act_chunk (C := 2048) (by omega) _ _ _ _ X _ _ _ _ _ _ _ _ _ _ _ _ _ _ _ _ _ r n
    refine Blocks.canon_step (Val := Elt Ideal) (e := .bf16) (b := 1792) (q := 256) _ _ _ G r f (by omega) (fun n hn => ?_) fun hf => ?_
    · obtain rfl : f = ⟨1792 + n.val, (Nat.add_lt_add_left n.isLt _).trans_le (by decide)⟩ := Fin.ext hn
      exact act_chunk (C := 1792) (by omega) _ _ _ _ X _ _ _ _ _ _ _ _ _ _ _ _ _ _ _ _ _ r n
    refine Blocks.canon_step (Val := Elt Ideal) (e := .bf16) (b := 1536) (q := 256) _ _ _ G r f (by omega) (fun n hn => ?_) fun hf => ?_
    · obtain rfl : f = ⟨1536 + n.val, (Nat.add_lt_add_left n.isLt _).trans_le (by decide)⟩ := Fin.ext hn
      exact act_chunk (C := 1536) (by omega) _ _ _ _ X _ _ _ _ _ _ _ _ _ _ _ _ _ _ _ _ _ r n
    refine Blocks.canon_step (Val := Elt Ideal) (e := .bf16) (b := 1280) (q := 256) _ _ _ G r f (by omega) (fun n hn => ?_) fun hf => ?_
    · obtain rfl : f = ⟨1280 + n.val, (Nat.add_lt_add_left n.isLt _).trans_le (by decide)⟩ := Fin.ext hn
      exact act_chunk (C := 1280) (by omega) _ _ _ _ X _ _ _ _ _ _ _ _ _ _ _ _ _ _ _ _ _ r n
    refine Blocks.canon_step (Val := Elt Ideal) (e := .bf16) (b := 1024) (q := 256) _ _ _ G r f (by omega) (fun n hn => ?_) fun hf => ?_
    · obtain rfl : f = ⟨1024 + n.val, (Nat.add_lt_add_left n.isLt _).trans_le (by decide)⟩ := Fin.ext hn
      exact act_chunk (C := 1024) (by omega) _ _ _ _ X _ _ _ _ _ _ _ _ _ _ _ _ _ _ _ _ _ r n
    refine Blocks.canon_step (Val := Elt Ideal) (e := .bf16) (b := 768) (q := 256) _ _ _ G r f (by omega) (fun n hn => ?_) fun hf => ?_
    · obtain rfl : f = ⟨768 + n.val, (Nat.add_lt_add_left n.isLt _).trans_le (by decide)⟩ := Fin.ext hn
      exact act_chunk (C := 768) (by omega) _ _ _ _ X _ _ _ _ _ _ _ _ _ _ _ _ _ _ _ _ _ r n
    refine Blocks.canon_step (Val := Elt Ideal) (e := .bf16) (b := 512) (q := 256) _ _ _ G r f (by omega) (fun n hn => ?_) fun hf => ?_
    · obtain rfl : f = ⟨512 + n.val, (Nat.add_lt_add_left n.isLt _).trans_le (by decide)⟩ := Fin.ext hn
      exact act_chunk (C := 512) (by omega) _ _ _ _ X _ _ _ _ _ _ _ _ _ _ _ _ _ _ _ _ _ r n
    refine Blocks.canon_step (Val := Elt Ideal) (e := .bf16) (b := 256) (q := 256) _ _ _ G r f (by omega) (fun n hn => ?_) fun hf => ?_
    · obtain rfl : f = ⟨256 + n.val, (Nat.add_lt_add_left n.isLt _).trans_le (by decide)⟩ := Fin.ext hn
      exact act_chunk (C := 256) (by omega) _ _ _ _ X _ _ _ _ _ _ _ _ _ _ _ _ _ _ _ _ _ r n
    refine Blocks.canon_step (Val := Elt Ideal) (e := .bf16) (b := 0) (q := 256) _ _ _ G r f (by omega) (fun n hn => ?_) fun hf => ?_
    · obtain rfl : f = ⟨0 + n.val, (Nat.add_lt_add_left n.isLt _).trans_le (by decide)⟩ := Fin.ext hn
      exact act_chunk (C := 0) (by omega) _ _ _ _ X _ _ _ _ _ _ _ _ _ _ _ _ _ _ _ _ _ r n
    omega

end Cert.FfnFirstIdeal.Hand
end
-- ==== Proof.G.Spec.lean ====
module

public import proofs.«01_k».proof.Proof.I.Spec

/-! The feed-forward block of a layer before the last, on the sequence followed by the context, in extended reals. -/

@[expose] public section

noncomputable section

namespace FeedForwardFirst
open Idealize.ShloMosaic FeedForward InputProjection

variable (X : (⟨3, ![16, 2304, 1024]⟩ : Shape).Idx → EReal) (Md : (⟨3, ![24, 6, 1024]⟩ : Shape).Idx → EReal)
  (g : (⟨1, ![1024]⟩ : Shape).Idx → EReal) (Wu : (⟨2, ![1024, 5632]⟩ : Shape).Idx → EReal)
  (D : (⟨2, ![3, 2816]⟩ : Shape).Idx → EReal) (Db : (⟨1, ![2816]⟩ : Shape).Idx → EReal)
  (Wd : (⟨2, ![2816, 1024]⟩ : Shape).Idx → EReal)

/-- The modulated row of a position. -/
def hiddenRow (b : Fin 16) (s : Fin 2304) : Fin 1024 → EReal :=
  modulated (fun k => X (ix3 b s k)) (fun k => g (ix1 k)) (fun k => Md (ix3 (modRowOf b s) 4 k)) (fun k => Md (ix3 (modRowOf b s) 3 k))

/-- The gate of a position. -/
def gate (b : Fin 16) (s : Fin 2304) (f : Fin 2816) : EReal := up (hiddenRow X Md g b s) (fun k => Wu (ix2 k ⟨f.val, by omega⟩))

/-- The value of a position. -/
def value (b : Fin 16) (s : Fin 2304) (f : Fin 2816) : EReal := up (hiddenRow X Md g b s) (fun k => Wu (ix2 k ⟨2816 + f.val, by omega⟩))

/-- The gate of the position before, zero before the first of the sequence and of the context. -/
def gateBefore (b : Fin 16) (s : Fin 2304) (f : Fin 2816) : EReal :=
  if h : s.val = 0 ∨ s.val = 2048 then 0 else gate X Md g Wu b ⟨s.val - 1, by omega⟩ f

/-- The gate of the position after, zero after the last of the sequence and of the context. -/
def gateAfter (b : Fin 16) (s : Fin 2304) (f : Fin 2816) : EReal :=
  if h : s.val = 2047 ∨ s.val = 2303 then 0 else gate X Md g Wu b ⟨s.val + 1, by omega⟩ f

/-- The activation of a position. -/
def act (b : Fin 16) (s : Fin 2304) (f : Fin 2816) : EReal :=
  gated (taps (Db (ix1 f)) (gateBefore X Md g Wu b s f) (D (ix2 0 f)) (gate X Md g Wu b s f) (D (ix2 1 f))
    (gateAfter X Md g Wu b s f) (D (ix2 2 f))) (value X Md g Wu b s f)

/-- One entry of the feed-forward block. -/
def ffnAt (b : Fin 16) (s : Fin 2304) (n : Fin 1024) : EReal :=
  resid (fun k => X (ix3 b s k)) (fun k => Md (ix3 (modRowOf b s) 5 k)) (act X Md g Wu D Db b s) (fun f k => Wd (ix2 f k)) n

/-- The whole array. -/
def ffn (i : (⟨3, ![16, 2304, 1024]⟩ : Shape).Idx) : EReal := ffnAt X Md g Wu D Db Wd (i 0) (i 1) (i 2)

end FeedForwardFirst
end
-- ==== Proof.G.Final.lean ====
module

public import proofs.«01_k».proof.Proof.G.Block
public import proofs.«01_k».proof.Proof.G.Spec

/-! What the kernel leaves in its result. -/

@[expose] public section

set_option maxRecDepth 16384

noncomputable section

namespace Cert.FfnFirstIdeal.Hand
open Cert.FfnFirstIdeal Cert.FfnFirstIdeal.Gen
open Idealize.ShloMosaic Idealize.ShloMosaic.TcCoe Idealize.SL.Sem
open Idealize.ShloMosaic.Pipeline (Dat)
open FeedForward (modulated up taps gated resid)
open FeedForwardFirst InputProjection

variable (m : (ℓ : Loc nD τ sig) → Buf (Elt Ideal) ℓ)

/-- Where each window's block lies at a grid point, and the grid coordinate along the positions. -/
theorem idx : ∀ t : Fin cfg0.N, win0_0.index t = ![t.val / 9, t.val % 9, 0]
    ∧ win0_1.index t = ![t.val / 9, t.val % 9 * 32 - 1, 0]
    ∧ win0_2.index t = ![t.val / 9, min ((t.val % 9 + 1) * 32) 287, 0]
    ∧ win0_3.index t = ![if t.val % 9 < 8 then t.val / 9 else 16, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val / 9, t.val % 9, 0]
    ∧ (grid0.coords t 1).val = t.val % 9 :=
  (by decide +kernel : ∀ t : Fin grid0.N, _)

/-- The batch of a grid point. -/
def bat (t : Fin cfg0.N) : Fin 16 := ⟨t.val / 9, by have := t.isLt; simp only [(by decide : cfg0.N = 144)] at this; omega⟩

/-- The position of a row of the tile of a grid point. -/
def pos (t : Fin cfg0.N) (r : Fin 256) : Fin 2304 := ⟨t.val % 9 * 256 + r.val, by omega⟩

/-- Where an element of the written block lies in the array. -/
theorem emb11 (t : Fin cfg0.N) (r : Fin 256) (n : Fin 1024) :
    (((cfg0.win 11).blk t).view.emb (ix3 0 r n)) = (ix3 (bat t) (pos t r) n : S16x2304x1024.Idx) := by
  unfold bat pos
  blk_ext [idx t]

/-- The tile's rows, read in the array. -/
theorem blk0 (c : Dev nD) (t : Fin cfg0.N) (r : Fin 256) (n : Fin 1024) :
    iblk m c 0 t (ix3 0 r n) = m ((c : Thread nD τ).loc main_arg0) (ix3 (bat t) (pos t r) n : S16x2304x1024.Idx) := by
  unfold bat pos
  blk_ext [iblk, V, idx t]

/-- The eight rows before the tile, read in the array. -/
theorem blk1 (c : Dev nD) (t : Fin cfg0.N) (r : Fin 8) (n : Fin 1024) :
    iblk m c 1 t (ix3 0 r n) = m ((c : Thread nD τ).loc main_arg0)
      (ix3 (bat t) ⟨(t.val % 9 * 32 - 1) * 8 + r.val, by omega⟩ n : S16x2304x1024.Idx) := by
  unfold bat
  blk_ext [iblk, V, idx t]

/-- The eight rows after the tile, read in the array. -/
theorem blk2 (c : Dev nD) (t : Fin cfg0.N) (r : Fin 8) (n : Fin 1024) :
    iblk m c 2 t (ix3 0 r n) = m ((c : Thread nD τ).loc main_arg0)
      (ix3 (bat t) ⟨min ((t.val % 9 + 1) * 32) 287 * 8 + r.val, by omega⟩ n : S16x2304x1024.Idx) := by
  unfold bat
  blk_ext [iblk, V, idx t]

/-- The conditioning block, read in the array. -/
theorem blk3 (c : Dev nD) (t : Fin cfg0.N) (r : Fin 256) (q : Fin 6) (n : Fin 1024) :
    iblk m c 3 t (ix3 0 q n) = m ((c : Thread nD τ).loc main_arg1) (ix3 (modRowOf (bat t) (pos t r)) q n : S24x6x1024.Idx) := by
  have hm : (modRowOf (bat t) (pos t r)).val = if t.val % 9 < 8 then t.val / 9 else 16 := by
    unfold modRowOf bat pos
    have hr := r.isLt
    by_cases h : t.val % 9 < 8
    · rw [if_pos h, if_pos (by show t.val % 9 * 256 + r.val < 2048; omega)]
    · rw [if_neg h, if_neg (by show ¬ t.val % 9 * 256 + r.val < 2048; omega)]
      rfl
  have h3 := (idx t).2.2.2.1
  rw [← hm] at h3
  generalize modRowOf (bat t) (pos t r) = w at h3 ⊢
  blk_ext [iblk, V, h3]

/-- The taps, read in the array. -/
theorem blk8 (c : Dev nD) (t : Fin cfg0.N) (q : Fin 3) (n : Fin 2816) :
    iblk m c 8 t (ix2 q n) = m ((c : Thread nD τ).loc main_arg4) (ix2 q n : S3x2816.Idx) := by
  blk_ext [iblk, V, idx t]

/-- The norm's weights, read in the argument they were reshaped from. -/
theorem blk4 (c : Dev nD) (t : Fin cfg0.N) (n : Fin 1024) :
    iblk m c 4 t (ix2 0 n) = m ((c : Thread nD τ).loc main_arg2) (ix1 n : S1024.Idx) := by
  blk_point [iblk, V, idx t]

/-- The gate half of the up projection, read in the argument it was cut from. -/
theorem blk5 (c : Dev nD) (t : Fin cfg0.N) (k : Fin 1024) (n : Fin 2816) :
    iblk m c 5 t (ix2 k n) = m ((c : Thread nD τ).loc main_arg3) (ix2 k ⟨n.val, by omega⟩ : S1024x5632.Idx) := by
  blk_point [iblk, V, idx t]

/-- The value half of the up projection, read in the argument it was cut from. -/
theorem blk6 (c : Dev nD) (t : Fin cfg0.N) (k : Fin 1024) (n : Fin 2816) :
    iblk m c 6 t (ix2 k n) = m ((c : Thread nD τ).loc main_arg3) (ix2 k ⟨2816 + n.val, by omega⟩ : S1024x5632.Idx) := by
  blk_point [iblk, V, idx t]

/-- The down projection, read in the argument. -/
theorem blk7 (c : Dev nD) (t : Fin cfg0.N) (k : Fin 2816) (n : Fin 1024) :
    iblk m c 7 t (ix2 k n) = m ((c : Thread nD τ).loc main_arg6) (ix2 k n : S2816x1024.Idx) := by
  blk_point [iblk, V, idx t]

/-- The taps' bias, read in the argument it was reshaped from. -/
theorem blk9 (c : Dev nD) (t : Fin cfg0.N) (n : Fin 2816) :
    iblk m c 9 t (ix2 0 n) = m ((c : Thread nD τ).loc main_arg5) (ix1 n : S2816.Idx) := by
  blk_point [iblk, V, idx t]

/-- A modulated row of the tile or of its halos is the modulated row of its position. -/
theorem hiddenRow_at (c : Dev nD) (t : Fin cfg0.N) (r : Fin 256) (s : Fin 272) (u : Fin 2304)
    (hu : modRowOf (bat t) u = modRowOf (bat t) (pos t r))
    (h0 : s.val < 256 → u.val = t.val % 9 * 256 + s.val)
    (h1 : 256 ≤ s.val → s.val < 264 → u.val = min ((t.val % 9 + 1) * 32) 287 * 8 + (s.val - 256))
    (h2 : 264 ≤ s.val → u.val = (t.val % 9 * 32 - 1) * 8 + (s.val - 264)) :
    modulated (haloRows (iblk m c 0 t) (iblk m c 1 t) (iblk m c 2 t) s) (fun k => iblk m c 4 t (ix2 0 k))
        (fun k => iblk m c 3 t (ix3 0 4 k)) (fun k => iblk m c 3 t (ix3 0 3 k))
      = hiddenRow (m ((c : Thread nD τ).loc main_arg0)) (m ((c : Thread nD τ).loc main_arg1)) (m ((c : Thread nD τ).loc main_arg2)) (bat t) u := by
  have hs := s.isLt
  have e : haloRows (iblk m c 0 t) (iblk m c 1 t) (iblk m c 2 t) s
      = fun k => m ((c : Thread nD τ).loc main_arg0) (ix3 (bat t) u k : S16x2304x1024.Idx) := by
    funext k
    unfold haloRows
    split_ifs with h h'
    · rw [blk0]
      exact congrArg (fun w => m ((c : Thread nD τ).loc main_arg0) (ix3 (bat t) w k : S16x2304x1024.Idx)) (Fin.ext (h0 h).symm)
    · rw [blk2]
      exact congrArg (fun w => m ((c : Thread nD τ).loc main_arg0) (ix3 (bat t) w k : S16x2304x1024.Idx)) (Fin.ext (h1 (by omega) h').symm)
    · rw [blk1]
      exact congrArg (fun w => m ((c : Thread nD τ).loc main_arg0) (ix3 (bat t) w k : S16x2304x1024.Idx)) (Fin.ext (h2 (by omega)).symm)
  rw [e]
  unfold hiddenRow
  rw [hu]
  simp only [blk3 m c t r, blk4]

theorem select_zero (a b : EReal) : Scalar.select (0#1) a b = b := rfl
theorem select_one (a b : EReal) : Scalar.select (1#1) a b = a := rfl
theorem bitPrev_zero : ∀ i : Fin 9, (i.val = 0 ∨ i.val = 8) → bitPrev i = 0#1 := by decide
theorem bitPrev_one : ∀ i : Fin 9, ¬ (i.val = 0 ∨ i.val = 8) → bitPrev i = 1#1 := by decide
theorem bitNext_zero : ∀ i : Fin 9, (i.val = 7 ∨ i.val = 8) → bitNext i = 0#1 := by decide
theorem bitNext_one : ∀ i : Fin 9, ¬ (i.val = 7 ∨ i.val = 8) → bitNext i = 1#1 := by decide

/-- Two positions of one part of the sequence take the same conditioning. -/
theorem modRow_same (b : Fin 16) (u w : Fin 2304) (h : u.val < 2048 ↔ w.val < 2048) : modRowOf b u = modRowOf b w := by
  unfold modRowOf
  by_cases hw : w.val < 2048
  · rw [if_pos hw, if_pos (h.2 hw)]
  · rw [if_neg hw, if_neg (fun e => hw (h.1 e))]

/-- The gate of the row before a row of the tile is the gate of the position before. -/
theorem gatePrev_at (c : Dev nD) (t : Fin cfg0.N) (i : Fin 9) (hv : i.val = t.val % 9) (r : Fin 256) (f : Fin 2816) :
    gatePrev (bitPrev i) (fun s => up (modulated (haloRows (iblk m c 0 t) (iblk m c 1 t) (iblk m c 2 t) s)
        (fun k => iblk m c 4 t (ix2 0 k)) (fun k => iblk m c 3 t (ix3 0 4 k)) (fun k => iblk m c 3 t (ix3 0 3 k)))
        (fun k => m ((c : Thread nD τ).loc main_arg3) (ix2 k ⟨f.val, by omega⟩ : S1024x5632.Idx))) r
      = gateBefore (m ((c : Thread nD τ).loc main_arg0)) (m ((c : Thread nD τ).loc main_arg1)) (m ((c : Thread nD τ).loc main_arg2))
          (m ((c : Thread nD τ).loc main_arg3)) (bat t) (pos t r) f := by
  have hr := r.isLt
  have hp : (pos t r).val = t.val % 9 * 256 + r.val := rfl
  unfold gatePrev gateBefore gate
  by_cases h : r.val = 0
  · refine (dif_pos h).trans ?_
    by_cases hz : i.val = 0 ∨ i.val = 8
    · rw [bitPrev_zero i hz, select_zero]
      rw [dif_pos (show (pos t r).val = 0 ∨ (pos t r).val = 2048 by omega)]
    · rw [bitPrev_one i hz, select_one]
      refine Eq.trans ?_ (dif_neg (by omega)).symm
      exact congrArg (fun w => up w _) (hiddenRow_at m c t r 271 ⟨(pos t r).val - 1, by omega⟩
        (modRow_same _ _ _ (by show (pos t r).val - 1 < 2048 ↔ (pos t r).val < 2048; omega))
        (fun h => absurd h (by decide)) (fun _ h => absurd h (by decide))
        (fun _ => by show (pos t r).val - 1 = (t.val % 9 * 32 - 1) * 8 + 7; omega))
  · refine (dif_neg h).trans ?_
    refine Eq.trans ?_ (dif_neg (by omega)).symm
    exact congrArg (fun w => up w _) (hiddenRow_at m c t r ⟨r.val - 1, by omega⟩ ⟨(pos t r).val - 1, by omega⟩
      (modRow_same _ _ _ (by show (pos t r).val - 1 < 2048 ↔ (pos t r).val < 2048; omega))
      (fun _ => by show (pos t r).val - 1 = t.val % 9 * 256 + (r.val - 1); omega)
      (fun h => absurd h (by simp <;> omega)) (fun h => absurd h (by simp <;> omega)))

/-- The gate of the row after a row of the tile is the gate of the position after. -/
theorem gateNext_at (c : Dev nD) (t : Fin cfg0.N) (i : Fin 9) (hv : i.val = t.val % 9) (r : Fin 256) (f : Fin 2816) :
    gateNext (bitNext i) (fun s => up (modulated (haloRows (iblk m c 0 t) (iblk m c 1 t) (iblk m c 2 t) s)
        (fun k => iblk m c 4 t (ix2 0 k)) (fun k => iblk m c 3 t (ix3 0 4 k)) (fun k => iblk m c 3 t (ix3 0 3 k)))
        (fun k => m ((c : Thread nD τ).loc main_arg3) (ix2 k ⟨f.val, by omega⟩ : S1024x5632.Idx))) r
      = gateAfter (m ((c : Thread nD τ).loc main_arg0)) (m ((c : Thread nD τ).loc main_arg1)) (m ((c : Thread nD τ).loc main_arg2))
          (m ((c : Thread nD τ).loc main_arg3)) (bat t) (pos t r) f := by
  have hr := r.isLt
  have hp : (pos t r).val = t.val % 9 * 256 + r.val := rfl
  unfold gateNext gateAfter gate
  by_cases h : r.val = 255
  · refine (dif_pos h).trans ?_
    by_cases hz : i.val = 7 ∨ i.val = 8
    · rw [bitNext_zero i hz, select_zero]
      rw [dif_pos (show (pos t r).val = 2047 ∨ (pos t r).val = 2303 by omega)]
    · rw [bitNext_one i hz, select_one]
      refine Eq.trans ?_ (dif_neg (by omega)).symm
      exact congrArg (fun w => up w _) (hiddenRow_at m c t r 256 ⟨(pos t r).val + 1, by omega⟩
        (modRow_same _ _ _ (by show (pos t r).val + 1 < 2048 ↔ (pos t r).val < 2048; omega))
        (fun h => absurd h (by decide))
        (fun _ _ => by show (pos t r).val + 1 = min ((t.val % 9 + 1) * 32) 287 * 8 + 0; omega) (fun h => absurd h (by decide)))
  · refine (dif_neg h).trans ?_
    refine Eq.trans ?_ (dif_neg (by omega)).symm
    exact congrArg (fun w => up w _) (hiddenRow_at m c t r ⟨r.val + 1, by omega⟩ ⟨(pos t r).val + 1, by omega⟩
      (modRow_same _ _ _ (by show (pos t r).val + 1 < 2048 ↔ (pos t r).val < 2048; omega))
      (fun _ => by show (pos t r).val + 1 = t.val % 9 * 256 + (r.val + 1); omega)
      (fun h => absurd h (by simp <;> omega)) (fun h => absurd h (by simp <;> omega)))

/-- The array after the run is the feed-forward array of both streams. -/
theorem final (c : Dev nD) : (dats m 0 c).arrAt 11 (cfgs 0).N
    = ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 11 _ (by decide +kernel) fun t _ y => ?_
  blk_simp
  rw [after0_11]
  idx_vars y
  obtain rfl : y0 = 0 := Subsingleton.elim _ _
  obtain ⟨i, hi, hv⟩ : ∃ i : Fin 9, @Eq (Fin 9) (grid0.coords t 1) i ∧ i.val = t.val % 9 :=
    ⟨grid0.coords t 1, rfl, (idx t).2.2.2.2.2.2.2.2.2.2.2.2⟩
  refine (outs_at m c t y1 y2).trans ((congrArg (fun i : Fin 9 => blockAt i _ _ _ _ _ _ _ _ _ _ y1 y2) hi).trans ?_)
  refine Eq.trans ?_ (congrArg (ffn _ _ _ _ _ _ _) (emb11 t y1 y2)).symm
  show _ = ffnAt _ _ _ _ _ _ _ (bat t) (pos t y1) y2
  have hrow := hiddenRow_at m c t y1 ⟨y1.val, by omega⟩ (pos t y1) rfl (fun _ => rfl) (fun h => absurd h (by simp <;> omega))
    (fun h => absurd h (by simp <;> omega))
  have hA (f : Fin 2816) : actAt (bitPrev i) (bitNext i)
      (fun s => modulated (haloRows (iblk m c 0 t) (iblk m c 1 t) (iblk m c 2 t) s) (fun k => iblk m c 4 t (ix2 0 k))
        (fun k => iblk m c 3 t (ix3 0 4 k)) (fun k => iblk m c 3 t (ix3 0 3 k)))
      (fun k => iblk m c 5 t (ix2 k f)) (fun k => iblk m c 6 t (ix2 k f)) (iblk m c 8 t (ix2 0 f)) (iblk m c 8 t (ix2 1 f))
      (iblk m c 8 t (ix2 2 f)) (iblk m c 9 t (ix2 0 f)) y1
      = act (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (bat t) (pos t y1) f := by
    unfold act actAt
    simp only [blk5, blk6, blk8, blk9]
    rw [gatePrev_at m c t i hv y1 f, gateNext_at m c t i hv y1 f, hrow]
    rfl
  unfold blockAt ffnAt
  simp only [hA]
  simp only [blk0, blk3 m c t y1, blk7]

end Cert.FfnFirstIdeal.Hand
end
-- ==== Proof.G.RefL.lean ====
module

public import proofs.«01_k».proof.Proof.Gen.FfnFirstRefIdeal.Read
public import proofs.«01_k».proof.Proof.G.Spec
public import Idealize.ShloMosaic.Lib.Pipeline.ValueKit

/-! What the reference computes at the positions of the sequence. -/

@[expose] public section

set_option maxRecDepth 16384

noncomputable section

namespace Cert.FfnFirstRefIdeal.Hand
open Cert.FfnFirstRefIdeal Cert.FfnFirstRefIdeal.Gen Cert.FfnFirstRefIdeal.Read
open Idealize.ShloMosaic Idealize.ShloMosaic.TcCoe Idealize.SL.Sem
open FeedForward (rms modulated up taps gated resid)
open InputProjection (modRowOf)
open FeedForwardFirst (hiddenRow gate value gateBefore gateAfter act ffnAt ffn)

variable (X : FVec Ideal S16x2304x1024 .f32) (Md : FVec Ideal S24x6x1024 .f32) (g : FVec Ideal S1024 .f32)
  (Wu : FVec Ideal S1024x5632 .f32) (D : FVec Ideal S3x2816 .f32) (Db : FVec Ideal S2816 .f32) (Wd : FVec Ideal S2816x1024 .f32)

/-- A row of the sequence. -/
theorem row_l (b : Fin 16) (s : Fin 2048) (k : Fin 1024) : val_main_v0 (F := Ideal) X (ix3 b s k) = X (ix3 b ⟨s.val, by omega⟩ k) := by
  pointwise [val_main_v0]

/-- The factor of the norm. -/
theorem rms_l (b : Fin 16) (s : Fin 2048) (k : Fin 1024) :
    val_main_v12 (F := Ideal) X (ix3 b s k) = rms fun k => X (ix3 b ⟨s.val, by omega⟩ k) := by
  have h (x : Fin 1024) : idx_main_v5 (idx_main_v6 (idx_main_v12 (ix3 b s k))) x = ix3 b s x := by
    funext i; fin_cases i <;> rfl
  rw [val_main_v12_apply, val_main_v11_apply, val_main_v10_apply, val_main_v8_apply, val_main_v6_apply, val_main_v5_apply]
  pointwise [val_main_cst, val_main_v7, val_main_v9, val_main_cst_0, val_main_cst_1, val_main_v4, rms]
  simp only [h, row_l]

/-- The modulated rows. -/
theorem hidden_l (b : Fin 16) (s : Fin 2048) (k : Fin 1024) : val_main_v22 (F := Ideal) X Md g (ix3 b s k) = hiddenRow X Md g b ⟨s.val, by omega⟩ k := by
  have h1 : idx_main_v14 (idx_main_v15 (ix3 b s k)) = ix1 k := by funext i; fin_cases i <;> rfl
  have h2 : val_main_v3 (F := Ideal) Md (idx_main_v19 (ix3 b s k)) = Md (ix3 ⟨b.val, by omega⟩ 4 k) := by
    rw [val_main_v3_apply]; refine congrArg Md ?_; funext i; fin_cases i <;> rfl
  have h3 : val_main_v2 (F := Ideal) Md (idx_main_v21 (ix3 b s k)) = Md (ix3 ⟨b.val, by omega⟩ 3 k) := by
    rw [val_main_v2_apply]; refine congrArg Md ?_; funext i; fin_cases i <;> rfl
  have hp : modRowOf b ⟨s.val, by omega⟩ = ⟨b.val, by omega⟩ := if_pos s.isLt
  rw [val_main_v22_apply, val_main_v20_apply, val_main_v16_apply, val_main_v13_apply, rms_l, row_l, val_main_v15_apply, val_main_v14_apply, val_main_v19_apply, val_main_v18_apply, val_main_v21_apply, h1, h2, h3]
  unfold hiddenRow
  rw [hp]
  pointwise [val_main_v17, val_main_cst_2, modulated]

/-- One entry of the up projection. -/
theorem up_l (b : Fin 16) (s : Fin 2048) (f : Fin 5632) :
    val_main_v24 (F := Ideal) X Md g Wu (ix3 b s f) = up (hiddenRow X Md g b ⟨s.val, by omega⟩) (fun k => Wu (ix2 k f)) := by
  rw [val_main_v24_apply]
  unfold up
  refine Finset.sum_congr rfl fun k _ => ?_
  have h1 : lidx_main_v24 (ix3 b s f) k = ix3 b s k := by funext i; fin_cases i <;> rfl
  have h2 : ridx_main_v24 (ix3 b s f) k = ix2 k f := by funext i; fin_cases i <;> rfl
  rw [h1, h2, hidden_l]

/-- The gate half. -/
theorem gate_l (b : Fin 16) (s : Fin 2048) (f : Fin 2816) :
    val_main_v25 (F := Ideal) X Md g Wu (ix3 b s f) = gate X Md g Wu b ⟨s.val, by omega⟩ f := by
  have h : idx_main_v25 (ix3 b s f) = ix3 b s ⟨f.val, by omega⟩ := by
    funext i; fin_cases i
    · rfl
    · rfl
    · exact Fin.ext (by first | rfl | (show 0 + f.val = f.val; omega))
  rw [val_main_v25_apply, h, up_l]
  rfl

/-- The gate padded with a zero position on either side. -/
theorem pad_l (b : Fin 16) (s : Fin 2050) (f : Fin 2816) :
    val_main_v27 (F := Ideal) X Md g Wu (ix3 b s f)
      = if h : 1 ≤ s.val ∧ s.val - 1 < 2048 then gate X Md g Wu b ⟨s.val - 1, by omega⟩ f else 0 := by
  have hz : (FloatOps.sitofp .f32 0#32 : Ideal .f32) = (0 : EReal) := by
    show ((((0#32 : BitVec 32).toInt : ℝ) : EReal)) = 0
    simp
  pointwise [val_main_v27, val_main_call0_v0, val_main_c]
  by_cases h : 1 ≤ s.val ∧ s.val - 1 < 2048
  · refine (dif_pos h).trans (Eq.trans ?_ (dif_pos h).symm)
    exact gate_l X Md g Wu b ⟨s.val - 1, h.2⟩ f
  · exact (dif_neg h).trans (Eq.trans hz (by rw [dif_neg h]))

/-- The padded gate at a position is the gate of the position before. -/
theorem before_l (b : Fin 16) (s : Fin 2048) (f : Fin 2816) :
    val_main_v27 (F := Ideal) X Md g Wu (ix3 b ⟨s.val, by omega⟩ f) = gateBefore X Md g Wu b ⟨s.val, by omega⟩ f := by
  have hs := s.isLt
  rw [pad_l]
  unfold gateBefore
  by_cases h : s.val = 0
  · refine (dif_neg (by show ¬ (1 ≤ s.val ∧ s.val - 1 < 2048); omega)).trans (Eq.trans ?_ (dif_pos (by show s.val = 0 ∨ s.val = 2048; omega)).symm)
    rfl
  · refine (dif_pos (by show 1 ≤ s.val ∧ s.val - 1 < 2048; omega)).trans (Eq.trans ?_ (dif_neg (by show ¬ (s.val = 0 ∨ s.val = 2048); omega)).symm)
    exact congrArg (fun w => gate X Md g Wu b w f) (Fin.ext (by show s.val - 1 = s.val - 1; omega))

/-- The padded gate one further is the gate of the position. -/
theorem here_l (b : Fin 16) (s : Fin 2048) (f : Fin 2816) :
    val_main_v27 (F := Ideal) X Md g Wu (ix3 b ⟨1 + s.val, by omega⟩ f) = gate X Md g Wu b ⟨s.val, by omega⟩ f := by
  have hs := s.isLt
  rw [pad_l]
  refine (dif_pos (by show 1 ≤ 1 + s.val ∧ 1 + s.val - 1 < 2048; omega)).trans ?_
  exact congrArg (fun w => gate X Md g Wu b w f) (Fin.ext (by show 1 + s.val - 1 = s.val; omega))

/-- The padded gate two further is the gate of the position after. -/
theorem after_l (b : Fin 16) (s : Fin 2048) (f : Fin 2816) :
    val_main_v27 (F := Ideal) X Md g Wu (ix3 b ⟨2 + s.val, by omega⟩ f) = gateAfter X Md g Wu b ⟨s.val, by omega⟩ f := by
  have hs := s.isLt
  rw [pad_l]
  unfold gateAfter
  by_cases h : s.val = 2047
  · refine (dif_neg (by show ¬ (1 ≤ 2 + s.val ∧ 2 + s.val - 1 < 2048); omega)).trans (Eq.trans ?_ (dif_pos (by show s.val = 2047 ∨ s.val = 2303; omega)).symm)
    rfl
  · refine (dif_pos (by show 1 ≤ 2 + s.val ∧ 2 + s.val - 1 < 2048; omega)).trans (Eq.trans ?_ (dif_neg (by show ¬ (s.val = 2047 ∨ s.val = 2303); omega)).symm)
    exact congrArg (fun w => gate X Md g Wu b w f) (Fin.ext (by show 2 + s.val - 1 = s.val + 1; omega))

/-- The three taps. -/
theorem conv_l (b : Fin 16) (s : Fin 2048) (f : Fin 2816) :
    val_main_v50 (F := Ideal) X Md g Wu D Db (ix3 b s f)
      = taps (Db (ix1 f)) (gateBefore X Md g Wu b ⟨s.val, by omega⟩ f) (D (ix2 0 f)) (gate X Md g Wu b ⟨s.val, by omega⟩ f)
          (D (ix2 1 f)) (gateAfter X Md g Wu b ⟨s.val, by omega⟩ f) (D (ix2 2 f)) := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28]
  rw [before_l, here_l, after_l]
  unfold taps
  rw [add_comm, add_assoc, add_assoc, add_assoc]

/-- The activation. -/
theorem act_l (b : Fin 16) (s : Fin 2048) (f : Fin 2816) :
    val_main_v52 (F := Ideal) X Md g Wu D Db (ix3 b s f) = act X Md g Wu D Db b ⟨s.val, by omega⟩ f := by
  pointwise [val_main_v52, val_main_v51, val_main_call1_v5, val_main_call1_v4, val_main_call1_v3, val_main_call1_v2, val_main_call1_v1, val_main_call1_v0,
    val_main_v26, val_main_call1_cst, val_main_call1_cst_0]
  rw [up_l, conv_l]
  rfl

/-- The residual row. -/
theorem resid_l (b : Fin 16) (s : Fin 2048) (k : Fin 1024) :
    val_main_v56 (F := Ideal) X Md g Wu D Db Wd (ix3 b s k) = ffnAt X Md g Wu D Db Wd b ⟨s.val, by omega⟩ k := by
  have hp : modRowOf b ⟨s.val, by omega⟩ = ⟨b.val, by omega⟩ := if_pos s.isLt
  unfold ffnAt
  rw [hp]
  pointwise [val_main_v56, val_main_v55, val_main_v54, val_main_v53, val_main_v23, resid]
  simp only [act_l, row_l]

end Cert.FfnFirstRefIdeal.Hand
end
-- ==== Proof.G.RefC.lean ====
module

public import proofs.«01_k».proof.Proof.Gen.FfnFirstRefIdeal.Read
public import proofs.«01_k».proof.Proof.G.Spec
public import Idealize.ShloMosaic.Lib.Pipeline.ValueKit

/-! What the reference computes at the positions of the context. -/

@[expose] public section

set_option maxRecDepth 16384

noncomputable section

namespace Cert.FfnFirstRefIdeal.Hand
open Cert.FfnFirstRefIdeal Cert.FfnFirstRefIdeal.Gen Cert.FfnFirstRefIdeal.Read
open Idealize.ShloMosaic Idealize.ShloMosaic.TcCoe Idealize.SL.Sem
open FeedForward (rms modulated up taps gated resid)
open InputProjection (modRowOf)
open FeedForwardFirst (hiddenRow gate value gateBefore gateAfter act ffnAt ffn)

variable (X : FVec Ideal S16x2304x1024 .f32) (Md : FVec Ideal S24x6x1024 .f32) (g : FVec Ideal S1024 .f32)
  (Wu : FVec Ideal S1024x5632 .f32) (D : FVec Ideal S3x2816 .f32) (Db : FVec Ideal S2816 .f32) (Wd : FVec Ideal S2816x1024 .f32)

/-- A row of the context. -/
theorem row_c (b : Fin 16) (s : Fin 256) (k : Fin 1024) : val_main_v1 (F := Ideal) X (ix3 b s k) = X (ix3 b ⟨2048 + s.val, by omega⟩ k) := by
  pointwise [val_main_v1]

/-- The factor of the norm. -/
theorem rms_c (b : Fin 16) (s : Fin 256) (k : Fin 1024) :
    val_main_v69 (F := Ideal) X (ix3 b s k) = rms fun k => X (ix3 b ⟨2048 + s.val, by omega⟩ k) := by
  have h (x : Fin 1024) : idx_main_v62 (idx_main_v63 (idx_main_v69 (ix3 b s k))) x = ix3 b s x := by
    funext i; fin_cases i <;> rfl
  rw [val_main_v69_apply, val_main_v68_apply, val_main_v67_apply, val_main_v65_apply, val_main_v63_apply, val_main_v62_apply]
  pointwise [val_main_cst_3, val_main_v64, val_main_v66, val_main_cst_4, val_main_cst_5, val_main_v61, rms]
  simp only [h, row_c]

/-- The modulated rows. -/
theorem hidden_c (b : Fin 16) (s : Fin 256) (k : Fin 1024) : val_main_v81 (F := Ideal) X Md g (ix3 b s k) = hiddenRow X Md g b ⟨2048 + s.val, by omega⟩ k := by
  have h1 : idx_main_v71 (idx_main_v72 (ix3 b s k)) = ix1 k := by funext i; fin_cases i <;> rfl
  have h2 : val_main_v60 (F := Ideal) Md (ix1 k) = Md (ix3 16 4 k) := by pointwise [val_main_v60, val_main_v59]
  have h3 : val_main_v58 (F := Ideal) Md (ix1 k) = Md (ix3 16 3 k) := by pointwise [val_main_v58, val_main_v57]
  have h4 : idx_main_v76 (idx_main_v77 (ix3 b s k)) = ix1 k := by funext i; fin_cases i <;> rfl
  have h5 : idx_main_v79 (idx_main_v80 (ix3 b s k)) = ix1 k := by funext i; fin_cases i <;> rfl
  have hp : modRowOf b ⟨2048 + s.val, by omega⟩ = 16 := if_neg (by show ¬ 2048 + s.val < 2048; omega)
  rw [val_main_v81_apply, val_main_v78_apply, val_main_v73_apply, val_main_v70_apply, rms_c, row_c, val_main_v72_apply, val_main_v71_apply, val_main_v77_apply, val_main_v76_apply, val_main_v75_apply, val_main_v80_apply, val_main_v79_apply, h1, h4, h5, h2, h3]
  unfold hiddenRow
  rw [hp]
  pointwise [val_main_v74, val_main_cst_6, modulated]

/-- One entry of the up projection. -/
theorem up_c (b : Fin 16) (s : Fin 256) (f : Fin 5632) :
    val_main_v84 (F := Ideal) X Md g Wu (ix3 b s f) = up (hiddenRow X Md g b ⟨2048 + s.val, by omega⟩) (fun k => Wu (ix2 k f)) := by
  rw [val_main_v84_apply]
  unfold up
  refine Finset.sum_congr rfl fun k _ => ?_
  have h1 : lidx_main_v84 (ix3 b s f) k = ix3 b s k := by funext i; fin_cases i <;> rfl
  have h2 : ridx_main_v84 (ix3 b s f) k = ix2 k f := by funext i; fin_cases i <;> rfl
  rw [h1, h2, hidden_c]

/-- The gate half. -/
theorem gate_c (b : Fin 16) (s : Fin 256) (f : Fin 2816) :
    val_main_v85 (F := Ideal) X Md g Wu (ix3 b s f) = gate X Md g Wu b ⟨2048 + s.val, by omega⟩ f := by
  have h : idx_main_v85 (ix3 b s f) = ix3 b s ⟨f.val, by omega⟩ := by
    funext i; fin_cases i
    · rfl
    · rfl
    · exact Fin.ext (by first | rfl | (show 0 + f.val = f.val; omega))
  rw [val_main_v85_apply, h, up_c]
  rfl

/-- The gate padded with a zero position on either side. -/
theorem pad_c (b : Fin 16) (s : Fin 258) (f : Fin 2816) :
    val_main_v87 (F := Ideal) X Md g Wu (ix3 b s f)
      = if h : 1 ≤ s.val ∧ s.val - 1 < 256 then gate X Md g Wu b ⟨2048 + (s.val - 1), by omega⟩ f else 0 := by
  have hz : (FloatOps.sitofp .f32 0#32 : Ideal .f32) = (0 : EReal) := by
    show ((((0#32 : BitVec 32).toInt : ℝ) : EReal)) = 0
    simp
  pointwise [val_main_v87, val_main_call2_v0, val_main_c_7]
  by_cases h : 1 ≤ s.val ∧ s.val - 1 < 256
  · refine (dif_pos h).trans (Eq.trans ?_ (dif_pos h).symm)
    exact gate_c X Md g Wu b ⟨s.val - 1, h.2⟩ f
  · exact (dif_neg h).trans (Eq.trans hz (by rw [dif_neg h]))

/-- The padded gate at a position is the gate of the position before. -/
theorem before_c (b : Fin 16) (s : Fin 256) (f : Fin 2816) :
    val_main_v87 (F := Ideal) X Md g Wu (ix3 b ⟨s.val, by omega⟩ f) = gateBefore X Md g Wu b ⟨2048 + s.val, by omega⟩ f := by
  have hs := s.isLt
  rw [pad_c]
  unfold gateBefore
  by_cases h : s.val = 0
  · refine (dif_neg (by show ¬ (1 ≤ s.val ∧ s.val - 1 < 256); omega)).trans (Eq.trans ?_ (dif_pos (by show 2048 + s.val = 0 ∨ 2048 + s.val = 2048; omega)).symm)
    rfl
  · refine (dif_pos (by show 1 ≤ s.val ∧ s.val - 1 < 256; omega)).trans (Eq.trans ?_ (dif_neg (by show ¬ (2048 + s.val = 0 ∨ 2048 + s.val = 2048); omega)).symm)
    exact congrArg (fun w => gate X Md g Wu b w f) (Fin.ext (by show 2048 + (s.val - 1) = 2048 + s.val - 1; omega))

/-- The padded gate one further is the gate of the position. -/
theorem here_c (b : Fin 16) (s : Fin 256) (f : Fin 2816) :
    val_main_v87 (F := Ideal) X Md g Wu (ix3 b ⟨1 + s.val, by omega⟩ f) = gate X Md g Wu b ⟨2048 + s.val, by omega⟩ f := by
  have hs := s.isLt
  rw [pad_c]
  refine (dif_pos (by show 1 ≤ 1 + s.val ∧ 1 + s.val - 1 < 256; omega)).trans ?_
  exact congrArg (fun w => gate X Md g Wu b w f) (Fin.ext (by show 2048 + (1 + s.val - 1) = 2048 + s.val; omega))

/-- The padded gate two further is the gate of the position after. -/
theorem after_c (b : Fin 16) (s : Fin 256) (f : Fin 2816) :
    val_main_v87 (F := Ideal) X Md g Wu (ix3 b ⟨2 + s.val, by omega⟩ f) = gateAfter X Md g Wu b ⟨2048 + s.val, by omega⟩ f := by
  have hs := s.isLt
  rw [pad_c]
  unfold gateAfter
  by_cases h : s.val = 255
  · refine (dif_neg (by show ¬ (1 ≤ 2 + s.val ∧ 2 + s.val - 1 < 256); omega)).trans (Eq.trans ?_ (dif_pos (by show 2048 + s.val = 2047 ∨ 2048 + s.val = 2303; omega)).symm)
    rfl
  · refine (dif_pos (by show 1 ≤ 2 + s.val ∧ 2 + s.val - 1 < 256; omega)).trans (Eq.trans ?_ (dif_neg (by show ¬ (2048 + s.val = 2047 ∨ 2048 + s.val = 2303); omega)).symm)
    exact congrArg (fun w => gate X Md g Wu b w f) (Fin.ext (by show 2048 + (2 + s.val - 1) = 2048 + s.val + 1; omega))

/-- The three taps. -/
theorem conv_c (b : Fin 16) (s : Fin 256) (f : Fin 2816) :
    val_main_v110 (F := Ideal) X Md g Wu D Db (ix3 b s f)
      = taps (Db (ix1 f)) (gateBefore X Md g Wu b ⟨2048 + s.val, by omega⟩ f) (D (ix2 0 f)) (gate X Md g Wu b ⟨2048 + s.val, by omega⟩ f)
          (D (ix2 1 f)) (gateAfter X Md g Wu b ⟨2048 + s.val, by omega⟩ f) (D (ix2 2 f)) := by
  pointwise [val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88]
  rw [before_c, here_c, after_c]
  unfold taps
  rw [add_comm, add_assoc, add_assoc, add_assoc]

/-- The activation. -/
theorem act_c (b : Fin 16) (s : Fin 256) (f : Fin 2816) :
    val_main_v112 (F := Ideal) X Md g Wu D Db (ix3 b s f) = act X Md g Wu D Db b ⟨2048 + s.val, by omega⟩ f := by
  pointwise [val_main_v112, val_main_v111, val_main_call3_v5, val_main_call3_v4, val_main_call3_v3, val_main_call3_v2, val_main_call3_v1, val_main_call3_v0,
    val_main_v86, val_main_call3_cst, val_main_call3_cst_0]
  rw [up_c, conv_c]
  rfl

/-- The residual row. -/
theorem resid_c (b : Fin 16) (s : Fin 256) (k : Fin 1024) :
    val_main_v117 (F := Ideal) X Md g Wu D Db Wd (ix3 b s k) = ffnAt X Md g Wu D Db Wd b ⟨2048 + s.val, by omega⟩ k := by
  have hp : modRowOf b ⟨2048 + s.val, by omega⟩ = 16 := if_neg (by show ¬ 2048 + s.val < 2048; omega)
  unfold ffnAt
  rw [hp]
  pointwise [val_main_v117, val_main_v116, val_main_v115, val_main_v114, val_main_v113, val_main_v83, val_main_v82, resid]
  simp only [act_c, row_c]

end Cert.FfnFirstRefIdeal.Hand
end
-- ==== Proof.G.Ref.lean ====
module

public import proofs.«01_k».proof.Proof.G.RefL
public import proofs.«01_k».proof.Proof.G.RefC

/-! What the reference computes. -/

@[expose] public section

set_option maxRecDepth 16384

noncomputable section

namespace Cert.FfnFirstRefIdeal.Hand
open Cert.FfnFirstRefIdeal Cert.FfnFirstRefIdeal.Gen Cert.FfnFirstRefIdeal.Read
open Idealize.ShloMosaic Idealize.ShloMosaic.TcCoe Idealize.SL.Sem
open FeedForwardFirst

variable (X : FVec Ideal S16x2304x1024 .f32) (Md : FVec Ideal S24x6x1024 .f32) (g : FVec Ideal S1024 .f32)
  (Wu : FVec Ideal S1024x5632 .f32) (D : FVec Ideal S3x2816 .f32) (Db : FVec Ideal S2816 .f32) (Wd : FVec Ideal S2816x1024 .f32)

/-- The reference's result is the feed-forward array of both streams. -/
theorem ref_eq : val_main_v118 (F := Ideal) X Md g Wu D Db Wd = ffn X Md g Wu D Db Wd := by
  funext i
  idx_vars i
  show _ = ffnAt X Md g Wu D Db Wd i0 i1 i2
  have h1 := i1.isLt
  pointwise [val_main_v118]
  by_cases h : i1.val < 2048
  · exact (dif_pos h).trans (resid_l X Md g Wu D Db Wd i0 ⟨i1.val, h⟩ i2)
  · refine (dif_neg h).trans ((resid_c X Md g Wu D Db Wd i0 ⟨i1.val - 2048, by omega⟩ i2).trans ?_)
    exact congrArg (fun w => ffnAt X Md g Wu D Db Wd i0 w i2) (Fin.ext (by show 2048 + (i1.val - 2048) = i1.val; omega))

end Cert.FfnFirstRefIdeal.Hand
end
-- ==== Proof.G.Claims.lean ====
module

public import proofs.«01_k».proof.Defs
public import proofs.«01_k».proof.Proof.Gen.FfnFirst.Frame
public import proofs.«01_k».proof.Proof.Gen.FfnFirstIdeal.Frame
public import proofs.«01_k».proof.Proof.Gen.FfnFirstRefIdeal.Run
public import proofs.«01_k».proof.Proof.G.Final
public import proofs.«01_k».proof.Proof.G.Ref
public import Idealize.ShloMosaic.Lib.Claim

/-! The claims about the feed-forward call of a layer before the last. -/

@[expose] public section

set_option maxRecDepth 16384

noncomputable section

namespace Cert.FeedForwardFirst
open Idealize.ShloMosaic Idealize.ShloMosaic.TcCoe Idealize.SL.Sem

/-- The kernel runs to its end, and leaves its arguments and every semaphore as they were. -/
theorem frame_p : quiescent_FfnFirst := fun m g _ => Cert.FfnFirst.Gen.frame m g

/-- The same of the kernel at the extended reals. -/
theorem frame_pi : quiescent_FfnFirstIdeal := fun m g _ => Cert.FfnFirstIdeal.Gen.frame m g

/-- The reference runs to its end, and leaves its arguments and every semaphore as they were. -/
theorem frame_ri : quiescent_FfnFirstRefIdeal := fun m g _ =>
  (θ_run Cert.FfnFirstRefIdeal.defs _ _).mono (fun r h => ⟨fun c => (h c).2, sem_eq_zero_of_no_sems (by decide) r.2⟩)
    (Cert.FfnFirstRefIdeal.Value.run (F := Ideal) m g)

/-- For all arguments the kernel's result at the extended reals is the reference's. -/
theorem algebraic : algebraic_FfnFirstIdeal_FfnFirstRefIdeal := by
  pair_intro
  · run_from Cert.FfnFirstIdeal.Gen.run_main m g
  · run_from Cert.FfnFirstRefIdeal.Value.run m' g'
    obtain ⟨h0, h1, h2, h3, h4, h5, h6, h7⟩ := hagree c
    rw [Cert.FfnFirstRefIdeal.Read.val_main_v118_eq, h0, h1, h2, h3, h4, h5, h6]
    exact (Cert.FfnFirstRefIdeal.Hand.ref_eq _ _ _ _ _ _ _).trans (Cert.FfnFirstIdeal.Hand.final m c).symm

end Cert.FeedForwardFirst
end
-- ==== Proof.M.Spec.lean ====
module

public import proofs.«01_k».proof.Proof.F.Spec

/-! The conditioning of every layer, in extended reals. -/

@[expose] public section

noncomputable section

namespace Conditioning
open Idealize.ShloMosaic FeedForward

variable (C : (⟨2, ![24, 1024]⟩ : Shape).Idx → EReal) (W : (⟨3, ![2, 1024, 6144]⟩ : Shape).Idx → EReal)
  (B : (⟨2, ![2, 6144]⟩ : Shape).Idx → EReal)

/-- A number passed through the swish. -/
def swish (x : EReal) : EReal := x * Ideal.logistic x

/-- One entry of the conditioning of a layer, for a row. -/
def modAt (l : Fin 2) (r : Fin 24) (n : Fin 6144) : EReal :=
  up (fun k => swish (C (ix2 r k))) (fun k => W (ix3 l k n)) + B (ix2 l n)

/-- The whole array. -/
def mods (i : (⟨3, ![2, 24, 6144]⟩ : Shape).Idx) : EReal := modAt C W B (i 0) (i 1) (i 2)

end Conditioning
end
-- ==== Proof.M.Final.lean ====
module

public import proofs.«01_k».proof.Proof.M.Spec
public import proofs.«01_k».proof.Proof.Gen.ModsIdeal.Value
public import Idealize.ShloMosaic.Lib.Pipeline.ValueKit
public import Idealize.ShloMosaic.Lib.Pointwise
public import Idealize.ShloMosaic.Lib.IdealHost

/-! What the conditioning kernel leaves in its result. -/

@[expose] public section

set_option maxRecDepth 16384

noncomputable section

namespace Cert.ModsIdeal.Hand
open Cert.ModsIdeal Cert.ModsIdeal.Gen
open Idealize.ShloMosaic Idealize.ShloMosaic.TcCoe Idealize.SL.Sem
open Idealize.ShloMosaic.Pipeline (Dat)
open Conditioning FeedForward

variable (m : (ℓ : Loc nD τ sig) → Buf (Elt Ideal) ℓ)

/-- Where each window's block lies at a grid point. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

/-- The layer of a grid point. -/
def lay (t : Fin cfg0.N) : Fin 2 := ⟨t.val / 6, by have := t.isLt; simp only [(by decide : cfg0.N = 12)] at this; omega⟩

/-- The column of a column of the block of a grid point. -/
def col (t : Fin cfg0.N) (n : Fin 1024) : Fin 6144 := ⟨t.val % 6 * 1024 + n.val, by omega⟩

/-- Where an element of the written block lies in the array. -/
theorem emb3 (t : Fin cfg0.N) (r : Fin 24) (n : Fin 1024) :
    (((cfg0.win 3).blk t).view.emb (ix3 0 r n)) = (ix3 (lay t) r (col t n) : S2x24x6144.Idx) := by
  unfold lay col
  blk_ext [idx t]

/-- The rows of conditioning, read in the argument. -/
theorem blk0 (c : Dev nD) (t : Fin cfg0.N) (r : Fin 24) (k : Fin 1024) :
    iblk m c 0 t (ix2 r k) = m ((c : Thread nD τ).loc main_arg0) (ix2 r k : S24x1024.Idx) := by
  blk_ext [iblk, V, idx t]

/-- The block of weights, read in the argument. -/
theorem blk1 (c : Dev nD) (t : Fin cfg0.N) (k n : Fin 1024) :
    iblk m c 1 t (ix3 0 k n) = m ((c : Thread nD τ).loc main_arg1) (ix3 (lay t) k (col t n) : S2x1024x6144.Idx) := by
  unfold lay col
  blk_ext [iblk, V, idx t]

/-- The bias, read in the argument it was reshaped from. -/
theorem blk2 (c : Dev nD) (t : Fin cfg0.N) (n : Fin 1024) :
    iblk m c 2 t (ix3 0 0 n) = m ((c : Thread nD τ).loc main_arg2) (ix2 (lay t) (col t n) : S2x6144.Idx) := by
  unfold lay col
  blk_point [iblk, V, idx t]

/-- What a grid point computes. -/
theorem pay1_at (P0 : Vec Ideal S24x1024 .f32) (P1 : Vec Ideal S1x1024x1024 .f32) (P2 : Vec Ideal S1x1x1024 .f32) (r : Fin 24) (n : Fin 1024) :
    k0_pay1 P0 P1 P2 (ix3 0 r n) = up (fun k => swish (P0 (ix2 r k))) (fun k => P1 (ix3 0 k n)) + P2 (ix3 0 0 n) := by
  pointwise [k0_pay1, up, swish]

/-- The block a grid point leaves, entry by entry. -/
theorem out3_at (x0 : Vec Ideal S24x1024 .f32) (x1 : Vec Ideal S1x1024x1024 .f32) (x2 : Vec Ideal S1x1x1024 .f32) (r : Fin 24) (n : Fin 1024) :
    out0_3 x0 x1 x2 (ix3 0 r n) = up (fun k => swish (x0 (ix2 r k))) (fun k => x1 (ix3 0 k n)) + x2 (ix3 0 0 n) := by
  frame_out
  exact pay1_at x0 x1 x2 r n

/-- The array after the run is the conditioning of both layers. -/
theorem final (c : Dev nD) : (dats m 0 c).arrAt 3 (cfgs 0).N
    = mods (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  obtain rfl : y0 = 0 := Subsingleton.elim _ _
  refine (out3_at _ _ _ y1 y2).trans ?_
  refine Eq.trans ?_ (congrArg (mods _ _ _) (emb3 t y1 y2)).symm
  show _ = modAt _ _ _ (lay t) y1 (col t y2)
  unfold modAt
  simp only [blk0, blk1, blk2]

end Cert.ModsIdeal.Hand
end
-- ==== Proof.M.Ref.lean ====
module

public import proofs.«01_k».proof.Proof.Gen.ModsRefIdeal.Read
public import proofs.«01_k».proof.Proof.M.Spec
public import Idealize.ShloMosaic.Lib.Pipeline.ValueKit
public import Idealize.ShloMosaic.Lib.Pointwise

/-! What the reference computes. -/

@[expose] public section

set_option maxRecDepth 16384

noncomputable section

namespace Cert.ModsRefIdeal.Hand
open Cert.ModsRefIdeal Cert.ModsRefIdeal.Gen Cert.ModsRefIdeal.Read
open Idealize.ShloMosaic Idealize.ShloMosaic.TcCoe Idealize.SL.Sem
open Conditioning FeedForward

variable (C : FVec Ideal S24x1024 .f32) (W : FVec Ideal S2x1024x6144 .f32) (B : FVec Ideal S2x6144 .f32)

/-- The first layer's conditioning. -/
theorem first (r : Fin 24) (n : Fin 6144) : val_main_v8 (F := Ideal) C W B (ix2 r n) = modAt C W B 0 r n := by
  have hs (k : Fin 1024) : val_main_v0 (F := Ideal) C (ix2 r k) = swish (C (ix2 r k)) := by
    pointwise [val_main_v0, val_main_call0_v5, val_main_call0_v4, val_main_call0_v3, val_main_call0_v2, val_main_call0_v1, val_main_call0_v0,
      val_main_call0_cst, val_main_call0_cst_0, swish]
    rfl
  have hw (k : Fin 1024) : val_main_v2 (F := Ideal) W (ix2 k n) = W (ix3 0 k n) := by pointwise [val_main_v2, val_main_v1]
  have hb : val_main_v7 (F := Ideal) B (ix2 r n) = B (ix2 0 n) := by
    pointwise [val_main_v7, val_main_v6, val_main_v5, val_main_v4]
  rw [val_main_v8_apply, hb, val_main_v3_apply]
  unfold modAt up
  refine congrArg (· + B (ix2 0 n)) (Finset.sum_congr rfl fun k _ => ?_)
  have h1 : lidx_main_v3 (ix2 r n) k = ix2 r k := by funext i; fin_cases i <;> rfl
  have h2 : ridx_main_v3 (ix2 r n) k = ix2 k n := by funext i; fin_cases i <;> rfl
  rw [h1, h2, hs, hw]

/-- The second layer's conditioning. -/
theorem second (r : Fin 24) (n : Fin 6144) : val_main_v17 (F := Ideal) C W B (ix2 r n) = modAt C W B 1 r n := by
  have hs (k : Fin 1024) : val_main_v9 (F := Ideal) C (ix2 r k) = swish (C (ix2 r k)) := by
    pointwise [val_main_v9, val_main_call1_v5, val_main_call1_v4, val_main_call1_v3, val_main_call1_v2, val_main_call1_v1, val_main_call1_v0,
      val_main_call1_cst, val_main_call1_cst_0, swish]
    rfl
  have hw (k : Fin 1024) : val_main_v11 (F := Ideal) W (ix2 k n) = W (ix3 1 k n) := by pointwise [val_main_v11, val_main_v10]
  have hb : val_main_v16 (F := Ideal) B (ix2 r n) = B (ix2 1 n) := by
    pointwise [val_main_v16, val_main_v15, val_main_v14, val_main_v13]
  rw [val_main_v17_apply, hb, val_main_v12_apply]
  unfold modAt up
  refine congrArg (· + B (ix2 1 n)) (Finset.sum_congr rfl fun k _ => ?_)
  have h1 : lidx_main_v12 (ix2 r n) k = ix2 r k := by funext i; fin_cases i <;> rfl
  have h2 : ridx_main_v12 (ix2 r n) k = ix2 k n := by funext i; fin_cases i <;> rfl
  rw [h1, h2, hs, hw]

/-- The reference's result is the conditioning of both layers. -/
theorem ref_eq : val_main_v20 (F := Ideal) C W B = mods C W B := by
  funext i
  idx_vars i
  show _ = modAt C W B i0 i1 i2
  match i0 with
  | ⟨0, _⟩ =>
    refine Eq.trans ?_ (first C W B i1 i2)
    pointwise [val_main_v20, val_main_v18]
  | ⟨1, _⟩ =>
    refine Eq.trans ?_ (second C W B i1 i2)
    pointwise [val_main_v20, val_main_v19]

end Cert.ModsRefIdeal.Hand
end
-- ==== Proof.M.Claims.lean ====
module

public import proofs.«01_k».proof.Defs
public import proofs.«01_k».proof.Proof.Gen.Mods.Frame
public import proofs.«01_k».proof.Proof.Gen.ModsIdeal.Frame
public import proofs.«01_k».proof.Proof.Gen.ModsRefIdeal.Run
public import proofs.«01_k».proof.Proof.M.Final
public import proofs.«01_k».proof.Proof.M.Ref
public import Idealize.ShloMosaic.Lib.Claim

/-! The claims about the conditioning call. -/

@[expose] public section

set_option maxRecDepth 16384

noncomputable section

namespace Cert.Conditioning
open Idealize.ShloMosaic Idealize.ShloMosaic.TcCoe Idealize.SL.Sem

/-- The kernel runs to its end, and leaves its arguments and every semaphore as they were. -/
theorem frame_p : quiescent_Mods := fun m g _ => Cert.Mods.Gen.frame m g

/-- The same of the kernel at the extended reals. -/
theorem frame_pi : quiescent_ModsIdeal := fun m g _ => Cert.ModsIdeal.Gen.frame m g

/-- The reference runs to its end, and leaves its arguments and every semaphore as they were. -/
theorem frame_ri : quiescent_ModsRefIdeal := fun m g _ =>
  (θ_run Cert.ModsRefIdeal.defs _ _).mono (fun r h => ⟨fun c => (h c).2, sem_eq_zero_of_no_sems (by decide) r.2⟩)
    (Cert.ModsRefIdeal.Value.run (F := Ideal) m g)

/-- For all arguments the kernel's result at the extended reals is the reference's. -/
theorem algebraic : algebraic_ModsIdeal_ModsRefIdeal := by
  pair_intro
  · run_from Cert.ModsIdeal.Value.run_blocks m g
  · run_from Cert.ModsRefIdeal.Value.run m' g'
    obtain ⟨h0, h1, h2⟩ := hagree c
    refine (Cert.ModsRefIdeal.Read.val_main_v20_eq _ _ _).trans ?_
    refine (Cert.ModsRefIdeal.Hand.ref_eq _ _ _).trans (Eq.trans ?_ (Cert.ModsIdeal.Hand.final m c).symm)
    rw [h2]

end Cert.Conditioning
end
-- ==== Proof.B.Block.lean ====
module

public import proofs.«01_k».proof.Proof.Gen.AttnLastIdeal.Skeleton
public import proofs.«01_k».proof.Proof.A.Spec

@[expose] public section

set_option maxRecDepth 16384

noncomputable section

namespace Cert.AttnLastIdeal.Hand
open Cert.AttnLastIdeal Cert.AttnLastIdeal.Gen
open Idealize.ShloMosaic Idealize.ShloMosaic.TcCoe Idealize.SL.Sem
open Attention

/-- The query of one column of the pair of heads the kernel stacks side by side. -/
def pairQ (v10 v18 : Vec Ideal S1x64x256 .bf16) (j : Fin 512) (d : Fin 64) : EReal :=
  if h : (j : ℕ) < 256 then v10 (ix3 0 d ⟨j, h⟩) else v18 (ix3 0 d ⟨j - 256, by omega⟩)

theorem sel0 (a b : EReal) : Scalar.select (Scalar.cmpi .eq (BitVec.ofNat 32 0) 0#32) a b = a := rfl
theorem sel1 (a b : EReal) : Scalar.select (Scalar.cmpi .eq (BitVec.ofNat 32 1) 1#32) a b = a := rfl
theorem sel01 (a b : EReal) : Scalar.select (Scalar.cmpi .eq (BitVec.ofNat 32 0) 1#32) a b = b := rfl
theorem sel10 (a b : EReal) : Scalar.select (Scalar.cmpi .eq (BitVec.ofNat 32 1) 0#32) a b = b := rfl

/-- What a block of all keys computes for the first pair of heads: attention over the 2304 keys, the queries'
    zero half contributing nothing to the scores. -/
theorem pay5_at (g : Fin 2) (v6 : Vec Ideal S1x2304x128 .bf16) (v8 : Vec Ideal S1x64x2304 .bf16)
    (v10 v18 : Vec Ideal S1x64x256 .bf16) (e : Fin 64) (j : Fin 512) :
    k0_pay5 (F := Ideal) (BitVec.ofNat 32 g.val) v6 v8 v10 v18 (ix2 e j)
      = att (fun x => ∑ d : Fin 64, v6 (ix3 0 x ⟨g.val * 64 + d.val, by omega⟩) * pairQ v10 v18 j d)
          (fun x => v8 (ix3 0 e x)) := by
  pointwise [k0_pay5, att, top, pairQ, k0_pay3, k0_pay4]
  match g with
  | 0 =>
    by_cases h : (j : ℕ) < 256 <;>
    simp only [h, ↓reduceDIte, Fin.val_zero, sel0, sel01, mul_zero, Finset.sum_const_zero, add_zero, zero_mul, zero_add]
  | 1 =>
    by_cases h : (j : ℕ) < 256 <;>
    simp only [h, ↓reduceDIte, Fin.val_one, sel1, sel10, mul_zero, Finset.sum_const_zero, add_zero, one_mul, zero_add]

/-- The head of a column of a block: four heads of 64 lanes each. -/
def headQ (v10 v18 v41 v49 : Vec Ideal S1x64x256 .bf16) (c r : Fin 256) (d : Fin 64) : EReal :=
  if (c : ℕ) < 64 then v10 (ix3 0 d r) else if (c : ℕ) < 128 then v18 (ix3 0 d r)
  else if (c : ℕ) < 192 then v41 (ix3 0 d r) else v49 (ix3 0 d r)

/-- What the body stores at a grid point of a latent tile: per column, attention over the 2304 keys. -/
theorem pay1_at (i : grid0.Coords) (g : Fin 2) (hg : (i 1).val = g.val) (v6 : Vec Ideal S1x2304x128 .bf16) (v8 : Vec Ideal S1x64x2304 .bf16)
    (v10 v18 v41 v49 : Vec Ideal S1x64x256 .bf16) (r c : Fin 256) :
    k0_pay1 (F := Ideal) i (k0_pay3 v6) (k0_pay4 v8) (k0_pay6 (BitVec.ofNat 32 (i 1).val) v6 v8 v10 v18)
      (k0_pay7 (BitVec.ofNat 32 (i 1).val) v6 v8 v10 v18) v41 v49 (ix3 0 r c)
      = att (fun x => ∑ d : Fin 64, v6 (ix3 0 x ⟨g.val * 64 + d.val, by omega⟩) * headQ v10 v18 v41 v49 c r d)
          (fun x => v8 (ix3 0 ⟨(c : ℕ) % 64, by omega⟩ x)) := by
  pointwise [k0_pay1, k0_pay6, k0_pay7]
  rw [hg]
  by_cases h1 : (c : ℕ) < 64
  · rw [dif_pos h1, pay5_at]
    simp only [pairQ, headQ, h1, if_true, Fin.is_lt, ↓reduceDIte, Fin.eta, Nat.mod_eq_of_lt]
  by_cases h2 : (c : ℕ) - 64 < 64
  · rw [dif_neg h1, dif_pos h2, pay5_at]
    have h3 : (c : ℕ) < 128 := by omega
    have h4 : (c : ℕ) % 64 = c - 64 := by omega
    simp only [pairQ, headQ, h1, h3, h4, if_true, if_false, Nat.add_sub_cancel_left, Nat.not_lt.2 (Nat.le_add_right _ _), ↓reduceDIte, Fin.eta]
  by_cases h3 : (c : ℕ) - 64 - 64 < 64
  · rw [dif_neg h1, dif_neg h2, dif_pos h3]
    have h4 : ¬ (c : ℕ) < 128 := by omega
    have h5 : (c : ℕ) < 192 := by omega
    have h6 : (c : ℕ) % 64 = c - 64 - 64 := by omega
    simp only [att, top, headQ, h1, h4, h5, h6, if_true, if_false]
    match g with
    | 0 => pointwise [k0_pay3, k0_pay4, sel0, sel01, Fin.val_zero, mul_zero, Finset.sum_const_zero, add_zero, zero_mul, zero_add]
    | 1 => pointwise [k0_pay3, k0_pay4, sel1, sel10, Fin.val_one, mul_zero, Finset.sum_const_zero, add_zero, one_mul, zero_add]
  · rw [dif_neg h1, dif_neg h2, dif_neg h3]
    have h4 : ¬ (c : ℕ) < 128 := by omega
    have h5 : ¬ (c : ℕ) < 192 := by omega
    have h6 : (c : ℕ) % 64 = c - 64 - 64 - 64 := by omega
    simp only [att, top, headQ, h1, h4, h5, h6, if_true, if_false]
    match g with
    | 0 => pointwise [k0_pay3, k0_pay4, sel0, sel01, Fin.val_zero, mul_zero, Finset.sum_const_zero, add_zero, zero_mul, zero_add]
    | 1 => pointwise [k0_pay3, k0_pay4, sel1, sel10, Fin.val_one, mul_zero, Finset.sum_const_zero, add_zero, one_mul, zero_add]

end Cert.AttnLastIdeal.Hand
end
-- ==== Proof.B.Spec.lean ====
module

public import proofs.«01_k».proof.Proof.A.Spec

/-! The attention array of the sequence alone, as the last layer forms it. -/

@[expose] public section

noncomputable section

namespace Attention
open Idealize.ShloMosaic

/-- The attention of the sequence's 2048 tokens alone: each attends to all keys. -/
def attnSeq (q : FVec Ideal ⟨3, ![16, 512, 2304]⟩ .bf16) (k : FVec Ideal ⟨3, ![16, 2304, 128]⟩ .bf16) (v : FVec Ideal ⟨3, ![16, 128, 2304]⟩ .bf16) :
    FVec Ideal ⟨3, ![16, 2048, 512]⟩ .bf16 := fun i =>
  att (score q k (i 0) ⟨(i 1).val, Nat.lt_trans (i 1).isLt (by decide)⟩ (i 2)) (value v (i 0) (i 2))

end Attention
end
-- ==== Proof.B.Final.lean ====
module

public import proofs.«01_k».proof.Proof.Gen.AttnLastIdeal.Value
public import proofs.«01_k».proof.Proof.B.Block
public import proofs.«01_k».proof.Proof.B.Spec
public import Idealize.ShloMosaic.Lib.Pipeline.ValueKit

@[expose] public section

set_option maxRecDepth 16384

noncomputable section

namespace Cert.AttnLastIdeal.Hand
open Cert.AttnLastIdeal Cert.AttnLastIdeal.Gen
open Idealize.ShloMosaic Idealize.ShloMosaic.TcCoe Idealize.SL.Sem
open Idealize.ShloMosaic.Pipeline (Dat)
open Attention

variable (m : (ℓ : Loc nD τ sig) → Buf (Elt Ideal) ℓ)

/-- Where each window's block lies at a grid point, and the grid coordinate that names the group of heads. -/
theorem idx : ∀ t : Fin cfg0.N, win0_0.index t = ![t.val / 16, t.val / 8 % 2, t.val % 8]
    ∧ win0_1.index t = ![t.val / 16, 0, 0] ∧ win0_2.index t = ![t.val / 16, t.val / 8 % 2, 0]
    ∧ win0_3.index t = ![t.val / 16, t.val % 8, t.val / 8 % 2]
    ∧ (grid0.coords t 1).val = t.val / 8 % 2 :=
  (by decide +kernel : ∀ t : Fin grid0.N, _)

/-- The four tile loads of the query block put together: column `c`'s head reads row `c / 64 * 64 + d`. -/
theorem headQ_eq (B : Vec Ideal S1x256x256 .bf16) (v10 v18 v41 v49 : Vec Ideal S1x64x256 .bf16)
    (h10 : ∀ (d : Fin 64) (r : Fin 256), v10 (ix3 0 d r) = B (ix3 0 ⟨0 + d, by omega⟩ r))
    (h18 : ∀ (d : Fin 64) (r : Fin 256), v18 (ix3 0 d r) = B (ix3 0 ⟨64 + d, by omega⟩ r))
    (h41 : ∀ (d : Fin 64) (r : Fin 256), v41 (ix3 0 d r) = B (ix3 0 ⟨128 + d, by omega⟩ r))
    (h49 : ∀ (d : Fin 64) (r : Fin 256), v49 (ix3 0 d r) = B (ix3 0 ⟨192 + d, by omega⟩ r))
    (c r : Fin 256) (d : Fin 64) :
    headQ v10 v18 v41 v49 c r d = B (ix3 0 ⟨(c : ℕ) / 64 * 64 + d, by omega⟩ r) := by
  unfold headQ
  split_ifs <;> simp only [h10, h18, h41, h49] <;> congr 3 <;> omega

/-- Where the element of the written block lies in the array. -/
theorem emb3 (t : Fin cfg0.N) (y1 y2 : Fin 256) :
    (((cfg0.win 3).blk t).view.emb (ix3 0 y1 y2)) = (ix3 (⟨t.val / 16, by have := t.isLt; simp only [(by decide : cfg0.N = 256)] at this; omega⟩ : Fin 16)
      (⟨t.val % 8 * 256 + y1, by omega⟩ : Fin 2048) (⟨t.val / 8 % 2 * 256 + y2, by omega⟩ : Fin 512) : S16x2048x512.Idx) := by
  blk_ext [idx t]

/-- The query block of a grid point, read in the array. -/
theorem blk0 (c : Dev nD) (t : Fin cfg0.N) (y1 y2 : Fin 256) :
    iblk m c 0 t (ix3 0 y1 y2) = m ((c : Thread nD τ).loc main_arg0)
      (ix3 (⟨t.val / 16, by have := t.isLt; simp only [(by decide : cfg0.N = 256)] at this; omega⟩ : Fin 16)
      (⟨t.val / 8 % 2 * 256 + y1, by omega⟩ : Fin 512) (⟨t.val % 8 * 256 + y2, by omega⟩ : Fin 2304) : S16x512x2304.Idx) := by
  blk_ext [iblk, V, idx t]

/-- The key block of a grid point, read in the array. -/
theorem blk1 (c : Dev nD) (t : Fin cfg0.N) (y1 : Fin 2304) (y2 : Fin 128) :
    iblk m c 1 t (ix3 0 y1 y2) = m ((c : Thread nD τ).loc main_arg1)
      (ix3 (⟨t.val / 16, by have := t.isLt; simp only [(by decide : cfg0.N = 256)] at this; omega⟩ : Fin 16) y1 y2 : S16x2304x128.Idx) := by
  blk_ext [iblk, V, idx t]

/-- The value block of a grid point, read in the array. -/
theorem blk2 (c : Dev nD) (t : Fin cfg0.N) (y1 : Fin 64) (y2 : Fin 2304) :
    iblk m c 2 t (ix3 0 y1 y2) = m ((c : Thread nD τ).loc main_arg2)
      (ix3 (⟨t.val / 16, by have := t.isLt; simp only [(by decide : cfg0.N = 256)] at this; omega⟩ : Fin 16)
        (⟨t.val / 8 % 2 * 64 + y1, by omega⟩ : Fin 128) y2 : S16x128x2304.Idx) := by
  blk_ext [iblk, V, idx t]

/-- The array after the run is the attention array of the sequence. -/
theorem final (c : Dev nD) : (dats m 0 c).arrAt 3 (cfgs 0).N
    = attnSeq (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  idx_vars y
  obtain rfl : y0 = 0 := Subsingleton.elim _ _
  refine (pay1_at (grid0.coords t) ⟨t.val / 8 % 2, by omega⟩ (idx t).2.2.2.2 _ _ _ _ _ _ y1 y2).trans ?_
  refine Eq.trans ?_ (congrArg (attnSeq _ _ _) (emb3 t y1 y2)).symm
  show _ = att _ _
  refine congrArg₂ att (funext fun x => Finset.sum_congr rfl fun d _ => Ideal.mul_congr ?_ ?_) (funext fun x => ?_)
  · rw [blk1]
    blk_ext
  · refine (headQ_eq (iblk m c 0 t) _ _ _ _ ?_ ?_ ?_ ?_ y2 y1 d).trans ?_
    · intro d r; pointwise; blk_ext
    · intro d r; pointwise
    · intro d r; pointwise
    · intro d r; pointwise
    · rw [blk0]; blk_ext
  · rw [blk2]
    blk_ext

end Cert.AttnLastIdeal.Hand
end
-- ==== Proof.B.Ref.lean ====
module

public import proofs.«01_k».proof.Proof.Gen.AttnLastRefIdeal.Read
public import proofs.«01_k».proof.Proof.A.Softmax
public import proofs.«01_k».proof.Proof.B.Spec
public import Idealize.ShloMosaic.Lib.Pipeline.ValueKit

@[expose] public section

set_option maxRecDepth 16384

noncomputable section

namespace Cert.AttnLastRefIdeal.Hand
open Cert.AttnLastRefIdeal Cert.AttnLastRefIdeal.Gen Cert.AttnLastRefIdeal.Read
open Idealize.ShloMosaic Idealize.ShloMosaic.TcCoe Idealize.SL.Sem
open Attention

variable (q : FVec Ideal S16x512x2304 .bf16) (k : FVec Ideal S16x2304x128 .bf16) (v : FVec Ideal S16x128x2304 .bf16)

/-- The column of head `a` of group `g`, at its first lane. -/
abbrev col (g : Fin 2) (a : Fin 4) : Fin 512 := ⟨g * 256 + a * 64, by omega⟩

/-- The sequence rows' scores over all keys. -/
theorem lat_score (b : Fin 16) (g : Fin 2) (a : Fin 4) (t : Fin 2048) (x : Fin 2304) :
    val_main_v18 (F := Ideal) q k (ix5 b g a t x) = score q k b ⟨t, by omega⟩ (col g a) x := by
  pointwise [val_main_v18, val_main_v17, val_main_v16, val_main_v15, val_main_v14, val_main_v10, val_main_v11,
    val_main_v6, val_main_v5, val_main_v4, val_main_v3, val_main_v2, val_main_v1, val_main_v0, score]
  by_cases h : (x : ℕ) < 2048
  · rw [dif_pos h]
    blk_point
  · rw [dif_neg h]
    blk_point

/-- The sequence rows' largest score. -/
theorem lat_max (b : Fin 16) (g : Fin 2) (a : Fin 4) (t : Fin 2048) :
    val_main_v19 (F := Ideal) q k (ix4 b g a t) = top fun x => val_main_v18 (F := Ideal) q k (ix5 b g a t x) := by
  pointwise [val_main_v19, val_main_cst, top]

/-- The sequence rows' exponentials of the shifted scores. -/
theorem lat_exp (b : Fin 16) (g : Fin 2) (a : Fin 4) (t : Fin 2048) (x : Fin 2304) :
    val_main_v25 (F := Ideal) q k (ix5 b g a t x) = Ideal.exp (score q k b ⟨t, by omega⟩ (col g a) x
      - top (score q k b ⟨t, by omega⟩ (col g a))) := by
  rw [val_main_v25_apply, val_main_v24_apply, val_main_v23_apply, val_main_v22_apply, val_main_v21_apply,
    val_main_v20_apply, val_main_cst_0_apply]
  have h : idx_main_v22 (idx_main_v23 (ix5 b g a t x)) = ix4 b g a t := by
    funext i; fin_cases i <;> rfl
  rw [h, lat_max, lat_score]
  simp only [lat_score]
  show Ideal.exp (_ - max (Ideal.ofBits .f32 0xFF800000#32) _) = _
  rw [negInf, max_eq_right bot_le]

/-- The sequence rows' sum of the exponentials. -/
theorem lat_sum (b : Fin 16) (g : Fin 2) (a : Fin 4) (t : Fin 2048) (x : Fin 2304) :
    val_main_v28 (F := Ideal) q k (ix5 b g a t x) = ∑ z : Fin 2304, Ideal.exp (score q k b ⟨t, by omega⟩ (col g a) z
      - top (score q k b ⟨t, by omega⟩ (col g a))) := by
  rw [val_main_v28_apply, val_main_v27_apply, val_main_v26_apply]
  pointwise [val_main_cst_1]
  refine Finset.sum_congr rfl fun z _ => Eq.trans (congrArg _ ?_) (lat_exp q k b g a t z)
  funext i; fin_cases i <;> rfl

/-- A real number at every index: then every score is a real number. -/
theorem score_isReal (hq : ∀ i, IsReal (q i)) (hk : ∀ i, IsReal (k i)) (b : Fin 16) (t : Fin 2304) (c : Fin 512) (x : Fin 2304) :
    IsReal (score q k b t c x) :=
  IsReal.sum _ _ fun d => (hk _).mul (hq _)

/-- The score depends on the column only through its head. -/
theorem score_col (b : Fin 16) (t : Fin 2304) (c : Fin 512) :
    score q k b t (col ⟨c / 256, by omega⟩ ⟨c / 64 % 4, by omega⟩) = score q k b t c := by
  funext x
  unfold score
  refine Finset.sum_congr rfl fun d _ => ?_
  blk_point

/-- One normalized weight of a row of scores. -/
def weight {n : ℕ} (s : Fin n → EReal) (x : Fin n) : EReal :=
  Ideal.div (Ideal.exp (s x - top s)) (∑ z, Ideal.exp (s z - top s))

/-- The sequence rows' weights. -/
theorem lat_weight (b : Fin 16) (t : Fin 2048) (c : Fin 512) (x : Fin 2304) :
    val_main_v29 (F := Ideal) q k (ix5 b ⟨c / 256, by omega⟩ ⟨c / 64 % 4, by omega⟩ t x)
      = weight (score q k b ⟨t, by omega⟩ c) x := by
  rw [val_main_v29_apply, lat_exp, lat_sum, score_col]
  rfl

/-- The reference's result is the attention array of the sequence, when the queries and keys are real numbers. -/
theorem ref_eq (hq : ∀ i, IsReal (q i)) (hk : ∀ i, IsReal (k i)) :
    val_main_v38 (F := Ideal) q k v = attnSeq q k v := by
  funext i
  idx_vars i
  show _ = att _ _
  pointwise [val_main_v38, val_main_v37, val_main_v36, val_main_v35, val_main_v34, val_main_v33, val_main_v32, val_main_v31,
     val_main_v30, val_main_v13, val_main_v12, val_main_v9, val_main_v8, val_main_v7]
  refine Eq.trans ?_ (normalized_first (score q k i0 ⟨i1, by omega⟩ i2) (value v i0 i2) fun x => score_isReal q k hq hk i0 _ i2 x)
  refine Eq.trans ?_ (Fin.sum_univ_two_halves 2048 256 rfl _).symm
  refine congrArg₂ (· + ·) (Finset.sum_congr rfl fun x _ => ?_) (Finset.sum_congr rfl fun x _ => ?_)
  · exact Ideal.mul_congr rfl (lat_weight q k i0 i1 i2 ⟨x, by omega⟩)
  · exact Ideal.mul_congr rfl (lat_weight q k i0 i1 i2 ⟨2048 + x, by omega⟩)

end Cert.AttnLastRefIdeal.Hand
end
-- ==== Proof.B.Claims.lean ====
module

public import proofs.«01_k».proof.Defs
public import proofs.«01_k».proof.Proof.Gen.AttnLast.Frame
public import proofs.«01_k».proof.Proof.Gen.AttnLastIdeal.Frame
public import proofs.«01_k».proof.Proof.Gen.AttnLastRefIdeal.Run
public import proofs.«01_k».proof.Proof.B.Final
public import proofs.«01_k».proof.Proof.B.Ref
public import proofs.«01_k».proof.Proof.A.Pre
public import Idealize.ShloMosaic.Lib.Claim

/-! The claims about the attention call of the last layer. -/

@[expose] public section

set_option maxRecDepth 16384

noncomputable section

namespace Cert.AttentionLast
open Idealize.ShloMosaic Idealize.ShloMosaic.TcCoe Idealize.SL.Sem

/-- The attention kernel of the last layer runs to its end, and leaves its arguments and every semaphore as they were. -/
theorem frame_p : quiescent_AttnLast := fun m g _ => Cert.AttnLast.Gen.frame m g

/-- The same of the kernel at the extended reals. -/
theorem frame_pi : quiescent_AttnLastIdeal := fun m g _ => Cert.AttnLastIdeal.Gen.frame m g

/-- The same, under the precondition. -/
theorem frame_pi_pre : quiescent_AttnLastIdeal_pre_finite := fun m g _ => Cert.AttnLastIdeal.Gen.frame m g

/-- The reference runs to its end, and leaves its arguments and every semaphore as they were. -/
theorem frame_ri : quiescent_AttnLastRefIdeal := fun m g _ =>
  (θ_run Cert.AttnLastRefIdeal.defs _ _).mono (fun r h => ⟨fun c => (h c).2, sem_eq_zero_of_no_sems (by decide) r.2⟩)
    (Cert.AttnLastRefIdeal.Value.run (F := Ideal) m g)

/-- The same, under the precondition. -/
theorem frame_ri_pre : quiescent_AttnLastRefIdeal_pre_finite := fun m g _ =>
  (θ_run Cert.AttnLastRefIdeal.defs _ _).mono (fun r h => ⟨fun c => (h c).2, sem_eq_zero_of_no_sems (by decide) r.2⟩)
    (Cert.AttnLastRefIdeal.Value.run (F := Ideal) m g)

/-- For finite queries and keys the kernel's result at the extended reals is the reference's. -/
theorem algebraic : algebraic_AttnLastIdeal_AttnLastRefIdeal_pre_finite := by
  pair_intro
  · run_from Cert.AttnLastIdeal.Gen.run_main m g
  · run_from Cert.AttnLastRefIdeal.Value.run m' g'
    obtain ⟨hq, hk⟩ := Cert.Pre_finite.Hand.real_of_fn _ _ _ (hpre c)
    rw [Cert.AttnLastRefIdeal.Read.val_main_v38_eq, (hagree c).1, (hagree c).2.1, (hagree c).2.2]
    exact (Cert.AttnLastRefIdeal.Hand.ref_eq _ _ _ hq hk).trans (Cert.AttnLastIdeal.Hand.final m c).symm

end Cert.AttentionLast
end
-- ==== Proof.P.Taps.lean ====
module

public import proofs.«01_k».proof.Proof.Gen.OutprojLastIdeal.Value
public import Idealize.ShloMosaic.Lib.Pipeline.ValueKit
public import Idealize.ShloMosaic.Lib.Pointwise

/-! The sum of products of the depthwise convolution, in the order of the kernel. -/

@[expose] public section

set_option maxRecDepth 16384

noncomputable section

namespace Cert.OutprojLastIdeal.Hand
open Cert.OutprojLastIdeal Cert.OutprojLastIdeal.Gen
open Idealize.ShloMosaic Idealize.ShloMosaic.TcCoe Idealize.SL.Sem

/-- The products of a window's rows with the taps, summed. -/
def taps (win : Fin 288 → Fin 512 → EReal) (x6 : Vec Ideal S32x512 .f32) (r : Fin 256) (n : Fin 512) : EReal :=
  ∑ j : Fin 31, win ⟨r.val + j.val + 1, by omega⟩ n * x6 (ix2 (⟨j.val, by omega⟩ : Fin 32) n)

/-- A sum of 31 terms in the order of the kernel: by the remainder of the row shift modulo eight. -/
theorem sum_order (T : Fin 31 → EReal) :
    T 7 + T 15 + T 23 + T 0 + T 8 + T 16 + T 24 + T 1 + T 9 + T 17 + T 25 + T 2 + T 10 + T 18 + T 26 + T 3 + T 11 + T 19 + T 27 + T 4 + T 12 + T 20 + T 28 + T 5 + T 13 + T 21 + T 29 + T 6 + T 14 + T 22 + T 30 = ∑ j : Fin 31, T j := by
  have h : (∑ j : Fin 31, T j) = T 0 + (T 1 + (T 2 + (T 3 + (T 4 + (T 5 + (T 6 + (T 7 + (T 8 + (T 9 + (T 10 + (T 11 + (T 12 + (T 13 + (T 14 + (T 15 + (T 16 + (T 17 + (T 18 + (T 19 + (T 20 + (T 21 + (T 22 + (T 23 + (T 24 + (T 25 + (T 26 + (T 27 + (T 28 + (T 29 + (T 30)))))))))))))))))))))))))))))) := by
    simp only [Fin.sum_univ_succ, Fin.sum_univ_zero, add_zero]
    rfl
  rw [h]
  ac_rfl

/-- Equal summands have equal sums. -/
theorem add_of {a a' b b' : EReal} (h : a = a') (h' : b = b') : a + b = a' + b' := by rw [h, h']

/-- One product of a row of the block with a tap. -/
theorem prod_of {win : Fin 288 → Fin 512 → EReal} {x6 : Vec Ideal S32x512 .f32} {B : Vec Ideal S160x128 .f32} {b o : ℕ} (hb : b ≤ 128) (ho : o ≤ 384)
    (hB : ∀ (i : Fin 160) (l : Fin 128), B (ix2 i l) = win ⟨b + i.val, by omega⟩ ⟨o + l.val, by omega⟩)
    (q : Fin 160) (J : Fin 32) (N : Fin 512) (j : Fin 31) (l : Fin 128) (r : Fin 256) (n : Fin 512) (hJ : J.val = j.val) (hN : N.val = n.val)
    (hr : b + q.val = r.val + j.val + 1) (hn : n.val = o + l.val) :
    B (ix2 q l) * x6 (ix2 J N) = win ⟨r.val + j.val + 1, by omega⟩ n * x6 (ix2 (⟨j.val, by omega⟩ : Fin 32) n) := by
  obtain rfl : N = n := Fin.ext hN
  rw [hB]
  have e1 : (⟨b + q.val, by omega⟩ : Fin 288) = ⟨r.val + j.val + 1, by omega⟩ := Fin.ext hr
  have e2 : (⟨o + l.val, by omega⟩ : Fin 512) = N := Fin.ext hn.symm
  have e3 : J = ⟨j.val, by omega⟩ := Fin.ext hJ
  rw [e1, e2]
  exact congrArg (fun a => win ⟨r.val + j.val + 1, by omega⟩ N * x6 (ix2 a N)) e3

end Cert.OutprojLastIdeal.Hand
end
-- ==== Proof.P.Column0.lean ====
module

public import proofs.«01_k».proof.Proof.Gen.OutprojLastIdeal.Value
public import Idealize.ShloMosaic.Lib.Pipeline.ValueKit
public import Idealize.ShloMosaic.Lib.Pointwise
public import proofs.«01_k».proof.Proof.P.Taps

/-! What the kernel computes in columns 0 to 127 of the convolution. -/

@[expose] public section

set_option maxRecDepth 16384

noncomputable section

namespace Cert.OutprojLastIdeal.Hand
open Cert.OutprojLastIdeal Cert.OutprojLastIdeal.Gen
open Idealize.ShloMosaic Idealize.ShloMosaic.TcCoe Idealize.SL.Sem

set_option maxHeartbeats 2000000 in
/-- Columns 0 to 127 of the convolution. -/
theorem col0 (win : Fin 288 → Fin 512 → EReal) (x6 : Vec Ideal S32x512 .f32) (v26 v221 : Vec Ideal S160x128 .f32)
    (hv26 : ∀ (i : Fin 160) (l : Fin 128), v26 (ix2 i l) = win ⟨0 + i.val, by omega⟩ ⟨0 + l.val, by omega⟩)
    (hv221 : ∀ (i : Fin 160) (l : Fin 128), v221 (ix2 i l) = win ⟨128 + i.val, by omega⟩ ⟨0 + l.val, by omega⟩) (r : Fin 256) (l : Fin 128) :
    (k0_pay37 (k0_pay22 (k0_pay18 v26) (k0_pay19 v26 (k0_pay14 v26) (k0_pay15 v26 (k0_pay11 v26 (k0_pay7 k0_pay5 v26 (k0_pay6 v26) (View.ld (Val := Elt Ideal) x6 (Rect.unit (s := S32x512) ![7, 0] ![1, 128] inb_S32x512_S1x128_7_0)) (View.ld (Val := Elt Ideal) x6 (Rect.unit (s := S32x512) ![15, 0] ![1, 128] inb_S32x512_S1x128_15_0)) (View.ld (Val := Elt Ideal) x6 (Rect.unit (s := S32x512) ![23, 0] ![1, 128] inb_S32x512_S1x128_23_0)) (View.ld (Val := Elt Ideal) x6 (Rect.unit (s := S32x512) ![0, 0] ![1, 128] inb_S32x512_S1x128_0_0)) (View.ld (Val := Elt Ideal) x6 (Rect.unit (s := S32x512) ![8, 0] ![1, 128] inb_S32x512_S1x128_8_0)) (View.ld (Val := Elt Ideal) x6 (Rect.unit (s := S32x512) ![16, 0] ![1, 128] inb_S32x512_S1x128_16_0)) (View.ld (Val := Elt Ideal) x6 (Rect.unit (s := S32x512) ![24, 0] ![1, 128] inb_S32x512_S1x128_24_0))) (k0_pay8 v26) (k0_pay9 v26) (View.ld (Val := Elt Ideal) x6 (Rect.unit (s := S32x512) ![1, 0] ![1, 128] inb_S32x512_S1x128_1_0)) (View.ld (Val := Elt Ideal) x6 (Rect.unit (s := S32x512) ![9, 0] ![1, 128] inb_S32x512_S1x128_9_0)) (View.ld (Val := Elt Ideal) x6 (Rect.unit (s := S32x512) ![17, 0] ![1, 128] inb_S32x512_S1x128_17_0)) (View.ld (Val := Elt Ideal) x6 (Rect.unit (s := S32x512) ![25, 0] ![1, 128] inb_S32x512_S1x128_25_0)) (View.ld (Val := Elt Ideal) x6 (Rect.unit (s := S32x512) ![2, 0] ![1, 128] inb_S32x512_S1x128_2_0)) (View.ld (Val := Elt Ideal) x6 (Rect.unit (s := S32x512) ![10, 0] ![1, 128] inb_S32x512_S1x128_10_0)) (View.ld (Val := Elt Ideal) x6 (Rect.unit (s := S32x512) ![18, 0] ![1, 128] inb_S32x512_S1x128_18_0))) (k0_pay12 v26) (k0_pay13 (View.ld (Val := Elt Ideal) x6 (Rect.unit (s := S32x512) ![26, 0] ![1, 128] inb_S32x512_S1x128_26_0))) (View.ld (Val := Elt Ideal) x6 (Rect.unit (s := S32x512) ![3, 0] ![1, 128] inb_S32x512_S1x128_3_0)) (View.ld (Val := Elt Ideal) x6 (Rect.unit (s := S32x512) ![11, 0] ![1, 128] inb_S32x512_S1x128_11_0)) (View.ld (Val := Elt Ideal) x6 (Rect.unit (s := S32x512) ![19, 0] ![1, 128] inb_S32x512_S1x128_19_0)) (View.ld (Val := Elt Ideal) x6 (Rect.unit (s := S32x512) ![27, 0] ![1, 128] inb_S32x512_S1x128_27_0)) (View.ld (Val := Elt Ideal) x6 (Rect.unit (s := S32x512) ![4, 0] ![1, 128] inb_S32x512_S1x128_4_0)) (View.ld (Val := Elt Ideal) x6 (Rect.unit (s := S32x512) ![12, 0] ![1, 128] inb_S32x512_S1x128_12_0))) (k0_pay16 v26) (k0_pay17 (View.ld (Val := Elt Ideal) x6 (Rect.unit (s := S32x512) ![20, 0] ![1, 128] inb_S32x512_S1x128_20_0))) (View.ld (Val := Elt Ideal) x6 (Rect.unit (s := S32x512) ![28, 0] ![1, 128] inb_S32x512_S1x128_28_0)) (View.ld (Val := Elt Ideal) x6 (Rect.unit (s := S32x512) ![5, 0] ![1, 128] inb_S32x512_S1x128_5_0)) (View.ld (Val := Elt Ideal) x6 (Rect.unit (s := S32x512) ![13, 0] ![1, 128] inb_S32x512_S1x128_13_0)) (View.ld (Val := Elt Ideal) x6 (Rect.unit (s := S32x512) ![21, 0] ![1, 128] inb_S32x512_S1x128_21_0)) (View.ld (Val := Elt Ideal) x6 (Rect.unit (s := S32x512) ![29, 0] ![1, 128] inb_S32x512_S1x128_29_0)) (View.ld (Val := Elt Ideal) x6 (Rect.unit (s := S32x512) ![6, 0] ![1, 128] inb_S32x512_S1x128_6_0))) (k0_pay20 v26) (k0_pay21 (View.ld (Val := Elt Ideal) x6 (Rect.unit (s := S32x512) ![14, 0] ![1, 128] inb_S32x512_S1x128_14_0))) (View.ld (Val := Elt Ideal) x6 (Rect.unit (s := S32x512) ![22, 0] ![1, 128] inb_S32x512_S1x128_22_0)) (View.ld (Val := Elt Ideal) x6 (Rect.unit (s := S32x512) ![30, 0] ![1, 128] inb_S32x512_S1x128_30_0))) v221 (k0_pay33 v221) (k0_pay34 v221 (k0_pay30 v221 (k0_pay26 v221 (k0_pay23 v221) (k0_pay24 v221 (View.ld (Val := Elt Ideal) x6 (Rect.unit (s := S32x512) ![7, 0] ![1, 128] inb_S32x512_S1x128_7_0)) (View.ld (Val := Elt Ideal) x6 (Rect.unit (s := S32x512) ![15, 0] ![1, 128] inb_S32x512_S1x128_15_0)) (View.ld (Val := Elt Ideal) x6 (Rect.unit (s := S32x512) ![23, 0] ![1, 128] inb_S32x512_S1x128_23_0)) (View.ld (Val := Elt Ideal) x6 (Rect.unit (s := S32x512) ![0, 0] ![1, 128] inb_S32x512_S1x128_0_0))) (k0_pay25 v221) (View.ld (Val := Elt Ideal) x6 (Rect.unit (s := S32x512) ![8, 0] ![1, 128] inb_S32x512_S1x128_8_0)) (View.ld (Val := Elt Ideal) x6 (Rect.unit (s := S32x512) ![16, 0] ![1, 128] inb_S32x512_S1x128_16_0)) (View.ld (Val := Elt Ideal) x6 (Rect.unit (s := S32x512) ![24, 0] ![1, 128] inb_S32x512_S1x128_24_0)) (View.ld (Val := Elt Ideal) x6 (Rect.unit (s := S32x512) ![1, 0] ![1, 128] inb_S32x512_S1x128_1_0)) (View.ld (Val := Elt Ideal) x6 (Rect.unit (s := S32x512) ![9, 0] ![1, 128] inb_S32x512_S1x128_9_0)) (View.ld (Val := Elt Ideal) x6 (Rect.unit (s := S32x512) ![17, 0] ![1, 128] inb_S32x512_S1x128_17_0)) (View.ld (Val := Elt Ideal) x6 (Rect.unit (s := S32x512) ![25, 0] ![1, 128] inb_S32x512_S1x128_25_0))) (k0_pay27 v221) (k0_pay28 v221) (View.ld (Val := Elt Ideal) x6 (Rect.unit (s := S32x512) ![2, 0] ![1, 128] inb_S32x512_S1x128_2_0)) (View.ld (Val := Elt Ideal) x6 (Rect.unit (s := S32x512) ![10, 0] ![1, 128] inb_S32x512_S1x128_10_0)) (View.ld (Val := Elt Ideal) x6 (Rect.unit (s := S32x512) ![18, 0] ![1, 128] inb_S32x512_S1x128_18_0)) (View.ld (Val := Elt Ideal) x6 (Rect.unit (s := S32x512) ![26, 0] ![1, 128] inb_S32x512_S1x128_26_0)) (View.ld (Val := Elt Ideal) x6 (Rect.unit (s := S32x512) ![3, 0] ![1, 128] inb_S32x512_S1x128_3_0)) (View.ld (Val := Elt Ideal) x6 (Rect.unit (s := S32x512) ![11, 0] ![1, 128] inb_S32x512_S1x128_11_0)) (View.ld (Val := Elt Ideal) x6 (Rect.unit (s := S32x512) ![19, 0] ![1, 128] inb_S32x512_S1x128_19_0))) (k0_pay31 v221) (k0_pay32 (View.ld (Val := Elt Ideal) x6 (Rect.unit (s := S32x512) ![27, 0] ![1, 128] inb_S32x512_S1x128_27_0))) (View.ld (Val := Elt Ideal) x6 (Rect.unit (s := S32x512) ![4, 0] ![1, 128] inb_S32x512_S1x128_4_0)) (View.ld (Val := Elt Ideal) x6 (Rect.unit (s := S32x512) ![12, 0] ![1, 128] inb_S32x512_S1x128_12_0)) (View.ld (Val := Elt Ideal) x6 (Rect.unit (s := S32x512) ![20, 0] ![1, 128] inb_S32x512_S1x128_20_0)) (View.ld (Val := Elt Ideal) x6 (Rect.unit (s := S32x512) ![28, 0] ![1, 128] inb_S32x512_S1x128_28_0)) (View.ld (Val := Elt Ideal) x6 (Rect.unit (s := S32x512) ![5, 0] ![1, 128] inb_S32x512_S1x128_5_0)) (View.ld (Val := Elt Ideal) x6 (Rect.unit (s := S32x512) ![13, 0] ![1, 128] inb_S32x512_S1x128_13_0))) (k0_pay35 v221) (k0_pay36 (View.ld (Val := Elt Ideal) x6 (Rect.unit (s := S32x512) ![21, 0] ![1, 128] inb_S32x512_S1x128_21_0))) (View.ld (Val := Elt Ideal) x6 (Rect.unit (s := S32x512) ![29, 0] ![1, 128] inb_S32x512_S1x128_29_0)) (View.ld (Val := Elt Ideal) x6 (Rect.unit (s := S32x512) ![6, 0] ![1, 128] inb_S32x512_S1x128_6_0)) (View.ld (Val := Elt Ideal) x6 (Rect.unit (s := S32x512) ![14, 0] ![1, 128] inb_S32x512_S1x128_14_0)) (View.ld (Val := Elt Ideal) x6 (Rect.unit (s := S32x512) ![22, 0] ![1, 128] inb_S32x512_S1x128_22_0)) (View.ld (Val := Elt Ideal) x6 (Rect.unit (s := S32x512) ![30, 0] ![1, 128] inb_S32x512_S1x128_30_0))) (ix2 r l)
      = taps win x6 r ⟨0 + l.val, by omega⟩ := by
  by_cases h : r.val < 128
  · pointwise [k0_pay37, k0_pay22, k0_pay18, k0_pay19, k0_pay14, k0_pay15, k0_pay11, k0_pay10, k0_pay7, k0_pay5, k0_pay6, k0_pay8, k0_pay9, k0_pay12, k0_pay13, k0_pay16, k0_pay17, k0_pay20, k0_pay21, k0_pay33, k0_pay34, k0_pay30, k0_pay29, k0_pay26, k0_pay23, k0_pay24, k0_pay25, k0_pay27, k0_pay28, k0_pay31, k0_pay32, k0_pay35, k0_pay36]
    refine (dif_pos h).trans ?_
    unfold taps
    refine Eq.trans ?_ (sum_order _)
    iterate 30 refine add_of ?_ (prod_of (by decide) (by decide) hv26 _ _ _ _ _ _ _ rfl (by simp) (by simp; omega) (by simp))
    exact prod_of (by decide) (by decide) hv26 _ _ _ _ _ _ _ rfl (by simp) (by simp; omega) (by simp)
  · pointwise [k0_pay37, k0_pay22, k0_pay18, k0_pay19, k0_pay14, k0_pay15, k0_pay11, k0_pay10, k0_pay7, k0_pay5, k0_pay6, k0_pay8, k0_pay9, k0_pay12, k0_pay13, k0_pay16, k0_pay17, k0_pay20, k0_pay21, k0_pay33, k0_pay34, k0_pay30, k0_pay29, k0_pay26, k0_pay23, k0_pay24, k0_pay25, k0_pay27, k0_pay28, k0_pay31, k0_pay32, k0_pay35, k0_pay36]
    refine (dif_neg h).trans ?_
    unfold taps
    refine Eq.trans ?_ (sum_order _)
    iterate 30 refine add_of ?_ (prod_of (by decide) (by decide) hv221 _ _ _ _ _ _ _ rfl (by simp) (by simp; omega) (by simp))
    exact prod_of (by decide) (by decide) hv221 _ _ _ _ _ _ _ rfl (by simp) (by simp; omega) (by simp)

end Cert.OutprojLastIdeal.Hand
end
-- ==== Proof.P.Column1.lean ====
module

public import proofs.«01_k».proof.Proof.Gen.OutprojLastIdeal.Value
public import Idealize.ShloMosaic.Lib.Pipeline.ValueKit
public import Idealize.ShloMosaic.Lib.Pointwise
public import proofs.«01_k».proof.Proof.P.Taps

/-! What the kernel computes in columns 128 to 255 of the convolution. -/

@[expose] public section

set_option maxRecDepth 16384

noncomputable section

namespace Cert.OutprojLastIdeal.Hand
open Cert.OutprojLastIdeal Cert.OutprojLastIdeal.Gen
open Idealize.ShloMosaic Idealize.ShloMosaic.TcCoe Idealize.SL.Sem

set_option maxHeartbeats 2000000 in
/-- Columns 128 to 255 of the convolution. -/
theorem col1 (win : Fin 288 → Fin 512 → EReal) (x6 : Vec Ideal S32x512 .f32) (v417 v612 : Vec Ideal S160x128 .f32)
    (hv417 : ∀ (i : Fin 160) (l : Fin 128), v417 (ix2 i l) = win ⟨0 + i.val, by omega⟩ ⟨128 + l.val, by omega⟩)
    (hv612 : ∀ (i : Fin 160) (l : Fin 128), v612 (ix2 i l) = win ⟨128 + i.val, by omega⟩ ⟨128 + l.val, by omega⟩) (r : Fin 256) (l : Fin 128) :
    (k0_pay62 (k0_pay52 (k0_pay49 v417) (k0_pay50 v417 (k0_pay47 v417 (k0_pay43 v417 (k0_pay40 v417) (k0_pay41 v417 (k0_pay38 v417 (View.ld (Val := Elt Ideal) x6 (Rect.unit (s := S32x512) ![7, 128] ![1, 128] inb_S32x512_S1x128_7_128))) (k0_pay39 v417) (View.ld (Val := Elt Ideal) x6 (Rect.unit (s := S32x512) ![15, 128] ![1, 128] inb_S32x512_S1x128_15_128)) (View.ld (Val := Elt Ideal) x6 (Rect.unit (s := S32x512) ![23, 128] ![1, 128] inb_S32x512_S1x128_23_128)) (View.ld (Val := Elt Ideal) x6 (Rect.unit (s := S32x512) ![0, 128] ![1, 128] inb_S32x512_S1x128_0_128)) (View.ld (Val := Elt Ideal) x6 (Rect.unit (s := S32x512) ![8, 128] ![1, 128] inb_S32x512_S1x128_8_128)) (View.ld (Val := Elt Ideal) x6 (Rect.unit (s := S32x512) ![16, 128] ![1, 128] inb_S32x512_S1x128_16_128)) (View.ld (Val := Elt Ideal) x6 (Rect.unit (s := S32x512) ![24, 128] ![1, 128] inb_S32x512_S1x128_24_128)) (View.ld (Val := Elt Ideal) x6 (Rect.unit (s := S32x512) ![1, 128] ![1, 128] inb_S32x512_S1x128_1_128))) (k0_pay42 v417) (View.ld (Val := Elt Ideal) x6 (Rect.unit (s := S32x512) ![9, 128] ![1, 128] inb_S32x512_S1x128_9_128)) (View.ld (Val := Elt Ideal) x6 (Rect.unit (s := S32x512) ![17, 128] ![1, 128] inb_S32x512_S1x128_17_128)) (View.ld (Val := Elt Ideal) x6 (Rect.unit (s := S32x512) ![25, 128] ![1, 128] inb_S32x512_S1x128_25_128)) (View.ld (Val := Elt Ideal) x6 (Rect.unit (s := S32x512) ![2, 128] ![1, 128] inb_S32x512_S1x128_2_128)) (View.ld (Val := Elt Ideal) x6 (Rect.unit (s := S32x512) ![10, 128] ![1, 128] inb_S32x512_S1x128_10_128)) (View.ld (Val := Elt Ideal) x6 (Rect.unit (s := S32x512) ![18, 128] ![1, 128] inb_S32x512_S1x128_18_128)) (View.ld (Val := Elt Ideal) x6 (Rect.unit (s := S32x512) ![26, 128] ![1, 128] inb_S32x512_S1x128_26_128))) (k0_pay44 v417) (k0_pay45 v417) (View.ld (Val := Elt Ideal) x6 (Rect.unit (s := S32x512) ![3, 128] ![1, 128] inb_S32x512_S1x128_3_128)) (View.ld (Val := Elt Ideal) x6 (Rect.unit (s := S32x512) ![11, 128] ![1, 128] inb_S32x512_S1x128_11_128)) (View.ld (Val := Elt Ideal) x6 (Rect.unit (s := S32x512) ![19, 128] ![1, 128] inb_S32x512_S1x128_19_128)) (View.ld (Val := Elt Ideal) x6 (Rect.unit (s := S32x512) ![27, 128] ![1, 128] inb_S32x512_S1x128_27_128)) (View.ld (Val := Elt Ideal) x6 (Rect.unit (s := S32x512) ![4, 128] ![1, 128] inb_S32x512_S1x128_4_128)) (View.ld (Val := Elt Ideal) x6 (Rect.unit (s := S32x512) ![12, 128] ![1, 128] inb_S32x512_S1x128_12_128)) (View.ld (Val := Elt Ideal) x6 (Rect.unit (s := S32x512) ![20, 128] ![1, 128] inb_S32x512_S1x128_20_128))) (k0_pay48 v417) (View.ld (Val := Elt Ideal) x6 (Rect.unit (s := S32x512) ![28, 128] ![1, 128] inb_S32x512_S1x128_28_128)) (View.ld (Val := Elt Ideal) x6 (Rect.unit (s := S32x512) ![5, 128] ![1, 128] inb_S32x512_S1x128_5_128)) (View.ld (Val := Elt Ideal) x6 (Rect.unit (s := S32x512) ![13, 128] ![1, 128] inb_S32x512_S1x128_13_128)) (View.ld (Val := Elt Ideal) x6 (Rect.unit (s := S32x512) ![21, 128] ![1, 128] inb_S32x512_S1x128_21_128)) (View.ld (Val := Elt Ideal) x6 (Rect.unit (s := S32x512) ![29, 128] ![1, 128] inb_S32x512_S1x128_29_128)) (View.ld (Val := Elt Ideal) x6 (Rect.unit (s := S32x512) ![6, 128] ![1, 128] inb_S32x512_S1x128_6_128)) (View.ld (Val := Elt Ideal) x6 (Rect.unit (s := S32x512) ![14, 128] ![1, 128] inb_S32x512_S1x128_14_128))) (k0_pay51 v417) (View.ld (Val := Elt Ideal) x6 (Rect.unit (s := S32x512) ![22, 128] ![1, 128] inb_S32x512_S1x128_22_128)) (View.ld (Val := Elt Ideal) x6 (Rect.unit (s := S32x512) ![30, 128] ![1, 128] inb_S32x512_S1x128_30_128))) v612 (k0_pay60 v612 (k0_pay57 v612 (k0_pay55 v612) (k0_pay56 v612 (k0_pay53 v612) (k0_pay54 v612 (View.ld (Val := Elt Ideal) x6 (Rect.unit (s := S32x512) ![7, 128] ![1, 128] inb_S32x512_S1x128_7_128)) (View.ld (Val := Elt Ideal) x6 (Rect.unit (s := S32x512) ![15, 128] ![1, 128] inb_S32x512_S1x128_15_128)) (View.ld (Val := Elt Ideal) x6 (Rect.unit (s := S32x512) ![23, 128] ![1, 128] inb_S32x512_S1x128_23_128)) (View.ld (Val := Elt Ideal) x6 (Rect.unit (s := S32x512) ![0, 128] ![1, 128] inb_S32x512_S1x128_0_128)) (View.ld (Val := Elt Ideal) x6 (Rect.unit (s := S32x512) ![8, 128] ![1, 128] inb_S32x512_S1x128_8_128))) (View.ld (Val := Elt Ideal) x6 (Rect.unit (s := S32x512) ![16, 128] ![1, 128] inb_S32x512_S1x128_16_128)) (View.ld (Val := Elt Ideal) x6 (Rect.unit (s := S32x512) ![24, 128] ![1, 128] inb_S32x512_S1x128_24_128)) (View.ld (Val := Elt Ideal) x6 (Rect.unit (s := S32x512) ![1, 128] ![1, 128] inb_S32x512_S1x128_1_128)) (View.ld (Val := Elt Ideal) x6 (Rect.unit (s := S32x512) ![9, 128] ![1, 128] inb_S32x512_S1x128_9_128)) (View.ld (Val := Elt Ideal) x6 (Rect.unit (s := S32x512) ![17, 128] ![1, 128] inb_S32x512_S1x128_17_128)) (View.ld (Val := Elt Ideal) x6 (Rect.unit (s := S32x512) ![25, 128] ![1, 128] inb_S32x512_S1x128_25_128)) (View.ld (Val := Elt Ideal) x6 (Rect.unit (s := S32x512) ![2, 128] ![1, 128] inb_S32x512_S1x128_2_128))) (View.ld (Val := Elt Ideal) x6 (Rect.unit (s := S32x512) ![10, 128] ![1, 128] inb_S32x512_S1x128_10_128)) (View.ld (Val := Elt Ideal) x6 (Rect.unit (s := S32x512) ![18, 128] ![1, 128] inb_S32x512_S1x128_18_128)) (View.ld (Val := Elt Ideal) x6 (Rect.unit (s := S32x512) ![26, 128] ![1, 128] inb_S32x512_S1x128_26_128)) (View.ld (Val := Elt Ideal) x6 (Rect.unit (s := S32x512) ![3, 128] ![1, 128] inb_S32x512_S1x128_3_128)) (View.ld (Val := Elt Ideal) x6 (Rect.unit (s := S32x512) ![11, 128] ![1, 128] inb_S32x512_S1x128_11_128)) (View.ld (Val := Elt Ideal) x6 (Rect.unit (s := S32x512) ![19, 128] ![1, 128] inb_S32x512_S1x128_19_128)) (View.ld (Val := Elt Ideal) x6 (Rect.unit (s := S32x512) ![27, 128] ![1, 128] inb_S32x512_S1x128_27_128))) (k0_pay58 v612) (View.ld (Val := Elt Ideal) x6 (Rect.unit (s := S32x512) ![4, 128] ![1, 128] inb_S32x512_S1x128_4_128)) (View.ld (Val := Elt Ideal) x6 (Rect.unit (s := S32x512) ![12, 128] ![1, 128] inb_S32x512_S1x128_12_128)) (View.ld (Val := Elt Ideal) x6 (Rect.unit (s := S32x512) ![20, 128] ![1, 128] inb_S32x512_S1x128_20_128)) (View.ld (Val := Elt Ideal) x6 (Rect.unit (s := S32x512) ![28, 128] ![1, 128] inb_S32x512_S1x128_28_128)) (View.ld (Val := Elt Ideal) x6 (Rect.unit (s := S32x512) ![5, 128] ![1, 128] inb_S32x512_S1x128_5_128)) (View.ld (Val := Elt Ideal) x6 (Rect.unit (s := S32x512) ![13, 128] ![1, 128] inb_S32x512_S1x128_13_128)) (View.ld (Val := Elt Ideal) x6 (Rect.unit (s := S32x512) ![21, 128] ![1, 128] inb_S32x512_S1x128_21_128))) (k0_pay61 v612) (View.ld (Val := Elt Ideal) x6 (Rect.unit (s := S32x512) ![29, 128] ![1, 128] inb_S32x512_S1x128_29_128)) (View.ld (Val := Elt Ideal) x6 (Rect.unit (s := S32x512) ![6, 128] ![1, 128] inb_S32x512_S1x128_6_128)) (View.ld (Val := Elt Ideal) x6 (Rect.unit (s := S32x512) ![14, 128] ![1, 128] inb_S32x512_S1x128_14_128)) (View.ld (Val := Elt Ideal) x6 (Rect.unit (s := S32x512) ![22, 128] ![1, 128] inb_S32x512_S1x128_22_128)) (View.ld (Val := Elt Ideal) x6 (Rect.unit (s := S32x512) ![30, 128] ![1, 128] inb_S32x512_S1x128_30_128))) (ix2 r l)
      = taps win x6 r ⟨128 + l.val, by omega⟩ := by
  by_cases h : r.val < 128
  · pointwise [k0_pay62, k0_pay52, k0_pay49, k0_pay50, k0_pay47, k0_pay46, k0_pay43, k0_pay40, k0_pay41, k0_pay38, k0_pay39, k0_pay42, k0_pay44, k0_pay45, k0_pay48, k0_pay51, k0_pay60, k0_pay59, k0_pay57, k0_pay55, k0_pay56, k0_pay53, k0_pay54, k0_pay58, k0_pay61]
    refine (dif_pos h).trans ?_
    unfold taps
    refine Eq.trans ?_ (sum_order _)
    iterate 30 refine add_of ?_ (prod_of (by decide) (by decide) hv417 _ _ _ _ _ _ _ rfl (by simp) (by simp; omega) (by simp))
    exact prod_of (by decide) (by decide) hv417 _ _ _ _ _ _ _ rfl (by simp) (by simp; omega) (by simp)
  · pointwise [k0_pay62, k0_pay52, k0_pay49, k0_pay50, k0_pay47, k0_pay46, k0_pay43, k0_pay40, k0_pay41, k0_pay38, k0_pay39, k0_pay42, k0_pay44, k0_pay45, k0_pay48, k0_pay51, k0_pay60, k0_pay59, k0_pay57, k0_pay55, k0_pay56, k0_pay53, k0_pay54, k0_pay58, k0_pay61]
    refine (dif_neg h).trans ?_
    unfold taps
    refine Eq.trans ?_ (sum_order _)
    iterate 30 refine add_of ?_ (prod_of (by decide) (by decide) hv612 _ _ _ _ _ _ _ rfl (by simp) (by simp; omega) (by simp))
    exact prod_of (by decide) (by decide) hv612 _ _ _ _ _ _ _ rfl (by simp) (by simp; omega) (by simp)

end Cert.OutprojLastIdeal.Hand
end
-- ==== Proof.P.Column2.lean ====
module

public import proofs.«01_k».proof.Proof.Gen.OutprojLastIdeal.Value
public import Idealize.ShloMosaic.Lib.Pipeline.ValueKit
public import Idealize.ShloMosaic.Lib.Pointwise
public import proofs.«01_k».proof.Proof.P.Taps

/-! What the kernel computes in columns 256 to 383 of the convolution. -/

@[expose] public section

set_option maxRecDepth 16384

noncomputable section

namespace Cert.OutprojLastIdeal.Hand
open Cert.OutprojLastIdeal Cert.OutprojLastIdeal.Gen
open Idealize.ShloMosaic Idealize.ShloMosaic.TcCoe Idealize.SL.Sem

set_option maxHeartbeats 2000000 in
/-- Columns 256 to 383 of the convolution. -/
theorem col2 (win : Fin 288 → Fin 512 → EReal) (x6 : Vec Ideal S32x512 .f32) (v808 v1003 : Vec Ideal S160x128 .f32)
    (hv808 : ∀ (i : Fin 160) (l : Fin 128), v808 (ix2 i l) = win ⟨0 + i.val, by omega⟩ ⟨256 + l.val, by omega⟩)
    (hv1003 : ∀ (i : Fin 160) (l : Fin 128), v1003 (ix2 i l) = win ⟨128 + i.val, by omega⟩ ⟨256 + l.val, by omega⟩) (r : Fin 256) (l : Fin 128) :
    (k0_pay93 (k0_pay77 (k0_pay75 v808) (k0_pay76 v808 (k0_pay74 v808 (k0_pay70 v808 (k0_pay66 v808) (k0_pay67 v808 (k0_pay63 v808 (View.ld (Val := Elt Ideal) x6 (Rect.unit (s := S32x512) ![7, 256] ![1, 128] inb_S32x512_S1x128_7_256))) (k0_pay64 v808) (k0_pay65 (View.ld (Val := Elt Ideal) x6 (Rect.unit (s := S32x512) ![15, 256] ![1, 128] inb_S32x512_S1x128_15_256))) (View.ld (Val := Elt Ideal) x6 (Rect.unit (s := S32x512) ![23, 256] ![1, 128] inb_S32x512_S1x128_23_256)) (View.ld (Val := Elt Ideal) x6 (Rect.unit (s := S32x512) ![0, 256] ![1, 128] inb_S32x512_S1x128_0_256)) (View.ld (Val := Elt Ideal) x6 (Rect.unit (s := S32x512) ![8, 256] ![1, 128] inb_S32x512_S1x128_8_256)) (View.ld (Val := Elt Ideal) x6 (Rect.unit (s := S32x512) ![16, 256] ![1, 128] inb_S32x512_S1x128_16_256)) (View.ld (Val := Elt Ideal) x6 (Rect.unit (s := S32x512) ![24, 256] ![1, 128] inb_S32x512_S1x128_24_256)) (View.ld (Val := Elt Ideal) x6 (Rect.unit (s := S32x512) ![1, 256] ![1, 128] inb_S32x512_S1x128_1_256))) (k0_pay68 v808) (k0_pay69 (View.ld (Val := Elt Ideal) x6 (Rect.unit (s := S32x512) ![9, 256] ![1, 128] inb_S32x512_S1x128_9_256))) (View.ld (Val := Elt Ideal) x6 (Rect.unit (s := S32x512) ![17, 256] ![1, 128] inb_S32x512_S1x128_17_256)) (View.ld (Val := Elt Ideal) x6 (Rect.unit (s := S32x512) ![25, 256] ![1, 128] inb_S32x512_S1x128_25_256)) (View.ld (Val := Elt Ideal) x6 (Rect.unit (s := S32x512) ![2, 256] ![1, 128] inb_S32x512_S1x128_2_256)) (View.ld (Val := Elt Ideal) x6 (Rect.unit (s := S32x512) ![10, 256] ![1, 128] inb_S32x512_S1x128_10_256)) (View.ld (Val := Elt Ideal) x6 (Rect.unit (s := S32x512) ![18, 256] ![1, 128] inb_S32x512_S1x128_18_256)) (View.ld (Val := Elt Ideal) x6 (Rect.unit (s := S32x512) ![26, 256] ![1, 128] inb_S32x512_S1x128_26_256))) (k0_pay71 v808) (k0_pay72 v808) (k0_pay73 (View.ld (Val := Elt Ideal) x6 (Rect.unit (s := S32x512) ![3, 256] ![1, 128] inb_S32x512_S1x128_3_256))) (View.ld (Val := Elt Ideal) x6 (Rect.unit (s := S32x512) ![11, 256] ![1, 128] inb_S32x512_S1x128_11_256)) (View.ld (Val := Elt Ideal) x6 (Rect.unit (s := S32x512) ![19, 256] ![1, 128] inb_S32x512_S1x128_19_256)) (View.ld (Val := Elt Ideal) x6 (Rect.unit (s := S32x512) ![27, 256] ![1, 128] inb_S32x512_S1x128_27_256)) (View.ld (Val := Elt Ideal) x6 (Rect.unit (s := S32x512) ![4, 256] ![1, 128] inb_S32x512_S1x128_4_256)) (View.ld (Val := Elt Ideal) x6 (Rect.unit (s := S32x512) ![12, 256] ![1, 128] inb_S32x512_S1x128_12_256)) (View.ld (Val := Elt Ideal) x6 (Rect.unit (s := S32x512) ![20, 256] ![1, 128] inb_S32x512_S1x128_20_256)) (View.ld (Val := Elt Ideal) x6 (Rect.unit (s := S32x512) ![28, 256] ![1, 128] inb_S32x512_S1x128_28_256))) (View.ld (Val := Elt Ideal) x6 (Rect.unit (s := S32x512) ![5, 256] ![1, 128] inb_S32x512_S1x128_5_256)) (View.ld (Val := Elt Ideal) x6 (Rect.unit (s := S32x512) ![13, 256] ![1, 128] inb_S32x512_S1x128_13_256)) (View.ld (Val := Elt Ideal) x6 (Rect.unit (s := S32x512) ![21, 256] ![1, 128] inb_S32x512_S1x128_21_256)) (View.ld (Val := Elt Ideal) x6 (Rect.unit (s := S32x512) ![29, 256] ![1, 128] inb_S32x512_S1x128_29_256)) (View.ld (Val := Elt Ideal) x6 (Rect.unit (s := S32x512) ![6, 256] ![1, 128] inb_S32x512_S1x128_6_256)) (View.ld (Val := Elt Ideal) x6 (Rect.unit (s := S32x512) ![14, 256] ![1, 128] inb_S32x512_S1x128_14_256)) (View.ld (Val := Elt Ideal) x6 (Rect.unit (s := S32x512) ![22, 256] ![1, 128] inb_S32x512_S1x128_22_256))) (View.ld (Val := Elt Ideal) x6 (Rect.unit (s := S32x512) ![30, 256] ![1, 128] inb_S32x512_S1x128_30_256))) v1003 (k0_pay91 v1003 (k0_pay86 v1003 (k0_pay82 v1003) (k0_pay83 v1003 (k0_pay78 v1003) (k0_pay79 v1003 (View.ld (Val := Elt Ideal) x6 (Rect.unit (s := S32x512) ![7, 256] ![1, 128] inb_S32x512_S1x128_7_256)) (View.ld (Val := Elt Ideal) x6 (Rect.unit (s := S32x512) ![15, 256] ![1, 128] inb_S32x512_S1x128_15_256)) (View.ld (Val := Elt Ideal) x6 (Rect.unit (s := S32x512) ![23, 256] ![1, 128] inb_S32x512_S1x128_23_256)) (View.ld (Val := Elt Ideal) x6 (Rect.unit (s := S32x512) ![0, 256] ![1, 128] inb_S32x512_S1x128_0_256)) (View.ld (Val := Elt Ideal) x6 (Rect.unit (s := S32x512) ![8, 256] ![1, 128] inb_S32x512_S1x128_8_256))) (k0_pay80 v1003) (k0_pay81 (View.ld (Val := Elt Ideal) x6 (Rect.unit (s := S32x512) ![16, 256] ![1, 128] inb_S32x512_S1x128_16_256))) (View.ld (Val := Elt Ideal) x6 (Rect.unit (s := S32x512) ![24, 256] ![1, 128] inb_S32x512_S1x128_24_256)) (View.ld (Val := Elt Ideal) x6 (Rect.unit (s := S32x512) ![1, 256] ![1, 128] inb_S32x512_S1x128_1_256)) (View.ld (Val := Elt Ideal) x6 (Rect.unit (s := S32x512) ![9, 256] ![1, 128] inb_S32x512_S1x128_9_256)) (View.ld (Val := Elt Ideal) x6 (Rect.unit (s := S32x512) ![17, 256] ![1, 128] inb_S32x512_S1x128_17_256)) (View.ld (Val := Elt Ideal) x6 (Rect.unit (s := S32x512) ![25, 256] ![1, 128] inb_S32x512_S1x128_25_256)) (View.ld (Val := Elt Ideal) x6 (Rect.unit (s := S32x512) ![2, 256] ![1, 128] inb_S32x512_S1x128_2_256))) (k0_pay84 v1003) (k0_pay85 (View.ld (Val := Elt Ideal) x6 (Rect.unit (s := S32x512) ![10, 256] ![1, 128] inb_S32x512_S1x128_10_256))) (View.ld (Val := Elt Ideal) x6 (Rect.unit (s := S32x512) ![18, 256] ![1, 128] inb_S32x512_S1x128_18_256)) (View.ld (Val := Elt Ideal) x6 (Rect.unit (s := S32x512) ![26, 256] ![1, 128] inb_S32x512_S1x128_26_256)) (View.ld (Val := Elt Ideal) x6 (Rect.unit (s := S32x512) ![3, 256] ![1, 128] inb_S32x512_S1x128_3_256)) (View.ld (Val := Elt Ideal) x6 (Rect.unit (s := S32x512) ![11, 256] ![1, 128] inb_S32x512_S1x128_11_256)) (View.ld (Val := Elt Ideal) x6 (Rect.unit (s := S32x512) ![19, 256] ![1, 128] inb_S32x512_S1x128_19_256)) (View.ld (Val := Elt Ideal) x6 (Rect.unit (s := S32x512) ![27, 256] ![1, 128] inb_S32x512_S1x128_27_256))) (k0_pay87 v1003) (k0_pay88 v1003) (k0_pay89 (View.ld (Val := Elt Ideal) x6 (Rect.unit (s := S32x512) ![4, 256] ![1, 128] inb_S32x512_S1x128_4_256))) (View.ld (Val := Elt Ideal) x6 (Rect.unit (s := S32x512) ![12, 256] ![1, 128] inb_S32x512_S1x128_12_256)) (View.ld (Val := Elt Ideal) x6 (Rect.unit (s := S32x512) ![20, 256] ![1, 128] inb_S32x512_S1x128_20_256)) (View.ld (Val := Elt Ideal) x6 (Rect.unit (s := S32x512) ![28, 256] ![1, 128] inb_S32x512_S1x128_28_256)) (View.ld (Val := Elt Ideal) x6 (Rect.unit (s := S32x512) ![5, 256] ![1, 128] inb_S32x512_S1x128_5_256)) (View.ld (Val := Elt Ideal) x6 (Rect.unit (s := S32x512) ![13, 256] ![1, 128] inb_S32x512_S1x128_13_256)) (View.ld (Val := Elt Ideal) x6 (Rect.unit (s := S32x512) ![21, 256] ![1, 128] inb_S32x512_S1x128_21_256))) (k0_pay92 v1003 (View.ld (Val := Elt Ideal) x6 (Rect.unit (s := S32x512) ![29, 256] ![1, 128] inb_S32x512_S1x128_29_256))) (View.ld (Val := Elt Ideal) x6 (Rect.unit (s := S32x512) ![6, 256] ![1, 128] inb_S32x512_S1x128_6_256)) (View.ld (Val := Elt Ideal) x6 (Rect.unit (s := S32x512) ![14, 256] ![1, 128] inb_S32x512_S1x128_14_256)) (View.ld (Val := Elt Ideal) x6 (Rect.unit (s := S32x512) ![22, 256] ![1, 128] inb_S32x512_S1x128_22_256)) (View.ld (Val := Elt Ideal) x6 (Rect.unit (s := S32x512) ![30, 256] ![1, 128] inb_S32x512_S1x128_30_256))) (ix2 r l)
      = taps win x6 r ⟨256 + l.val, by omega⟩ := by
  by_cases h : r.val < 128
  · pointwise [k0_pay93, k0_pay77, k0_pay75, k0_pay76, k0_pay74, k0_pay70, k0_pay66, k0_pay67, k0_pay63, k0_pay64, k0_pay65, k0_pay68, k0_pay69, k0_pay71, k0_pay72, k0_pay73, k0_pay91, k0_pay90, k0_pay86, k0_pay82, k0_pay83, k0_pay78, k0_pay79, k0_pay80, k0_pay81, k0_pay84, k0_pay85, k0_pay87, k0_pay88, k0_pay89, k0_pay92]
    refine (dif_pos h).trans ?_
    unfold taps
    refine Eq.trans ?_ (sum_order _)
    iterate 30 refine add_of ?_ (prod_of (by decide) (by decide) hv808 _ _ _ _ _ _ _ rfl (by simp) (by simp; omega) (by simp))
    exact prod_of (by decide) (by decide) hv808 _ _ _ _ _ _ _ rfl (by simp) (by simp; omega) (by simp)
  · pointwise [k0_pay93, k0_pay77, k0_pay75, k0_pay76, k0_pay74, k0_pay70, k0_pay66, k0_pay67, k0_pay63, k0_pay64, k0_pay65, k0_pay68, k0_pay69, k0_pay71, k0_pay72, k0_pay73, k0_pay91, k0_pay90, k0_pay86, k0_pay82, k0_pay83, k0_pay78, k0_pay79, k0_pay80, k0_pay81, k0_pay84, k0_pay85, k0_pay87, k0_pay88, k0_pay89, k0_pay92]
    refine (dif_neg h).trans ?_
    unfold taps
    refine Eq.trans ?_ (sum_order _)
    iterate 30 refine add_of ?_ (prod_of (by decide) (by decide) hv1003 _ _ _ _ _ _ _ rfl (by simp) (by simp; omega) (by simp))
    exact prod_of (by decide) (by decide) hv1003 _ _ _ _ _ _ _ rfl (by simp) (by simp; omega) (by simp)

end Cert.OutprojLastIdeal.Hand
end
-- ==== Proof.P.Column3.lean ====
module

public import proofs.«01_k».proof.Proof.Gen.OutprojLastIdeal.Value
public import Idealize.ShloMosaic.Lib.Pipeline.ValueKit
public import Idealize.ShloMosaic.Lib.Pointwise
public import proofs.«01_k».proof.Proof.P.Taps

/-! What the kernel computes in columns 384 to 511 of the convolution. -/

@[expose] public section

set_option maxRecDepth 16384

noncomputable section

namespace Cert.OutprojLastIdeal.Hand
open Cert.OutprojLastIdeal Cert.OutprojLastIdeal.Gen
open Idealize.ShloMosaic Idealize.ShloMosaic.TcCoe Idealize.SL.Sem

set_option maxHeartbeats 2000000 in
/-- The first 128 rows of columns 384 to 511 of the convolution. -/
theorem col3a (win : Fin 288 → Fin 512 → EReal) (x6 : Vec Ideal S32x512 .f32) (v1199 : Vec Ideal S160x128 .f32)
    (hv1199 : ∀ (i : Fin 160) (l : Fin 128), v1199 (ix2 i l) = win ⟨0 + i.val, by omega⟩ ⟨384 + l.val, by omega⟩) (r : Fin 128) (l : Fin 128) :
    (k0_pay109 (k0_pay106 v1199 (k0_pay102 v1199 (k0_pay99 v1199) (k0_pay100 v1199 (k0_pay96 v1199) (k0_pay97 v1199 (k0_pay94 v1199 (View.ld (Val := Elt Ideal) x6 (Rect.unit (s := S32x512) ![7, 384] ![1, 128] inb_S32x512_S1x128_7_384)) (View.ld (Val := Elt Ideal) x6 (Rect.unit (s := S32x512) ![15, 384] ![1, 128] inb_S32x512_S1x128_15_384))) (k0_pay95 v1199) (View.ld (Val := Elt Ideal) x6 (Rect.unit (s := S32x512) ![23, 384] ![1, 128] inb_S32x512_S1x128_23_384)) (View.ld (Val := Elt Ideal) x6 (Rect.unit (s := S32x512) ![0, 384] ![1, 128] inb_S32x512_S1x128_0_384)) (View.ld (Val := Elt Ideal) x6 (Rect.unit (s := S32x512) ![8, 384] ![1, 128] inb_S32x512_S1x128_8_384)) (View.ld (Val := Elt Ideal) x6 (Rect.unit (s := S32x512) ![16, 384] ![1, 128] inb_S32x512_S1x128_16_384)) (View.ld (Val := Elt Ideal) x6 (Rect.unit (s := S32x512) ![24, 384] ![1, 128] inb_S32x512_S1x128_24_384)) (View.ld (Val := Elt Ideal) x6 (Rect.unit (s := S32x512) ![1, 384] ![1, 128] inb_S32x512_S1x128_1_384)) (View.ld (Val := Elt Ideal) x6 (Rect.unit (s := S32x512) ![9, 384] ![1, 128] inb_S32x512_S1x128_9_384))) (k0_pay98 v1199) (View.ld (Val := Elt Ideal) x6 (Rect.unit (s := S32x512) ![17, 384] ![1, 128] inb_S32x512_S1x128_17_384)) (View.ld (Val := Elt Ideal) x6 (Rect.unit (s := S32x512) ![25, 384] ![1, 128] inb_S32x512_S1x128_25_384)) (View.ld (Val := Elt Ideal) x6 (Rect.unit (s := S32x512) ![2, 384] ![1, 128] inb_S32x512_S1x128_2_384)) (View.ld (Val := Elt Ideal) x6 (Rect.unit (s := S32x512) ![10, 384] ![1, 128] inb_S32x512_S1x128_10_384)) (View.ld (Val := Elt Ideal) x6 (Rect.unit (s := S32x512) ![18, 384] ![1, 128] inb_S32x512_S1x128_18_384)) (View.ld (Val := Elt Ideal) x6 (Rect.unit (s := S32x512) ![26, 384] ![1, 128] inb_S32x512_S1x128_26_384)) (View.ld (Val := Elt Ideal) x6 (Rect.unit (s := S32x512) ![3, 384] ![1, 128] inb_S32x512_S1x128_3_384))) (k0_pay101 v1199) (View.ld (Val := Elt Ideal) x6 (Rect.unit (s := S32x512) ![11, 384] ![1, 128] inb_S32x512_S1x128_11_384)) (View.ld (Val := Elt Ideal) x6 (Rect.unit (s := S32x512) ![19, 384] ![1, 128] inb_S32x512_S1x128_19_384)) (View.ld (Val := Elt Ideal) x6 (Rect.unit (s := S32x512) ![27, 384] ![1, 128] inb_S32x512_S1x128_27_384)) (View.ld (Val := Elt Ideal) x6 (Rect.unit (s := S32x512) ![4, 384] ![1, 128] inb_S32x512_S1x128_4_384)) (View.ld (Val := Elt Ideal) x6 (Rect.unit (s := S32x512) ![12, 384] ![1, 128] inb_S32x512_S1x128_12_384)) (View.ld (Val := Elt Ideal) x6 (Rect.unit (s := S32x512) ![20, 384] ![1, 128] inb_S32x512_S1x128_20_384)) (View.ld (Val := Elt Ideal) x6 (Rect.unit (s := S32x512) ![28, 384] ![1, 128] inb_S32x512_S1x128_28_384))) (k0_pay103 v1199) (k0_pay104 v1199) (View.ld (Val := Elt Ideal) x6 (Rect.unit (s := S32x512) ![5, 384] ![1, 128] inb_S32x512_S1x128_5_384)) (View.ld (Val := Elt Ideal) x6 (Rect.unit (s := S32x512) ![13, 384] ![1, 128] inb_S32x512_S1x128_13_384)) (View.ld (Val := Elt Ideal) x6 (Rect.unit (s := S32x512) ![21, 384] ![1, 128] inb_S32x512_S1x128_21_384)) (View.ld (Val := Elt Ideal) x6 (Rect.unit (s := S32x512) ![29, 384] ![1, 128] inb_S32x512_S1x128_29_384)) (View.ld (Val := Elt Ideal) x6 (Rect.unit (s := S32x512) ![6, 384] ![1, 128] inb_S32x512_S1x128_6_384)) (View.ld (Val := Elt Ideal) x6 (Rect.unit (s := S32x512) ![14, 384] ![1, 128] inb_S32x512_S1x128_14_384)) (View.ld (Val := Elt Ideal) x6 (Rect.unit (s := S32x512) ![22, 384] ![1, 128] inb_S32x512_S1x128_22_384))) (k0_pay107 v1199) (k0_pay108 (View.ld (Val := Elt Ideal) x6 (Rect.unit (s := S32x512) ![30, 384] ![1, 128] inb_S32x512_S1x128_30_384)))) (ix2 r l)
      = taps win x6 ⟨r.val, by omega⟩ ⟨384 + l.val, by omega⟩ := by
  pointwise [k0_pay109, k0_pay106, k0_pay105, k0_pay102, k0_pay99, k0_pay100, k0_pay96, k0_pay97, k0_pay94, k0_pay95, k0_pay98, k0_pay101, k0_pay103, k0_pay104, k0_pay107, k0_pay108]
  unfold taps
  refine Eq.trans ?_ (sum_order _)
  iterate 30 refine add_of ?_ (prod_of (by decide) (by decide) hv1199 _ _ _ _ _ _ _ rfl (by simp) (by simp; omega) (by simp))
  exact prod_of (by decide) (by decide) hv1199 _ _ _ _ _ _ _ rfl (by simp) (by simp; omega) (by simp)

set_option maxHeartbeats 2000000 in
/-- The last 128 rows of columns 384 to 511 of the convolution. -/
theorem col3b (win : Fin 288 → Fin 512 → EReal) (x6 : Vec Ideal S32x512 .f32) (v1394 : Vec Ideal S160x128 .f32)
    (hv1394 : ∀ (i : Fin 160) (l : Fin 128), v1394 (ix2 i l) = win ⟨128 + i.val, by omega⟩ ⟨384 + l.val, by omega⟩) (r : Fin 128) (l : Fin 128) :
    (k0_pay119 v1394 (k0_pay116 v1394) (k0_pay117 v1394 (k0_pay113 v1394) (k0_pay114 v1394 (k0_pay111 v1394 (View.ld (Val := Elt Ideal) x6 (Rect.unit (s := S32x512) ![7, 384] ![1, 128] inb_S32x512_S1x128_7_384)) (View.ld (Val := Elt Ideal) x6 (Rect.unit (s := S32x512) ![15, 384] ![1, 128] inb_S32x512_S1x128_15_384)) (View.ld (Val := Elt Ideal) x6 (Rect.unit (s := S32x512) ![23, 384] ![1, 128] inb_S32x512_S1x128_23_384)) (View.ld (Val := Elt Ideal) x6 (Rect.unit (s := S32x512) ![0, 384] ![1, 128] inb_S32x512_S1x128_0_384)) (View.ld (Val := Elt Ideal) x6 (Rect.unit (s := S32x512) ![8, 384] ![1, 128] inb_S32x512_S1x128_8_384)) (View.ld (Val := Elt Ideal) x6 (Rect.unit (s := S32x512) ![16, 384] ![1, 128] inb_S32x512_S1x128_16_384))) (k0_pay112 v1394) (View.ld (Val := Elt Ideal) x6 (Rect.unit (s := S32x512) ![24, 384] ![1, 128] inb_S32x512_S1x128_24_384)) (View.ld (Val := Elt Ideal) x6 (Rect.unit (s := S32x512) ![1, 384] ![1, 128] inb_S32x512_S1x128_1_384)) (View.ld (Val := Elt Ideal) x6 (Rect.unit (s := S32x512) ![9, 384] ![1, 128] inb_S32x512_S1x128_9_384)) (View.ld (Val := Elt Ideal) x6 (Rect.unit (s := S32x512) ![17, 384] ![1, 128] inb_S32x512_S1x128_17_384)) (View.ld (Val := Elt Ideal) x6 (Rect.unit (s := S32x512) ![25, 384] ![1, 128] inb_S32x512_S1x128_25_384)) (View.ld (Val := Elt Ideal) x6 (Rect.unit (s := S32x512) ![2, 384] ![1, 128] inb_S32x512_S1x128_2_384)) (View.ld (Val := Elt Ideal) x6 (Rect.unit (s := S32x512) ![10, 384] ![1, 128] inb_S32x512_S1x128_10_384))) (k0_pay115 v1394) (View.ld (Val := Elt Ideal) x6 (Rect.unit (s := S32x512) ![18, 384] ![1, 128] inb_S32x512_S1x128_18_384)) (View.ld (Val := Elt Ideal) x6 (Rect.unit (s := S32x512) ![26, 384] ![1, 128] inb_S32x512_S1x128_26_384)) (View.ld (Val := Elt Ideal) x6 (Rect.unit (s := S32x512) ![3, 384] ![1, 128] inb_S32x512_S1x128_3_384)) (View.ld (Val := Elt Ideal) x6 (Rect.unit (s := S32x512) ![11, 384] ![1, 128] inb_S32x512_S1x128_11_384)) (View.ld (Val := Elt Ideal) x6 (Rect.unit (s := S32x512) ![19, 384] ![1, 128] inb_S32x512_S1x128_19_384)) (View.ld (Val := Elt Ideal) x6 (Rect.unit (s := S32x512) ![27, 384] ![1, 128] inb_S32x512_S1x128_27_384)) (View.ld (Val := Elt Ideal) x6 (Rect.unit (s := S32x512) ![4, 384] ![1, 128] inb_S32x512_S1x128_4_384))) (k0_pay118 v1394) (View.ld (Val := Elt Ideal) x6 (Rect.unit (s := S32x512) ![12, 384] ![1, 128] inb_S32x512_S1x128_12_384)) (View.ld (Val := Elt Ideal) x6 (Rect.unit (s := S32x512) ![20, 384] ![1, 128] inb_S32x512_S1x128_20_384)) (View.ld (Val := Elt Ideal) x6 (Rect.unit (s := S32x512) ![28, 384] ![1, 128] inb_S32x512_S1x128_28_384)) (View.ld (Val := Elt Ideal) x6 (Rect.unit (s := S32x512) ![5, 384] ![1, 128] inb_S32x512_S1x128_5_384)) (View.ld (Val := Elt Ideal) x6 (Rect.unit (s := S32x512) ![13, 384] ![1, 128] inb_S32x512_S1x128_13_384)) (View.ld (Val := Elt Ideal) x6 (Rect.unit (s := S32x512) ![21, 384] ![1, 128] inb_S32x512_S1x128_21_384)) (View.ld (Val := Elt Ideal) x6 (Rect.unit (s := S32x512) ![29, 384] ![1, 128] inb_S32x512_S1x128_29_384))) (ix2 r l) + (k0_pay121 v1394) (ix2 r l) * (View.ld (Val := Elt Ideal) x6 (Rect.unit (s := S32x512) ![6, 384] ![1, 128] inb_S32x512_S1x128_6_384)) (ix2 0 l)
        + (k0_pay120 v1394) (ix2 ⟨8 + r.val, by omega⟩ l) * (View.ld (Val := Elt Ideal) x6 (Rect.unit (s := S32x512) ![14, 384] ![1, 128] inb_S32x512_S1x128_14_384)) (ix2 0 l)
        + (k0_pay120 v1394) (ix2 ⟨16 + r.val, by omega⟩ l) * (View.ld (Val := Elt Ideal) x6 (Rect.unit (s := S32x512) ![22, 384] ![1, 128] inb_S32x512_S1x128_22_384)) (ix2 0 l)
        + (k0_pay120 v1394) (ix2 ⟨24 + r.val, by omega⟩ l) * (View.ld (Val := Elt Ideal) x6 (Rect.unit (s := S32x512) ![30, 384] ![1, 128] inb_S32x512_S1x128_30_384)) (ix2 0 l)
      = taps win x6 ⟨128 + r.val, by omega⟩ ⟨384 + l.val, by omega⟩ := by
  pointwise [k0_pay119, k0_pay116, k0_pay117, k0_pay113, k0_pay114, k0_pay111, k0_pay110, k0_pay112, k0_pay115, k0_pay118, k0_pay121, k0_pay120]
  unfold taps
  refine Eq.trans ?_ (sum_order _)
  iterate 30 refine add_of ?_ (prod_of (by decide) (by decide) hv1394 _ _ _ _ _ _ _ rfl (by simp) (by simp; omega) (by simp))
  exact prod_of (by decide) (by decide) hv1394 _ _ _ _ _ _ _ rfl (by simp) (by simp; omega) (by simp)

end Cert.OutprojLastIdeal.Hand
end
-- ==== Proof.P.Norm.lean ====
module

public import proofs.«01_k».proof.Proof.Gen.OutprojLastIdeal.Value
public import Idealize.ShloMosaic.Lib.Pipeline.ValueKit
public import Idealize.ShloMosaic.Lib.Pointwise
public import proofs.«01_k».proof.Proof.O.Spec

/-! What the kernel does to the convolved rows of a tile: normalisation, projection, residual. -/

@[expose] public section

set_option maxRecDepth 16384

noncomputable section

namespace Cert.OutprojLastIdeal.Hand
open Cert.OutprojLastIdeal Cert.OutprojLastIdeal.Gen
open OutputProjection
open Idealize.ShloMosaic Idealize.ShloMosaic.TcCoe Idealize.SL.Sem

/-- Four matrices of 128 columns side by side. -/
theorem four_at (T : Fin 256 → Fin 512 → EReal) (a0 a1 a2 a3 : FVec Ideal S256x128 .f32)
    (h0 : ∀ (r : Fin 256) (l : Fin 128), a0 (ix2 r l) = T r ⟨0 + l.val, by omega⟩)
    (h1 : ∀ (r : Fin 256) (l : Fin 128), a1 (ix2 r l) = T r ⟨128 + l.val, by omega⟩)
    (h2 : ∀ (r : Fin 256) (l : Fin 128), a2 (ix2 r l) = T r ⟨256 + l.val, by omega⟩)
    (h3 : ∀ (r : Fin 256) (l : Fin 128), a3 (ix2 r l) = T r ⟨384 + l.val, by omega⟩) (r : Fin 256) (n : Fin 512) :
    concatenate S256x512 1 [⟨S256x128, a0⟩, ⟨S256x128, a1⟩, ⟨S256x128, a2⟩, ⟨S256x128, a3⟩] concatenates_S256x128_S256x128_S256x128_S256x128_S256x512_d1 (ix2 r n) = T r n := by
  pointwise []
  by_cases c0 : n.val < 128
  · refine (dif_pos c0).trans ((h0 _ _).trans (congrArg (T r) (Fin.ext ?_))); simp
  refine (dif_neg c0).trans ?_
  by_cases c1 : n.val - 128 < 128
  · refine (dif_pos c1).trans ((h1 _ _).trans (congrArg (T r) (Fin.ext ?_))); simp; omega
  refine (dif_neg c1).trans ?_
  by_cases c2 : n.val - 128 - 128 < 128
  · refine (dif_pos c2).trans ((h2 _ _).trans (congrArg (T r) (Fin.ext ?_))); simp; omega
  refine (dif_neg c2).trans ((h3 _ _).trans (congrArg (T r) (Fin.ext ?_))); simp; omega

/-- The kernel's normalisation of the convolved rows. -/
theorem act_at (T : Fin 256 → Fin 512 → EReal) (v415 v806 v1197 : FVec Ideal S256x128 .f32) (v1392 v1562 : FVec Ideal S128x128 .f32)
    (v1563 : FVec Ideal S160x128 .f32) (v1564 : FVec Ideal S128x128 .f32) (v1565 v1571 v1577 v1583 : Vec Ideal S1x128 .f32)
    (P7 P8 P9 : Vec Ideal S1x512 .f32)
    (h0 : ∀ (r : Fin 256) (l : Fin 128), v415 (ix2 r l) = T r ⟨0 + l.val, by omega⟩)
    (h1 : ∀ (r : Fin 256) (l : Fin 128), v806 (ix2 r l) = T r ⟨128 + l.val, by omega⟩)
    (h2 : ∀ (r : Fin 256) (l : Fin 128), v1197 (ix2 r l) = T r ⟨256 + l.val, by omega⟩)
    (h3 : ∀ (r : Fin 128) (l : Fin 128), v1392 (ix2 r l) = T ⟨r.val, by omega⟩ ⟨384 + l.val, by omega⟩)
    (h4 : ∀ (r : Fin 128) (l : Fin 128), v1562 (ix2 r l) + v1564 (ix2 r l) * v1565 (ix2 0 l)
        + v1563 (ix2 ⟨8 + r.val, by omega⟩ l) * v1571 (ix2 0 l) + v1563 (ix2 ⟨16 + r.val, by omega⟩ l) * v1577 (ix2 0 l)
        + v1563 (ix2 ⟨24 + r.val, by omega⟩ l) * v1583 (ix2 0 l) = T ⟨128 + r.val, by omega⟩ ⟨384 + l.val, by omega⟩)
    (r : Fin 256) (n : Fin 512) :
    k0_pay123 (k0_pay122 v415 v806 v1197 v1392 v1562 v1563 v1564 v1565 v1571 v1577 v1583 P7) P8 P9 (ix2 r n)
      = swished (fun n => T r n + P7 (ix2 0 n)) (fun n => P8 (ix2 0 n)) (fun n => P9 (ix2 0 n)) n := by
  have e4 : ∀ (v1587 : FVec Ideal S128x128 .f32) (h : ∀ (r : Fin 128) (l : Fin 128), v1587 (ix2 r l) = T ⟨128 + r.val, by omega⟩ ⟨384 + l.val, by omega⟩)
      (r : Fin 256) (l : Fin 128), concatenate S256x128 0 [⟨S128x128, v1392⟩, ⟨S128x128, v1587⟩] concatenates_S128x128_S128x128_S256x128_d0 (ix2 r l)
        = T r ⟨384 + l.val, by omega⟩ := by
    intro w h r l
    pointwise []
    by_cases hr : r.val < 128
    · exact (dif_pos hr).trans (h3 _ _)
    · refine (dif_neg hr).trans ((h _ _).trans (congrArg (fun r => T r _) (Fin.ext ?_))); simp; omega
  unfold k0_pay123 k0_pay122
  dsimp only
  generalize hL : addf _ (mulf (extractStridedSlice S128x128 ![24, 0] v1563 slices_S160x128_o24_0_S128x128) _) = L
  have hL' : ∀ (r : Fin 128) (l : Fin 128), L (ix2 r l) = T ⟨128 + r.val, by omega⟩ ⟨384 + l.val, by omega⟩ := by
    intro r l
    rw [← h4 r l, ← hL]
    pointwise []
  generalize hC : concatenate S256x512 1 _ _ = C
  have hC' : ∀ (r : Fin 256) (n : Fin 512), C (ix2 r n) = T r n := fun r n =>
    (congrFun hC.symm _).trans (four_at T _ _ _ _ h0 h1 h2 (e4 L hL') r n)
  clear hC hL
  pointwise [swished, layerNormed, centred, mean]
  simp only [hC']

/-- What a tile adds to its rows. -/
theorem pay1_at (c : FVec Ideal S256x512 .bf16) (A : Vec Ideal S1x256x512 .bf16) (W0 W1 : Vec Ideal S512x1024 .bf16) (X : Vec Ideal S1x256x1024 .f32)
    (M : Vec Ideal S1x1x1024 .f32) (w : Fin 1024 → Fin 1024 → EReal)
    (h0 : ∀ (e : Fin 512) (n : Fin 1024), W0 (ix2 e n) = w ⟨e.val, by omega⟩ n)
    (h1 : ∀ (e : Fin 512) (n : Fin 1024), W1 (ix2 e n) = w ⟨512 + e.val, by omega⟩ n) (r : Fin 256) (n : Fin 1024) :
    k0_pay1 c (k0_pay124 A) (k0_pay125 W0) W1 X M (ix3 0 r n)
      = projectedSum (fun k => X (ix3 0 r k)) (fun k => M (ix3 0 0 k)) (fun e => A (ix3 0 r e)) (fun e => c (ix2 r e)) w n := by
  pointwise [k0_pay1, k0_pay124, k0_pay125, projectedSum]
  simp only [h0, h1]

end Cert.OutprojLastIdeal.Hand
end
-- ==== Proof.P.Block.lean ====
module

public import proofs.«01_k».proof.Proof.F.Reads
public import proofs.«01_k».proof.Proof.P.Column0
public import proofs.«01_k».proof.Proof.P.Column1
public import proofs.«01_k».proof.Proof.P.Column2
public import proofs.«01_k».proof.Proof.P.Column3
public import proofs.«01_k».proof.Proof.P.Norm

/-! What one grid point of the kernel writes, from the blocks it reads. -/

@[expose] public section

set_option maxRecDepth 16384

noncomputable section

namespace Cert.OutprojLastIdeal.Hand
open Cert.OutprojLastIdeal Cert.OutprojLastIdeal.Gen
open OutputProjection
open Idealize.ShloMosaic Idealize.ShloMosaic.TcCoe Idealize.SL.Sem
open Idealize.ShloMosaic.View (Piece)

variable (m : (ℓ : Loc nD τ sig) → Buf (Elt Ideal) ℓ)

/-- Whether there are rows before the tile, as the kernel computes it. -/
abbrev bitPrev (i : Fin 8) : BitVec 1 :=
  Scalar.andi (Scalar.cmpi .ne (BitVec.ofNat 32 i.val) 0#32) (Scalar.cmpi .ne (BitVec.ofNat 32 i.val) 8#32)

/-- Whether there are rows after the tile, as the kernel computes it. -/
abbrev bitNext (i : Fin 8) : BitVec 1 :=
  Scalar.andi (Scalar.cmpi .ne (BitVec.ofNat 32 i.val) 7#32) (Scalar.cmpi .ne (BitVec.ofNat 32 i.val) 8#32)

/-- The rows the convolution of a tile reads: sixteen before it, its own, and sixteen after it. -/
def window (i : Fin 8) (x0 : Vec Ideal S1x256x512 .f32) (x1 x2 : Vec Ideal S1x16x512 .f32) (s : Fin 288) (n : Fin 512) : EReal :=
  if h : s.val < 16 then Scalar.select (bitPrev i) (x1 (ix3 0 ⟨s.val, h⟩ n)) 0
  else if h' : s.val < 272 then x0 (ix3 0 ⟨s.val - 16, by omega⟩ n)
  else Scalar.select (bitNext i) (x2 (ix3 0 ⟨s.val - 272, by omega⟩ n)) 0

/-- The sixteen rows before, or zeros. -/
theorem pay2_at (i : grid0.Coords) (x : Vec Ideal S1x16x512 .f32) (r : Fin 16) (n : Fin 512) :
    k0_pay2 i x (ix2 r n) = Scalar.select (bitPrev (i 1)) (x (ix3 0 r n)) (0 : EReal) := by
  pointwise [k0_pay2]

/-- The tile's own rows. -/
theorem pay3_at (x : Vec Ideal S1x256x512 .f32) (r : Fin 256) (n : Fin 512) : k0_pay3 x (ix2 r n) = x (ix3 0 r n) := by
  pointwise [k0_pay3]

/-- The sixteen rows after, or zeros. -/
theorem pay4_at (i : grid0.Coords) (x : Vec Ideal S1x16x512 .f32) (r : Fin 16) (n : Fin 512) :
    k0_pay4 i x (ix2 r n) = Scalar.select (bitNext (i 1)) (x (ix3 0 r n)) (0 : EReal) := by
  pointwise [k0_pay4]

/-- The window as it was written. -/
theorem canon_window (i : grid0.Coords) (x0 : Vec Ideal S1x256x512 .f32) (x1 x2 : Vec Ideal S1x16x512 .f32) (s : Fin 288) (n : Fin 512) :
    View.canon (Val := Elt Ideal) (s := S288x512) (e := .f32) [⟨Rect.unit ![272, 0] ![16, 512] inb_S288x512_S16x512_272_0, k0_pay4 i x2⟩,
      ⟨Rect.unit ![16, 0] ![256, 512] inb_S288x512_S256x512_16_0, k0_pay3 x0⟩,
      ⟨Rect.unit ![0, 0] ![16, 512] inb_S288x512_S16x512_0_0, k0_pay2 i x1⟩] (ix2 s n) = window (i 1) x0 x1 x2 s n := by
  have hs := s.isLt
  unfold window
  by_cases h : s.val < 16
  · refine Eq.trans ?_ (dif_pos h).symm
    rw [Blocks.canon_off _ _ _ s n (by omega), Blocks.canon_off _ _ _ s n (by omega),
      Blocks.canon_at _ _ _ s n ⟨s.val, h⟩ n (by simp) (by simp), pay2_at]
  · refine Eq.trans ?_ (dif_neg h).symm
    by_cases h' : s.val < 272
    · refine Eq.trans ?_ (dif_pos h').symm
      rw [Blocks.canon_off _ _ _ s n (by omega),
        Blocks.canon_at _ _ _ s n ⟨s.val - 16, by omega⟩ n (by simp; omega) (by simp), pay3_at]
    · refine Eq.trans ?_ (dif_neg h').symm
      rw [Blocks.canon_at _ _ _ s n ⟨s.val - 272, by omega⟩ n (by simp; omega) (by simp), pay4_at]

/-- One row of the conditioning block. -/
theorem modRow (x : Vec Ideal S1x6x1024 .f32) (k : Fin 1024) :
    View.ld (Val := Elt Ideal) (e' := .f32) x (Rect.unit (s := S1x6x1024) ![0, 2, 0] ![1, 1, 1024] inb_S1x6x1024_S1x1x1024_0_2_0) (ix3 0 0 k) = x (ix3 0 2 k) := by
  refine congrArg x ?_
  funext z
  fin_cases z
  · rfl
  · rfl
  · exact Fin.ext ((Rect.emb_apply _ _ _).trans (by show 0 + 1 * k.val = k.val; omega))

/-- One entry of the written block, from the blocks a grid point reads. -/
def blockAt (i : Fin 8) (x0 : Vec Ideal S1x256x512 .f32) (x1 x2 : Vec Ideal S1x16x512 .f32) (x3 : Vec Ideal S1x256x512 .bf16)
    (x4 : Vec Ideal S1x256x1024 .f32) (x5 : Vec Ideal S1x6x1024 .f32) (x6 : Vec Ideal S32x512 .f32) (x7 x8 x9 : Vec Ideal S1x512 .f32)
    (x10 : Vec Ideal S1024x1024 .bf16) (r : Fin 256) (n : Fin 1024) : EReal :=
  projectedSum (fun k => x4 (ix3 0 r k)) (fun k => x5 (ix3 0 2 k)) (fun e => x3 (ix3 0 r e))
    (swished (fun n => taps (window i x0 x1 x2) x6 r n + x7 (ix2 0 n)) (fun n => x8 (ix2 0 n)) (fun n => x9 (ix2 0 n)))
    (fun e n => x10 (ix2 e n)) n

set_option maxHeartbeats 2000000 in
/-- The block a grid point leaves in its output buffer, entry by entry. -/
theorem outs_at (c : Dev nD) (t : Fin cfg0.N) (r : Fin 256) (n : Fin 1024) :
    outsAt0 m c t (ix3 0 r n) = blockAt (grid0.coords t 1) (iblk m c 0 t) (iblk m c 1 t) (iblk m c 2 t) (iblk m c 3 t) (iblk m c 4 t)
      (iblk m c 5 t) (iblk m c 6 t) (iblk m c 7 t) (iblk m c 8 t) (iblk m c 9 t) (iblk m c 10 t) r n := by
  have hw := canon_window (grid0.coords t) (iblk m c 0 t) (iblk m c 1 t) (iblk m c 2 t)
  unfold outsAt0
  frame_out
  refine (pay1_at _ _ _ _ _ _ (fun e n => iblk m c 10 t (ix2 e n)) (fun e n => ?_) (fun e n => ?_) r n).trans ?_
  · exact Blocks.ld_at _ _ e n ⟨e.val, by omega⟩ n (by simp) (by simp)
  · exact Blocks.ld_at _ _ e n ⟨512 + e.val, by omega⟩ n (by simp) (by simp)
  unfold blockAt
  congr 1
  · funext k
    exact modRow _ k
  funext e
  refine act_at (taps (window (grid0.coords t 1) (iblk m c 0 t) (iblk m c 1 t) (iblk m c 2 t)) (iblk m c 6 t)) _ _ _ _ _ _ _ _ _ _ _ _ _ _
    (col0 _ _ _ _ ?_ ?_) (col1 _ _ _ _ ?_ ?_) (col2 _ _ _ _ ?_ ?_) (col3a _ _ _ ?_) (col3b _ _ _ ?_) r e
  all_goals exact fun i l => (Blocks.readCov_at _ _ _ i l _ _ rfl rfl).trans (hw _ _)

end Cert.OutprojLastIdeal.Hand
end
-- ==== Proof.P.Spec.lean ====
module

public import proofs.«01_k».proof.Proof.O.Spec

/-! The hidden states of the sequence alone after attention and convolution, as the last layer forms them. -/

@[expose] public section

noncomputable section

namespace OutputProjection
open Idealize.ShloMosaic InputProjection

variable (G : (⟨3, ![16, 2304, 512]⟩ : Shape).Idx → EReal) (A : (⟨3, ![16, 2048, 512]⟩ : Shape).Idx → EReal)
  (X : (⟨3, ![16, 2304, 1024]⟩ : Shape).Idx → EReal) (Md : (⟨3, ![24, 6, 1024]⟩ : Shape).Idx → EReal)
  (D : (⟨2, ![31, 512]⟩ : Shape).Idx → EReal) (Db g b : (⟨1, ![512]⟩ : Shape).Idx → EReal)
  (W : (⟨2, ![1024, 1024]⟩ : Shape).Idx → EReal)

/-- One entry of the sequence's hidden state after attention and convolution. -/
def seqAt (p : Fin 16) (s : Fin 2048) (n : Fin 1024) : EReal :=
  projectedSum (fun k => X (ix3 p ⟨s.val, by omega⟩ k)) (fun k => Md (ix3 ⟨p.val, by omega⟩ 2 k)) (fun e => A (ix3 p s e))
    (swished (convolved G D Db p ⟨s.val, by omega⟩) (fun k => g (ix1 k)) (fun k => b (ix1 k))) (fun e k => W (ix2 e k)) n

/-- The whole array of the sequence. -/
def outSeq (i : (⟨3, ![16, 2048, 1024]⟩ : Shape).Idx) : EReal := seqAt G A X Md D Db g b W (i 0) (i 1) (i 2)

end OutputProjection
end
-- ==== Proof.P.Final.lean ====
module

public import proofs.«01_k».proof.Proof.P.Block
public import proofs.«01_k».proof.Proof.P.Spec

/-! What the kernel leaves in its result. -/

@[expose] public section

set_option maxRecDepth 16384

noncomputable section

namespace Cert.OutprojLastIdeal.Hand
open Cert.OutprojLastIdeal Cert.OutprojLastIdeal.Gen
open OutputProjection InputProjection
open Idealize.ShloMosaic Idealize.ShloMosaic.TcCoe Idealize.SL.Sem
open Idealize.ShloMosaic.Pipeline (Dat)

variable (m : (ℓ : Loc nD τ sig) → Buf (Elt Ideal) ℓ)

/-- Where each window's block lies at a grid point, and the grid coordinate along the positions. -/
theorem idx : ∀ t : Fin cfg0.N, win0_0.index t = ![t.val / 8, t.val % 8, 0]
    ∧ win0_1.index t = ![t.val / 8, t.val % 8 * 16 - 1, 0]
    ∧ win0_2.index t = ![t.val / 8, min ((t.val % 8 + 1) * 16) 143, 0]
    ∧ win0_3.index t = ![t.val / 8, t.val % 8, 0] ∧ win0_4.index t = ![t.val / 8, t.val % 8, 0]
    ∧ win0_5.index t = ![t.val / 8, 0, 0]
    ∧ win0_6.index t = ![0, 0] ∧ win0_7.index t = ![0, 0] ∧ win0_8.index t = ![0, 0] ∧ win0_9.index t = ![0, 0] ∧ win0_10.index t = ![0, 0]
    ∧ win0_11.index t = ![t.val / 8, t.val % 8, 0]
    ∧ (grid0.coords t 1).val = t.val % 8 :=
  (by decide +kernel : ∀ t : Fin grid0.N, _)

/-- The batch of a grid point. -/
def bat (t : Fin cfg0.N) : Fin 16 := ⟨t.val / 8, by have := t.isLt; simp only [(by decide : cfg0.N = 128)] at this; omega⟩

/-- The position of a row of the tile of a grid point, within the sequence. -/
def row (t : Fin cfg0.N) (r : Fin 256) : Fin 2048 := ⟨t.val % 8 * 256 + r.val, by omega⟩

/-- The same position, in sequence and context. -/
def pos (t : Fin cfg0.N) (r : Fin 256) : Fin 2304 := ⟨t.val % 8 * 256 + r.val, by omega⟩

/-- Where an element of the written block lies in the array. -/
theorem emb11 (t : Fin cfg0.N) (r : Fin 256) (n : Fin 1024) :
    (((cfg0.win 11).blk t).view.emb (ix3 0 r n)) = (ix3 (bat t) (row t r) n : S16x2048x1024.Idx) := by
  unfold bat row
  blk_ext [idx t]

/-- The tile's rows, read in the array. -/
theorem blk0 (c : Dev nD) (t : Fin cfg0.N) (r : Fin 256) (n : Fin 512) :
    iblk m c 0 t (ix3 0 r n) = m ((c : Thread nD τ).loc main_arg0) (ix3 (bat t) (pos t r) n : S16x2304x512.Idx) := by
  unfold bat pos
  blk_ext [iblk, V, idx t]

/-- The sixteen rows before the tile, read in the array. -/
theorem blk1 (c : Dev nD) (t : Fin cfg0.N) (r : Fin 16) (n : Fin 512) :
    iblk m c 1 t (ix3 0 r n) = m ((c : Thread nD τ).loc main_arg0)
      (ix3 (bat t) ⟨(t.val % 8 * 16 - 1) * 16 + r.val, by omega⟩ n : S16x2304x512.Idx) := by
  unfold bat
  blk_ext [iblk, V, idx t]

/-- The sixteen rows after the tile, read in the array. -/
theorem blk2 (c : Dev nD) (t : Fin cfg0.N) (r : Fin 16) (n : Fin 512) :
    iblk m c 2 t (ix3 0 r n) = m ((c : Thread nD τ).loc main_arg0)
      (ix3 (bat t) ⟨min ((t.val % 8 + 1) * 16) 143 * 16 + r.val, by omega⟩ n : S16x2304x512.Idx) := by
  unfold bat
  blk_ext [iblk, V, idx t]

/-- The attended values' block, read in the array. -/
theorem blk3 (c : Dev nD) (t : Fin cfg0.N) (r : Fin 256) (n : Fin 512) :
    iblk m c 3 t (ix3 0 r n) = m ((c : Thread nD τ).loc main_arg1) (ix3 (bat t) (row t r) n : S16x2048x512.Idx) := by
  unfold bat row
  blk_ext [iblk, V, idx t]

/-- The hidden state's block, read in the array. -/
theorem blk4 (c : Dev nD) (t : Fin cfg0.N) (r : Fin 256) (n : Fin 1024) :
    iblk m c 4 t (ix3 0 r n) = m ((c : Thread nD τ).loc main_arg2) (ix3 (bat t) (pos t r) n : S16x2304x1024.Idx) := by
  unfold bat pos
  blk_ext [iblk, V, idx t]

/-- The conditioning block, read in the array. -/
theorem blk5 (c : Dev nD) (t : Fin cfg0.N) (q : Fin 6) (n : Fin 1024) :
    iblk m c 5 t (ix3 0 q n) = m ((c : Thread nD τ).loc main_arg3)
      (ix3 (⟨(bat t).val, by omega⟩ : Fin 24) q n : S24x6x1024.Idx) := by
  unfold bat
  blk_ext [iblk, V, idx t]

/-- The taps, read in the argument a row was added to. -/
theorem blk6 (c : Dev nD) (t : Fin cfg0.N) (j : Fin 31) (n : Fin 512) :
    iblk m c 6 t (ix2 (⟨j.val, by omega⟩ : Fin 32) n) = m ((c : Thread nD τ).loc main_arg4) (ix2 j n : S31x512.Idx) := by
  have h : iblk m c 6 t (ix2 (⟨j.val, by omega⟩ : Fin 32) n)
      = concatenate S32x512 0 [⟨S31x512, (m ((c : Thread nD τ).loc main_arg4) : FVec Ideal S31x512 .f32)⟩,
          ⟨S1x512, (constant S1x512 .f32 0x00000000#32 : FVec Ideal S1x512 .f32)⟩] concatenates_S31x512_S1x512_S32x512_d0
          (ix2 (⟨j.val, by omega⟩ : Fin 32) n) := by
    blk_point [iblk, V, idx t]
  refine h.trans ?_
  pointwise []

/-- The bias of the convolution, read in the argument it was reshaped from. -/
theorem blk7 (c : Dev nD) (t : Fin cfg0.N) (n : Fin 512) :
    iblk m c 7 t (ix2 0 n) = m ((c : Thread nD τ).loc main_arg5) (ix1 n : S512.Idx) := by
  blk_point [iblk, V, idx t]

/-- The scale of the norm, read in the argument it was reshaped from. -/
theorem blk8 (c : Dev nD) (t : Fin cfg0.N) (n : Fin 512) :
    iblk m c 8 t (ix2 0 n) = m ((c : Thread nD τ).loc main_arg6) (ix1 n : S512.Idx) := by
  blk_point [iblk, V, idx t]

/-- The shift of the norm, read in the argument it was reshaped from. -/
theorem blk9 (c : Dev nD) (t : Fin cfg0.N) (n : Fin 512) :
    iblk m c 9 t (ix2 0 n) = m ((c : Thread nD τ).loc main_arg7) (ix1 n : S512.Idx) := by
  blk_point [iblk, V, idx t]

/-- The weights of the projection, read in the argument. -/
theorem blk10 (c : Dev nD) (t : Fin cfg0.N) (e n : Fin 1024) :
    iblk m c 10 t (ix2 e n) = m ((c : Thread nD τ).loc main_arg8) (ix2 e n : S1024x1024.Idx) := by
  blk_point [iblk, V, idx t]

theorem select_zero (a b : EReal) : Scalar.select (0#1) a b = b := rfl
theorem select_one (a b : EReal) : Scalar.select (1#1) a b = a := rfl
theorem bitPrev_zero : ∀ i : Fin 8, (i.val = 0 ∨ i.val = 8) → bitPrev i = 0#1 := by decide
theorem bitPrev_one : ∀ i : Fin 8, ¬ (i.val = 0 ∨ i.val = 8) → bitPrev i = 1#1 := by decide
theorem bitNext_zero : ∀ i : Fin 8, (i.val = 7 ∨ i.val = 8) → bitNext i = 0#1 := by decide
theorem bitNext_one : ∀ i : Fin 8, ¬ (i.val = 7 ∨ i.val = 8) → bitNext i = 1#1 := by decide

/-- A row of the window is the row of the array at that distance, or zeros outside the part of the sequence. -/
theorem window_at (c : Dev nD) (t : Fin cfg0.N) (i : Fin 8) (hv : i.val = t.val % 8) (r : Fin 256) (j : Fin 31) (n : Fin 512) :
    window i (iblk m c 0 t) (iblk m c 1 t) (iblk m c 2 t) ⟨r.val + j.val + 1, by omega⟩ n
      = nearby (m ((c : Thread nD τ).loc main_arg0)) (bat t) (pos t r) j n := by
  have hr := r.isLt
  have hj := j.isLt
  have hp : (pos t r).val = t.val % 8 * 256 + r.val := rfl
  unfold window nearby
  by_cases h : r.val + j.val + 1 < 16
  · refine (dif_pos h).trans ?_
    by_cases hz : i.val = 0 ∨ i.val = 8
    · rw [bitPrev_zero i hz, select_zero, dif_neg (by omega)]
    · rw [bitPrev_one i hz, select_one, dif_pos (by omega), blk1]
      exact congrArg (fun w => m ((c : Thread nD τ).loc main_arg0) (ix3 (bat t) w n : S16x2304x512.Idx))
        (Fin.ext (by show (t.val % 8 * 16 - 1) * 16 + (r.val + j.val + 1) = (pos t r).val + j.val - 15; omega))
  · refine (dif_neg h).trans ?_
    by_cases h' : r.val + j.val + 1 < 272
    · refine (dif_pos h').trans ?_
      rw [dif_pos (by omega), blk0]
      exact congrArg (fun w => m ((c : Thread nD τ).loc main_arg0) (ix3 (bat t) w n : S16x2304x512.Idx))
        (Fin.ext (by show t.val % 8 * 256 + (r.val + j.val + 1 - 16) = (pos t r).val + j.val - 15; omega))
    · refine (dif_neg h').trans ?_
      by_cases hz : i.val = 7 ∨ i.val = 8
      · rw [bitNext_zero i hz, select_zero, dif_neg (by omega)]
      · rw [bitNext_one i hz, select_one, dif_pos (by omega), blk2]
        exact congrArg (fun w => m ((c : Thread nD τ).loc main_arg0) (ix3 (bat t) w n : S16x2304x512.Idx))
          (Fin.ext (by show min ((t.val % 8 + 1) * 16) 143 * 16 + (r.val + j.val + 1 - 272) = (pos t r).val + j.val - 15; omega))

/-- The array after the run is the array of the sequence's hidden states after attention and convolution. -/
theorem final (c : Dev nD) : (dats m 0 c).arrAt 11 (cfgs 0).N
    = outSeq (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  idx_vars y
  obtain rfl : y0 = 0 := Subsingleton.elim _ _
  obtain ⟨i, hi, hv⟩ : ∃ i : Fin 8, @Eq (Fin 8) (grid0.coords t 1) i ∧ i.val = t.val % 8 :=
    ⟨grid0.coords t 1, rfl, (idx t).2.2.2.2.2.2.2.2.2.2.2.2⟩
  refine (outs_at m c t y1 y2).trans ((congrArg (fun i : Fin 8 => blockAt i _ _ _ _ _ _ _ _ _ _ _ y1 y2) hi).trans ?_)
  refine Eq.trans ?_ (congrArg (outSeq _ _ _ _ _ _ _ _ _) (emb11 t y1 y2)).symm
  show _ = seqAt _ _ _ _ _ _ _ _ _ (bat t) (row t y1) y2
  unfold blockAt seqAt
  have hT (n : Fin 512) : taps (window i (iblk m c 0 t) (iblk m c 1 t) (iblk m c 2 t)) (iblk m c 6 t) y1 n + iblk m c 7 t (ix2 0 n)
      = convolved (m ((c : Thread nD τ).loc main_arg0)) (m ((c : Thread nD τ).loc main_arg4)) (m ((c : Thread nD τ).loc main_arg5))
          (bat t) (pos t y1) n := by
    unfold taps convolved
    simp only [window_at m c t i hv, blk6, blk7]
  simp only [hT, blk3, blk4, blk5, blk8, blk9, blk10]
  rfl

end Cert.OutprojLastIdeal.Hand
end
-- ==== Proof.P.RefSums.lean ====
module

public import proofs.«01_k».proof.Proof.Gen.OutprojLastRefIdeal.Read
public import Idealize.ShloMosaic.Lib.Pipeline.ValueKit
public import proofs.«01_k».proof.Proof.P.Spec

/-! Sums, in the order the reference takes them. -/

@[expose] public section

set_option maxRecDepth 16384

noncomputable section

namespace Cert.OutprojLastRefIdeal.Hand
open Cert.OutprojLastRefIdeal Cert.OutprojLastRefIdeal.Gen Cert.OutprojLastRefIdeal.Read
open Idealize.ShloMosaic Idealize.ShloMosaic.TcCoe Idealize.SL.Sem
open OutputProjection InputProjection

variable (G : FVec Ideal S16x2304x512 .f32) (A : FVec Ideal S16x2048x512 .bf16) (X : FVec Ideal S16x2304x1024 .f32) (Md : FVec Ideal S24x6x1024 .f32)
  (D : FVec Ideal S31x512 .f32) (Db g b : FVec Ideal S512 .f32) (W : FVec Ideal S1024x1024 .f32)

/-- A sum of 31 terms in the order of the reference. -/
theorem sum_left (T : Fin 31 → EReal) : T 0 + T 1 + T 2 + T 3 + T 4 + T 5 + T 6 + T 7 + T 8 + T 9 + T 10 + T 11 + T 12 + T 13 + T 14 + T 15 + T 16 + T 17 + T 18 + T 19 + T 20 + T 21 + T 22 + T 23 + T 24 + T 25 + T 26 + T 27 + T 28 + T 29 + T 30 = ∑ j : Fin 31, T j := by
  simp only [Fin.sum_univ_castSucc, Fin.sum_univ_zero, zero_add]
  rfl

/-- Equal summands have equal sums. -/
theorem sum_of {a a' b b' : EReal} (h : a = a') (h' : b = b') : a + b = a' + b' := by rw [h, h']

/-- A sum of 1024 terms is the sum of its halves. -/
theorem sum_halves (f : Fin 1024 → EReal) : ∑ k : Fin 1024, f k = (∑ e : Fin 512, f ⟨e.val, by omega⟩) + ∑ e : Fin 512, f ⟨512 + e.val, by omega⟩ :=
  Fin.sum_univ_add (a := 512) (b := 512) f

/-- The zero the reference pads with. -/
theorem pad_zero : (FloatOps.sitofp .f32 0#32 : Ideal .f32) = (0 : EReal) := by
  show ((((0#32 : BitVec 32).toInt : ℝ) : EReal)) = 0
  simp

end Cert.OutprojLastRefIdeal.Hand
end
-- ==== Proof.P.RefConvL.lean ====
module

public import proofs.«01_k».proof.Proof.Gen.OutprojLastRefIdeal.Read
public import Idealize.ShloMosaic.Lib.Pipeline.ValueKit
public import proofs.«01_k».proof.Proof.P.RefSums

/-! What the reference computes: the convolution along the sequence. -/

@[expose] public section

set_option maxRecDepth 16384

noncomputable section

namespace Cert.OutprojLastRefIdeal.Hand
open Cert.OutprojLastRefIdeal Cert.OutprojLastRefIdeal.Gen Cert.OutprojLastRefIdeal.Read
open Idealize.ShloMosaic Idealize.ShloMosaic.TcCoe Idealize.SL.Sem
open OutputProjection InputProjection

variable (G : FVec Ideal S16x2304x512 .f32) (A : FVec Ideal S16x2048x512 .bf16) (X : FVec Ideal S16x2304x1024 .f32) (Md : FVec Ideal S24x6x1024 .f32)
  (D : FVec Ideal S31x512 .f32) (Db g b : FVec Ideal S512 .f32) (W : FVec Ideal S1024x1024 .f32)

/-- The padded rows of the sequence. -/
theorem pad_l (p : Fin 16) (q : Fin 2078) (n : Fin 512) :
    val_main_v1 (F := Ideal) G (ix3 p q n) = if h : 15 ≤ q.val ∧ q.val - 15 < 2048 then G (ix3 p ⟨0 + (q.val - 15), by omega⟩ n) else 0 := by
  pointwise [val_main_v1, val_main_call0_v0, val_main_c]
  by_cases h : 15 ≤ q.val ∧ q.val - 15 < 2048
  · refine (dif_pos h).trans (Eq.trans ?_ (dif_pos h).symm)
    pointwise [val_main_v0]
    try exact congrArg (fun w => G (ix3 p w n)) (Fin.ext (by simp))
  · exact (dif_neg h).trans (Eq.trans pad_zero (by rw [dif_neg h]))

/-- A padded row is the row at that distance, or zeros. -/
theorem near_l (p : Fin 16) (s : Fin 2048) (j : Fin 31) (n : Fin 512) (q : Fin 2078) (hq : q.val = j.val + s.val) :
    val_main_v1 (F := Ideal) G (ix3 p q n) = nearby G p ⟨s.val, by omega⟩ j n := by
  have hs := s.isLt
  rw [pad_l]
  unfold nearby
  by_cases h : 15 ≤ q.val ∧ q.val - 15 < 2048
  · rw [dif_pos h, dif_pos (by constructor <;> [skip; constructor] <;> simp <;> omega)]
    exact congrArg (fun w => G (ix3 p w n)) (Fin.ext (by simp; omega))
  · rw [dif_neg h, dif_neg (by simp; omega)]

set_option maxHeartbeats 4000000 in
/-- The convolution of the sequence. -/
theorem conv_l (p : Fin 16) (s : Fin 2048) (n : Fin 512) :
    val_main_v220 (F := Ideal) G D Db (ix3 p s n) = convolved G D Db p ⟨s.val, by omega⟩ n := by
  unfold convolved
  pointwise [val_main_v220, val_main_v219, val_main_v218]
  refine congrArg (fun w => w + Db (ix1 n)) ?_
  pointwise [val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  refine Eq.trans ?_ (sum_left _)
  iterate 30 refine sum_of ?_ (congrArg (fun w => w * D (ix2 _ n)) (near_l G p s _ n _ (by simp)))
  exact congrArg (fun w => w * D (ix2 _ n)) (near_l G p s _ n _ (by simp))

end Cert.OutprojLastRefIdeal.Hand
end
-- ==== Proof.P.RefRowL.lean ====
module

public import proofs.«01_k».proof.Proof.Gen.OutprojLastRefIdeal.Read
public import Idealize.ShloMosaic.Lib.Pipeline.ValueKit
public import proofs.«01_k».proof.Proof.P.RefConvL

/-! What the reference computes from the convolved rows of the sequence. -/

@[expose] public section

set_option maxRecDepth 16384

noncomputable section

namespace Cert.OutprojLastRefIdeal.Hand
open Cert.OutprojLastRefIdeal Cert.OutprojLastRefIdeal.Gen Cert.OutprojLastRefIdeal.Read
open Idealize.ShloMosaic Idealize.ShloMosaic.TcCoe Idealize.SL.Sem
open OutputProjection InputProjection

variable (G : FVec Ideal S16x2304x512 .f32) (A : FVec Ideal S16x2048x512 .bf16) (X : FVec Ideal S16x2304x1024 .f32) (Md : FVec Ideal S24x6x1024 .f32)
  (D : FVec Ideal S31x512 .f32) (Db g b : FVec Ideal S512 .f32) (W : FVec Ideal S1024x1024 .f32)

/-- The mean of a convolved row of the sequence. -/
theorem mean_l (p : Fin 16) (s : Fin 2048) : val_main_v224 (F := Ideal) G D Db (ix3 p s 0) = mean (convolved G D Db p ⟨s.val, by omega⟩) := by
  have h (x : Fin 512) : idx_main_v221 (idx_main_v222 (ix3 p s 0)) x = ix3 p s x := by
    funext i; fin_cases i <;> rfl
  rw [val_main_v224_apply, val_main_v222_apply, val_main_v221_apply]
  pointwise [val_main_cst, val_main_v223, val_main_cst_0, mean]
  simp only [h, conv_l]

/-- A convolved row of the sequence, centred. -/
theorem centred_l (p : Fin 16) (s : Fin 2048) (n : Fin 512) :
    val_main_v226 (F := Ideal) G D Db (ix3 p s n) = centred (convolved G D Db p ⟨s.val, by omega⟩) n := by
  have h : idx_main_v225 (ix3 p s n) = ix3 p s 0 := by funext i; fin_cases i <;> rfl
  rw [val_main_v226_apply, val_main_v225_apply, h, mean_l, conv_l]
  rfl

/-- The same, as the reference computes it again. -/
theorem again_l (p : Fin 16) (s : Fin 2048) (n : Fin 512) :
    val_main_v233 (F := Ideal) G D Db (ix3 p s n) = centred (convolved G D Db p ⟨s.val, by omega⟩) n := by
  have h : idx_main_v232 (ix3 p s n) = ix3 p s 0 := by funext i; fin_cases i <;> rfl
  rw [val_main_v233_apply, val_main_v232_apply, h, mean_l, conv_l]
  rfl

/-- The factor of the norm of the sequence. -/
theorem factor_l (p : Fin 16) (s : Fin 2048) (n : Fin 512) :
    val_main_v237 (F := Ideal) G D Db (ix3 p s n)
      = Ideal.rsqrt (mean (fun k => centred (convolved G D Db p ⟨s.val, by omega⟩) k * centred (convolved G D Db p ⟨s.val, by omega⟩) k) + Ideal.ofBits .f32 0x358637BD#32) := by
  have h0 : idx_main_v237 (ix3 p s n) = ix3 p s 0 := by funext i; fin_cases i <;> rfl
  have h (x : Fin 512) : idx_main_v228 (idx_main_v229 (ix3 p s 0)) x = ix3 p s x := by
    funext i; fin_cases i <;> rfl
  rw [val_main_v237_apply, h0, val_main_v236_apply, val_main_v235_apply, val_main_v231_apply, val_main_v229_apply, val_main_v228_apply]
  simp only [h, val_main_v227_apply, centred_l]
  pointwise [val_main_cst_1, val_main_v230, val_main_cst_2, val_main_v234, val_main_cst_3]
  rfl

/-- The normalised rows of the sequence. -/
theorem normed_l (p : Fin 16) (s : Fin 2048) (n : Fin 512) :
    val_main_v244 (F := Ideal) G D Db g b (ix3 p s n)
      = layerNormed (convolved G D Db p ⟨s.val, by omega⟩) (fun k => g (ix1 k)) (fun k => b (ix1 k)) n := by
  have h1 : idx_main_v239 (idx_main_v240 (ix3 p s n)) = ix1 n := by funext i; fin_cases i <;> rfl
  have h2 : idx_main_v242 (idx_main_v243 (ix3 p s n)) = ix1 n := by funext i; fin_cases i <;> rfl
  rw [val_main_v244_apply, val_main_v241_apply, val_main_v238_apply, again_l, factor_l, val_main_v240_apply, val_main_v239_apply, val_main_v243_apply, val_main_v242_apply, h1, h2]
  rfl

/-- The convolved values of the sequence. -/
theorem swish_l (p : Fin 16) (s : Fin 2048) (n : Fin 512) :
    val_main_v245 (F := Ideal) G D Db g b (ix3 p s n)
      = swished (convolved G D Db p ⟨s.val, by omega⟩) (fun k => g (ix1 k)) (fun k => b (ix1 k)) n := by
  pointwise [val_main_v245, val_main_call1_v5, val_main_call1_v4, val_main_call1_v3, val_main_call1_v2, val_main_call1_v1, val_main_call1_v0,
    val_main_call1_cst, val_main_call1_cst_0]
  rw [normed_l]
  rfl

/-- The attended values of the sequence. -/
theorem left_l (p : Fin 16) (s : Fin 2048) (e : Fin 512) :
    val_main_v249 (F := Ideal) G A D Db g b (ix3 p s ⟨e.val, by omega⟩) = A (ix3 p s e) := by
  pointwise [val_main_v249, val_main_v246]

/-- The convolved values of the sequence, beside them. -/
theorem right_l (p : Fin 16) (s : Fin 2048) (e : Fin 512) :
    val_main_v249 (F := Ideal) G A D Db g b (ix3 p s ⟨512 + e.val, by omega⟩)
      = swished (convolved G D Db p ⟨s.val, by omega⟩) (fun k => g (ix1 k)) (fun k => b (ix1 k)) e := by
  pointwise [val_main_v249]
  exact swish_l G D Db g b p s e

/-- The projection of the sequence. -/
theorem proj_l (p : Fin 16) (s : Fin 2048) (n : Fin 1024) :
    val_main_v250 (F := Ideal) G A D Db g b W (ix3 p s n)
      = (∑ e : Fin 512, A (ix3 p s e) * W (ix2 ⟨e.val, by omega⟩ n))
        + ∑ e : Fin 512, swished (convolved G D Db p ⟨s.val, by omega⟩) (fun k => g (ix1 k)) (fun k => b (ix1 k)) e * W (ix2 ⟨512 + e.val, by omega⟩ n) := by
  have h1 (k : Fin 1024) : lidx_main_v250 (ix3 p s n) k = ix3 p s k := by funext i; fin_cases i <;> rfl
  have h2 (k : Fin 1024) : ridx_main_v250 (ix3 p s n) k = ix2 k n := by funext i; fin_cases i <;> rfl
  rw [val_main_v250_apply]
  simp only [h1, h2]
  rw [sum_halves]
  simp only [left_l, right_l]

/-- The reference's result is the array of the sequence's hidden states after attention and convolution. -/
theorem ref_eq : val_main_v253 (F := Ideal) G A X Md D Db g b W = outSeq G A X Md D Db g b W := by
  funext i
  idx_vars i
  show _ = seqAt G A X Md D Db g b W i0 i1 i2
  unfold seqAt projectedSum
  rw [val_main_v253_apply, val_main_v252_apply, proj_l]
  pointwise [val_main_v247, val_main_v251, val_main_v248]

end Cert.OutprojLastRefIdeal.Hand
end
-- ==== Proof.P.Claims.lean ====
module

public import proofs.«01_k».proof.Defs
public import proofs.«01_k».proof.Proof.Gen.OutprojLast.Frame
public import proofs.«01_k».proof.Proof.Gen.OutprojLastIdeal.Frame
public import proofs.«01_k».proof.Proof.Gen.OutprojLastRefIdeal.Run
public import proofs.«01_k».proof.Proof.P.Final
public import proofs.«01_k».proof.Proof.P.RefRowL
public import Idealize.ShloMosaic.Lib.Claim

/-! The claims about the convolution and output projection call of the last layer. -/

@[expose] public section

set_option maxRecDepth 16384

noncomputable section

namespace Cert.OutputProjectionLast
open Idealize.ShloMosaic Idealize.ShloMosaic.TcCoe Idealize.SL.Sem

/-- The convolution and output projection kernel of the last layer runs to its end, and leaves its arguments and every semaphore as they were. -/
theorem frame_p : quiescent_OutprojLast := fun m g _ => Cert.OutprojLast.Gen.frame m g

/-- The same of the kernel at the extended reals. -/
theorem frame_pi : quiescent_OutprojLastIdeal := fun m g _ => Cert.OutprojLastIdeal.Gen.frame m g

/-- The reference runs to its end, and leaves its arguments and every semaphore as they were. -/
theorem frame_ri : quiescent_OutprojLastRefIdeal := fun m g _ =>
  (θ_run Cert.OutprojLastRefIdeal.defs _ _).mono (fun r h => ⟨fun c => (h c).2, sem_eq_zero_of_no_sems (by decide) r.2⟩)
    (Cert.OutprojLastRefIdeal.Value.run (F := Ideal) m g)

set_option maxHeartbeats 1000000 in
/-- For all arguments the kernel's result at the extended reals is the reference's. -/
theorem algebraic : algebraic_OutprojLastIdeal_OutprojLastRefIdeal := by
  pair_intro
  · run_from Cert.OutprojLastIdeal.Value.run_blocks m g
  · run_from Cert.OutprojLastRefIdeal.Value.run m' g'
    obtain ⟨h0, h1, h2, h3, h4, h5, h6, h7, h8⟩ := hagree c
    rw [← h2, ← h3, ← h8]
    refine (Cert.OutprojLastRefIdeal.Read.val_main_v253_eq (StableHlo.launchContents m' c)).trans ?_
    refine (Cert.OutprojLastRefIdeal.Hand.ref_eq _ _ _ _ _ _ _ _ _).trans (Eq.trans ?_ (Cert.OutprojLastIdeal.Hand.final m c).symm)
    show OutputProjection.outSeq (m' (c.tc.loc Cert.OutprojLastRefIdeal.main_arg0)) (m' (c.tc.loc Cert.OutprojLastRefIdeal.main_arg1)) (m' (c.tc.loc Cert.OutprojLastRefIdeal.main_arg2)) (m' (c.tc.loc Cert.OutprojLastRefIdeal.main_arg3)) (m' (c.tc.loc Cert.OutprojLastRefIdeal.main_arg4)) (m' (c.tc.loc Cert.OutprojLastRefIdeal.main_arg5)) (m' (c.tc.loc Cert.OutprojLastRefIdeal.main_arg6)) (m' (c.tc.loc Cert.OutprojLastRefIdeal.main_arg7)) (m' (c.tc.loc Cert.OutprojLastRefIdeal.main_arg8)) = _
    rw [h0, h1, h2, h3, h4, h5, h6, h7, h8]

end Cert.OutputProjectionLast
end
-- ==== Proof.lean ====
module

public import proofs.«01_k».proof.Defs
public import proofs.«01_k».proof.Proof.A.Claims
public import proofs.«01_k».proof.Proof.F.Claims
public import proofs.«01_k».proof.Proof.I.Claims
public import proofs.«01_k».proof.Proof.O.Claims
public import proofs.«01_k».proof.Proof.G.Claims
public import proofs.«01_k».proof.Proof.M.Claims
public import proofs.«01_k».proof.Proof.B.Claims
public import proofs.«01_k».proof.Proof.P.Claims

@[expose] public section

noncomputable section

namespace Cert.Proof

open Idealize.ShloMosaic Idealize.SL.Sem

/-- All the claims. -/
theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Outproj.Gen.facts, Cert.OutprojIdeal.Gen.facts, Cert.OutprojRefIdeal.Gen.facts,
  Cert.FfnFirst.Gen.facts, Cert.FfnFirstIdeal.Gen.facts, Cert.FfnFirstRefIdeal.Gen.facts,
  Cert.Mods.Gen.facts, Cert.ModsIdeal.Gen.facts, Cert.ModsRefIdeal.Gen.facts,
  Cert.AttnLast.Gen.facts, Cert.AttnLastIdeal.Gen.facts, Cert.AttnLastRefIdeal.Gen.facts,
  Cert.OutprojLast.Gen.facts, Cert.OutprojLastIdeal.Gen.facts, Cert.OutprojLastRefIdeal.Gen.facts, Cert.Pre_finite.Gen.facts,
  Attention.frame_p, Attention.frame_pi, Attention.frame_pi_pre, Attention.frame_ri, Attention.frame_ri_pre,
  FeedForward.frame_p, FeedForward.frame_pi, FeedForward.frame_ri,
  InputProjectionCall.frame_p, InputProjectionCall.frame_pi, InputProjectionCall.frame_ri,
  OutputProjectionCall.frame_p, OutputProjectionCall.frame_pi, OutputProjectionCall.frame_ri,
  FeedForwardFirst.frame_p, FeedForwardFirst.frame_pi, FeedForwardFirst.frame_ri,
  Conditioning.frame_p, Conditioning.frame_pi, Conditioning.frame_ri,
  AttentionLast.frame_p, AttentionLast.frame_pi, AttentionLast.frame_pi_pre, AttentionLast.frame_ri, AttentionLast.frame_ri_pre,
  OutputProjectionLast.frame_p, OutputProjectionLast.frame_pi, OutputProjectionLast.frame_ri,
  trivial, Attention.algebraic, trivial, FeedForward.algebraic, trivial, InputProjectionCall.algebraic,
  trivial, OutputProjectionCall.algebraic, trivial, FeedForwardFirst.algebraic,
  trivial, Conditioning.algebraic, trivial, AttentionLast.algebraic, trivial,
  OutputProjectionLast.algebraic⟩

end Cert.Proof

end
